-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def preserves_Kernel_KernelIdeal : Prop :=
  IdealRules.named_const.Statement Cert.KernelIdeal.κ "neg_inf" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v70_0)) (v1 : (c : Dev Cert.KernelIdeal.nD) → Buf (Elt Ideal) ((c.tc : Thread Cert.KernelIdeal.nD Cert.KernelIdeal.τ).loc Cert.KernelIdeal.main_v70_1)) (v2 : (c : Dev Cert.KernelIdeal.nD) → Buf (Elt Ideal) ((c.tc : Thread Cert.KernelIdeal.nD Cert.KernelIdeal.τ).loc Cert.KernelIdeal.main_v70_2)) (v3 : (c : Dev Cert.KernelIdeal.nD) → Buf (Elt Ideal) ((c.tc : Thread Cert.KernelIdeal.nD Cert.KernelIdeal.τ).loc Cert.KernelIdeal.main_v70_3)) (v4 : (c : Dev Cert.KernelIdeal.nD) → Buf (Elt Ideal) ((c.tc : Thread Cert.KernelIdeal.nD Cert.KernelIdeal.τ).loc Cert.KernelIdeal.main_v70_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70_0) = v0 c
          ∧ r.2.mem ((c.tc : Thread Cert.KernelIdeal.nD Cert.KernelIdeal.τ).loc Cert.KernelIdeal.main_v70_1) = v1 c
          ∧ r.2.mem ((c.tc : Thread Cert.KernelIdeal.nD Cert.KernelIdeal.τ).loc Cert.KernelIdeal.main_v70_2) = v2 c
          ∧ r.2.mem ((c.tc : Thread Cert.KernelIdeal.nD Cert.KernelIdeal.τ).loc Cert.KernelIdeal.main_v70_3) = v3 c
          ∧ r.2.mem ((c.tc : Thread Cert.KernelIdeal.nD Cert.KernelIdeal.τ).loc Cert.KernelIdeal.main_v70_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_v96) = v3 c
          ∧ r.2.mem ((c.tc : Thread Cert.ReferenceIdeal.nD Cert.ReferenceIdeal.τ).loc Cert.ReferenceIdeal.main_v101) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S8208x8x64 : Shape := ⟨3, ![8208, 8, 64]⟩
abbrev S8208x8 : Shape := ⟨2, ![8208, 8]⟩
abbrev S_ : Shape := ⟨0, ![]⟩

class Facts : Prop where
  bcast_S_S8208x8x64 : S_.BroadcastsInDim S8208x8x64 (![] : Fin 0 → Fin S8208x8x64.rank)
  reducesTo_S8208x8x64_S_d0_1_2 : S8208x8x64.ReducesTo [0, 1, 2] S_
  h_S_ : 0 < S_.numel
  bcast_S_S8208x8 : S_.BroadcastsInDim S8208x8 (![] : Fin 0 → Fin S8208x8.rank)
  reducesTo_S8208x8_S_d0_1 : S8208x8.ReducesTo [0, 1] S_

variable [Facts]

def fn_part1 {F : FTy → Type} [FloatOps F] (main_arg4 : FVec F S8208x8x64 .f32) (main_v13 : IVec S_ 1) (main_v16 : IVec S8208x8 1) : IVec S_ 1 :=
  let main_c_5 : IVec S_ 1 := constantI S_ 1 1#1
  let main_v17 : IVec S_ 1 := (fun x v => Host.reduce IntOp.andi x v reducesTo_S8208x8_S_d0_1 h_S_) main_v16 main_c_5
  let main_v18 : IVec S_ 1 := andi main_v13 main_v17
  let main_v19 : FVec F S8208x8x64 .f32 := Host.absf main_arg4
  let main_cst_6 : FVec F S_ .f32 := constant S_ .f32 0x7F800000#32
  let main_v20 : FVec F S8208x8x64 .f32 := broadcastInDim S8208x8x64 ![] bcast_S_S8208x8x64 main_cst_6
  let main_v21 : IVec S8208x8x64 1 := cmpf .olt main_v19 main_v20
  let main_c_7 : IVec S_ 1 := constantI S_ 1 1#1
  let main_v22 : IVec S_ 1 := (fun x v => Host.reduce IntOp.andi x v reducesTo_S8208x8x64_S_d0_1_2 h_S_) main_v21 main_c_7
  let main_v23 : IVec S_ 1 := andi main_v18 main_v22
  main_v23

def fn {F : FTy → Type} [FloatOps F] (main_arg0 : FVec F S8208x8x64 .f32) (main_arg1 : FVec F S8208x8x64 .f32) (main_arg2 : FVec F S8208x8x64 .f32) (main_arg3 : FVec F S8208x8 .f32) (main_arg4 : FVec F S8208x8x64 .f32) : IVec S_ 1 :=
  let main_v0 : FVec F S8208x8x64 .f32 := Host.absf main_arg0
  let main_cst : FVec F S_ .f32 := constant S_ .f32 0x7F800000#32
  let main_v1 : FVec F S8208x8x64 .f32 := broadcastInDim S8208x8x64 ![] bcast_S_S8208x8x64 main_cst
  let main_v2 : IVec S8208x8x64 1 := cmpf .olt main_v0 main_v1
  let main_c : IVec S_ 1 := constantI S_ 1 1#1
  let main_v3 : IVec S_ 1 := (fun x v => Host.reduce IntOp.andi x v reducesTo_S8208x8x64_S_d0_1_2 h_S_) main_v2 main_c
  let main_v4 : FVec F S8208x8x64 .f32 := Host.absf main_arg1
  let main_cst_0 : FVec F S_ .f32 := constant S_ .f32 0x7F800000#32
  let main_v5 : FVec F S8208x8x64 .f32 := broadcastInDim S8208x8x64 ![] bcast_S_S8208x8x64 main_cst_0
  let main_v6 : IVec S8208x8x64 1 := cmpf .olt main_v4 main_v5
  let main_c_1 : IVec S_ 1 := constantI S_ 1 1#1
  let main_v7 : IVec S_ 1 := (fun x v => Host.reduce IntOp.andi x v reducesTo_S8208x8x64_S_d0_1_2 h_S_) main_v6 main_c_1
  let main_v8 : IVec S_ 1 := andi main_v3 main_v7
  let main_v9 : FVec F S8208x8x64 .f32 := Host.absf main_arg2
  let main_cst_2 : FVec F S_ .f32 := constant S_ .f32 0x7F800000#32
  let main_v10 : FVec F S8208x8x64 .f32 := broadcastInDim S8208x8x64 ![] bcast_S_S8208x8x64 main_cst_2
  let main_v11 : IVec S8208x8x64 1 := cmpf .olt main_v9 main_v10
  let main_c_3 : IVec S_ 1 := constantI S_ 1 1#1
  let main_v12 : IVec S_ 1 := (fun x v => Host.reduce IntOp.andi x v reducesTo_S8208x8x64_S_d0_1_2 h_S_) main_v11 main_c_3
  let main_v13 : IVec S_ 1 := andi main_v8 main_v12
  let main_v14 : FVec F S8208x8 .f32 := Host.absf main_arg3
  let main_cst_4 : FVec F S_ .f32 := constant S_ .f32 0x7F800000#32
  let main_v15 : FVec F S8208x8 .f32 := broadcastInDim S8208x8 ![] bcast_S_S8208x8 main_cst_4
  let main_v16 : IVec S8208x8 1 := cmpf .olt main_v14 main_v15
  fn_part1 (F := F) main_arg4 main_v13 main_v16
-- ==== Kernel.lean ====
abbrev S8208x8x64 : Shape := ⟨3, ![8208, 8, 64]⟩
abbrev S8208x8 : Shape := ⟨2, ![8208, 8]⟩
abbrev S_ : Shape := ⟨0, ![]⟩
abbrev S8x8208x8208 : Shape := ⟨3, ![8, 8208, 8208]⟩
abbrev S8x8208 : Shape := ⟨2, ![8, 8208]⟩
abbrev S8x8208x1 : Shape := ⟨3, ![8, 8208, 1]⟩
abbrev S8x1x8208 : Shape := ⟨3, ![8, 1, 8208]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S1x8208x8208 : Shape := ⟨3, ![1, 8208, 8208]⟩
abbrev S8x64x8208 : Shape := ⟨3, ![8, 64, 8208]⟩
abbrev S8208x512 : Shape := ⟨2, ![8208, 512]⟩
abbrev S8320x512 : Shape := ⟨2, ![8320, 512]⟩
abbrev S8320x7680 : Shape := ⟨2, ![8320, 7680]⟩
abbrev S8320x128 : Shape := ⟨2, ![8320, 128]⟩
abbrev S8x8320 : Shape := ⟨2, ![8, 8320]⟩
abbrev S8x1x8320 : Shape := ⟨3, ![8, 1, 8320]⟩
abbrev S8208x4x2 : Shape := ⟨3, ![8208, 4, 2]⟩
abbrev S8320x4x128 : Shape := ⟨3, ![8320, 4, 128]⟩
abbrev S640x128 : Shape := ⟨2, ![640, 128]⟩
abbrev S2x1x640 : Shape := ⟨3, ![2, 1, 640]⟩
abbrev S2x640x128 : Shape := ⟨3, ![2, 640, 128]⟩
abbrev S640 : Shape := ⟨1, ![640]⟩
abbrev S640x1 : Shape := ⟨2, ![640, 1]⟩
abbrev S1x1x640 : Shape := ⟨3, ![1, 1, 640]⟩
abbrev S1x640 : Shape := ⟨2, ![1, 640]⟩
abbrev S640x640 : Shape := ⟨2, ![640, 640]⟩
abbrev S1x640x128 : Shape := ⟨3, ![1, 640, 128]⟩

abbrev nBuf : Space → Nat
  | .hbm => 107
  | .vmem => 29
  | .smem => 0
  | _ => 0

abbrev bufTy : (tb : Table) → Fin (tcTables nBuf tb) → BufTy
  | .hbm, ⟨0, _⟩ => ⟨S8208x8x64, .f32⟩
  | .hbm, ⟨1, _⟩ => ⟨S8208x8x64, .f32⟩
  | .hbm, ⟨2, _⟩ => ⟨S8208x8x64, .f32⟩
  | .hbm, ⟨3, _⟩ => ⟨S8208x8, .f32⟩
  | .hbm, ⟨4, _⟩ => ⟨S8208x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x8208x8208, .f32⟩
  | .hbm, ⟨10, _⟩ => ⟨S_, .f32⟩
  | .hbm, ⟨11, _⟩ => ⟨S8x8208x8208, .f32⟩
  | .hbm, ⟨12, _⟩ => ⟨S8x8208x8208, .f32⟩
  | .hbm, ⟨13, _⟩ => ⟨S8x8208, .f32⟩
  | .hbm, ⟨14, _⟩ => ⟨S8x8208x1, .f32⟩
  | .hbm, ⟨15, _⟩ => ⟨S8x8208x8208, .f32⟩
  | .hbm, ⟨16, _⟩ => ⟨S8x8208x8208, .f32⟩
  | .hbm, ⟨17, _⟩ => ⟨S8x8208, .f32⟩
  | .hbm, ⟨18, _⟩ => ⟨S8x1x8208, .f32⟩
  | .hbm, ⟨19, _⟩ => ⟨S8x8208x8208, .f32⟩
  | .hbm, ⟨20, _⟩ => ⟨S8x8208x8208, .f32⟩
  | .hbm, ⟨21, _⟩ => ⟨S8208, .i32⟩
  | .hbm, ⟨22, _⟩ => ⟨S1x8208, .i32⟩
  | .hbm, ⟨23, _⟩ => ⟨S8208x1, .i32⟩
  | .hbm, ⟨24, _⟩ => ⟨S8208x8208, .i32⟩
  | .hbm, ⟨25, _⟩ => ⟨S8208x8208, .i32⟩
  | .hbm, ⟨26, _⟩ => ⟨S8208x8208, .i1⟩
  | .hbm, ⟨27, _⟩ => ⟨S1x8208x8208, .i1⟩
  | .hbm, ⟨28, _⟩ => ⟨S_, .f32⟩
  | .hbm, ⟨29, _⟩ => ⟨S_, .f32⟩
  | .hbm, ⟨30, _⟩ => ⟨S8x8208x8208, .i1⟩
  | .hbm, ⟨31, _⟩ => ⟨S8x8208x8208, .f32⟩
  | .hbm, ⟨32, _⟩ => ⟨S8x8208x8208, .f32⟩
  | .hbm, ⟨33, _⟩ => ⟨S_, .f32⟩
  | .hbm, ⟨34, _⟩ => ⟨S8x8208, .f32⟩
  | .hbm, ⟨35, _⟩ => ⟨S8x8208x1, .f32⟩
  | .hbm, ⟨36, _⟩ => ⟨S8x8208x8208, .f32⟩
  | .hbm, ⟨37, _⟩ => ⟨S8x8208x8208, .f32⟩
  | .hbm, ⟨38, _⟩ => ⟨S8x8208x8208, .f32⟩
  | .hbm, ⟨39, _⟩ => ⟨S_, .f32⟩
  | .hbm, ⟨40, _⟩ => ⟨S8x8208, .f32⟩
  | .hbm, ⟨41, _⟩ => ⟨S8x8208x1, .f32⟩
  | .hbm, ⟨42, _⟩ => ⟨S8x8208x1, .f32⟩
  | .hbm, ⟨43, _⟩ => ⟨S8x8208x1, .f32⟩
  | .hbm, ⟨44, _⟩ => ⟨S8x8208, .f32⟩
  | .hbm, ⟨45, _⟩ => ⟨S8x8208, .f32⟩
  | .hbm, ⟨46, _⟩ => ⟨S8x8208, .f32⟩
  | .hbm, ⟨47, _⟩ => ⟨S8x8208x8208, .f32⟩
  | .hbm, ⟨48, _⟩ => ⟨S8x8208x8208, .f32⟩
  | .hbm, ⟨49, _⟩ => ⟨S8x64x8208, .f32⟩
  | .hbm, ⟨50, _⟩ => ⟨S8208x8x64, .f32⟩
  | .hbm, ⟨51, _⟩ => ⟨S8208x512, .f32⟩
  | .hbm, ⟨52, _⟩ => ⟨S_, .f32⟩
  | .hbm, ⟨53, _⟩ => ⟨S_, .f32⟩
  | .hbm, ⟨54, _⟩ => ⟨S8208x512, .f32⟩
  | .hbm, ⟨55, _⟩ => ⟨S8208x512, .f32⟩
  | .hbm, ⟨56, _⟩ => ⟨S_, .i32⟩
  | .hbm, ⟨57, _⟩ => ⟨S_, .f32⟩
  | .hbm, ⟨58, _⟩ => ⟨S8320x512, .f32⟩
  | .hbm, ⟨59, _⟩ => ⟨S8320x512, .bf16⟩
  | .hbm, ⟨60, _⟩ => ⟨S8208x512, .f32⟩
  | .hbm, ⟨61, _⟩ => ⟨S_, .i32⟩
  | .hbm, ⟨62, _⟩ => ⟨S_, .f32⟩
  | .hbm, ⟨63, _⟩ => ⟨S8320x512, .f32⟩
  | .hbm, ⟨64, _⟩ => ⟨S8320x512, .bf16⟩
  | .hbm, ⟨65, _⟩ => ⟨S8208x512, .f32⟩
  | .hbm, ⟨66, _⟩ => ⟨S_, .i32⟩
  | .hbm, ⟨67, _⟩ => ⟨S_, .f32⟩
  | .hbm, ⟨68, _⟩ => ⟨S8320x7680, .f32⟩
  | .hbm, ⟨69, _⟩ => ⟨S8208x8x64, .f32⟩
  | .hbm, ⟨70, _⟩ => ⟨S8208x8x64, .f32⟩
  | .hbm, ⟨71, _⟩ => ⟨S8208x512, .f32⟩
  | .hbm, ⟨72, _⟩ => ⟨S_, .i32⟩
  | .hbm, ⟨73, _⟩ => ⟨S_, .f32⟩
  | .hbm, ⟨74, _⟩ => ⟨S8320x512, .f32⟩
  | .hbm, ⟨75, _⟩ => ⟨S8320x512, .bf16⟩
  | .hbm, ⟨76, _⟩ => ⟨S8208x8, .f32⟩
  | .hbm, ⟨77, _⟩ => ⟨S8208x8, .f32⟩
  | .hbm, ⟨78, _⟩ => ⟨S_, .i32⟩
  | .hbm, ⟨79, _⟩ => ⟨S_, .f32⟩
  | .hbm, ⟨80, _⟩ => ⟨S8320x128, .f32⟩
  | .hbm, ⟨81, _⟩ => ⟨S8208x8, .f32⟩
  | .hbm, ⟨82, _⟩ => ⟨S8208x8, .f32⟩
  | .hbm, ⟨83, _⟩ => ⟨S8x8208, .f32⟩
  | .hbm, ⟨84, _⟩ => ⟨S_, .i32⟩
  | .hbm, ⟨85, _⟩ => ⟨S_, .f32⟩
  | .hbm, ⟨86, _⟩ => ⟨S8x8320, .f32⟩
  | .hbm, ⟨87, _⟩ => ⟨S8x1x8320, .f32⟩
  | .hbm, ⟨88, _⟩ => ⟨S8208x8x64, .f32⟩
  | .hbm, ⟨89, _⟩ => ⟨S8208x8x64, .f32⟩
  | .hbm, ⟨90, _⟩ => ⟨S8208x8x64, .f32⟩
  | .hbm, ⟨91, _⟩ => ⟨S_, .f32⟩
  | .hbm, ⟨92, _⟩ => ⟨S8208x8, .f32⟩
  | .hbm, ⟨93, _⟩ => ⟨S_, .i32⟩
  | .hbm, ⟨94, _⟩ => ⟨S_, .f32⟩
  | .hbm, ⟨95, _⟩ => ⟨S8320x128, .f32⟩
  | .hbm, ⟨96, _⟩ => ⟨S8208x8, .f32⟩
  | .hbm, ⟨97, _⟩ => ⟨S8208x4x2, .f32⟩
  | .hbm, ⟨98, _⟩ => ⟨S_, .i32⟩
  | .hbm, ⟨99, _⟩ => ⟨S_, .f32⟩
  | .hbm, ⟨100, _⟩ => ⟨S8320x4x128, .f32⟩
  | .hbm, ⟨101, _⟩ => ⟨S8320x512, .f32⟩
  | .hbm, ⟨102, _⟩ => ⟨S8320x512, .f32⟩
  | .hbm, ⟨103, _⟩ => ⟨S8320x512, .f32⟩
  | .hbm, ⟨104, _⟩ => ⟨S8320x512, .bf16⟩
  | .hbm, ⟨105, _⟩ => ⟨S8320x512, .f32⟩
  | .hbm, ⟨106, _⟩ => ⟨S8x1x8320, .f32⟩
  | .local _ .vmem, ⟨0, _⟩ => ⟨S640x128, .bf16⟩
  | .local _ .vmem, ⟨1, _⟩ => ⟨S640x128, .bf16⟩
  | .local _ .vmem, ⟨2, _⟩ => ⟨S640x128, .bf16⟩
  | .local _ .vmem, ⟨3, _⟩ => ⟨S640x128, .bf16⟩
  | .local _ .vmem, ⟨4, _⟩ => ⟨S640x128, .f32⟩
  | .local _ .vmem, ⟨5, _⟩ => ⟨S640x128, .f32⟩
  | .local _ .vmem, ⟨6, _⟩ => ⟨S640x128, .f32⟩
  | .local _ .vmem, ⟨7, _⟩ => ⟨S640x128, .f32⟩
  | .local _ .vmem, ⟨8, _⟩ => ⟨S2x1x640, .f32⟩
  | .local _ .vmem, ⟨9, _⟩ => ⟨S2x1x640, .f32⟩
  | .local _ .vmem, ⟨10, _⟩ => ⟨S640x128, .bf16⟩
  | .local _ .vmem, ⟨11, _⟩ => ⟨S640x128, .bf16⟩
  | .local _ .vmem, ⟨12, _⟩ => ⟨S640x128, .f32⟩
  | .local _ .vmem, ⟨13, _⟩ => ⟨S640x128, .f32⟩
  | .local _ .vmem, ⟨14, _⟩ => ⟨S640x128, .f32⟩
  | .local _ .vmem, ⟨15, _⟩ => ⟨S640x128, .f32⟩
  | .local _ .vmem, ⟨16, _⟩ => ⟨S8320x128, .f32⟩
  | .local _ .vmem, ⟨17, _⟩ => ⟨S8320x128, .f32⟩
  | .local _ .vmem, ⟨18, _⟩ => ⟨S640x128, .f32⟩
  | .local _ .vmem, ⟨19, _⟩ => ⟨S640x128, .f32⟩
  | .local _ .vmem, ⟨20, _⟩ => ⟨S640x128, .bf16⟩
  | .local _ .vmem, ⟨21, _⟩ => ⟨S640x128, .bf16⟩
  | .local _ .vmem, ⟨22, _⟩ => ⟨S8320x128, .f32⟩
  | .local _ .vmem, ⟨23, _⟩ => ⟨S8320x128, .f32⟩
  | .local _ .vmem, ⟨24, _⟩ => ⟨S2x1x640, .f32⟩
  | .local _ .vmem, ⟨25, _⟩ => ⟨S2x1x640, .f32⟩
  | .local _ .vmem, ⟨26, _⟩ => ⟨S2x640x128, .f32⟩
  | .local _ .vmem, ⟨27, _⟩ => ⟨S2x640x128, .f32⟩
  | .local _ .vmem, ⟨28, _⟩ => ⟨S2x1x640, .f32⟩
  | _, _ => ⟨S8208x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c : Ref sig .tc := ⟨.hbm, 56, rfl⟩
abbrev main_call1_v0 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_6 : Ref sig .tc := ⟨.hbm, 61, rfl⟩
abbrev main_call2_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_7 : Ref sig .tc := ⟨.hbm, 66, rfl⟩
abbrev main_call3_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_8 : Ref sig .tc := ⟨.hbm, 72, rfl⟩
abbrev main_call4_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_9 : Ref sig .tc := ⟨.hbm, 78, rfl⟩
abbrev main_call5_v0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_10 : Ref sig .tc := ⟨.hbm, 84, rfl⟩
abbrev main_call6_v0 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_c_12 : Ref sig .tc := ⟨.hbm, 93, rfl⟩
abbrev main_call7_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_call8_v0 : Ref sig .tc := ⟨.hbm, 99, rfl⟩
abbrev main_v68 : Ref sig .tc := ⟨.hbm, 100, rfl⟩
abbrev main_v69 : Ref sig .tc := ⟨.hbm, 101, rfl⟩
abbrev main_v70_0 : Ref sig .tc := ⟨.hbm, 102, rfl⟩
abbrev main_v70_1 : Ref sig .tc := ⟨.hbm, 103, rfl⟩
abbrev main_v70_2 : Ref sig .tc := ⟨.hbm, 104, rfl⟩
abbrev main_v70_3 : Ref sig .tc := ⟨.hbm, 105, rfl⟩
abbrev main_v70_4 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![4, 13, 13], ![false, false, false]⟩

def k0_cond3 (i : grid0.Coords) : BitVec 1 :=
  let arg2 : BitVec 32 := BitVec.ofNat 32 (i 2).val
  let arg1 : BitVec 32 := BitVec.ofNat 32 (i 1).val
  let v9 : BitVec 1 := Scalar.cmpi .sge arg2 arg1
  let v10 : BitVec 32 := Scalar.extui v9
  let c0_i32_4 : BitVec 32 := 0#32
  let v11 : BitVec 1 := Scalar.cmpi .ne v10 c0_i32_4
  v11

def k0_cond4 (i : grid0.Coords) : BitVec 1 :=
  let arg1 : BitVec 32 := BitVec.ofNat 32 (i 1).val
  let arg2 : BitVec 32 := BitVec.ofNat 32 (i 2).val
  let v15 : BitVec 1 := Scalar.cmpi .eq arg1 arg2
  let c0_i32_6 : BitVec 32 := 0#32
  let v16 : BitVec 1 := Scalar.cmpi .eq arg1 c0_i32_6
  let v17 : BitVec 1 := Scalar.ori v15 v16
  let v18 : BitVec 32 := Scalar.extui v17
  let c0_i32_7 : BitVec 32 := 0#32
  let v19 : BitVec 1 := Scalar.cmpi .ne v18 c0_i32_7
  v19

def k0_mult1 (i : grid0.Coords) : BitVec 32 :=
  let arg2 : BitVec 32 := BitVec.ofNat 32 (i 2).val
  let c640_i32 : BitVec 32 := 640#32
  let v23 : BitVec 32 := Scalar.muli arg2 c640_i32
  v23
def k0_off1 (i : grid0.Coords) : Fin 2 → Nat :=
  let arg2 : BitVec 32 := BitVec.ofNat 32 (i 2).val
  let c640_i32 : BitVec 32 := 640#32
  let v23 : BitVec 32 := Scalar.muli arg2 c640_i32
  let v24 : BitVec 32 := v23
  let v252 : Index := Scalar.indexCast v24
  let c0_139 : Index := 0#32
  ![v252.toNat, 0]
def k0_cond5 (i : grid0.Coords) : BitVec 1 :=
  let arg1 : BitVec 32 := BitVec.ofNat 32 (i 1).val
  let arg2 : BitVec 32 := BitVec.ofNat 32 (i 2).val
  let v15 : BitVec 1 := Scalar.cmpi .eq arg1 arg2
  let c0_i32_6 : BitVec 32 := 0#32
  let v16 : BitVec 1 := Scalar.cmpi .eq arg1 c0_i32_6
  let v17 : BitVec 1 := Scalar.ori v15 v16
  let v_true : BitVec 1 := 1#1
  let v20 : BitVec 1 := Scalar.xori v17 v_true
  let v21 : BitVec 32 := Scalar.extui v20
  let c0_i32_8 : BitVec 32 := 0#32
  let v22 : BitVec 1 := Scalar.cmpi .ne v21 c0_i32_8
  v22

def k0_mult2 (i : grid0.Coords) : BitVec 32 :=
  let arg2 : BitVec 32 := BitVec.ofNat 32 (i 2).val
  let c640_i32 : BitVec 32 := 640#32
  let v23 : BitVec 32 := Scalar.muli arg2 c640_i32
  v23
def k0_off2 (i : grid0.Coords) : Fin 2 → Nat :=
  let arg2 : BitVec 32 := BitVec.ofNat 32 (i 2).val
  let c640_i32 : BitVec 32 := 640#32
  let v23 : BitVec 32 := Scalar.muli arg2 c640_i32
  let v24 : BitVec 32 := v23
  let v220 : Index := Scalar.indexCast v24
  let c0_130 : Index := 0#32
  ![v220.toNat, 0]
def k0_cond1 (i : grid0.Coords) : BitVec 1 :=
  let arg1 : BitVec 32 := BitVec.ofNat 32 (i 1).val
  let c0_i32 : BitVec 32 := 0#32
  let v1 : BitVec 1 := Scalar.cmpi .eq arg1 c0_i32
  let arg2 : BitVec 32 := BitVec.ofNat 32 (i 2).val
  let c0_i32_0 : BitVec 32 := 0#32
  let v2 : BitVec 1 := Scalar.cmpi .eq arg2 c0_i32_0
  let v3 : BitVec 1 := Scalar.andi v1 v2
  let v4 : BitVec 32 := Scalar.extui v3
  let c0_i32_1 : BitVec 32 := 0#32
  let v5 : BitVec 1 := Scalar.cmpi .ne v4 c0_i32_1
  v5

def k0_cond6 (i : grid0.Coords) : BitVec 1 :=
  let arg2 : BitVec 32 := BitVec.ofNat 32 (i 2).val
  let c12_i32 : BitVec 32 := 12#32
  let v12 : BitVec 1 := Scalar.cmpi .eq arg2 c12_i32
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c56_i32 : BitVec 32 := 56#32
  let v0 : BitVec 32 := Scalar.addi c56_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S640x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2x1x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S640x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S640x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S640x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S8320x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S640x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S640x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S8320x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S2x1x640 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== KernelIdeal.lean ====
variable {F : FTy → Type} [FloatOps F] [Named F]
def κ : String → Option EReal := fun
  | "log2e" => some (((Real.log 2)⁻¹ : ℝ) : EReal)
  | "neg_inf" => some ⊥
  | _ => none
-- ==== ReferenceIdeal.lean ====
abbrev S8208x8x64 : Shape := ⟨3, ![8208, 8, 64]⟩
abbrev S8208x8 : Shape := ⟨2, ![8208, 8]⟩
abbrev S8x8208x8208 : Shape := ⟨3, ![8, 8208, 8208]⟩
abbrev S_ : Shape := ⟨0, ![]⟩
abbrev S8x8208 : Shape := ⟨2, ![8, 8208]⟩
abbrev S8x8208x1 : Shape := ⟨3, ![8, 8208, 1]⟩
abbrev S8x1x8208 : Shape := ⟨3, ![8, 1, 8208]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S1x8208x8208 : Shape := ⟨3, ![1, 8208, 8208]⟩
abbrev S8x64x8208 : Shape := ⟨3, ![8, 64, 8208]⟩
abbrev S8x8208x64 : Shape := ⟨3, ![8, 8208, 64]⟩
abbrev S8208x512 : Shape := ⟨2, ![8208, 512]⟩
abbrev S8320x512 : Shape := ⟨2, ![8320, 512]⟩
abbrev S8208x4x2 : Shape := ⟨3, ![8208, 4, 2]⟩
abbrev S8320x4x128 : Shape := ⟨3, ![8320, 4, 128]⟩
abbrev S8x8320 : Shape := ⟨2, ![8, 8320]⟩
abbrev S8x1x8320 : Shape := ⟨3, ![8, 1, 8320]⟩

abbrev nBuf : Space → Nat
  | .hbm => 145
  | .vmem => 0
  | .smem => 0
  | _ => 0

abbrev hbmTy0_0 (i : Nat) : BufTy := match i % 128 with
  | 0 => ⟨S8208x8x64, .f32⟩
  | 1 => ⟨S8208x8x64, .f32⟩
  | 2 => ⟨S8208x8x64, .f32⟩
  | 3 => ⟨S8208x8, .f32⟩
  | 4 => ⟨S8208x8x64, .f32⟩
  | 5 => ⟨S8x8208x8208, .f32⟩
  | 6 => ⟨S_, .f32⟩
  | 7 => ⟨S8x8208x8208, .f32⟩
  | 8 => ⟨S8x8208x8208, .f32⟩
  | 9 => ⟨S8x8208, .f32⟩
  | 10 => ⟨S8x8208x1, .f32⟩
  | 11 => ⟨S8x8208x8208, .f32⟩
  | 12 => ⟨S8x8208x8208, .f32⟩
  | 13 => ⟨S8x8208, .f32⟩
  | 14 => ⟨S8x1x8208, .f32⟩
  | 15 => ⟨S8x8208x8208, .f32⟩
  | 16 => ⟨S8x8208x8208, .f32⟩
  | 17 => ⟨S8208, .i32⟩
  | 18 => ⟨S1x8208, .i32⟩
  | 19 => ⟨S8208x1, .i32⟩
  | 20 => ⟨S8208x8208, .i32⟩
  | 21 => ⟨S8208x8208, .i32⟩
  | 22 => ⟨S8208x8208, .i1⟩
  | 23 => ⟨S1x8208x8208, .i1⟩
  | 24 => ⟨S_, .f32⟩
  | 25 => ⟨S_, .f32⟩
  | 26 => ⟨S8x8208x8208, .i1⟩
  | 27 => ⟨S8x8208x8208, .f32⟩
  | 28 => ⟨S8x8208x8208, .f32⟩
  | 29 => ⟨S_, .f32⟩
  | 30 => ⟨S8x8208x8208, .f32⟩
  | 31 => ⟨S_, .f32⟩
  | 32 => ⟨S8x8208, .f32⟩
  | 33 => ⟨S8x8208x1, .f32⟩
  | 34 => ⟨S8x8208x8208, .f32⟩
  | 35 => ⟨S8x8208x8208, .i1⟩
  | 36 => ⟨S8x8208x8208, .f32⟩
  | 37 => ⟨S_, .f32⟩
  | 38 => ⟨S8x8208, .f32⟩
  | 39 => ⟨S_, .f32⟩
  | 40 => ⟨S8x8208, .f32⟩
  | 41 => ⟨S8x8208, .f32⟩
  | 42 => ⟨S_, .f32⟩
  | 43 => ⟨S8x8208, .f32⟩
  | 44 => ⟨S8x8208, .i1⟩
  | 45 => ⟨S_, .f32⟩
  | 46 => ⟨S8x8208, .f32⟩
  | 47 => ⟨S8x8208, .i1⟩
  | 48 => ⟨S_, .f32⟩
  | 49 => ⟨S8x8208, .f32⟩
  | 50 => ⟨S_, .f32⟩
  | 51 => ⟨S8x8208, .f32⟩
  | 52 => ⟨S_, .f32⟩
  | 53 => ⟨S8x8208, .f32⟩
  | 54 => ⟨S8x8208, .f32⟩
  | 55 => ⟨S8x8208, .f32⟩
  | 56 => ⟨S8x8208x1, .f32⟩
  | 57 => ⟨S8x8208x8208, .f32⟩
  | 58 => ⟨S8x8208x8208, .f32⟩
  | 59 => ⟨S8x8208x8208, .f32⟩
  | 60 => ⟨S_, .f32⟩
  | 61 => ⟨S8x8208, .f32⟩
  | 62 => ⟨S8x8208x1, .f32⟩
  | 63 => ⟨S8x8208x8208, .f32⟩
  | 64 => ⟨S8x8208x8208, .f32⟩
  | 65 => ⟨S8x8208x1, .f32⟩
  | 66 => ⟨S_, .f32⟩
  | 67 => ⟨S8x8208x1, .f32⟩
  | 68 => ⟨S8x8208x1, .f32⟩
  | 69 => ⟨S8x64x8208, .f32⟩
  | 70 => ⟨S8208x8x64, .f32⟩
  | 71 => ⟨S8x64x8208, .f32⟩
  | 72 => ⟨S8x8208x8208, .f32⟩
  | 73 => ⟨S8x64x8208, .f32⟩
  | 74 => ⟨S8208x8x64, .f32⟩
  | 75 => ⟨S8x8208x8208, .f32⟩
  | 76 => ⟨S8x8208x8208, .f32⟩
  | 77 => ⟨S8x8208x8208, .f32⟩
  | 78 => ⟨S_, .f32⟩
  | 79 => ⟨S8x8208, .f32⟩
  | 80 => ⟨S8x8208x1, .f32⟩
  | 81 => ⟨S8x8208x1, .f32⟩
  | 82 => ⟨S8x8208x8208, .f32⟩
  | 83 => ⟨S8x8208x8208, .f32⟩
  | 84 => ⟨S_, .f32⟩
  | 85 => ⟨S8x8208, .f32⟩
  | 86 => ⟨S8x8208x8208, .f32⟩
  | 87 => ⟨S8x8208x8208, .f32⟩
  | 88 => ⟨S8x8208x8208, .f32⟩
  | 89 => ⟨S_, .f32⟩
  | 90 => ⟨S8x8208x8208, .f32⟩
  | 91 => ⟨S8x8208x8208, .f32⟩
  | 92 => ⟨S8x8208x8208, .f32⟩
  | 93 => ⟨S_, .f32⟩
  | 94 => ⟨S8x8208, .f32⟩
  | 95 => ⟨S8x1x8208, .f32⟩
  | 96 => ⟨S_, .f32⟩
  | 97 => ⟨S8x8208, .f32⟩
  | 98 => ⟨S8208x8, .f32⟩
  | 99 => ⟨S_, .f32⟩
  | 100 => ⟨S8x8208, .f32⟩
  | 101 => ⟨S8x8208x1, .f32⟩
  | 102 => ⟨S_, .f32⟩
  | 103 => ⟨S8x8208, .f32⟩
  | 104 => ⟨S8208x8, .f32⟩
  | 105 => ⟨S_, .f32⟩
  | 106 => ⟨S8x8208x8208, .f32⟩
  | 107 => ⟨S8x8208x8208, .f32⟩
  | 108 => ⟨S8x8208x64, .f32⟩
  | 109 => ⟨S8208x8x64, .f32⟩
  | 110 => ⟨S8x8208x64, .f32⟩
  | 111 => ⟨S8208x8x64, .f32⟩
  | 112 => ⟨S_, .f32⟩
  | 113 => ⟨S_, .f32⟩
  | 114 => ⟨S8208x512, .f32⟩
  | 115 => ⟨S_, .f32⟩
  | 116 => ⟨S_, .f32⟩
  | 117 => ⟨S8208x512, .f32⟩
  | 118 => ⟨S8208x512, .f32⟩
  | 119 => ⟨S_, .i32⟩
  | 120 => ⟨S_, .f32⟩
  | 121 => ⟨S8320x512, .f32⟩
  | 122 => ⟨S8208x512, .f32⟩
  | 123 => ⟨S_, .i32⟩
  | 124 => ⟨S_, .f32⟩
  | 125 => ⟨S8320x512, .f32⟩
  | 126 => ⟨S8208x512, .f32⟩
  | 127 => ⟨S_, .i32⟩
  | _ => ⟨S8208x8x64, .f32⟩

abbrev hbmTy0_1 (i : Nat) : BufTy := match i % 128 with
  | 0 => ⟨S_, .f32⟩
  | 1 => ⟨S8320x512, .f32⟩
  | 2 => ⟨S8320x512, .bf16⟩
  | 3 => ⟨S8208x8, .f32⟩
  | 4 => ⟨S8208x8, .f32⟩
  | 5 => ⟨S8208x4x2, .f32⟩
  | 6 => ⟨S_, .i32⟩
  | 7 => ⟨S_, .f32⟩
  | 8 => ⟨S8320x4x128, .f32⟩
  | 9 => ⟨S8320x512, .f32⟩
  | 10 => ⟨S8208x8, .f32⟩
  | 11 => ⟨S8208x8, .f32⟩
  | 12 => ⟨S8x8208, .f32⟩
  | 13 => ⟨S_, .i32⟩
  | 14 => ⟨S_, .f32⟩
  | 15 => ⟨S8x8320, .f32⟩
  | 16 => ⟨S8x1x8320, .f32⟩
  | _ => ⟨S8208x8x64, .f32⟩

abbrev hbmTy (i : Nat) : BufTy := match i / 128 with
  | 0 => hbmTy0_0 i
  | 1 => hbmTy0_1 i
  | _ => ⟨S8208x8x64, .f32⟩

abbrev bufTy : (tb : Table) → Fin (tcTables nBuf tb) → BufTy
  | .hbm, ⟨i, _⟩ => hbmTy i
  | _, _ => ⟨S8208x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_v18_1 : Ref sig .tc := ⟨.hbm, 26, rfl⟩
abbrev main_call0_v2 : Ref sig .tc := ⟨.hbm, 27, rfl⟩
abbrev main_v18_0 : Ref sig .tc := ⟨.hbm, 28, rfl⟩
abbrev main_call0_cst : Ref sig .tc := ⟨.hbm, 29, rfl⟩
abbrev main_v18_2 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call1_cst : Ref sig .tc := ⟨.hbm, 89, rfl⟩
abbrev main_call1_v0 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_cst_15 : Ref sig .tc := ⟨.hbm, 99, rfl⟩
abbrev main_v71 : Ref sig .tc := ⟨.hbm, 100, rfl⟩
abbrev main_v72 : Ref sig .tc := ⟨.hbm, 101, rfl⟩
abbrev main_cst_16 : Ref sig .tc := ⟨.hbm, 102, rfl⟩
abbrev main_v73 : Ref sig .tc := ⟨.hbm, 103, rfl⟩
abbrev main_v74 : Ref sig .tc := ⟨.hbm, 104, rfl⟩
abbrev main_cst_17 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_18 : Ref sig .tc := ⟨.hbm, 112, rfl⟩
abbrev main_v81 : Ref sig .tc := ⟨.hbm, 113, rfl⟩
abbrev main_v82 : Ref sig .tc := ⟨.hbm, 114, rfl⟩
abbrev main_cst_19 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_c : Ref sig .tc := ⟨.hbm, 119, rfl⟩
abbrev main_call2_v0 : Ref sig .tc := ⟨.hbm, 120, rfl⟩
abbrev main_v86 : Ref sig .tc := ⟨.hbm, 121, rfl⟩
abbrev main_v87 : Ref sig .tc := ⟨.hbm, 122, rfl⟩
abbrev main_c_20 : Ref sig .tc := ⟨.hbm, 123, rfl⟩
abbrev main_call3_v0 : Ref sig .tc := ⟨.hbm, 124, rfl⟩
abbrev main_v88 : Ref sig .tc := ⟨.hbm, 125, rfl⟩
abbrev main_v89 : Ref sig .tc := ⟨.hbm, 126, rfl⟩
abbrev main_c_21 : Ref sig .tc := ⟨.hbm, 127, rfl⟩
abbrev main_call4_v0 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_c_22 : Ref sig .tc := ⟨.hbm, 134, rfl⟩
abbrev main_call5_v0 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_c_23 : Ref sig .tc := ⟨.hbm, 141, rfl⟩
abbrev main_call6_v0 : Ref sig .tc := ⟨.hbm, 142, rfl⟩
abbrev main_v100 : Ref sig .tc := ⟨.hbm, 143, rfl⟩
abbrev main_v101 : Ref sig .tc := ⟨.hbm, 144, rfl⟩

abbrev nD : Nat := 1
abbrev τ : Topo := Topo.v7x

variable {F : FTy → Type} [FloatOps F]
-- ==== Kernel2.lean ====
abbrev S8320x7680 : Shape := ⟨2, ![8320, 7680]⟩
abbrev S1024x7680 : Shape := ⟨2, ![1024, 7680]⟩
abbrev S8320x1024 : Shape := ⟨2, ![8320, 1024]⟩
abbrev S640x2560 : Shape := ⟨2, ![640, 2560]⟩
abbrev S1024x2560 : Shape := ⟨2, ![1024, 2560]⟩
abbrev S640x1024 : Shape := ⟨2, ![640, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x7680, .bf16⟩
  | .hbm, ⟨1, _⟩ => ⟨S1024x7680, .bf16⟩
  | .hbm, ⟨2, _⟩ => ⟨S8320x1024, .f32⟩
  | .local _ .vmem, ⟨0, _⟩ => ⟨S640x2560, .bf16⟩
  | .local _ .vmem, ⟨1, _⟩ => ⟨S640x2560, .bf16⟩
  | .local _ .vmem, ⟨2, _⟩ => ⟨S1024x2560, .bf16⟩
  | .local _ .vmem, ⟨3, _⟩ => ⟨S1024x2560, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S8320x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8320x7680 : Shape := ⟨2, ![8320, 7680]⟩
abbrev S1024x7680 : Shape := ⟨2, ![1024, 7680]⟩
abbrev S_ : Shape := ⟨0, ![]⟩
abbrev S8320x1024 : Shape := ⟨2, ![8320, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x7680, .bf16⟩
  | .hbm, ⟨1, _⟩ => ⟨S1024x7680, .bf16⟩
  | .hbm, ⟨2, _⟩ => ⟨S_, .f32⟩
  | .hbm, ⟨3, _⟩ => ⟨S8320x1024, .f32⟩
  | .hbm, ⟨4, _⟩ => ⟨S1024x7680, .f32⟩
  | .hbm, ⟨5, _⟩ => ⟨S8320x7680, .f32⟩
  | .hbm, ⟨6, _⟩ => ⟨S8320x7680, .f32⟩
  | .hbm, ⟨7, _⟩ => ⟨S8320x1024, .f32⟩
  | _, _ => ⟨S8320x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8320x1024 : Shape := ⟨2, ![8320, 1024]⟩
abbrev S8320x7680 : Shape := ⟨2, ![8320, 7680]⟩
abbrev S1024x7680 : Shape := ⟨2, ![1024, 7680]⟩
abbrev S1664x1024 : Shape := ⟨2, ![1664, 1024]⟩
abbrev S1664x1536 : Shape := ⟨2, ![1664, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x7680, .bf16⟩
  | .hbm, ⟨2, _⟩ => ⟨S1024x7680, .f32⟩
  | .local _ .vmem, ⟨0, _⟩ => ⟨S1664x1024, .bf16⟩
  | .local _ .vmem, ⟨1, _⟩ => ⟨S1664x1024, .bf16⟩
  | .local _ .vmem, ⟨2, _⟩ => ⟨S1664x1536, .bf16⟩
  | .local _ .vmem, ⟨3, _⟩ => ⟨S1664x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8320x1024 : Shape := ⟨2, ![8320, 1024]⟩
abbrev S8320x7680 : Shape := ⟨2, ![8320, 7680]⟩
abbrev S_ : Shape := ⟨0, ![]⟩
abbrev S1024x7680 : Shape := ⟨2, ![1024, 7680]⟩
abbrev S7680x1024 : Shape := ⟨2, ![7680, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x7680, .bf16⟩
  | .hbm, ⟨2, _⟩ => ⟨S_, .f32⟩
  | .hbm, ⟨3, _⟩ => ⟨S1024x7680, .f32⟩
  | .hbm, ⟨4, _⟩ => ⟨S8320x1024, .f32⟩
  | .hbm, ⟨5, _⟩ => ⟨S8320x7680, .f32⟩
  | .hbm, ⟨6, _⟩ => ⟨S8320x7680, .f32⟩
  | .hbm, ⟨7, _⟩ => ⟨S7680x1024, .f32⟩
  | .hbm, ⟨8, _⟩ => ⟨S1024x7680, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8320x5632 : Shape := ⟨2, ![8320, 5632]⟩
abbrev S1024x5632 : Shape := ⟨2, ![1024, 5632]⟩
abbrev S8320x1024 : Shape := ⟨2, ![8320, 1024]⟩
abbrev S640x2816 : Shape := ⟨2, ![640, 2816]⟩
abbrev S1024x2816 : Shape := ⟨2, ![1024, 2816]⟩
abbrev S640x1024 : Shape := ⟨2, ![640, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x5632, .bf16⟩
  | .hbm, ⟨1, _⟩ => ⟨S1024x5632, .bf16⟩
  | .hbm, ⟨2, _⟩ => ⟨S8320x1024, .f32⟩
  | .local _ .vmem, ⟨0, _⟩ => ⟨S640x2816, .bf16⟩
  | .local _ .vmem, ⟨1, _⟩ => ⟨S640x2816, .bf16⟩
  | .local _ .vmem, ⟨2, _⟩ => ⟨S1024x2816, .bf16⟩
  | .local _ .vmem, ⟨3, _⟩ => ⟨S1024x2816, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8320x5632 : Shape := ⟨2, ![8320, 5632]⟩
abbrev S1024x5632 : Shape := ⟨2, ![1024, 5632]⟩
abbrev S_ : Shape := ⟨0, ![]⟩
abbrev S8320x1024 : Shape := ⟨2, ![8320, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S1024x5632, .bf16⟩
  | .hbm, ⟨2, _⟩ => ⟨S_, .f32⟩
  | .hbm, ⟨3, _⟩ => ⟨S8320x1024, .f32⟩
  | .hbm, ⟨4, _⟩ => ⟨S1024x5632, .f32⟩
  | .hbm, ⟨5, _⟩ => ⟨S8320x5632, .f32⟩
  | .hbm, ⟨6, _⟩ => ⟨S8320x5632, .f32⟩
  | .hbm, ⟨7, _⟩ => ⟨S8320x1024, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8320x1024 : Shape := ⟨2, ![8320, 1024]⟩
abbrev S8320x5632 : Shape := ⟨2, ![8320, 5632]⟩
abbrev S1024x5632 : Shape := ⟨2, ![1024, 5632]⟩
abbrev S1664x1024 : Shape := ⟨2, ![1664, 1024]⟩
abbrev S1664x1408 : Shape := ⟨2, ![1664, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x5632, .bf16⟩
  | .hbm, ⟨2, _⟩ => ⟨S1024x5632, .f32⟩
  | .local _ .vmem, ⟨0, _⟩ => ⟨S1664x1024, .bf16⟩
  | .local _ .vmem, ⟨1, _⟩ => ⟨S1664x1024, .bf16⟩
  | .local _ .vmem, ⟨2, _⟩ => ⟨S1664x1408, .bf16⟩
  | .local _ .vmem, ⟨3, _⟩ => ⟨S1664x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8320x1024 : Shape := ⟨2, ![8320, 1024]⟩
abbrev S8320x5632 : Shape := ⟨2, ![8320, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x5632, .bf16⟩
  | .hbm, ⟨2, _⟩ => ⟨S_, .f32⟩
  | .hbm, ⟨3, _⟩ => ⟨S1024x5632, .f32⟩
  | .hbm, ⟨4, _⟩ => ⟨S8320x1024, .f32⟩
  | .hbm, ⟨5, _⟩ => ⟨S8320x5632, .f32⟩
  | .hbm, ⟨6, _⟩ => ⟨S8320x5632, .f32⟩
  | .hbm, ⟨7, _⟩ => ⟨S5632x1024, .f32⟩
  | .hbm, ⟨8, _⟩ => ⟨S1024x5632, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8320x1024 : Shape := ⟨2, ![8320, 1024]⟩
abbrev S2816x1024 : Shape := ⟨2, ![2816, 1024]⟩
abbrev S8320x2816 : Shape := ⟨2, ![8320, 2816]⟩
abbrev S640x1024 : Shape := ⟨2, ![640, 1024]⟩
abbrev S1408x1024 : Shape := ⟨2, ![1408, 1024]⟩
abbrev S640x1408 : Shape := ⟨2, ![640, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S2816x1024, .bf16⟩
  | .hbm, ⟨2, _⟩ => ⟨S8320x2816, .bf16⟩
  | .local _ .vmem, ⟨0, _⟩ => ⟨S640x1024, .f32⟩
  | .local _ .vmem, ⟨1, _⟩ => ⟨S640x1024, .f32⟩
  | .local _ .vmem, ⟨2, _⟩ => ⟨S1408x1024, .bf16⟩
  | .local _ .vmem, ⟨3, _⟩ => ⟨S1408x1024, .bf16⟩
  | .local _ .vmem, ⟨4, _⟩ => ⟨S640x1408, .bf16⟩
  | .local _ .vmem, ⟨5, _⟩ => ⟨S640x1408, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8320x1024 : Shape := ⟨2, ![8320, 1024]⟩
abbrev S2816x1024 : Shape := ⟨2, ![2816, 1024]⟩
abbrev S_ : Shape := ⟨0, ![]⟩
abbrev S8320x2816 : Shape := ⟨2, ![8320, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S2816x1024, .bf16⟩
  | .hbm, ⟨2, _⟩ => ⟨S_, .f32⟩
  | .hbm, ⟨3, _⟩ => ⟨S8320x2816, .f32⟩
  | .hbm, ⟨4, _⟩ => ⟨S2816x1024, .f32⟩
  | .hbm, ⟨5, _⟩ => ⟨S8320x1024, .f32⟩
  | .hbm, ⟨6, _⟩ => ⟨S8320x2816, .f32⟩
  | .hbm, ⟨7, _⟩ => ⟨S8320x2816, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8320x2816 : Shape := ⟨2, ![8320, 2816]⟩
abbrev S8320x1024 : Shape := ⟨2, ![8320, 1024]⟩
abbrev S2816x1024 : Shape := ⟨2, ![2816, 1024]⟩
abbrev S832x1408 : Shape := ⟨2, ![832, 1408]⟩
abbrev S832x1024 : Shape := ⟨2, ![832, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .f32⟩
  | .hbm, ⟨2, _⟩ => ⟨S2816x1024, .f32⟩
  | .local _ .vmem, ⟨0, _⟩ => ⟨S832x1408, .bf16⟩
  | .local _ .vmem, ⟨1, _⟩ => ⟨S832x1408, .bf16⟩
  | .local _ .vmem, ⟨2, _⟩ => ⟨S832x1024, .f32⟩
  | .local _ .vmem, ⟨3, _⟩ => ⟨S832x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 10], ![false, false, false]⟩

def k0_cond3 (i : grid0.Coords) : BitVec 1 :=
  let arg2 : BitVec 32 := BitVec.ofNat 32 (i 2).val
  let c9_i32 : BitVec 32 := 9#32
  let v10 : BitVec 1 := Scalar.cmpi .eq arg2 c9_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S832x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S832x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8320x2816 : Shape := ⟨2, ![8320, 2816]⟩
abbrev S8320x1024 : Shape := ⟨2, ![8320, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .f32⟩
  | .hbm, ⟨2, _⟩ => ⟨S_, .f32⟩
  | .hbm, ⟨3, _⟩ => ⟨S2816x1024, .f32⟩
  | .hbm, ⟨4, _⟩ => ⟨S8320x2816, .f32⟩
  | .hbm, ⟨5, _⟩ => ⟨S8320x1024, .f32⟩
  | .hbm, ⟨6, _⟩ => ⟨S1024x2816, .f32⟩
  | .hbm, ⟨7, _⟩ => ⟨S2816x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8320x1024 : Shape := ⟨2, ![8320, 1024]⟩
abbrev S1024x7680 : Shape := ⟨2, ![1024, 7680]⟩
abbrev S8320x7680 : Shape := ⟨2, ![8320, 7680]⟩
abbrev S640x1024 : Shape := ⟨2, ![640, 1024]⟩
abbrev S1024x1536 : Shape := ⟨2, ![1024, 1536]⟩
abbrev S640x1536 : Shape := ⟨2, ![640, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x7680, .bf16⟩
  | .hbm, ⟨2, _⟩ => ⟨S8320x7680, .f32⟩
  | .local _ .vmem, ⟨0, _⟩ => ⟨S640x1024, .bf16⟩
  | .local _ .vmem, ⟨1, _⟩ => ⟨S640x1024, .bf16⟩
  | .local _ .vmem, ⟨2, _⟩ => ⟨S1024x1536, .bf16⟩
  | .local _ .vmem, ⟨3, _⟩ => ⟨S1024x1536, .bf16⟩
  | .local _ .vmem, ⟨4, _⟩ => ⟨S640x1536, .f32⟩
  | .local _ .vmem, ⟨5, _⟩ => ⟨S640x1536, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8320x1024 : Shape := ⟨2, ![8320, 1024]⟩
abbrev S1024x7680 : Shape := ⟨2, ![1024, 7680]⟩
abbrev S8320x7680 : Shape := ⟨2, ![8320, 7680]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x7680, .bf16⟩
  | .hbm, ⟨2, _⟩ => ⟨S8320x1024, .f32⟩
  | .hbm, ⟨3, _⟩ => ⟨S1024x7680, .f32⟩
  | .hbm, ⟨4, _⟩ => ⟨S8320x7680, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8320x1024 : Shape := ⟨2, ![8320, 1024]⟩
abbrev S1024x5632 : Shape := ⟨2, ![1024, 5632]⟩
abbrev S8320x5632 : Shape := ⟨2, ![8320, 5632]⟩
abbrev S640x1024 : Shape := ⟨2, ![640, 1024]⟩
abbrev S1024x1408 : Shape := ⟨2, ![1024, 1408]⟩
abbrev S640x1408 : Shape := ⟨2, ![640, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x5632, .bf16⟩
  | .hbm, ⟨2, _⟩ => ⟨S8320x5632, .f32⟩
  | .local _ .vmem, ⟨0, _⟩ => ⟨S640x1024, .bf16⟩
  | .local _ .vmem, ⟨1, _⟩ => ⟨S640x1024, .bf16⟩
  | .local _ .vmem, ⟨2, _⟩ => ⟨S1024x1408, .bf16⟩
  | .local _ .vmem, ⟨3, _⟩ => ⟨S1024x1408, .bf16⟩
  | .local _ .vmem, ⟨4, _⟩ => ⟨S640x1408, .f32⟩
  | .local _ .vmem, ⟨5, _⟩ => ⟨S640x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8320x1024 : Shape := ⟨2, ![8320, 1024]⟩
abbrev S1024x5632 : Shape := ⟨2, ![1024, 5632]⟩
abbrev S8320x5632 : Shape := ⟨2, ![8320, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x5632, .bf16⟩
  | .hbm, ⟨2, _⟩ => ⟨S8320x1024, .f32⟩
  | .hbm, ⟨3, _⟩ => ⟨S1024x5632, .f32⟩
  | .hbm, ⟨4, _⟩ => ⟨S8320x5632, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8320x2816 : Shape := ⟨2, ![8320, 2816]⟩
abbrev S2816x1024 : Shape := ⟨2, ![2816, 1024]⟩
abbrev S8320x1024 : Shape := ⟨2, ![8320, 1024]⟩
abbrev S640x2816 : Shape := ⟨2, ![640, 2816]⟩
abbrev S640x1024 : Shape := ⟨2, ![640, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x1024, .f32⟩
  | .hbm, ⟨3, _⟩ => ⟨S8320x1024, .f32⟩
  | .local _ .vmem, ⟨0, _⟩ => ⟨S640x2816, .bf16⟩
  | .local _ .vmem, ⟨1, _⟩ => ⟨S640x2816, .bf16⟩
  | .local _ .vmem, ⟨2, _⟩ => ⟨S2816x1024, .bf16⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S8320x2816 : Shape := ⟨2, ![8320, 2816]⟩
abbrev S2816x1024 : Shape := ⟨2, ![2816, 1024]⟩
abbrev S8320x1024 : Shape := ⟨2, ![8320, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x1024, .f32⟩
  | .hbm, ⟨3, _⟩ => ⟨S8320x2816, .f32⟩
  | .hbm, ⟨4, _⟩ => ⟨S2816x1024, .f32⟩
  | .hbm, ⟨5, _⟩ => ⟨S8320x1024, .f32⟩
  | .hbm, ⟨6, _⟩ => ⟨S8320x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .f32⟩
  | .hbm, ⟨2, _⟩ => ⟨S1024x1024, .f32⟩
  | .local _ .vmem, ⟨0, _⟩ => ⟨S1664x1024, .bf16⟩
  | .local _ .vmem, ⟨1, _⟩ => ⟨S1664x1024, .bf16⟩
  | .local _ .vmem, ⟨2, _⟩ => ⟨S1664x1024, .f32⟩
  | .local _ .vmem, ⟨3, _⟩ => ⟨S1664x1024, .f32⟩
  | .local _ .vmem, ⟨4, _⟩ => ⟨S1024x1024, .f32⟩
  | .local _ .vmem, ⟨5, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32 : BitVec 32 := 4#32
  let v10 : BitVec 1 := Scalar.cmpi .eq arg2 c4_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8320x1024 : Shape := ⟨2, ![8320, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .f32⟩
  | .hbm, ⟨2, _⟩ => ⟨S_, .f32⟩
  | .hbm, ⟨3, _⟩ => ⟨S1024x1024, .f32⟩
  | .hbm, ⟨4, _⟩ => ⟨S8320x1024, .f32⟩
  | .hbm, ⟨5, _⟩ => ⟨S8320x1024, .f32⟩
  | .hbm, ⟨6, _⟩ => ⟨S1024x1024, .f32⟩
  | .hbm, ⟨7, _⟩ => ⟨S1024x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S8320x1024 : Shape := ⟨2, ![8320, 1024]⟩
abbrev S1024x1024 : Shape := ⟨2, ![1024, 1024]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1024x1024, .bf16⟩
  | .hbm, ⟨2, _⟩ => ⟨S8320x1024, .f32⟩
  | .local _ .vmem, ⟨0, _⟩ => ⟨S640x1024, .f32⟩
  | .local _ .vmem, ⟨1, _⟩ => ⟨S640x1024, .f32⟩
  | .local _ .vmem, ⟨2, _⟩ => ⟨S1024x1024, .bf16⟩
  | .local _ .vmem, ⟨3, _⟩ => ⟨S640x1024, .f32⟩
  | .local _ .vmem, ⟨4, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8320x1024 : Shape := ⟨2, ![8320, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x1024, .bf16⟩
  | .hbm, ⟨2, _⟩ => ⟨S_, .f32⟩
  | .hbm, ⟨3, _⟩ => ⟨S8320x1024, .f32⟩
  | .hbm, ⟨4, _⟩ => ⟨S1024x1024, .f32⟩
  | .hbm, ⟨5, _⟩ => ⟨S8320x1024, .f32⟩
  | .hbm, ⟨6, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8320x512 : Shape := ⟨2, ![8320, 512]⟩
abbrev S8320x1024 : Shape := ⟨2, ![8320, 1024]⟩
abbrev S512x1024 : Shape := ⟨2, ![512, 1024]⟩
abbrev S1664x512 : Shape := ⟨2, ![1664, 512]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x512, .bf16⟩
  | .hbm, ⟨1, _⟩ => ⟨S8320x1024, .bf16⟩
  | .hbm, ⟨2, _⟩ => ⟨S512x1024, .f32⟩
  | .local _ .vmem, ⟨0, _⟩ => ⟨S1664x512, .bf16⟩
  | .local _ .vmem, ⟨1, _⟩ => ⟨S1664x512, .bf16⟩
  | .local _ .vmem, ⟨2, _⟩ => ⟨S1664x1024, .bf16⟩
  | .local _ .vmem, ⟨3, _⟩ => ⟨S1664x1024, .bf16⟩
  | .local _ .vmem, ⟨4, _⟩ => ⟨S512x1024, .f32⟩
  | .local _ .vmem, ⟨5, _⟩ => ⟨S512x1024, .f32⟩
  | _, _ => ⟨S8320x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8320x512 : Shape := ⟨2, ![8320, 512]⟩
abbrev S8320x1024 : Shape := ⟨2, ![8320, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8320x512, .bf16⟩
  | .hbm, ⟨1, _⟩ => ⟨S8320x1024, .bf16⟩
  | .hbm, ⟨2, _⟩ => ⟨S_, .f32⟩
  | .hbm, ⟨3, _⟩ => ⟨S512x1024, .f32⟩
  | .hbm, ⟨4, _⟩ => ⟨S8320x512, .f32⟩
  | .hbm, ⟨5, _⟩ => ⟨S8320x1024, .f32⟩
  | .hbm, ⟨6, _⟩ => ⟨S8320x1024, .f32⟩
  | .hbm, ⟨7, _⟩ => ⟨S1024x512, .f32⟩
  | .hbm, ⟨8, _⟩ => ⟨S512x1024, .f32⟩
  | _, _ => ⟨S8320x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8320x1024 : Shape := ⟨2, ![8320, 1024]⟩
abbrev S512x1024 : Shape := ⟨2, ![512, 1024]⟩
abbrev S8320x512 : Shape := ⟨2, ![8320, 512]⟩
abbrev S640x1024 : Shape := ⟨2, ![640, 1024]⟩
abbrev S640x512 : Shape := ⟨2, ![640, 512]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S512x1024, .bf16⟩
  | .hbm, ⟨2, _⟩ => ⟨S8320x512, .f32⟩
  | .local _ .vmem, ⟨0, _⟩ => ⟨S640x1024, .bf16⟩
  | .local _ .vmem, ⟨1, _⟩ => ⟨S640x1024, .bf16⟩
  | .local _ .vmem, ⟨2, _⟩ => ⟨S512x1024, .bf16⟩
  | .local _ .vmem, ⟨3, _⟩ => ⟨S640x512, .f32⟩
  | .local _ .vmem, ⟨4, _⟩ => ⟨S640x512, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8320x1024 : Shape := ⟨2, ![8320, 1024]⟩
abbrev S512x1024 : Shape := ⟨2, ![512, 1024]⟩
abbrev S_ : Shape := ⟨0, ![]⟩
abbrev S8320x512 : Shape := ⟨2, ![8320, 512]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S512x1024, .bf16⟩
  | .hbm, ⟨2, _⟩ => ⟨S_, .f32⟩
  | .hbm, ⟨3, _⟩ => ⟨S8320x512, .f32⟩
  | .hbm, ⟨4, _⟩ => ⟨S512x1024, .f32⟩
  | .hbm, ⟨5, _⟩ => ⟨S8320x1024, .f32⟩
  | .hbm, ⟨6, _⟩ => ⟨S8320x1024, .f32⟩
  | .hbm, ⟨7, _⟩ => ⟨S8320x512, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S1024x1024, .f32⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8320x1024 : Shape := ⟨2, ![8320, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S_, .f32⟩
  | .hbm, ⟨3, _⟩ => ⟨S1024x1024, .f32⟩
  | .hbm, ⟨4, _⟩ => ⟨S8320x1024, .f32⟩
  | .hbm, ⟨5, _⟩ => ⟨S8320x1024, .f32⟩
  | .hbm, ⟨6, _⟩ => ⟨S8320x1024, .f32⟩
  | .hbm, ⟨7, _⟩ => ⟨S1024x1024, .f32⟩
  | .hbm, ⟨8, _⟩ => ⟨S1024x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S8320x1024 : Shape := ⟨2, ![8320, 1024]⟩
abbrev S1024x1024 : Shape := ⟨2, ![1024, 1024]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .local _ .vmem, ⟨0, _⟩ => ⟨S640x1024, .bf16⟩
  | .local _ .vmem, ⟨1, _⟩ => ⟨S640x1024, .bf16⟩
  | .local _ .vmem, ⟨2, _⟩ => ⟨S1024x1024, .bf16⟩
  | .local _ .vmem, ⟨3, _⟩ => ⟨S640x1024, .f32⟩
  | .local _ .vmem, ⟨4, _⟩ => ⟨S640x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8320x1024 : Shape := ⟨2, ![8320, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S_, .f32⟩
  | .hbm, ⟨3, _⟩ => ⟨S8320x1024, .f32⟩
  | .hbm, ⟨4, _⟩ => ⟨S1024x1024, .f32⟩
  | .hbm, ⟨5, _⟩ => ⟨S8320x1024, .f32⟩
  | .hbm, ⟨6, _⟩ => ⟨S8320x1024, .f32⟩
  | .hbm, ⟨7, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8320x1024 : Shape := ⟨2, ![8320, 1024]⟩
abbrev S8320x128 : Shape := ⟨2, ![8320, 128]⟩
abbrev S1024x128 : Shape := ⟨2, ![1024, 128]⟩
abbrev S1664x1024 : Shape := ⟨2, ![1664, 1024]⟩
abbrev S1664x128 : Shape := ⟨2, ![1664, 128]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x128, .f32⟩
  | .hbm, ⟨2, _⟩ => ⟨S1024x128, .f32⟩
  | .local _ .vmem, ⟨0, _⟩ => ⟨S1664x1024, .bf16⟩
  | .local _ .vmem, ⟨1, _⟩ => ⟨S1664x1024, .bf16⟩
  | .local _ .vmem, ⟨2, _⟩ => ⟨S1664x128, .f32⟩
  | .local _ .vmem, ⟨3, _⟩ => ⟨S1664x128, .f32⟩
  | .local _ .vmem, ⟨4, _⟩ => ⟨S1024x128, .f32⟩
  | .local _ .vmem, ⟨5, _⟩ => ⟨S1024x128, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32 : BitVec 32 := 4#32
  let v10 : BitVec 1 := Scalar.cmpi .eq arg2 c4_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8320x1024 : Shape := ⟨2, ![8320, 1024]⟩
abbrev S8320x128 : Shape := ⟨2, ![8320, 128]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x128, .f32⟩
  | .hbm, ⟨2, _⟩ => ⟨S_, .f32⟩
  | .hbm, ⟨3, _⟩ => ⟨S1024x128, .f32⟩
  | .hbm, ⟨4, _⟩ => ⟨S8320x1024, .f32⟩
  | .hbm, ⟨5, _⟩ => ⟨S8320x128, .f32⟩
  | .hbm, ⟨6, _⟩ => ⟨S128x1024, .f32⟩
  | .hbm, ⟨7, _⟩ => ⟨S1024x128, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S8320x128 : Shape := ⟨2, ![8320, 128]⟩
abbrev S1024x128 : Shape := ⟨2, ![1024, 128]⟩
abbrev S8320x1024 : Shape := ⟨2, ![8320, 1024]⟩
abbrev S640x128 : Shape := ⟨2, ![640, 128]⟩
abbrev S640x1024 : Shape := ⟨2, ![640, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8320x128, .f32⟩
  | .hbm, ⟨1, _⟩ => ⟨S1024x128, .bf16⟩
  | .hbm, ⟨2, _⟩ => ⟨S8320x1024, .f32⟩
  | .hbm, ⟨3, _⟩ => ⟨S8320x1024, .f32⟩
  | .local _ .vmem, ⟨0, _⟩ => ⟨S640x128, .f32⟩
  | .local _ .vmem, ⟨1, _⟩ => ⟨S640x128, .f32⟩
  | .local _ .vmem, ⟨2, _⟩ => ⟨S1024x128, .bf16⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S8320x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S8320x128 : Shape := ⟨2, ![8320, 128]⟩
abbrev S1024x128 : Shape := ⟨2, ![1024, 128]⟩
abbrev S8320x1024 : Shape := ⟨2, ![8320, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8320x128, .f32⟩
  | .hbm, ⟨1, _⟩ => ⟨S1024x128, .bf16⟩
  | .hbm, ⟨2, _⟩ => ⟨S8320x1024, .f32⟩
  | .hbm, ⟨3, _⟩ => ⟨S_, .f32⟩
  | .hbm, ⟨4, _⟩ => ⟨S8320x1024, .f32⟩
  | .hbm, ⟨5, _⟩ => ⟨S1024x128, .f32⟩
  | .hbm, ⟨6, _⟩ => ⟨S8320x128, .f32⟩
  | .hbm, ⟨7, _⟩ => ⟨S8320x1024, .f32⟩
  | .hbm, ⟨8, _⟩ => ⟨S8320x1024, .f32⟩
  | _, _ => ⟨S8320x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel19.lean ====
abbrev S8320x1024 : Shape := ⟨2, ![8320, 1024]⟩
abbrev S1024x128 : Shape := ⟨2, ![1024, 128]⟩
abbrev S8320x128 : Shape := ⟨2, ![8320, 128]⟩
abbrev S640x1024 : Shape := ⟨2, ![640, 1024]⟩
abbrev S640x128 : Shape := ⟨2, ![640, 128]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x128, .bf16⟩
  | .hbm, ⟨2, _⟩ => ⟨S8320x128, .f32⟩
  | .local _ .vmem, ⟨0, _⟩ => ⟨S640x1024, .bf16⟩
  | .local _ .vmem, ⟨1, _⟩ => ⟨S640x1024, .bf16⟩
  | .local _ .vmem, ⟨2, _⟩ => ⟨S1024x128, .bf16⟩
  | .local _ .vmem, ⟨3, _⟩ => ⟨S640x128, .f32⟩
  | .local _ .vmem, ⟨4, _⟩ => ⟨S640x128, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8320x1024 : Shape := ⟨2, ![8320, 1024]⟩
abbrev S1024x128 : Shape := ⟨2, ![1024, 128]⟩
abbrev S8320x128 : Shape := ⟨2, ![8320, 128]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x128, .bf16⟩
  | .hbm, ⟨2, _⟩ => ⟨S8320x1024, .f32⟩
  | .hbm, ⟨3, _⟩ => ⟨S1024x128, .f32⟩
  | .hbm, ⟨4, _⟩ => ⟨S8320x128, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S8320x512 : Shape := ⟨2, ![8320, 512]⟩
abbrev S512x1024 : Shape := ⟨2, ![512, 1024]⟩
abbrev S8320x1024 : Shape := ⟨2, ![8320, 1024]⟩
abbrev S640x512 : Shape := ⟨2, ![640, 512]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x512, .bf16⟩
  | .hbm, ⟨1, _⟩ => ⟨S512x1024, .bf16⟩
  | .hbm, ⟨2, _⟩ => ⟨S8320x1024, .f32⟩
  | .local _ .vmem, ⟨0, _⟩ => ⟨S640x512, .bf16⟩
  | .local _ .vmem, ⟨1, _⟩ => ⟨S640x512, .bf16⟩
  | .local _ .vmem, ⟨2, _⟩ => ⟨S512x1024, .bf16⟩
  | .local _ .vmem, ⟨3, _⟩ => ⟨S640x1024, .f32⟩
  | .local _ .vmem, ⟨4, _⟩ => ⟨S640x1024, .f32⟩
  | _, _ => ⟨S8320x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8320x512 : Shape := ⟨2, ![8320, 512]⟩
abbrev S512x1024 : Shape := ⟨2, ![512, 1024]⟩
abbrev S8320x1024 : Shape := ⟨2, ![8320, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x512, .bf16⟩
  | .hbm, ⟨1, _⟩ => ⟨S512x1024, .bf16⟩
  | .hbm, ⟨2, _⟩ => ⟨S8320x512, .f32⟩
  | .hbm, ⟨3, _⟩ => ⟨S512x1024, .f32⟩
  | .hbm, ⟨4, _⟩ => ⟨S8320x1024, .f32⟩
  | _, _ => ⟨S8320x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S8320x1024 : Shape := ⟨2, ![8320, 1024]⟩
abbrev S1024x1024 : Shape := ⟨2, ![1024, 1024]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .local _ .vmem, ⟨0, _⟩ => ⟨S640x1024, .bf16⟩
  | .local _ .vmem, ⟨1, _⟩ => ⟨S640x1024, .bf16⟩
  | .local _ .vmem, ⟨2, _⟩ => ⟨S1024x1024, .bf16⟩
  | .local _ .vmem, ⟨3, _⟩ => ⟨S640x1024, .f32⟩
  | .local _ .vmem, ⟨4, _⟩ => ⟨S640x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8320x1024 : Shape := ⟨2, ![8320, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S1024x1024, .f32⟩
  | .hbm, ⟨4, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S8320x1024 : Shape := ⟨2, ![8320, 1024]⟩
abbrev S1024x1024 : Shape := ⟨2, ![1024, 1024]⟩
abbrev S640x1024 : Shape := ⟨2, ![640, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S8320x1024, .f32⟩
  | .local _ .vmem, ⟨0, _⟩ => ⟨S640x1024, .bf16⟩
  | .local _ .vmem, ⟨1, _⟩ => ⟨S640x1024, .bf16⟩
  | .local _ .vmem, ⟨2, _⟩ => ⟨S1024x1024, .bf16⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S8320x1024 : Shape := ⟨2, ![8320, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S8320x1024, .f32⟩
  | .hbm, ⟨4, _⟩ => ⟨S1024x1024, .f32⟩
  | .hbm, ⟨5, _⟩ => ⟨S8320x1024, .f32⟩
  | .hbm, ⟨6, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Idl.Step.lean ====
/-
  What one grid point of the attention's backward kernel does to the five buffers it carries, as functions of
  the eight blocks it reads. The grid is (pair of heads, block of keys, block of queries). A point may clear the
  buffers, may add a tile with the mask (the diagonal tile and the first block of keys), may add a tile without
  it (the tiles below the diagonal), or may leave them.
-/
module

public import proofs.«01_k».proof.Proof.Gen.KernelIdeal.Skeleton
public import Idealize.ShloMosaic.Lib.VecWindow

@[expose] public section

set_option maxRecDepth 16384

noncomputable section

namespace Cert.KernelIdeal.Fox

open Cert.KernelIdeal Cert.KernelIdeal.Gen
open Idealize.ShloMosaic Idealize.ShloMosaic.TcCoe Idealize.SL.Sem

variable {F : FTy → Type} [FloatOps F] [Named F]

/-- The blocks a point reads: queries, keys, values, the gates' sums by rows and by columns, the cotangent, the
    log-sum-exp and the row sums of output times cotangent. -/
structure Ins (F : FTy → Type) where
  q : Vec F S640x128 .bf16
  k : Vec F S640x128 .bf16
  v : Vec F S640x128 .f32
  fs : Vec F S640x128 .f32
  fr : Vec F S2x1x640 .f32
  dO : Vec F S640x128 .bf16
  lse : Vec F S640x128 .f32
  dl : Vec F S640x128 .f32

/-- What the kernel carries from point to point: the gradients by query (`dq` and the row sums `dfq`, all the
    rows of the pair of heads) and those by key of the current block (`dka`, `dva` and the column sums `dfa`). -/
structure St (F : FTy → Type) where
  dq : Vec F S8320x128 .f32
  dfq : Vec F S8320x128 .f32
  dka : Vec F S2x640x128 .f32
  dva : Vec F S2x640x128 .f32
  dfa : Vec F S2x1x640 .f32

/-- The two heads' planes of a carried key gradient and of a carried column sum. -/
abbrev rk0 : Rect S2x640x128 := Rect.unit (s := S2x640x128) ![0, 0, 0] S1x640x128.size inb_S2x640x128_S1x640x128_0_0_0
abbrev rk1 : Rect S2x640x128 := Rect.unit (s := S2x640x128) ![1, 0, 0] S1x640x128.size inb_S2x640x128_S1x640x128_1_0_0
abbrev rf0 : Rect S2x1x640 := Rect.unit (s := S2x1x640) ![0, 0, 0] S1x1x640.size inb_S2x1x640_S1x1x640_0_0_0
abbrev rf1 : Rect S2x1x640 := Rect.unit (s := S2x1x640) ![1, 0, 0] S1x1x640.size inb_S2x1x640_S1x1x640_1_0_0

/-- The grid coordinates as the kernel's words. -/
abbrev w0 (i : grid0.Coords) : BitVec 32 := BitVec.ofNat 32 (i 0).val
abbrev w1 (i : grid0.Coords) : BitVec 32 := BitVec.ofNat 32 (i 1).val
abbrev w2 (i : grid0.Coords) : BitVec 32 := BitVec.ofNat 32 (i 2).val

/-! ## A tile with the mask -/

/-- The probabilities of the first head's tile, and the gradient of its scores. -/
def mP0 (i : grid0.Coords) (x : Ins F) : FVec F S640x640 .f32 :=
  k0_pay15 (k0_pay12 (w0 i) x.fs x.q x.k (View.ld x.fr rf0)) (k0_pay13 (w1 i)) (k0_pay14 (w1 i) (w2 i)) 112#32 x.lse
def mD0 (i : grid0.Coords) (x : Ins F) : FVec F S640x640 .f32 :=
  k0_pay16 (w0 i) k0_pay11 (k0_pay12 (w0 i) x.fs x.q x.k (View.ld x.fr rf0)) (k0_pay13 (w1 i)) (k0_pay14 (w1 i) (w2 i))
    112#32 x.lse x.dO x.v x.dl
/-- The probabilities of the second head's tile; its scores' gradient is a function of them and two more values. -/
def mP1 (i : grid0.Coords) (x : Ins F) : FVec F S640x640 .f32 :=
  k0_pay27 (Scalar.muli (w1 i) 640#32) (k0_pay25 (w0 i) x.fs x.q x.k (View.ld x.fr rf1)) (k0_pay26 (w2 i))
    (iota .tc S640x640 32 [1] iota_S640x640_d1_w32) x.lse
def mV1 (x : Ins F) : FVec F S640x640 .f32 := k0_pay28 k0_pay24 x.dO x.v
def mL1 (i : grid0.Coords) (x : Ins F) : FVec F S640 .f32 := k0_pay29 (w0 i) x.dl

/-- The offsets of the rows a masked point adds to are `k0_off1 i`. -/
def mDva (i : grid0.Coords) (x : Ins F) (a : Vec F S2x640x128 .f32) : Vec F S2x640x128 .f32 :=
  View.canon [⟨rk1, k0_pay32 (mP1 i x) (View.ld a rk1) x.dO⟩, ⟨rk0, k0_pay18 (mP0 i x) (View.ld a rk0) x.dO⟩]
def mDka (i : grid0.Coords) (x : Ins F) (a : Vec F S2x640x128 .f32) : Vec F S2x640x128 .f32 :=
  View.canon [⟨rk1, k0_pay33 (mP1 i x) (mV1 x) (mL1 i x) (View.ld a rk1) x.q⟩, ⟨rk0, k0_pay19 (mD0 i x) (View.ld a rk0) x.q⟩]
def mDfa (i : grid0.Coords) (x : Ins F) (a : Vec F S2x1x640 .f32) : Vec F S2x1x640 .f32 :=
  View.canon [⟨rf1, k0_pay34 (mP1 i x) (mV1 x) (mL1 i x) (View.ld a rf1)⟩, ⟨rf0, k0_pay20 (mD0 i x) (View.ld a rf0)⟩]
def mDq (i : grid0.Coords) (h3 : k0_cond3 i = 1#1) (h4 : k0_cond4 i = 1#1) (x : Ins F) (a : Vec F S8320x128 .f32) : Vec F S8320x128 .f32 :=
  VecWindow.put a (k0_off1 i) S640x128.size
    (k0_pay6 (k0_pay22 k0_pay10 k0_pay11 (k0_pay17 (mD0 i x)) (k0_pay21 x.k)) k0_pay24 (k0_pay31 (mP1 i x) (mV1 x) (mL1 i x)) x.k
      (View.ld a (Rect.unit (s := S8320x128) (k0_off1 i) S640x128.size (k0_off1_inb i h3 h4))))
def mDfq (i : grid0.Coords) (h3 : k0_cond3 i = 1#1) (h4 : k0_cond4 i = 1#1) (x : Ins F) (a : Vec F S8320x128 .f32) : Vec F S8320x128 .f32 :=
  VecWindow.put a (k0_off1 i) S640x128.size
    (k0_pay7 (k0_pay23 (mD0 i x)) (k0_pay30 (mP1 i x) (mV1 x) (mL1 i x))
      (View.ld a (Rect.unit (s := S8320x128) (k0_off1 i) S640x128.size (k0_off1_inb i h3 h4))))

/-- A tile added with the mask. -/
def mstep (i : grid0.Coords) (h3 : k0_cond3 i = 1#1) (h4 : k0_cond4 i = 1#1) (x : Ins F) (s : St F) : St F :=
  ⟨mDq i h3 h4 x s.dq, mDfq i h3 h4 x s.dfq, mDka i x s.dka, mDva i x s.dva, mDfa i x s.dfa⟩

/-! ## A tile without the mask -/

/-- The first head's scores and log-sum-exp rows, and the gradient of its scores (as f32 and as the bf16 the products read). -/
def uS0 (i : grid0.Coords) (x : Ins F) : FVec F S640x640 .f32 := k0_pay37 (w0 i) x.fs x.q x.k (View.ld x.fr rf0)
def uL0 (x : Ins F) : FVec F S640x128 .f32 := k0_pay38 x.lse
def uD0 (i : grid0.Coords) (x : Ins F) : FVec F S640x640 .f32 := k0_pay40 (w0 i) k0_pay36 (uS0 i x) (uL0 x) x.dO x.v x.dl
def uE0 (i : grid0.Coords) (x : Ins F) : FVec F S640x640 .bf16 := k0_pay41 (w0 i) k0_pay36 (uS0 i x) (uL0 x) x.dO x.v x.dl
/-- The second head's probabilities and the gradient of its scores. -/
def uP1 (i : grid0.Coords) (x : Ins F) : FVec F S640x640 .f32 :=
  k0_pay50 (k0_pay47 x.fs) (k0_pay48 (w0 i)) (Scalar.ofBits .f32 0x00000000#32) x.q x.k (View.ld x.fr rf1) x.lse
def uD1 (i : grid0.Coords) (x : Ins F) : FVec F S640x640 .f32 := k0_pay53 (w0 i) (uP1 i x) (k0_pay51 x.dO) (k0_pay52 x.v) x.dl
def uE1 (i : grid0.Coords) (x : Ins F) : FVec F S640x640 .bf16 := k0_pay54 (w0 i) (uP1 i x) (k0_pay51 x.dO) (k0_pay52 x.v) x.dl

def uDva (i : grid0.Coords) (x : Ins F) (a : Vec F S2x640x128 .f32) : Vec F S2x640x128 .f32 :=
  View.canon [⟨rk1, k0_pay55 (uP1 i x) (View.ld a rk1) x.dO⟩, ⟨rk0, k0_pay42 (uS0 i x) (uL0 x) (View.ld a rk0) x.dO⟩]
def uDka (i : grid0.Coords) (x : Ins F) (a : Vec F S2x640x128 .f32) : Vec F S2x640x128 .f32 :=
  View.canon [⟨rk1, k0_pay57 (k0_pay56 (w0 i) (uP1 i x) (k0_pay51 x.dO) (k0_pay52 x.v) x.dl (View.ld a rk1) x.q)⟩,
    ⟨rk0, k0_pay43 (uE0 i x) (View.ld a rk0) x.q⟩]
def uDfa (i : grid0.Coords) (x : Ins F) (a : Vec F S2x1x640 .f32) : Vec F S2x1x640 .f32 :=
  View.canon [⟨rf1, k0_pay58 (uD1 i x) (View.ld a rf1)⟩, ⟨rf0, k0_pay44 (uD0 i x) (View.ld a rf0)⟩]
def uDq (i : grid0.Coords) (h3 : k0_cond3 i = 1#1) (h5 : k0_cond5 i = 1#1) (x : Ins F) (a : Vec F S8320x128 .f32) : Vec F S8320x128 .f32 :=
  VecWindow.put a (k0_off2 i) S640x128.size
    (k0_pay59 (k0_pay45 k0_pay35 k0_pay36 (uE0 i x) x.k) k0_pay49 (uE1 i x) x.k
      (View.ld a (Rect.unit (s := S8320x128) (k0_off2 i) S640x128.size (k0_off2_inb i h3 h5))))
def uDfq (i : grid0.Coords) (h3 : k0_cond3 i = 1#1) (h5 : k0_cond5 i = 1#1) (x : Ins F) (a : Vec F S8320x128 .f32) : Vec F S8320x128 .f32 :=
  VecWindow.put a (k0_off2 i) S640x128.size
    (k0_pay60 (k0_pay46 (uD0 i x)) (uD1 i x)
      (View.ld a (Rect.unit (s := S8320x128) (k0_off2 i) S640x128.size (k0_off2_inb i h3 h5))))

/-- A tile added without the mask. -/
def ustep (i : grid0.Coords) (h3 : k0_cond3 i = 1#1) (h5 : k0_cond5 i = 1#1) (x : Ins F) (s : St F) : St F :=
  ⟨uDq i h3 h5 x s.dq, uDfq i h3 h5 x s.dfq, uDka i x s.dka, uDva i x s.dva, uDfa i x s.dfa⟩

/-! ## A point -/

/-- The first query block of the first key block clears the query gradients. -/
def clrQ (i : grid0.Coords) (s : St F) : St F :=
  if k0_cond1 i = 1#1 then ⟨k0_pay1, k0_pay2, s.dka, s.dva, s.dfa⟩ else s
/-- The word that says whether the point's query block is the first: it clears the key gradients. -/
abbrev first (i : grid0.Coords) : BitVec 1 := Scalar.cmpi .ne (Scalar.extui (Scalar.cmpi .eq (w2 i) 0#32)) 0#32
def clrK (i : grid0.Coords) (s : St F) : St F :=
  if first i = 1#1 then ⟨s.dq, s.dfq, k0_pay3, k0_pay4, k0_pay5⟩ else s
/-- The tile with the mask where the kernel takes that branch, then the tile without where it takes that one. -/
def tileM (i : grid0.Coords) (h3 : k0_cond3 i = 1#1) (x : Ins F) (s : St F) : St F :=
  if h4 : k0_cond4 i = 1#1 then mstep i h3 h4 x s else s
def tileU (i : grid0.Coords) (h3 : k0_cond3 i = 1#1) (x : Ins F) (s : St F) : St F :=
  if h5 : k0_cond5 i = 1#1 then ustep i h3 h5 x s else s
def tile (i : grid0.Coords) (x : Ins F) (s : St F) : St F :=
  if h3 : k0_cond3 i = 1#1 then tileU i h3 x (tileM i h3 x s) else s
/-- One grid point. -/
def step (i : grid0.Coords) (x : Ins F) (s : St F) : St F := tile i x (clrK i (clrQ i s))

/-- What the last query block writes out of the carried key gradients. -/
def outK (s : St F) : Vec F S640x128 .f32 := k0_pay8 (View.ld s.dka rk0) (View.ld s.dka rk1)
def outV (s : St F) : Vec F S640x128 .bf16 := k0_pay9 (View.ld s.dva rk0) (View.ld s.dva rk1)

end Cert.KernelIdeal.Fox

end
-- ==== Proof.Idl.Traj.lean ====
/-
  Which points clear, add and write out, and the carried buffers before each point.
-/
module

public import proofs.«01_k».proof.Proof.Idl.Step
public import proofs.«01_k».proof.Proof.Gen.KernelIdeal.Frame

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The schedule: which points clear, add, write out -/

theorem c1_iff : ∀ t : Fin grid0.N, k0_cond1 (grid0.coords t) = 1#1 ↔ t.val % 169 = 0 := by decide +kernel
theorem first_iff : ∀ t : Fin grid0.N, first (grid0.coords t) = 1#1 ↔ t.val % 13 = 0 := by decide +kernel
theorem c6_iff : ∀ t : Fin grid0.N, k0_cond6 (grid0.coords t) = 1#1 ↔ t.val % 13 = 12 := by decide +kernel
/-- A point that writes the query gradients back has touched them. -/
theorem touched : ∀ t : Fin grid0.N, t.val % 169 = 168 → idle0 8 (grid0.coords t) = false := by decide +kernel
theorem touched0 : ∀ t : Fin grid0.N, t.val % 169 = 0 → idle0 8 (grid0.coords t) = false := by decide +kernel
theorem idle_out : ∀ t : Fin grid0.N, idle0 9 (grid0.coords t) = true ↔ t.val % 13 ≠ 12 := by decide +kernel

/-! ## The carried state before each point -/

variable (m : (ℓ : Loc nD τ sig) → Buf (Elt F) ℓ)

/-- The blocks point `t` reads. -/
def ins (c : Dev nD) (t : Fin cfg0.N) : Ins F :=
  ⟨iblk m c 0 t, iblk m c 1 t, iblk m c 2 t, iblk m c 3 t, iblk m c 4 t, iblk m c 5 t, iblk m c 6 t, iblk m c 7 t⟩

/-- The cleared buffers. -/
def clear : St F := ⟨k0_pay1, k0_pay2, k0_pay3, k0_pay4, k0_pay5⟩

/-- The carried buffers before point `n`. -/
def prev (c : Dev nD) : ℕ → St F
  | 0 => clear
  | n + 1 => if h : n < cfg0.N then step (cfg0.grid.coords ⟨n, h⟩) (ins m c ⟨n, h⟩) (prev c n) else prev c n

theorem prev_succ (c : Dev nD) (t : Fin cfg0.N) :
    prev m c (t.val + 1) = step (cfg0.grid.coords t) (ins m c t) (prev m c t.val) := dif_pos t.isLt

omit [FloatOps F] in
/-- Two states agree. -/
theorem St.ext' {s s' : St F} (h1 : s.dq = s'.dq) (h2 : s.dfq = s'.dfq) (h3 : s.dka = s'.dka) (h4 : s.dva = s'.dva)
    (h5 : s.dfa = s'.dfa) : s = s' := by
  cases s; cases s'; cases h1; cases h2; cases h3; cases h4; cases h5; rfl

/-- A point's step does not read what it clears. -/
theorem step_congr (i : grid0.Coords) (x : Ins F) (s s' : St F)
    (hq : k0_cond1 i = 1#1 ∨ (s.dq = s'.dq ∧ s.dfq = s'.dfq))
    (hk : first i = 1#1 ∨ (s.dka = s'.dka ∧ s.dva = s'.dva ∧ s.dfa = s'.dfa)) : step i x s = step i x s' := by
  have e : clrK i (clrQ i s) = clrK i (clrQ i s') := by
    unfold clrK clrQ
    by_cases h1 : k0_cond1 i = 1#1 <;> by_cases h2 : first i = 1#1
    · simp only [if_pos h1, if_pos h2]
    · obtain ⟨a, b, c⟩ := hk.resolve_left h2
      simp only [if_pos h1, if_neg h2, a, b, c]
    · obtain ⟨a, b⟩ := hq.resolve_left h1
      simp only [if_neg h1, if_pos h2, a, b]
    · obtain ⟨a, b⟩ := hq.resolve_left h1
      obtain ⟨d, e, f⟩ := hk.resolve_left h2
      simp only [if_neg h1, if_neg h2]
      exact St.ext' a b d e f
  unfold step; rw [e]

/-- A point that leaves the query gradients alone. -/
theorem step_idle (i : grid0.Coords) (x : Ins F) (s : St F) (h : idle0 8 i = true) :
    (step i x s).dq = s.dq ∧ (step i x s).dfq = s.dfq := by
  have h' : k0_cond1 i ≠ 1#1 ∧ ¬(k0_cond3 i = 1#1 ∧ k0_cond4 i = 1#1) ∧ ¬(k0_cond3 i = 1#1 ∧ k0_cond5 i = 1#1) := by
    revert h
    simp only [idle0, Bool.and_eq_true, Bool.not_eq_true', Bool.and_eq_false_iff, beq_eq_false_iff_ne, ne_eq]
    rintro ⟨⟨a, b⟩, c⟩
    refine ⟨a, fun ⟨p, q⟩ => b.elim (fun z => z p) (fun z => z q), fun ⟨p, q⟩ => c.elim (fun z => z p) (fun z => z q)⟩
  obtain ⟨h1, h2, h3⟩ := h'
  have e : tile i x (clrK i (clrQ i s)) = clrK i (clrQ i s) := by
    unfold tile
    split
    · next a =>
      unfold tileU tileM
      rw [dif_neg (fun b => h2 ⟨a, b⟩), dif_neg (fun b => h3 ⟨a, b⟩)]
    · rfl
  unfold step
  rw [e]
  unfold clrQ
  rw [if_neg h1]
  unfold clrK
  split <;> exact ⟨rfl, rfl⟩

end Cert.KernelIdeal.Fox

end
-- ==== Proof.Idl.Data.lean ====
/-
  The proof data of the launch: what every buffer holds around every point.
-/
module

public import proofs.«01_k».proof.Proof.Idl.Traj
public import Idealize.ShloMosaic.Lib.Pipeline.TableIdle
public import Idealize.ShloMosaic.Lib.Pipeline.FrameBody
public import Idealize.ShloMosaic.Lib.Ring
public import Idealize.ShloMosaic.Lib.Tactic
public import proofs.«01_k».proof.Proof.Gen.KernelIdeal.Launch

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The invariant before point `n`: before the first the scratch buffers hold anything, later the carried key gradients. -/
def PhiN (c : Dev nD) (n : ℕ) : sProp 𝕄 :=
  if n = 0 then Pipeline.ΦA spec0 c
  else iprop(((c : Thread nD τ).loc cc0_scratch0 ↦{fullShare} (prev m c n).dka) ∗ ((c : Thread nD τ).loc cc0_scratch1 ↦{fullShare} (prev m c n).dva)
    ∗ ((c : Thread nD τ).loc cc0_scratch2 ↦{fullShare} (prev m c n).dfa) ∗ ∃ r, prngReg c r)

/-- The proof data: the arrays as the region finds them, the inputs left in place, the query gradients at the carried
    state, the key gradients' blocks at what the last query block writes. -/
def dats (p : Fin 1) (c : Dev nD) : Dat τ (Elt F) Unit ℕ (UR sig nD τ) ℕ (cfgs p) c :=
  match p with
  | 0 =>
    { A := fun w => V m c (Pipeline.arrRef spec0 w)
      after := fun w t => (match w with
         | ⟨0, _⟩ => iblk m c 0 t
         | ⟨1, _⟩ => iblk m c 1 t
         | ⟨2, _⟩ => iblk m c 2 t
         | ⟨3, _⟩ => iblk m c 3 t
         | ⟨4, _⟩ => iblk m c 4 t
         | ⟨5, _⟩ => iblk m c 5 t
         | ⟨6, _⟩ => iblk m c 6 t
         | ⟨7, _⟩ => iblk m c 7 t
         | ⟨8, _⟩ => (prev m c (t.val + 1)).dq
         | ⟨9, _⟩ => outK (prev m c (t.val + 1))
         | ⟨10, _⟩ => outV (prev m c (t.val + 1))
         | ⟨11, _⟩ => (prev m c (t.val + 1)).dfq
         | ⟨12, _⟩ => (prev m c (t.val + 1)).dfa
         | ⟨_ + 13, h⟩ => absurd h (Nat.not_lt.2 (Nat.le_add_left _ _)))
      Φ := fun t => PhiN m c t.val
      q := fun _ => fullShare
      owed := fun _ => 0 }
  | ⟨_ + 1, h⟩ => absurd h (Nat.not_lt.2 (Nat.le_add_left _ _))

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (prev m c (t.val + 1)).dq := by dsimp only [dats]
theorem after_9 (c : Dev nD) (t : Fin cfg0.N) : (dats m 0 c).after 9 t = outK (prev m c (t.val + 1)) := by dsimp only [dats]
theorem after_10 (c : Dev nD) (t : Fin cfg0.N) : (dats m 0 c).after 10 t = outV (prev m c (t.val + 1)) := by dsimp only [dats]
theorem after_11 (c : Dev nD) (t : Fin cfg0.N) : (dats m 0 c).after 11 t = (prev m c (t.val + 1)).dfq := by dsimp only [dats]
theorem after_12 (c : Dev nD) (t : Fin cfg0.N) : (dats m 0 c).after 12 t = (prev m c (t.val + 1)).dfa := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- Output 8's buffer is fresh at a pair of heads' first point, and there only. -/
theorem fresh_8 : ∀ n : ℕ, n < cfg0.N → cfg0.fresh 8 n = decide (n % 169 = 0)
  | 0, _ => rfl
  | n + 1, h => by
    have hn : n < cfg0.N := Nat.lt_of_succ_lt h
    rw [Pipeline.Cfg.fresh_succ cfg0 8 n hn, fresh_8 n hn]
    by_cases h1 : n % 169 = 168
    · rw [(flush0_8 ⟨n, hn⟩).2 h1, Bool.true_or]
      exact (decide_eq_true (by omega)).symm
    · have e1 : (cfg0.win 8).flush ⟨n, hn⟩ = false := by
        by_contra h'
        exact h1 ((flush0_8 ⟨n, hn⟩).1 (by simpa using h'))
      rw [e1, Bool.false_or]
      by_cases h0 : n % 169 = 0
      · rw [show cfg0.idle 8 (cfg0.grid.coords ⟨n, hn⟩) = false from touched0 ⟨n, hn⟩ h0, Bool.false_and]
        exact (decide_eq_false (by omega)).symm
      · rw [decide_eq_false h0, Bool.and_false]
        exact (decide_eq_false (by omega)).symm

theorem before_8 (c : Dev nD) (t : Fin cfg0.N) (d) :
    (dats m 0 c).before 8 t d = if t.val % 169 = 0 then d else (prev m c t.val).dq := by
  rw [(dats m 0 c).before_out_traj 8 rfl (fun _ _ => rfl) (fun t ht hi hf => ?_) t.val t rfl d, fresh_8 t.val t.isLt]
  · by_cases h : t.val % 169 = 0
    · rw [if_pos h, if_pos (by simpa using h)]
    · rw [if_neg h, if_neg (by simpa using h), after_8]
      have : t.val - 1 + 1 = t.val := by omega
      dsimp only
      rw [this]
  · rw [after_8, after_8]
    have e : t.val - 1 + 1 = t.val := by omega
    dsimp only
    rw [e, prev_succ]
    exact (step_idle _ _ _ hi).1

/-- Output 11's buffer is fresh at a pair of heads' first point, and there only. -/
theorem fresh_11 : ∀ n : ℕ, n < cfg0.N → cfg0.fresh 11 n = decide (n % 169 = 0)
  | 0, _ => rfl
  | n + 1, h => by
    have hn : n < cfg0.N := Nat.lt_of_succ_lt h
    rw [Pipeline.Cfg.fresh_succ cfg0 11 n hn, fresh_11 n hn]
    by_cases h1 : n % 169 = 168
    · rw [(flush0_11 ⟨n, hn⟩).2 h1, Bool.true_or]
      exact (decide_eq_true (by omega)).symm
    · have e1 : (cfg0.win 11).flush ⟨n, hn⟩ = false := by
        by_contra h'
        exact h1 ((flush0_11 ⟨n, hn⟩).1 (by simpa using h'))
      rw [e1, Bool.false_or]
      by_cases h0 : n % 169 = 0
      · rw [show cfg0.idle 11 (cfg0.grid.coords ⟨n, hn⟩) = false from touched0 ⟨n, hn⟩ h0, Bool.false_and]
        exact (decide_eq_false (by omega)).symm
      · rw [decide_eq_false h0, Bool.and_false]
        exact (decide_eq_false (by omega)).symm

theorem before_11 (c : Dev nD) (t : Fin cfg0.N) (d) :
    (dats m 0 c).before 11 t d = if t.val % 169 = 0 then d else (prev m c t.val).dfq := by
  rw [(dats m 0 c).before_out_traj 11 rfl (fun _ _ => rfl) (fun t ht hi hf => ?_) t.val t rfl d, fresh_11 t.val t.isLt]
  · by_cases h : t.val % 169 = 0
    · rw [if_pos h, if_pos (by simpa using h)]
    · rw [if_neg h, if_neg (by simpa using h), after_11]
      have : t.val - 1 + 1 = t.val := by omega
      dsimp only
      rw [this]
  · rw [after_11, after_11]
    have e : t.val - 1 + 1 = t.val := by omega
    dsimp only
    rw [e, prev_succ]
    exact (step_idle _ _ _ hi).2

/-- Output 9's buffer is fresh at every point: it is written only where it is written back. -/
theorem fresh_9 : ∀ n : ℕ, n < cfg0.N → cfg0.fresh 9 n = true
  | 0, _ => rfl
  | n + 1, h => by
    have hn : n < cfg0.N := Nat.lt_of_succ_lt h
    rw [Pipeline.Cfg.fresh_succ cfg0 9 n hn, fresh_9 n hn, Bool.and_true]
    by_cases h1 : n % 13 = 12
    · rw [(flush0_9 ⟨n, hn⟩).2 h1, Bool.true_or]
    · rw [show cfg0.idle 9 (cfg0.grid.coords ⟨n, hn⟩) = true from (idle_out ⟨n, hn⟩).2 h1, Bool.or_true]

theorem before_9 (c : Dev nD) (t : Fin cfg0.N) (d) : (dats m 0 c).before 9 t d = d := by
  rw [(dats m 0 c).before_out_traj 9 rfl (fun _ _ => rfl) (fun t ht hi hf => ?_) t.val t rfl d, fresh_9 t.val t.isLt, if_pos rfl]
  rw [fresh_9 t.val t.isLt] at hf
  exact absurd hf (by decide)

/-- Output 10's buffer is fresh at every point: it is written only where it is written back. -/
theorem fresh_10 : ∀ n : ℕ, n < cfg0.N → cfg0.fresh 10 n = true
  | 0, _ => rfl
  | n + 1, h => by
    have hn : n < cfg0.N := Nat.lt_of_succ_lt h
    rw [Pipeline.Cfg.fresh_succ cfg0 10 n hn, fresh_10 n hn, Bool.and_true]
    by_cases h1 : n % 13 = 12
    · rw [(flush0_10 ⟨n, hn⟩).2 h1, Bool.true_or]
    · rw [show cfg0.idle 10 (cfg0.grid.coords ⟨n, hn⟩) = true from (idle_out ⟨n, hn⟩).2 h1, Bool.or_true]

theorem before_10 (c : Dev nD) (t : Fin cfg0.N) (d) : (dats m 0 c).before 10 t d = d := by
  rw [(dats m 0 c).before_out_traj 10 rfl (fun _ _ => rfl) (fun t ht hi hf => ?_) t.val t rfl d, fresh_10 t.val t.isLt, if_pos rfl]
  rw [fresh_10 t.val t.isLt] at hf
  exact absurd hf (by decide)

/-- Output 12's buffer is fresh at every point: it is written only where it is written back. -/
theorem fresh_12 : ∀ n : ℕ, n < cfg0.N → cfg0.fresh 12 n = true
  | 0, _ => rfl
  | n + 1, h => by
    have hn : n < cfg0.N := Nat.lt_of_succ_lt h
    rw [Pipeline.Cfg.fresh_succ cfg0 12 n hn, fresh_12 n hn, Bool.and_true]
    by_cases h1 : n % 13 = 12
    · rw [(flush0_12 ⟨n, hn⟩).2 h1, Bool.true_or]
    · rw [show cfg0.idle 12 (cfg0.grid.coords ⟨n, hn⟩) = true from (idle_out ⟨n, hn⟩).2 h1, Bool.or_true]

theorem before_12 (c : Dev nD) (t : Fin cfg0.N) (d) : (dats m 0 c).before 12 t d = d := by
  rw [(dats m 0 c).before_out_traj 12 rfl (fun _ _ => rfl) (fun t ht hi hf => ?_) t.val t rfl d, fresh_12 t.val t.isLt, if_pos rfl]
  rw [fresh_12 t.val t.isLt] at hf
  exact absurd hf (by decide)

end Cert.KernelIdeal.Fox

end
-- ==== Proof.Idl.Blocks.lean ====
/-
  The kernel's body cut at its branches: clearing the query gradients, clearing the key gradients, the tile with
  and the tile without the mask, and writing the key gradients out.
-/
module

public import proofs.«01_k».proof.Proof.Idl.Step

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
/-- The tile with the mask, then `kk`. -/
def bMask (i : grid0.Coords) (k0_h3 : k0_cond3 i = 1#1) (k0_h4 : k0_cond4 i = 1#1)
    (arg3 : Memref sig .tc .vmem S640x128 .bf16) (harg3 : arg3.IsWhole) (arg4 : Memref sig .tc .vmem S640x128 .bf16) (harg4 : arg4.IsWhole)
    (arg5 : Memref sig .tc .vmem S640x128 .f32) (harg5 : arg5.IsWhole) (arg6 : Memref sig .tc .vmem S640x128 .f32) (harg6 : arg6.IsWhole)
    (arg7 : Memref sig .tc .vmem S2x1x640 .f32) (harg7 : arg7.IsWhole) (arg8 : Memref sig .tc .vmem S640x128 .bf16) (harg8 : arg8.IsWhole)
    (arg9 : Memref sig .tc .vmem S640x128 .f32) (harg9 : arg9.IsWhole) (arg10 : Memref sig .tc .vmem S640x128 .f32) (harg10 : arg10.IsWhole)
    (arg11 : Memref sig .tc .vmem S8320x128 .f32) (harg11 : arg11.IsWhole) (arg12 : Memref sig .tc .vmem S640x128 .f32) (harg12 : arg12.IsWhole)
    (arg13 : Memref sig .tc .vmem S640x128 .bf16) (harg13 : arg13.IsWhole) (arg14 : Memref sig .tc .vmem S8320x128 .f32) (harg14 : arg14.IsWhole)
    (arg15 : Memref sig .tc .vmem S2x1x640 .f32) (harg15 : arg15.IsWhole) (arg16 : Memref sig .tc .vmem S2x640x128 .f32) (harg16 : arg16.IsWhole)
    (arg17 : Memref sig .tc .vmem S2x640x128 .f32) (harg17 : arg17.IsWhole) (arg18 : Memref sig .tc .vmem S2x1x640 .f32) (harg18 : arg18.IsWhole)
    (kk : PUnit.{1} → Prog (TpuEff nD τ sig (Elt F) Λ₀ .tc) PUnit.{1}) :
    Prog (TpuEff nD τ sig (Elt F) Λ₀ .tc) PUnit.{1} := do
  let arg0 : BitVec 32 := BitVec.ofNat 32 (i 0).val
  let arg1 : BitVec 32 := BitVec.ofNat 32 (i 1).val
  let arg2 : BitVec 32 := BitVec.ofNat 32 (i 2).val
  let ⟨v24, v25, v47, v54, v60, v61, c112_i32⟩ : Σ' (v24 : BitVec 32) (v25 : FVec F S640x128 .f32) (v47 : IVec S640x128 1) (v54 : FVec F S640x640 .f32) (v60 : IVec S640x640 32) (v61 : IVec S640x640 1), BitVec 32 ← k0_part1 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 arg2
  let ⟨v80, v102⟩ : Σ' (v80 : FVec F S640x640 .f32), FVec F S640x640 .f32 ← k0_part2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v47 v54 v60 v61 c112_i32
  let ⟨v103, v132⟩ : Σ' (v103 : FVec F S640x640 .bf16), FVec F S640x128 .bf16 ← k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v80 v102
  let ⟨v136, v138, v157, v160, v167, v170, v171⟩ : Σ' (v136 : FVec F S640x128 .f32) (v138 : FVec F S640x1 .f32) (v157 : BitVec 32) (v160 : IVec S640x128 1) (v167 : FVec F S640x640 .f32) (v170 : IVec S640x640 32), IVec S640x640 32 ← k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 arg2 v25 v47 v102 v103 v132
  let ⟨v193, v201, v211⟩ : Σ' (v193 : FVec F S640x640 .f32) (v201 : FVec F S640x640 .f32), FVec F S640 .f32 ← k0_part5 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v157 v160 v167 v170 v171
  let ⟨v215, v216⟩ : Σ' (v215 : FVec F S640x640 .f32), FVec F S640x640 .bf16 ← k0_part6 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v193 v201 v211
  let v244 : Vec F S640x128 .bf16 ← Prog.lift (.load arg4 (Rect.unit (s := S640x128) ![0, 0] S640x128.size inb_S640x128_S640x128_0_0).toLoadRect (View.loadsAt_vmem h_S640x128))
  let v253 : Vec F S640x128 .f32 ← Prog.lift (.load arg11 (Rect.unit (s := S8320x128) (k0_off1 i) S640x128.size (k0_off1_inb i k0_h3 k0_h4)).toLoadRect (View.loadsAt_vmem h_S640x128))
  let v257 : Vec F S640x128 .f32 ← Prog.lift (.load arg11 (Rect.unit (s := S8320x128) (k0_off1 i) S640x128.size (k0_off1_inb i k0_h3 k0_h4)).toLoadRect (View.loadsAt_vmem h_S640x128))
  Prog.lift (.store arg11 (Rect.unit (s := S8320x128) (k0_off1 i) S640x128.size (k0_off1_inb i k0_h3 k0_h4)) (k0_pay6 v136 v160 v216 v244 v253) Finset.univ (View.stores_vmem_bits_univ h_S640x128 rfl) (.inl rfl))
  let v259 : Vec F S640x128 .f32 ← Prog.lift (.load arg14 (Rect.unit (s := S8320x128) (k0_off1 i) S640x128.size (k0_off1_inb i k0_h3 k0_h4)).toLoadRect (View.loadsAt_vmem h_S640x128))
  let v275 : Vec F S640x128 .f32 ← Prog.lift (.load arg14 (Rect.unit (s := S8320x128) (k0_off1 i) S640x128.size (k0_off1_inb i k0_h3 k0_h4)).toLoadRect (View.loadsAt_vmem h_S640x128))
  Prog.lift (.store arg14 (Rect.unit (s := S8320x128) (k0_off1 i) S640x128.size (k0_off1_inb i k0_h3 k0_h4)) (k0_pay7 v138 v215 v259) Finset.univ (View.stores_vmem_bits_univ h_S640x128 rfl) (.inl rfl))
  kk ⟨⟩

/-- The tile without the mask, then `kk`. -/
def bFree (i : grid0.Coords) (k0_h3 : k0_cond3 i = 1#1) (k0_h5 : k0_cond5 i = 1#1)
    (arg3 : Memref sig .tc .vmem S640x128 .bf16) (harg3 : arg3.IsWhole) (arg4 : Memref sig .tc .vmem S640x128 .bf16) (harg4 : arg4.IsWhole)
    (arg5 : Memref sig .tc .vmem S640x128 .f32) (harg5 : arg5.IsWhole) (arg6 : Memref sig .tc .vmem S640x128 .f32) (harg6 : arg6.IsWhole)
    (arg7 : Memref sig .tc .vmem S2x1x640 .f32) (harg7 : arg7.IsWhole) (arg8 : Memref sig .tc .vmem S640x128 .bf16) (harg8 : arg8.IsWhole)
    (arg9 : Memref sig .tc .vmem S640x128 .f32) (harg9 : arg9.IsWhole) (arg10 : Memref sig .tc .vmem S640x128 .f32) (harg10 : arg10.IsWhole)
    (arg11 : Memref sig .tc .vmem S8320x128 .f32) (harg11 : arg11.IsWhole) (arg12 : Memref sig .tc .vmem S640x128 .f32) (harg12 : arg12.IsWhole)
    (arg13 : Memref sig .tc .vmem S640x128 .bf16) (harg13 : arg13.IsWhole) (arg14 : Memref sig .tc .vmem S8320x128 .f32) (harg14 : arg14.IsWhole)
    (arg15 : Memref sig .tc .vmem S2x1x640 .f32) (harg15 : arg15.IsWhole) (arg16 : Memref sig .tc .vmem S2x640x128 .f32) (harg16 : arg16.IsWhole)
    (arg17 : Memref sig .tc .vmem S2x640x128 .f32) (harg17 : arg17.IsWhole) (arg18 : Memref sig .tc .vmem S2x1x640 .f32) (harg18 : arg18.IsWhole)
    (kk : PUnit.{1} → Prog (TpuEff nD τ sig (Elt F) Λ₀ .tc) PUnit.{1}) :
    Prog (TpuEff nD τ sig (Elt F) Λ₀ .tc) PUnit.{1} := do
  let arg0 : BitVec 32 := BitVec.ofNat 32 (i 0).val
  let arg1 : BitVec 32 := BitVec.ofNat 32 (i 1).val
  let arg2 : BitVec 32 := BitVec.ofNat 32 (i 2).val
  let ⟨v24, v25, v45, v52, v59⟩ : Σ' (v24 : BitVec 32) (v25 : FVec F S640x128 .f32) (v45 : IVec S640x128 1) (v52 : FVec F S640x640 .f32), FVec F S640x128 .f32 ← k0_part7 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg2
  let ⟨v86, v87⟩ : Σ' (v86 : FVec F S640x640 .f32), FVec F S640x640 .bf16 ← k0_part8 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v45 v52 v59
  let ⟨v120, v122, v124, v129, cst_72⟩ : Σ' (v120 : FVec F S640x128 .f32) (v122 : FVec F S640x1 .f32) (v124 : FVec F S640x128 .f32) (v129 : IVec S640x128 1), F .f32 ← k0_part9 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v45 v86 v87
  let ⟨v142, v161, v165, v168⟩ : Σ' (v142 : IVec S640x128 1) (v161 : FVec F S640x640 .f32) (v165 : FVec F S640x128 .bf16), FVec F S640x128 .bf16 ← k0_part10 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v124 v129 cst_72
  let ⟨v183, v184, v200⟩ : Σ' (v183 : FVec F S640x640 .f32) (v184 : FVec F S640x640 .bf16), FVec F S640x128 .f32 ← k0_part11 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v161 v165 v168
  let v241 : FVec F S640x128 .f32 ← k0_part12 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h3 k0_h5 v24 v120 v122 v142 v183 v184 v200
  let v243 : Vec F S640x128 .f32 ← Prog.lift (.load arg14 (Rect.unit (s := S8320x128) (k0_off2 i) S640x128.size (k0_off2_inb i k0_h3 k0_h5)).toLoadRect (View.loadsAt_vmem h_S640x128))
  Prog.lift (.store arg14 (Rect.unit (s := S8320x128) (k0_off2 i) S640x128.size (k0_off2_inb i k0_h3 k0_h5)) v241 Finset.univ (View.stores_vmem_bits_univ h_S640x128 rfl) (.inl rfl))
  kk ⟨⟩

/-- Clearing the query gradients, then `kk`. -/
def b1 (i : grid0.Coords) (arg3 : Memref sig .tc .vmem S640x128 .bf16) (harg3 : arg3.IsWhole) (arg4 : Memref sig .tc .vmem S640x128 .bf16) (harg4 : arg4.IsWhole)
    (arg5 : Memref sig .tc .vmem S640x128 .f32) (harg5 : arg5.IsWhole) (arg6 : Memref sig .tc .vmem S640x128 .f32) (harg6 : arg6.IsWhole)
    (arg7 : Memref sig .tc .vmem S2x1x640 .f32) (harg7 : arg7.IsWhole) (arg8 : Memref sig .tc .vmem S640x128 .bf16) (harg8 : arg8.IsWhole)
    (arg9 : Memref sig .tc .vmem S640x128 .f32) (harg9 : arg9.IsWhole) (arg10 : Memref sig .tc .vmem S640x128 .f32) (harg10 : arg10.IsWhole)
    (arg11 : Memref sig .tc .vmem S8320x128 .f32) (harg11 : arg11.IsWhole) (arg12 : Memref sig .tc .vmem S640x128 .f32) (harg12 : arg12.IsWhole)
    (arg13 : Memref sig .tc .vmem S640x128 .bf16) (harg13 : arg13.IsWhole) (arg14 : Memref sig .tc .vmem S8320x128 .f32) (harg14 : arg14.IsWhole)
    (arg15 : Memref sig .tc .vmem S2x1x640 .f32) (harg15 : arg15.IsWhole) (arg16 : Memref sig .tc .vmem S2x640x128 .f32) (harg16 : arg16.IsWhole)
    (arg17 : Memref sig .tc .vmem S2x640x128 .f32) (harg17 : arg17.IsWhole) (arg18 : Memref sig .tc .vmem S2x1x640 .f32) (harg18 : arg18.IsWhole)
    (kk : PUnit.{1} → Prog (TpuEff nD τ sig (Elt F) Λ₀ .tc) PUnit.{1}) :
    Prog (TpuEff nD τ sig (Elt F) Λ₀ .tc) PUnit.{1} := do
  let arg0 : BitVec 32 := BitVec.ofNat 32 (i 0).val
  let arg1 : BitVec 32 := BitVec.ofNat 32 (i 1).val
  let arg2 : BitVec 32 := BitVec.ofNat 32 (i 2).val
  if k0_h1 : k0_cond1 i = 1#1 then do
    let v16 : Vec F S8320x128 .f32 ← Prog.lift (.load arg11 (Rect.unit (s := S8320x128) ![0, 0] S8320x128.size inb_S8320x128_S8320x128_0_0).toLoadRect (View.loadsAt_vmem h_S8320x128))
    Prog.lift (.store arg11 (Rect.unit (s := S8320x128) ![0, 0] S8320x128.size inb_S8320x128_S8320x128_0_0) (k0_pay1 (F := F)) Finset.univ (View.stores_vmem_bits_univ h_S8320x128 rfl) (.inl rfl))
    let v18 : Vec F S8320x128 .f32 ← Prog.lift (.load arg14 (Rect.unit (s := S8320x128) ![0, 0] S8320x128.size inb_S8320x128_S8320x128_0_0).toLoadRect (View.loadsAt_vmem h_S8320x128))
    Prog.lift (.store arg14 (Rect.unit (s := S8320x128) ![0, 0] S8320x128.size inb_S8320x128_S8320x128_0_0) (k0_pay2 (F := F)) Finset.univ (View.stores_vmem_bits_univ h_S8320x128 rfl) (.inl rfl))
    kk ⟨⟩
  else do
    kk ⟨⟩

/-- Clearing the key gradients, then `kk`. -/
def b2 (i : grid0.Coords) (arg3 : Memref sig .tc .vmem S640x128 .bf16) (harg3 : arg3.IsWhole) (arg4 : Memref sig .tc .vmem S640x128 .bf16) (harg4 : arg4.IsWhole)
    (arg5 : Memref sig .tc .vmem S640x128 .f32) (harg5 : arg5.IsWhole) (arg6 : Memref sig .tc .vmem S640x128 .f32) (harg6 : arg6.IsWhole)
    (arg7 : Memref sig .tc .vmem S2x1x640 .f32) (harg7 : arg7.IsWhole) (arg8 : Memref sig .tc .vmem S640x128 .bf16) (harg8 : arg8.IsWhole)
    (arg9 : Memref sig .tc .vmem S640x128 .f32) (harg9 : arg9.IsWhole) (arg10 : Memref sig .tc .vmem S640x128 .f32) (harg10 : arg10.IsWhole)
    (arg11 : Memref sig .tc .vmem S8320x128 .f32) (harg11 : arg11.IsWhole) (arg12 : Memref sig .tc .vmem S640x128 .f32) (harg12 : arg12.IsWhole)
    (arg13 : Memref sig .tc .vmem S640x128 .bf16) (harg13 : arg13.IsWhole) (arg14 : Memref sig .tc .vmem S8320x128 .f32) (harg14 : arg14.IsWhole)
    (arg15 : Memref sig .tc .vmem S2x1x640 .f32) (harg15 : arg15.IsWhole) (arg16 : Memref sig .tc .vmem S2x640x128 .f32) (harg16 : arg16.IsWhole)
    (arg17 : Memref sig .tc .vmem S2x640x128 .f32) (harg17 : arg17.IsWhole) (arg18 : Memref sig .tc .vmem S2x1x640 .f32) (harg18 : arg18.IsWhole)
    (kk : PUnit.{1} → Prog (TpuEff nD τ sig (Elt F) Λ₀ .tc) PUnit.{1}) :
    Prog (TpuEff nD τ sig (Elt F) Λ₀ .tc) PUnit.{1} := do
  let arg0 : BitVec 32 := BitVec.ofNat 32 (i 0).val
  let arg1 : BitVec 32 := BitVec.ofNat 32 (i 1).val
  let arg2 : BitVec 32 := BitVec.ofNat 32 (i 2).val
  let v6 : BitVec 1 := Scalar.cmpi .eq arg2 0#32
  let v7 : BitVec 32 := Scalar.extui v6
  let v8 : BitVec 1 := Scalar.cmpi .ne v7 0#32
  if k0_h2 : v8 = 1#1 then do
    let v16 : Vec F S2x640x128 .f32 ← Prog.lift (.load arg16 (Rect.unit (s := S2x640x128) ![0, 0, 0] S2x640x128.size inb_S2x640x128_S2x640x128_0_0_0).toLoadRect (View.loadsAt_vmem h_S2x640x128))
    Prog.lift (.store arg16 (Rect.unit (s := S2x640x128) ![0, 0, 0] S2x640x128.size inb_S2x640x128_S2x640x128_0_0_0) (k0_pay3 (F := F)) Finset.univ (View.stores_vmem_bits_univ h_S2x640x128 rfl) (.inl rfl))
    let v20 : Vec F S2x640x128 .f32 ← Prog.lift (.load arg17 (Rect.unit (s := S2x640x128) ![0, 0, 0] S2x640x128.size inb_S2x640x128_S2x640x128_0_0_0).toLoadRect (View.loadsAt_vmem h_S2x640x128))
    Prog.lift (.store arg17 (Rect.unit (s := S2x640x128) ![0, 0, 0] S2x640x128.size inb_S2x640x128_S2x640x128_0_0_0) (k0_pay4 (F := F)) Finset.univ (View.stores_vmem_bits_univ h_S2x640x128 rfl) (.inl rfl))
    let v24 : Vec F S2x1x640 .f32 ← Prog.lift (.load arg18 (Rect.unit (s := S2x1x640) ![0, 0, 0] S2x1x640.size inb_S2x1x640_S2x1x640_0_0_0).toLoadRect (View.loadsAt_vmem h_S2x1x640))
    Prog.lift (.store arg18 (Rect.unit (s := S2x1x640) ![0, 0, 0] S2x1x640.size inb_S2x1x640_S2x1x640_0_0_0) (k0_pay5 (F := F)) Finset.univ (View.stores_vmem_bits_univ h_S2x1x640 rfl) (.inl rfl))
    kk ⟨⟩
  else do
    kk ⟨⟩

/-- The tile with the mask where the point takes it, then `kk`. -/
def b3m (i : grid0.Coords) (k0_h3 : k0_cond3 i = 1#1)
    (arg3 : Memref sig .tc .vmem S640x128 .bf16) (harg3 : arg3.IsWhole) (arg4 : Memref sig .tc .vmem S640x128 .bf16) (harg4 : arg4.IsWhole)
    (arg5 : Memref sig .tc .vmem S640x128 .f32) (harg5 : arg5.IsWhole) (arg6 : Memref sig .tc .vmem S640x128 .f32) (harg6 : arg6.IsWhole)
    (arg7 : Memref sig .tc .vmem S2x1x640 .f32) (harg7 : arg7.IsWhole) (arg8 : Memref sig .tc .vmem S640x128 .bf16) (harg8 : arg8.IsWhole)
    (arg9 : Memref sig .tc .vmem S640x128 .f32) (harg9 : arg9.IsWhole) (arg10 : Memref sig .tc .vmem S640x128 .f32) (harg10 : arg10.IsWhole)
    (arg11 : Memref sig .tc .vmem S8320x128 .f32) (harg11 : arg11.IsWhole) (arg12 : Memref sig .tc .vmem S640x128 .f32) (harg12 : arg12.IsWhole)
    (arg13 : Memref sig .tc .vmem S640x128 .bf16) (harg13 : arg13.IsWhole) (arg14 : Memref sig .tc .vmem S8320x128 .f32) (harg14 : arg14.IsWhole)
    (arg15 : Memref sig .tc .vmem S2x1x640 .f32) (harg15 : arg15.IsWhole) (arg16 : Memref sig .tc .vmem S2x640x128 .f32) (harg16 : arg16.IsWhole)
    (arg17 : Memref sig .tc .vmem S2x640x128 .f32) (harg17 : arg17.IsWhole) (arg18 : Memref sig .tc .vmem S2x1x640 .f32) (harg18 : arg18.IsWhole)
    (kk : PUnit.{1} → Prog (TpuEff nD τ sig (Elt F) Λ₀ .tc) PUnit.{1}) :
    Prog (TpuEff nD τ sig (Elt F) Λ₀ .tc) PUnit.{1} := do
  let arg0 : BitVec 32 := BitVec.ofNat 32 (i 0).val
  let arg1 : BitVec 32 := BitVec.ofNat 32 (i 1).val
  let arg2 : BitVec 32 := BitVec.ofNat 32 (i 2).val
  if k0_h4 : k0_cond4 i = 1#1 then bMask i k0_h3 k0_h4 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kk
  else kk ⟨⟩

/-- The tile without the mask where the point takes it, then `kk`. -/
def b3u (i : grid0.Coords) (k0_h3 : k0_cond3 i = 1#1)
    (arg3 : Memref sig .tc .vmem S640x128 .bf16) (harg3 : arg3.IsWhole) (arg4 : Memref sig .tc .vmem S640x128 .bf16) (harg4 : arg4.IsWhole)
    (arg5 : Memref sig .tc .vmem S640x128 .f32) (harg5 : arg5.IsWhole) (arg6 : Memref sig .tc .vmem S640x128 .f32) (harg6 : arg6.IsWhole)
    (arg7 : Memref sig .tc .vmem S2x1x640 .f32) (harg7 : arg7.IsWhole) (arg8 : Memref sig .tc .vmem S640x128 .bf16) (harg8 : arg8.IsWhole)
    (arg9 : Memref sig .tc .vmem S640x128 .f32) (harg9 : arg9.IsWhole) (arg10 : Memref sig .tc .vmem S640x128 .f32) (harg10 : arg10.IsWhole)
    (arg11 : Memref sig .tc .vmem S8320x128 .f32) (harg11 : arg11.IsWhole) (arg12 : Memref sig .tc .vmem S640x128 .f32) (harg12 : arg12.IsWhole)
    (arg13 : Memref sig .tc .vmem S640x128 .bf16) (harg13 : arg13.IsWhole) (arg14 : Memref sig .tc .vmem S8320x128 .f32) (harg14 : arg14.IsWhole)
    (arg15 : Memref sig .tc .vmem S2x1x640 .f32) (harg15 : arg15.IsWhole) (arg16 : Memref sig .tc .vmem S2x640x128 .f32) (harg16 : arg16.IsWhole)
    (arg17 : Memref sig .tc .vmem S2x640x128 .f32) (harg17 : arg17.IsWhole) (arg18 : Memref sig .tc .vmem S2x1x640 .f32) (harg18 : arg18.IsWhole)
    (kk : PUnit.{1} → Prog (TpuEff nD τ sig (Elt F) Λ₀ .tc) PUnit.{1}) :
    Prog (TpuEff nD τ sig (Elt F) Λ₀ .tc) PUnit.{1} := do
  let arg0 : BitVec 32 := BitVec.ofNat 32 (i 0).val
  let arg1 : BitVec 32 := BitVec.ofNat 32 (i 1).val
  let arg2 : BitVec 32 := BitVec.ofNat 32 (i 2).val
  if k0_h5 : k0_cond5 i = 1#1 then bFree i k0_h3 k0_h5 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kk
  else kk ⟨⟩

/-- The tile, then `kk`. -/
def b3 (i : grid0.Coords) (arg3 : Memref sig .tc .vmem S640x128 .bf16) (harg3 : arg3.IsWhole) (arg4 : Memref sig .tc .vmem S640x128 .bf16) (harg4 : arg4.IsWhole)
    (arg5 : Memref sig .tc .vmem S640x128 .f32) (harg5 : arg5.IsWhole) (arg6 : Memref sig .tc .vmem S640x128 .f32) (harg6 : arg6.IsWhole)
    (arg7 : Memref sig .tc .vmem S2x1x640 .f32) (harg7 : arg7.IsWhole) (arg8 : Memref sig .tc .vmem S640x128 .bf16) (harg8 : arg8.IsWhole)
    (arg9 : Memref sig .tc .vmem S640x128 .f32) (harg9 : arg9.IsWhole) (arg10 : Memref sig .tc .vmem S640x128 .f32) (harg10 : arg10.IsWhole)
    (arg11 : Memref sig .tc .vmem S8320x128 .f32) (harg11 : arg11.IsWhole) (arg12 : Memref sig .tc .vmem S640x128 .f32) (harg12 : arg12.IsWhole)
    (arg13 : Memref sig .tc .vmem S640x128 .bf16) (harg13 : arg13.IsWhole) (arg14 : Memref sig .tc .vmem S8320x128 .f32) (harg14 : arg14.IsWhole)
    (arg15 : Memref sig .tc .vmem S2x1x640 .f32) (harg15 : arg15.IsWhole) (arg16 : Memref sig .tc .vmem S2x640x128 .f32) (harg16 : arg16.IsWhole)
    (arg17 : Memref sig .tc .vmem S2x640x128 .f32) (harg17 : arg17.IsWhole) (arg18 : Memref sig .tc .vmem S2x1x640 .f32) (harg18 : arg18.IsWhole)
    (kk : PUnit.{1} → Prog (TpuEff nD τ sig (Elt F) Λ₀ .tc) PUnit.{1}) :
    Prog (TpuEff nD τ sig (Elt F) Λ₀ .tc) PUnit.{1} := do
  let arg0 : BitVec 32 := BitVec.ofNat 32 (i 0).val
  let arg1 : BitVec 32 := BitVec.ofNat 32 (i 1).val
  let arg2 : BitVec 32 := BitVec.ofNat 32 (i 2).val
  if k0_h3 : k0_cond3 i = 1#1 then
    b3m i k0_h3 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 fun (_ : PUnit.{1}) =>
    b3u i k0_h3 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kk
  else kk ⟨⟩

/-- Writing the key gradients out, then `kk`. -/
def b4 (i : grid0.Coords) (arg3 : Memref sig .tc .vmem S640x128 .bf16) (harg3 : arg3.IsWhole) (arg4 : Memref sig .tc .vmem S640x128 .bf16) (harg4 : arg4.IsWhole)
    (arg5 : Memref sig .tc .vmem S640x128 .f32) (harg5 : arg5.IsWhole) (arg6 : Memref sig .tc .vmem S640x128 .f32) (harg6 : arg6.IsWhole)
    (arg7 : Memref sig .tc .vmem S2x1x640 .f32) (harg7 : arg7.IsWhole) (arg8 : Memref sig .tc .vmem S640x128 .bf16) (harg8 : arg8.IsWhole)
    (arg9 : Memref sig .tc .vmem S640x128 .f32) (harg9 : arg9.IsWhole) (arg10 : Memref sig .tc .vmem S640x128 .f32) (harg10 : arg10.IsWhole)
    (arg11 : Memref sig .tc .vmem S8320x128 .f32) (harg11 : arg11.IsWhole) (arg12 : Memref sig .tc .vmem S640x128 .f32) (harg12 : arg12.IsWhole)
    (arg13 : Memref sig .tc .vmem S640x128 .bf16) (harg13 : arg13.IsWhole) (arg14 : Memref sig .tc .vmem S8320x128 .f32) (harg14 : arg14.IsWhole)
    (arg15 : Memref sig .tc .vmem S2x1x640 .f32) (harg15 : arg15.IsWhole) (arg16 : Memref sig .tc .vmem S2x640x128 .f32) (harg16 : arg16.IsWhole)
    (arg17 : Memref sig .tc .vmem S2x640x128 .f32) (harg17 : arg17.IsWhole) (arg18 : Memref sig .tc .vmem S2x1x640 .f32) (harg18 : arg18.IsWhole)
    (kk : PUnit.{1} → Prog (TpuEff nD τ sig (Elt F) Λ₀ .tc) PUnit.{1}) :
    Prog (TpuEff nD τ sig (Elt F) Λ₀ .tc) PUnit.{1} := do
  let arg0 : BitVec 32 := BitVec.ofNat 32 (i 0).val
  let arg1 : BitVec 32 := BitVec.ofNat 32 (i 1).val
  let arg2 : BitVec 32 := BitVec.ofNat 32 (i 2).val
  if k0_h6 : k0_cond6 i = 1#1 then do
    let v17 : Vec F S1x640x128 .f32 ← Prog.lift (.load arg16 (Rect.unit (s := S2x640x128) ![0, 0, 0] S1x640x128.size inb_S2x640x128_S1x640x128_0_0_0).toLoadRect (View.loadsAt_vmem h_S1x640x128))
    let v19 : Vec F S1x640x128 .f32 ← Prog.lift (.load arg16 (Rect.unit (s := S2x640x128) ![1, 0, 0] S1x640x128.size inb_S2x640x128_S1x640x128_1_0_0).toLoadRect (View.loadsAt_vmem h_S1x640x128))
    let v22 : Vec F S640x128 .f32 ← Prog.lift (.load arg12 (Rect.unit (s := S640x128) ![0, 0] S640x128.size inb_S640x128_S640x128_0_0).toLoadRect (View.loadsAt_vmem h_S640x128))
    Prog.lift (.store arg12 (Rect.unit (s := S640x128) ![0, 0] S640x128.size inb_S640x128_S640x128_0_0) (k0_pay8 v17 v19) Finset.univ (View.stores_vmem_bits_univ h_S640x128 rfl) (.inl rfl))
    let v25 : Vec F S1x640x128 .f32 ← Prog.lift (.load arg17 (Rect.unit (s := S2x640x128) ![0, 0, 0] S1x640x128.size inb_S2x640x128_S1x640x128_0_0_0).toLoadRect (View.loadsAt_vmem h_S1x640x128))
    let v27 : Vec F S1x640x128 .f32 ← Prog.lift (.load arg17 (Rect.unit (s := S2x640x128) ![1, 0, 0] S1x640x128.size inb_S2x640x128_S1x640x128_1_0_0).toLoadRect (View.loadsAt_vmem h_S1x640x128))
    let v33 : Vec F S640x128 .bf16 ← Prog.lift (.load arg13 (Rect.unit (s := S640x128) ![0, 0] S640x128.size inb_S640x128_S640x128_0_0).toLoadRect (View.loadsAt_vmem h_S640x128))
    Prog.lift (.store arg13 (Rect.unit (s := S640x128) ![0, 0] S640x128.size inb_S640x128_S640x128_0_0) (k0_pay9 v25 v27) Finset.univ (View.stores_vmem h_S640x128 (harg13.storeExact_slice rfl _ packedbf16_S640x128_S640x128_0_0) (fun _ => rfl)) (.inl rfl))
    let v34 : Vec F S2x1x640 .f32 ← Prog.lift (.load arg18 (Rect.unit (s := S2x1x640) ![0, 0, 0] S2x1x640.size inb_S2x1x640_S2x1x640_0_0_0).toLoadRect (View.loadsAt_vmem h_S2x1x640))
    let v35 : Vec F S2x1x640 .f32 ← Prog.lift (.load arg15 (Rect.unit (s := S2x1x640) ![0, 0, 0] S2x1x640.size inb_S2x1x640_S2x1x640_0_0_0).toLoadRect (View.loadsAt_vmem h_S2x1x640))
    Prog.lift (.store arg15 (Rect.unit (s := S2x1x640) ![0, 0, 0] S2x1x640.size inb_S2x1x640_S2x1x640_0_0_0) v34 Finset.univ (View.stores_vmem_bits_univ h_S2x1x640 rfl) (.inl rfl))
    kk ⟨⟩
  else do
    kk ⟨⟩

set_option maxRecDepth 65536 in
/-- The kernel's body is its four blocks. -/
theorem body_eq (i : grid0.Coords) (arg3 : Memref sig .tc .vmem S640x128 .bf16) (harg3 : arg3.IsWhole) (arg4 : Memref sig .tc .vmem S640x128 .bf16) (harg4 : arg4.IsWhole)
    (arg5 : Memref sig .tc .vmem S640x128 .f32) (harg5 : arg5.IsWhole) (arg6 : Memref sig .tc .vmem S640x128 .f32) (harg6 : arg6.IsWhole)
    (arg7 : Memref sig .tc .vmem S2x1x640 .f32) (harg7 : arg7.IsWhole) (arg8 : Memref sig .tc .vmem S640x128 .bf16) (harg8 : arg8.IsWhole)
    (arg9 : Memref sig .tc .vmem S640x128 .f32) (harg9 : arg9.IsWhole) (arg10 : Memref sig .tc .vmem S640x128 .f32) (harg10 : arg10.IsWhole)
    (arg11 : Memref sig .tc .vmem S8320x128 .f32) (harg11 : arg11.IsWhole) (arg12 : Memref sig .tc .vmem S640x128 .f32) (harg12 : arg12.IsWhole)
    (arg13 : Memref sig .tc .vmem S640x128 .bf16) (harg13 : arg13.IsWhole) (arg14 : Memref sig .tc .vmem S8320x128 .f32) (harg14 : arg14.IsWhole)
    (arg15 : Memref sig .tc .vmem S2x1x640 .f32) (harg15 : arg15.IsWhole) (arg16 : Memref sig .tc .vmem S2x640x128 .f32) (harg16 : arg16.IsWhole)
    (arg17 : Memref sig .tc .vmem S2x640x128 .f32) (harg17 : arg17.IsWhole) (arg18 : Memref sig .tc .vmem S2x1x640 .f32) (harg18 : arg18.IsWhole) :
    cc0_fox_bwd_skel (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      = b1 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 fun (_ : PUnit.{1}) =>
        b2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 fun (_ : PUnit.{1}) =>
        b3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 fun (_ : PUnit.{1}) =>
        b4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 fun (_ : PUnit.{1}) => pure ⟨⟩ := by
  unfold cc0_fox_bwd_skel b1 b2 b3 b3m b3u b4 bMask bFree
  rfl

end Cert.KernelIdeal.Fox

end
-- ==== Proof.Idl.Load.lean ====
/-
  A whole block loaded.
-/
module

public import proofs.«01_k».proof.Proof.Gen.KernelIdeal.Skeleton
public import Idealize.ShloMosaic.Lib.VecWindow

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
/-- A load of a whole 640×128 block reads what the buffer holds. -/
theorem rd2 {sp : Space} {e : EltTy} (v : View sig .tc sp S640x128 e) (f : v.ty.Contents (Elt F))
    (inb : ∀ a, (![0, 0] : Fin 2 → ℕ) a + (![640, 128] : Fin 2 → ℕ) a ≤ S640x128.size a) :
    v.readAt (Elt F) (Rect.unit (s := S640x128) ![0, 0] ![640, 128] inb).toLoadRect f = v.read (Elt F) f :=
  View.readAt_full v f inb

end Cert.KernelIdeal.Fox

end
-- ==== Proof.Idl.Mask.lean ====
/-
  A tile with the mask, run.
-/
module

public import proofs.«01_k».proof.Proof.Idl.Blocks
public import proofs.«01_k».proof.Proof.Idl.Load
public import Idealize.ShloMosaic.Lib.Pipeline.FrameBody
public import Idealize.ShloMosaic.Lib.Ring
public import Idealize.ShloMosaic.Lib.Tactic
public import proofs.«01_k».proof.Proof.Gen.KernelIdeal.Launch

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
set_option maxHeartbeats 1000000 in
/-- The tile with the mask adds to the five carried buffers. -/
theorem bMask_run (c : Dev nD) (E : Set ℕ) (i : grid0.Coords) (k0_h3 : k0_cond3 i = 1#1) (k0_h4 : k0_cond4 i = 1#1)
    (arg3 : Memref sig .tc .vmem S640x128 .bf16) (harg3 : arg3.IsWhole) (arg4 : Memref sig .tc .vmem S640x128 .bf16) (harg4 : arg4.IsWhole)
    (arg5 : Memref sig .tc .vmem S640x128 .f32) (harg5 : arg5.IsWhole) (arg6 : Memref sig .tc .vmem S640x128 .f32) (harg6 : arg6.IsWhole)
    (arg7 : Memref sig .tc .vmem S2x1x640 .f32) (harg7 : arg7.IsWhole) (arg8 : Memref sig .tc .vmem S640x128 .bf16) (harg8 : arg8.IsWhole)
    (arg9 : Memref sig .tc .vmem S640x128 .f32) (harg9 : arg9.IsWhole) (arg10 : Memref sig .tc .vmem S640x128 .f32) (harg10 : arg10.IsWhole)
    (arg11 : Memref sig .tc .vmem S8320x128 .f32) (harg11 : arg11.IsWhole) (arg12 : Memref sig .tc .vmem S640x128 .f32) (harg12 : arg12.IsWhole)
    (arg13 : Memref sig .tc .vmem S640x128 .bf16) (harg13 : arg13.IsWhole) (arg14 : Memref sig .tc .vmem S8320x128 .f32) (harg14 : arg14.IsWhole)
    (arg15 : Memref sig .tc .vmem S2x1x640 .f32) (harg15 : arg15.IsWhole) (arg16 : Memref sig .tc .vmem S2x640x128 .f32) (harg16 : arg16.IsWhole)
    (arg17 : Memref sig .tc .vmem S2x640x128 .f32) (harg17 : arg17.IsWhole) (arg18 : Memref sig .tc .vmem S2x1x640 .f32) (harg18 : arg18.IsWhole)
    (x : Ins F) (s : St F) (kk : PUnit.{1} → Prog (TpuEff nD τ sig (Elt F) Λ₀ .tc) PUnit.{1}) (K : PUnit.{1} → sProp 𝕄) :
    iprop(owns (c : Thread nD τ) arg3 fullShare x.q ∗ owns (c : Thread nD τ) arg4 fullShare x.k ∗ owns (c : Thread nD τ) arg5 fullShare x.v ∗ owns (c : Thread nD τ) arg6 fullShare x.fs ∗ owns (c : Thread nD τ) arg7 fullShare x.fr ∗ owns (c : Thread nD τ) arg8 fullShare x.dO ∗ owns (c : Thread nD τ) arg9 fullShare x.lse ∗ owns (c : Thread nD τ) arg10 fullShare x.dl ∗ owns (c : Thread nD τ) arg11 fullShare s.dq ∗ owns (c : Thread nD τ) arg14 fullShare s.dfq ∗ owns (c : Thread nD τ) arg16 fullShare s.dka ∗ owns (c : Thread nD τ) arg17 fullShare s.dva ∗ owns (c : Thread nD τ) arg18 fullShare s.dfa
      ∗ (iprop(owns (c : Thread nD τ) arg3 fullShare x.q ∗ owns (c : Thread nD τ) arg4 fullShare x.k ∗ owns (c : Thread nD τ) arg5 fullShare x.v ∗ owns (c : Thread nD τ) arg6 fullShare x.fs ∗ owns (c : Thread nD τ) arg7 fullShare x.fr ∗ owns (c : Thread nD τ) arg8 fullShare x.dO ∗ owns (c : Thread nD τ) arg9 fullShare x.lse ∗ owns (c : Thread nD τ) arg10 fullShare x.dl ∗ owns (c : Thread nD τ) arg11 fullShare (mstep i k0_h3 k0_h4 x s).dq ∗ owns (c : Thread nD τ) arg14 fullShare (mstep i k0_h3 k0_h4 x s).dfq ∗ owns (c : Thread nD τ) arg16 fullShare (mstep i k0_h3 k0_h4 x s).dka ∗ owns (c : Thread nD τ) arg17 fullShare (mstep i k0_h3 k0_h4 x s).dva ∗ owns (c : Thread nD τ) arg18 fullShare (mstep i k0_h3 k0_h4 x s).dfa) -∗ wp frame (wpE (defs₀ (F := F)) Variants.none (c : Thread nD τ) none) E (kk ⟨⟩) K))
      ⊢ wp frame (wpE (defs₀ (F := F)) Variants.none (c : Thread nD τ) none) E (bMask (F := F) i k0_h3 k0_h4 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kk) K := by
  simp only [bMask, k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  unfold owns
  obtain ⟨xq, xk, xv, xfs, xfr, xdO, xlse, xdl⟩ := x
  obtain ⟨sdq, sdfq, sdka, sdva, sdfa⟩ := s
  dsimp only
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f14, %hf14, H14⟩, ⟨%f16, %hf16, H16⟩, ⟨%f17, %hf17, H17⟩, ⟨%f18, %hf18, H18⟩, Hk⟩
  subst hf3 hf4 hf5 hf6 hf7 hf8 hf9 hf10 hf11 hf14 hf16 hf17 hf18
  sl_exec
  dsimp only
  iapply Hk
  isplitl [H3]
  · iexists _; isplitr; swap
    · iexact H3
    · ipureintro
      rfl
  isplitl [H4]
  · iexists _; isplitr; swap
    · iexact H4
    · ipureintro
      rfl
  isplitl [H5]
  · iexists _; isplitr; swap
    · iexact H5
    · ipureintro
      rfl
  isplitl [H6]
  · iexists _; isplitr; swap
    · iexact H6
    · ipureintro
      rfl
  isplitl [H7]
  · iexists _; isplitr; swap
    · iexact H7
    · ipureintro
      rfl
  isplitl [H8]
  · iexists _; isplitr; swap
    · iexact H8
    · ipureintro
      rfl
  isplitl [H9]
  · iexists _; isplitr; swap
    · iexact H9
    · ipureintro
      rfl
  isplitl [H10]
  · iexists _; isplitr; swap
    · iexact H10
    · ipureintro
      rfl
  isplitl [H11]
  · iexists _; isplitr; swap
    · iexact H11
    · ipureintro
      refine (View.read_writes_cons_put _ _ _ _ _ rfl).trans ?_
      simp only [View.writes_nil, rd2]
      dsimp only [mstep, mDq]
      rfl
  isplitl [H14]
  · iexists _; isplitr; swap
    · iexact H14
    · ipureintro
      refine (View.read_writes_cons_put _ _ _ _ _ rfl).trans ?_
      simp only [View.writes_nil, rd2]
      dsimp only [mstep, mDfq]
      rfl
  isplitl [H16]
  · iexists _; isplitr; swap
    · iexact H16
    · ipureintro
      refine Eq.trans (View.read_writes_eq_canon _ _ _ ?_) ?_
      · exact View.cover_of_tiled _ S1x640x128.size (by rfl)
      sl_unfold_run_names
      simp only [rd2]
      dsimp only [mstep, mDka]
      rfl
  isplitl [H17]
  · iexists _; isplitr; swap
    · iexact H17
    · ipureintro
      refine Eq.trans (View.read_writes_eq_canon _ _ _ ?_) ?_
      · exact View.cover_of_tiled _ S1x640x128.size (by rfl)
      sl_unfold_run_names
      simp only [rd2]
      dsimp only [mstep, mDva]
      rfl
  iexists _; isplitr; swap
  · iexact H18
  · ipureintro
    refine Eq.trans (View.read_writes_eq_canon _ _ _ ?_) ?_
    · exact View.cover_of_tiled _ S1x1x640.size (by rfl)
    sl_unfold_run_names
    simp only [rd2]
    dsimp only [mstep, mDfa]
    rfl

end Cert.KernelIdeal.Fox

end
-- ==== Proof.Idl.Free.lean ====
/-
  A tile without the mask, run.
-/
module

public import proofs.«01_k».proof.Proof.Idl.Blocks
public import proofs.«01_k».proof.Proof.Idl.Load
public import Idealize.ShloMosaic.Lib.Pipeline.FrameBody
public import Idealize.ShloMosaic.Lib.Ring
public import Idealize.ShloMosaic.Lib.Tactic
public import proofs.«01_k».proof.Proof.Gen.KernelIdeal.Launch

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
set_option maxHeartbeats 1000000 in
/-- The tile without the mask adds to the five carried buffers. -/
theorem bFree_run (c : Dev nD) (E : Set ℕ) (i : grid0.Coords) (k0_h3 : k0_cond3 i = 1#1) (k0_h5 : k0_cond5 i = 1#1)
    (arg3 : Memref sig .tc .vmem S640x128 .bf16) (harg3 : arg3.IsWhole) (arg4 : Memref sig .tc .vmem S640x128 .bf16) (harg4 : arg4.IsWhole)
    (arg5 : Memref sig .tc .vmem S640x128 .f32) (harg5 : arg5.IsWhole) (arg6 : Memref sig .tc .vmem S640x128 .f32) (harg6 : arg6.IsWhole)
    (arg7 : Memref sig .tc .vmem S2x1x640 .f32) (harg7 : arg7.IsWhole) (arg8 : Memref sig .tc .vmem S640x128 .bf16) (harg8 : arg8.IsWhole)
    (arg9 : Memref sig .tc .vmem S640x128 .f32) (harg9 : arg9.IsWhole) (arg10 : Memref sig .tc .vmem S640x128 .f32) (harg10 : arg10.IsWhole)
    (arg11 : Memref sig .tc .vmem S8320x128 .f32) (harg11 : arg11.IsWhole) (arg12 : Memref sig .tc .vmem S640x128 .f32) (harg12 : arg12.IsWhole)
    (arg13 : Memref sig .tc .vmem S640x128 .bf16) (harg13 : arg13.IsWhole) (arg14 : Memref sig .tc .vmem S8320x128 .f32) (harg14 : arg14.IsWhole)
    (arg15 : Memref sig .tc .vmem S2x1x640 .f32) (harg15 : arg15.IsWhole) (arg16 : Memref sig .tc .vmem S2x640x128 .f32) (harg16 : arg16.IsWhole)
    (arg17 : Memref sig .tc .vmem S2x640x128 .f32) (harg17 : arg17.IsWhole) (arg18 : Memref sig .tc .vmem S2x1x640 .f32) (harg18 : arg18.IsWhole)
    (x : Ins F) (s : St F) (kk : PUnit.{1} → Prog (TpuEff nD τ sig (Elt F) Λ₀ .tc) PUnit.{1}) (K : PUnit.{1} → sProp 𝕄) :
    iprop(owns (c : Thread nD τ) arg3 fullShare x.q ∗ owns (c : Thread nD τ) arg4 fullShare x.k ∗ owns (c : Thread nD τ) arg5 fullShare x.v ∗ owns (c : Thread nD τ) arg6 fullShare x.fs ∗ owns (c : Thread nD τ) arg7 fullShare x.fr ∗ owns (c : Thread nD τ) arg8 fullShare x.dO ∗ owns (c : Thread nD τ) arg9 fullShare x.lse ∗ owns (c : Thread nD τ) arg10 fullShare x.dl ∗ owns (c : Thread nD τ) arg11 fullShare s.dq ∗ owns (c : Thread nD τ) arg14 fullShare s.dfq ∗ owns (c : Thread nD τ) arg16 fullShare s.dka ∗ owns (c : Thread nD τ) arg17 fullShare s.dva ∗ owns (c : Thread nD τ) arg18 fullShare s.dfa
      ∗ (iprop(owns (c : Thread nD τ) arg3 fullShare x.q ∗ owns (c : Thread nD τ) arg4 fullShare x.k ∗ owns (c : Thread nD τ) arg5 fullShare x.v ∗ owns (c : Thread nD τ) arg6 fullShare x.fs ∗ owns (c : Thread nD τ) arg7 fullShare x.fr ∗ owns (c : Thread nD τ) arg8 fullShare x.dO ∗ owns (c : Thread nD τ) arg9 fullShare x.lse ∗ owns (c : Thread nD τ) arg10 fullShare x.dl ∗ owns (c : Thread nD τ) arg11 fullShare (ustep i k0_h3 k0_h5 x s).dq ∗ owns (c : Thread nD τ) arg14 fullShare (ustep i k0_h3 k0_h5 x s).dfq ∗ owns (c : Thread nD τ) arg16 fullShare (ustep i k0_h3 k0_h5 x s).dka ∗ owns (c : Thread nD τ) arg17 fullShare (ustep i k0_h3 k0_h5 x s).dva ∗ owns (c : Thread nD τ) arg18 fullShare (ustep i k0_h3 k0_h5 x s).dfa) -∗ wp frame (wpE (defs₀ (F := F)) Variants.none (c : Thread nD τ) none) E (kk ⟨⟩) K))
      ⊢ wp frame (wpE (defs₀ (F := F)) Variants.none (c : Thread nD τ) none) E (bFree (F := F) i k0_h3 k0_h5 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kk) K := by
  simp only [bFree, k0_part7_eq_skeleton, k0_part8_eq_skeleton, k0_part9_eq_skeleton, k0_part10_eq_skeleton, k0_part11_eq_skeleton, k0_part12_eq_skeleton]
  unfold k0_part7_skel k0_part8_skel k0_part9_skel k0_part10_skel k0_part11_skel k0_part12_skel
  unfold owns
  obtain ⟨xq, xk, xv, xfs, xfr, xdO, xlse, xdl⟩ := x
  obtain ⟨sdq, sdfq, sdka, sdva, sdfa⟩ := s
  dsimp only
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f14, %hf14, H14⟩, ⟨%f16, %hf16, H16⟩, ⟨%f17, %hf17, H17⟩, ⟨%f18, %hf18, H18⟩, Hk⟩
  subst hf3 hf4 hf5 hf6 hf7 hf8 hf9 hf10 hf11 hf14 hf16 hf17 hf18
  sl_exec
  dsimp only
  iapply Hk
  isplitl [H3]
  · iexists _; isplitr; swap
    · iexact H3
    · ipureintro
      rfl
  isplitl [H4]
  · iexists _; isplitr; swap
    · iexact H4
    · ipureintro
      rfl
  isplitl [H5]
  · iexists _; isplitr; swap
    · iexact H5
    · ipureintro
      rfl
  isplitl [H6]
  · iexists _; isplitr; swap
    · iexact H6
    · ipureintro
      rfl
  isplitl [H7]
  · iexists _; isplitr; swap
    · iexact H7
    · ipureintro
      rfl
  isplitl [H8]
  · iexists _; isplitr; swap
    · iexact H8
    · ipureintro
      rfl
  isplitl [H9]
  · iexists _; isplitr; swap
    · iexact H9
    · ipureintro
      rfl
  isplitl [H10]
  · iexists _; isplitr; swap
    · iexact H10
    · ipureintro
      rfl
  isplitl [H11]
  · iexists _; isplitr; swap
    · iexact H11
    · ipureintro
      refine (View.read_writes_cons_put _ _ _ _ _ rfl).trans ?_
      simp only [View.writes_nil, rd2]
      dsimp only [ustep, uDq]
      rfl
  isplitl [H14]
  · iexists _; isplitr; swap
    · iexact H14
    · ipureintro
      refine (View.read_writes_cons_put _ _ _ _ _ rfl).trans ?_
      simp only [View.writes_nil, rd2]
      dsimp only [ustep, uDfq]
      rfl
  isplitl [H16]
  · iexists _; isplitr; swap
    · iexact H16
    · ipureintro
      refine Eq.trans (View.read_writes_eq_canon _ _ _ ?_) ?_
      · exact View.cover_of_tiled _ S1x640x128.size (by rfl)
      sl_unfold_run_names
      simp only [rd2]
      dsimp only [ustep, uDka]
      rfl
  isplitl [H17]
  · iexists _; isplitr; swap
    · iexact H17
    · ipureintro
      refine Eq.trans (View.read_writes_eq_canon _ _ _ ?_) ?_
      · exact View.cover_of_tiled _ S1x640x128.size (by rfl)
      sl_unfold_run_names
      simp only [rd2]
      dsimp only [ustep, uDva]
      rfl
  iexists _; isplitr; swap
  · iexact H18
  · ipureintro
    refine Eq.trans (View.read_writes_eq_canon _ _ _ ?_) ?_
    · exact View.cover_of_tiled _ S1x1x640.size (by rfl)
    sl_unfold_run_names
    simp only [rd2]
    dsimp only [ustep, uDfa]
    rfl

end Cert.KernelIdeal.Fox

end
-- ==== Proof.Idl.Ends.lean ====
/-
  Clearing the carried buffers, and writing the key gradients out.
-/
module

public import proofs.«01_k».proof.Proof.Idl.Blocks
public import proofs.«01_k».proof.Proof.Idl.Load
public import Idealize.ShloMosaic.Lib.Pipeline.FrameBody
public import Idealize.ShloMosaic.Lib.Ring
public import Idealize.ShloMosaic.Lib.Tactic
public import proofs.«01_k».proof.Proof.Gen.KernelIdeal.Launch

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
/-- The three output blocks by key after a point: written where its query block is the last, else as they were. -/
def wrK (i : grid0.Coords) (s : St F) (y : Vec F S640x128 .f32) : Vec F S640x128 .f32 := if k0_cond6 i = 1#1 then outK s else y
def wrV (i : grid0.Coords) (s : St F) (y : Vec F S640x128 .bf16) : Vec F S640x128 .bf16 := if k0_cond6 i = 1#1 then outV s else y
def wrF (i : grid0.Coords) (s : St F) (y : Vec F S2x1x640 .f32) : Vec F S2x1x640 .f32 := if k0_cond6 i = 1#1 then s.dfa else y

set_option maxHeartbeats 1000000 in
/-- The query gradients are cleared where the point is a pair of heads' first. -/
theorem b1_run (c : Dev nD) (E : Set ℕ) (i : grid0.Coords) (arg3 : Memref sig .tc .vmem S640x128 .bf16) (harg3 : arg3.IsWhole) (arg4 : Memref sig .tc .vmem S640x128 .bf16) (harg4 : arg4.IsWhole)
    (arg5 : Memref sig .tc .vmem S640x128 .f32) (harg5 : arg5.IsWhole) (arg6 : Memref sig .tc .vmem S640x128 .f32) (harg6 : arg6.IsWhole)
    (arg7 : Memref sig .tc .vmem S2x1x640 .f32) (harg7 : arg7.IsWhole) (arg8 : Memref sig .tc .vmem S640x128 .bf16) (harg8 : arg8.IsWhole)
    (arg9 : Memref sig .tc .vmem S640x128 .f32) (harg9 : arg9.IsWhole) (arg10 : Memref sig .tc .vmem S640x128 .f32) (harg10 : arg10.IsWhole)
    (arg11 : Memref sig .tc .vmem S8320x128 .f32) (harg11 : arg11.IsWhole) (arg12 : Memref sig .tc .vmem S640x128 .f32) (harg12 : arg12.IsWhole)
    (arg13 : Memref sig .tc .vmem S640x128 .bf16) (harg13 : arg13.IsWhole) (arg14 : Memref sig .tc .vmem S8320x128 .f32) (harg14 : arg14.IsWhole)
    (arg15 : Memref sig .tc .vmem S2x1x640 .f32) (harg15 : arg15.IsWhole) (arg16 : Memref sig .tc .vmem S2x640x128 .f32) (harg16 : arg16.IsWhole)
    (arg17 : Memref sig .tc .vmem S2x640x128 .f32) (harg17 : arg17.IsWhole) (arg18 : Memref sig .tc .vmem S2x1x640 .f32) (harg18 : arg18.IsWhole)
    (s : St F) (kk : PUnit.{1} → Prog (TpuEff nD τ sig (Elt F) Λ₀ .tc) PUnit.{1}) (K : PUnit.{1} → sProp 𝕄) :
    iprop(owns (c : Thread nD τ) arg11 fullShare s.dq ∗ owns (c : Thread nD τ) arg14 fullShare s.dfq ∗ owns (c : Thread nD τ) arg16 fullShare s.dka ∗ owns (c : Thread nD τ) arg17 fullShare s.dva ∗ owns (c : Thread nD τ) arg18 fullShare s.dfa
      ∗ (iprop(owns (c : Thread nD τ) arg11 fullShare (clrQ i s).dq ∗ owns (c : Thread nD τ) arg14 fullShare (clrQ i s).dfq ∗ owns (c : Thread nD τ) arg16 fullShare (clrQ i s).dka ∗ owns (c : Thread nD τ) arg17 fullShare (clrQ i s).dva ∗ owns (c : Thread nD τ) arg18 fullShare (clrQ i s).dfa) -∗ wp frame (wpE (defs₀ (F := F)) Variants.none (c : Thread nD τ) none) E (kk ⟨⟩) K))
      ⊢ wp frame (wpE (defs₀ (F := F)) Variants.none (c : Thread nD τ) none) E (b1 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kk) K := by
  obtain ⟨sdq, sdfq, sdka, sdva, sdfa⟩ := s
  dsimp only
  by_cases h : k0_cond1 i = 1#1
  · simp only [b1, dif_pos h]
    unfold owns
    iintro ⟨⟨%f11, %hf11, H11⟩, ⟨%f14, %hf14, H14⟩, ⟨%f16, %hf16, H16⟩, ⟨%f17, %hf17, H17⟩, ⟨%f18, %hf18, H18⟩, Hk⟩
    subst hf11 hf14 hf16 hf17 hf18
    sl_exec
    dsimp only
    iapply Hk
    isplitl [H11]
    · iexists _; isplitr; swap
      · iexact H11
      · ipureintro
        refine (View.read_writes_full _ _ _ _ _).trans ?_
        simp only [clrQ, if_pos h]
    isplitl [H14]
    · iexists _; isplitr; swap
      · iexact H14
      · ipureintro
        refine (View.read_writes_full _ _ _ _ _).trans ?_
        simp only [clrQ, if_pos h]
    isplitl [H16]
    · iexists _; isplitr; swap
      · iexact H16
      · ipureintro
        first | rfl | simp only [clrQ, if_pos h]
    isplitl [H17]
    · iexists _; isplitr; swap
      · iexact H17
      · ipureintro
        first | rfl | simp only [clrQ, if_pos h]
    iexists _; isplitr; swap
    · iexact H18
    · ipureintro
      first | rfl | simp only [clrQ, if_pos h]
  · simp only [b1, dif_neg h]
    unfold owns
    iintro ⟨⟨%f11, %hf11, H11⟩, ⟨%f14, %hf14, H14⟩, ⟨%f16, %hf16, H16⟩, ⟨%f17, %hf17, H17⟩, ⟨%f18, %hf18, H18⟩, Hk⟩
    subst hf11 hf14 hf16 hf17 hf18
    iapply Hk
    isplitl [H11]
    · iexists _; isplitr; swap
      · iexact H11
      · ipureintro
        first | rfl | simp only [clrQ, if_neg h]
    isplitl [H14]
    · iexists _; isplitr; swap
      · iexact H14
      · ipureintro
        first | rfl | simp only [clrQ, if_neg h]
    isplitl [H16]
    · iexists _; isplitr; swap
      · iexact H16
      · ipureintro
        first | rfl | simp only [clrQ, if_neg h]
    isplitl [H17]
    · iexists _; isplitr; swap
      · iexact H17
      · ipureintro
        first | rfl | simp only [clrQ, if_neg h]
    iexists _; isplitr; swap
    · iexact H18
    · ipureintro
      first | rfl | simp only [clrQ, if_neg h]

set_option maxHeartbeats 1000000 in
/-- The key gradients are cleared where the point's query block is the first. -/
theorem b2_run (c : Dev nD) (E : Set ℕ) (i : grid0.Coords) (arg3 : Memref sig .tc .vmem S640x128 .bf16) (harg3 : arg3.IsWhole) (arg4 : Memref sig .tc .vmem S640x128 .bf16) (harg4 : arg4.IsWhole)
    (arg5 : Memref sig .tc .vmem S640x128 .f32) (harg5 : arg5.IsWhole) (arg6 : Memref sig .tc .vmem S640x128 .f32) (harg6 : arg6.IsWhole)
    (arg7 : Memref sig .tc .vmem S2x1x640 .f32) (harg7 : arg7.IsWhole) (arg8 : Memref sig .tc .vmem S640x128 .bf16) (harg8 : arg8.IsWhole)
    (arg9 : Memref sig .tc .vmem S640x128 .f32) (harg9 : arg9.IsWhole) (arg10 : Memref sig .tc .vmem S640x128 .f32) (harg10 : arg10.IsWhole)
    (arg11 : Memref sig .tc .vmem S8320x128 .f32) (harg11 : arg11.IsWhole) (arg12 : Memref sig .tc .vmem S640x128 .f32) (harg12 : arg12.IsWhole)
    (arg13 : Memref sig .tc .vmem S640x128 .bf16) (harg13 : arg13.IsWhole) (arg14 : Memref sig .tc .vmem S8320x128 .f32) (harg14 : arg14.IsWhole)
    (arg15 : Memref sig .tc .vmem S2x1x640 .f32) (harg15 : arg15.IsWhole) (arg16 : Memref sig .tc .vmem S2x640x128 .f32) (harg16 : arg16.IsWhole)
    (arg17 : Memref sig .tc .vmem S2x640x128 .f32) (harg17 : arg17.IsWhole) (arg18 : Memref sig .tc .vmem S2x1x640 .f32) (harg18 : arg18.IsWhole)
    (s : St F) (kk : PUnit.{1} → Prog (TpuEff nD τ sig (Elt F) Λ₀ .tc) PUnit.{1}) (K : PUnit.{1} → sProp 𝕄) :
    iprop(owns (c : Thread nD τ) arg11 fullShare s.dq ∗ owns (c : Thread nD τ) arg14 fullShare s.dfq ∗ owns (c : Thread nD τ) arg16 fullShare s.dka ∗ owns (c : Thread nD τ) arg17 fullShare s.dva ∗ owns (c : Thread nD τ) arg18 fullShare s.dfa
      ∗ (iprop(owns (c : Thread nD τ) arg11 fullShare (clrK i s).dq ∗ owns (c : Thread nD τ) arg14 fullShare (clrK i s).dfq ∗ owns (c : Thread nD τ) arg16 fullShare (clrK i s).dka ∗ owns (c : Thread nD τ) arg17 fullShare (clrK i s).dva ∗ owns (c : Thread nD τ) arg18 fullShare (clrK i s).dfa) -∗ wp frame (wpE (defs₀ (F := F)) Variants.none (c : Thread nD τ) none) E (kk ⟨⟩) K))
      ⊢ wp frame (wpE (defs₀ (F := F)) Variants.none (c : Thread nD τ) none) E (b2 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kk) K := by
  obtain ⟨sdq, sdfq, sdka, sdva, sdfa⟩ := s
  dsimp only
  by_cases h : first i = 1#1
  · simp only [b2, dif_pos h]
    unfold owns
    iintro ⟨⟨%f11, %hf11, H11⟩, ⟨%f14, %hf14, H14⟩, ⟨%f16, %hf16, H16⟩, ⟨%f17, %hf17, H17⟩, ⟨%f18, %hf18, H18⟩, Hk⟩
    subst hf11 hf14 hf16 hf17 hf18
    sl_exec
    dsimp only
    iapply Hk
    isplitl [H11]
    · iexists _; isplitr; swap
      · iexact H11
      · ipureintro
        first | rfl | simp only [clrK, if_pos h]
    isplitl [H14]
    · iexists _; isplitr; swap
      · iexact H14
      · ipureintro
        first | rfl | simp only [clrK, if_pos h]
    isplitl [H16]
    · iexists _; isplitr; swap
      · iexact H16
      · ipureintro
        refine (View.read_writes_full _ _ _ _ _).trans ?_
        simp only [clrK, if_pos h]
    isplitl [H17]
    · iexists _; isplitr; swap
      · iexact H17
      · ipureintro
        refine (View.read_writes_full _ _ _ _ _).trans ?_
        simp only [clrK, if_pos h]
    iexists _; isplitr; swap
    · iexact H18
    · ipureintro
      refine (View.read_writes_full _ _ _ _ _).trans ?_
      simp only [clrK, if_pos h]
  · simp only [b2, dif_neg h]
    unfold owns
    iintro ⟨⟨%f11, %hf11, H11⟩, ⟨%f14, %hf14, H14⟩, ⟨%f16, %hf16, H16⟩, ⟨%f17, %hf17, H17⟩, ⟨%f18, %hf18, H18⟩, Hk⟩
    subst hf11 hf14 hf16 hf17 hf18
    iapply Hk
    isplitl [H11]
    · iexists _; isplitr; swap
      · iexact H11
      · ipureintro
        first | rfl | simp only [clrK, if_neg h]
    isplitl [H14]
    · iexists _; isplitr; swap
      · iexact H14
      · ipureintro
        first | rfl | simp only [clrK, if_neg h]
    isplitl [H16]
    · iexists _; isplitr; swap
      · iexact H16
      · ipureintro
        first | rfl | simp only [clrK, if_neg h]
    isplitl [H17]
    · iexists _; isplitr; swap
      · iexact H17
      · ipureintro
        first | rfl | simp only [clrK, if_neg h]
    iexists _; isplitr; swap
    · iexact H18
    · ipureintro
      first | rfl | simp only [clrK, if_neg h]

set_option maxHeartbeats 1000000 in
/-- The key gradients are written out where the point's query block is the last. -/
theorem b4_run (c : Dev nD) (E : Set ℕ) (i : grid0.Coords) (arg3 : Memref sig .tc .vmem S640x128 .bf16) (harg3 : arg3.IsWhole) (arg4 : Memref sig .tc .vmem S640x128 .bf16) (harg4 : arg4.IsWhole)
    (arg5 : Memref sig .tc .vmem S640x128 .f32) (harg5 : arg5.IsWhole) (arg6 : Memref sig .tc .vmem S640x128 .f32) (harg6 : arg6.IsWhole)
    (arg7 : Memref sig .tc .vmem S2x1x640 .f32) (harg7 : arg7.IsWhole) (arg8 : Memref sig .tc .vmem S640x128 .bf16) (harg8 : arg8.IsWhole)
    (arg9 : Memref sig .tc .vmem S640x128 .f32) (harg9 : arg9.IsWhole) (arg10 : Memref sig .tc .vmem S640x128 .f32) (harg10 : arg10.IsWhole)
    (arg11 : Memref sig .tc .vmem S8320x128 .f32) (harg11 : arg11.IsWhole) (arg12 : Memref sig .tc .vmem S640x128 .f32) (harg12 : arg12.IsWhole)
    (arg13 : Memref sig .tc .vmem S640x128 .bf16) (harg13 : arg13.IsWhole) (arg14 : Memref sig .tc .vmem S8320x128 .f32) (harg14 : arg14.IsWhole)
    (arg15 : Memref sig .tc .vmem S2x1x640 .f32) (harg15 : arg15.IsWhole) (arg16 : Memref sig .tc .vmem S2x640x128 .f32) (harg16 : arg16.IsWhole)
    (arg17 : Memref sig .tc .vmem S2x640x128 .f32) (harg17 : arg17.IsWhole) (arg18 : Memref sig .tc .vmem S2x1x640 .f32) (harg18 : arg18.IsWhole)
    (s : St F) (y9 : Vec F S640x128 .f32) (y10 : Vec F S640x128 .bf16) (y12 : Vec F S2x1x640 .f32) (kk : PUnit.{1} → Prog (TpuEff nD τ sig (Elt F) Λ₀ .tc) PUnit.{1}) (K : PUnit.{1} → sProp 𝕄) :
    iprop(owns (c : Thread nD τ) arg12 fullShare y9 ∗ owns (c : Thread nD τ) arg13 fullShare y10 ∗ owns (c : Thread nD τ) arg15 fullShare y12 ∗ owns (c : Thread nD τ) arg16 fullShare s.dka ∗ owns (c : Thread nD τ) arg17 fullShare s.dva ∗ owns (c : Thread nD τ) arg18 fullShare s.dfa
      ∗ (iprop(owns (c : Thread nD τ) arg12 fullShare (wrK i s y9) ∗ owns (c : Thread nD τ) arg13 fullShare (wrV i s y10) ∗ owns (c : Thread nD τ) arg15 fullShare (wrF i s y12) ∗ owns (c : Thread nD τ) arg16 fullShare s.dka ∗ owns (c : Thread nD τ) arg17 fullShare s.dva ∗ owns (c : Thread nD τ) arg18 fullShare s.dfa) -∗ wp frame (wpE (defs₀ (F := F)) Variants.none (c : Thread nD τ) none) E (kk ⟨⟩) K))
      ⊢ wp frame (wpE (defs₀ (F := F)) Variants.none (c : Thread nD τ) none) E (b4 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kk) K := by
  obtain ⟨sdq, sdfq, sdka, sdva, sdfa⟩ := s
  dsimp only
  by_cases h : k0_cond6 i = 1#1
  · simp only [b4, dif_pos h]
    unfold owns
    iintro ⟨⟨%f12, %hf12, H12⟩, ⟨%f13, %hf13, H13⟩, ⟨%f15, %hf15, H15⟩, ⟨%f16, %hf16, H16⟩, ⟨%f17, %hf17, H17⟩, ⟨%f18, %hf18, H18⟩, Hk⟩
    subst hf12 hf13 hf15 hf16 hf17 hf18
    sl_exec
    dsimp only
    iapply Hk
    isplitl [H12]
    · iexists _; isplitr; swap
      · iexact H12
      · ipureintro
        refine (View.read_writes_full _ _ _ _ _).trans ?_
        simp only [wrK, wrV, wrF, if_pos h, outK, outV]
        first | rfl | exact View.readAt_full _ _ _
    isplitl [H13]
    · iexists _; isplitr; swap
      · iexact H13
      · ipureintro
        refine (View.read_writes_full _ _ _ _ _).trans ?_
        simp only [wrK, wrV, wrF, if_pos h, outK, outV]
        first | rfl | exact View.readAt_full _ _ _
    isplitl [H15]
    · iexists _; isplitr; swap
      · iexact H15
      · ipureintro
        refine (View.read_writes_full _ _ _ _ _).trans ?_
        simp only [wrK, wrV, wrF, if_pos h, outK, outV]
        first | rfl | exact View.readAt_full _ _ _
    isplitl [H16]
    · iexists _; isplitr; swap
      · iexact H16
      · ipureintro
        first | rfl | simp only [wrK, wrV, wrF, if_pos h]
    isplitl [H17]
    · iexists _; isplitr; swap
      · iexact H17
      · ipureintro
        first | rfl | simp only [wrK, wrV, wrF, if_pos h]
    iexists _; isplitr; swap
    · iexact H18
    · ipureintro
      first | rfl | simp only [wrK, wrV, wrF, if_pos h]
  · simp only [b4, dif_neg h]
    unfold owns
    iintro ⟨⟨%f12, %hf12, H12⟩, ⟨%f13, %hf13, H13⟩, ⟨%f15, %hf15, H15⟩, ⟨%f16, %hf16, H16⟩, ⟨%f17, %hf17, H17⟩, ⟨%f18, %hf18, H18⟩, Hk⟩
    subst hf12 hf13 hf15 hf16 hf17 hf18
    iapply Hk
    isplitl [H12]
    · iexists _; isplitr; swap
      · iexact H12
      · ipureintro
        first | rfl | simp only [wrK, wrV, wrF, if_neg h]
    isplitl [H13]
    · iexists _; isplitr; swap
      · iexact H13
      · ipureintro
        first | rfl | simp only [wrK, wrV, wrF, if_neg h]
    isplitl [H15]
    · iexists _; isplitr; swap
      · iexact H15
      · ipureintro
        first | rfl | simp only [wrK, wrV, wrF, if_neg h]
    isplitl [H16]
    · iexists _; isplitr; swap
      · iexact H16
      · ipureintro
        first | rfl | simp only [wrK, wrV, wrF, if_neg h]
    isplitl [H17]
    · iexists _; isplitr; swap
      · iexact H17
      · ipureintro
        first | rfl | simp only [wrK, wrV, wrF, if_neg h]
    iexists _; isplitr; swap
    · iexact H18
    · ipureintro
      first | rfl | simp only [wrK, wrV, wrF, if_neg h]

end Cert.KernelIdeal.Fox

end
-- ==== Proof.Idl.Body.lean ====
/-
  One run of the kernel body.
-/
module

public import proofs.«01_k».proof.Proof.Idl.Mask
public import proofs.«01_k».proof.Proof.Idl.Free
public import proofs.«01_k».proof.Proof.Idl.Ends

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
/-- The branch taken or not. -/
theorem b3m_run (c : Dev nD) (E : Set ℕ) (i : grid0.Coords) (k0_h3 : k0_cond3 i = 1#1)
    (arg3 : Memref sig .tc .vmem S640x128 .bf16) (harg3 : arg3.IsWhole) (arg4 : Memref sig .tc .vmem S640x128 .bf16) (harg4 : arg4.IsWhole)
    (arg5 : Memref sig .tc .vmem S640x128 .f32) (harg5 : arg5.IsWhole) (arg6 : Memref sig .tc .vmem S640x128 .f32) (harg6 : arg6.IsWhole)
    (arg7 : Memref sig .tc .vmem S2x1x640 .f32) (harg7 : arg7.IsWhole) (arg8 : Memref sig .tc .vmem S640x128 .bf16) (harg8 : arg8.IsWhole)
    (arg9 : Memref sig .tc .vmem S640x128 .f32) (harg9 : arg9.IsWhole) (arg10 : Memref sig .tc .vmem S640x128 .f32) (harg10 : arg10.IsWhole)
    (arg11 : Memref sig .tc .vmem S8320x128 .f32) (harg11 : arg11.IsWhole) (arg12 : Memref sig .tc .vmem S640x128 .f32) (harg12 : arg12.IsWhole)
    (arg13 : Memref sig .tc .vmem S640x128 .bf16) (harg13 : arg13.IsWhole) (arg14 : Memref sig .tc .vmem S8320x128 .f32) (harg14 : arg14.IsWhole)
    (arg15 : Memref sig .tc .vmem S2x1x640 .f32) (harg15 : arg15.IsWhole) (arg16 : Memref sig .tc .vmem S2x640x128 .f32) (harg16 : arg16.IsWhole)
    (arg17 : Memref sig .tc .vmem S2x640x128 .f32) (harg17 : arg17.IsWhole) (arg18 : Memref sig .tc .vmem S2x1x640 .f32) (harg18 : arg18.IsWhole)
    (x : Ins F) (s : St F) (kk : PUnit.{1} → Prog (TpuEff nD τ sig (Elt F) Λ₀ .tc) PUnit.{1}) (K : PUnit.{1} → sProp 𝕄) :
    iprop(owns (c : Thread nD τ) arg3 fullShare x.q ∗ owns (c : Thread nD τ) arg4 fullShare x.k ∗ owns (c : Thread nD τ) arg5 fullShare x.v ∗ owns (c : Thread nD τ) arg6 fullShare x.fs ∗ owns (c : Thread nD τ) arg7 fullShare x.fr ∗ owns (c : Thread nD τ) arg8 fullShare x.dO ∗ owns (c : Thread nD τ) arg9 fullShare x.lse ∗ owns (c : Thread nD τ) arg10 fullShare x.dl ∗ owns (c : Thread nD τ) arg11 fullShare s.dq ∗ owns (c : Thread nD τ) arg14 fullShare s.dfq ∗ owns (c : Thread nD τ) arg16 fullShare s.dka ∗ owns (c : Thread nD τ) arg17 fullShare s.dva ∗ owns (c : Thread nD τ) arg18 fullShare s.dfa
      ∗ (iprop(owns (c : Thread nD τ) arg3 fullShare x.q ∗ owns (c : Thread nD τ) arg4 fullShare x.k ∗ owns (c : Thread nD τ) arg5 fullShare x.v ∗ owns (c : Thread nD τ) arg6 fullShare x.fs ∗ owns (c : Thread nD τ) arg7 fullShare x.fr ∗ owns (c : Thread nD τ) arg8 fullShare x.dO ∗ owns (c : Thread nD τ) arg9 fullShare x.lse ∗ owns (c : Thread nD τ) arg10 fullShare x.dl ∗ owns (c : Thread nD τ) arg11 fullShare (tileM i k0_h3 x s).dq ∗ owns (c : Thread nD τ) arg14 fullShare (tileM i k0_h3 x s).dfq ∗ owns (c : Thread nD τ) arg16 fullShare (tileM i k0_h3 x s).dka ∗ owns (c : Thread nD τ) arg17 fullShare (tileM i k0_h3 x s).dva ∗ owns (c : Thread nD τ) arg18 fullShare (tileM i k0_h3 x s).dfa) -∗ wp frame (wpE (defs₀ (F := F)) Variants.none (c : Thread nD τ) none) E (kk ⟨⟩) K))
      ⊢ wp frame (wpE (defs₀ (F := F)) Variants.none (c : Thread nD τ) none) E (b3m (F := F) i k0_h3 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kk) K := by
  by_cases h : k0_cond4 i = 1#1
  · simp only [b3m, tileM, dif_pos h]
    exact bMask_run c E i k0_h3 h arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x s kk K
  · simp only [b3m, tileM, dif_neg h]
    iintro ⟨H3, H4, H5, H6, H7, H8, H9, H10, H11, H14, H16, H17, H18, Hk⟩
    iapply Hk
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H14]
    · iexact H14
    isplitl [H16]
    · iexact H16
    isplitl [H17]
    · iexact H17
    iexact H18

/-- The branch taken or not. -/
theorem b3u_run (c : Dev nD) (E : Set ℕ) (i : grid0.Coords) (k0_h3 : k0_cond3 i = 1#1)
    (arg3 : Memref sig .tc .vmem S640x128 .bf16) (harg3 : arg3.IsWhole) (arg4 : Memref sig .tc .vmem S640x128 .bf16) (harg4 : arg4.IsWhole)
    (arg5 : Memref sig .tc .vmem S640x128 .f32) (harg5 : arg5.IsWhole) (arg6 : Memref sig .tc .vmem S640x128 .f32) (harg6 : arg6.IsWhole)
    (arg7 : Memref sig .tc .vmem S2x1x640 .f32) (harg7 : arg7.IsWhole) (arg8 : Memref sig .tc .vmem S640x128 .bf16) (harg8 : arg8.IsWhole)
    (arg9 : Memref sig .tc .vmem S640x128 .f32) (harg9 : arg9.IsWhole) (arg10 : Memref sig .tc .vmem S640x128 .f32) (harg10 : arg10.IsWhole)
    (arg11 : Memref sig .tc .vmem S8320x128 .f32) (harg11 : arg11.IsWhole) (arg12 : Memref sig .tc .vmem S640x128 .f32) (harg12 : arg12.IsWhole)
    (arg13 : Memref sig .tc .vmem S640x128 .bf16) (harg13 : arg13.IsWhole) (arg14 : Memref sig .tc .vmem S8320x128 .f32) (harg14 : arg14.IsWhole)
    (arg15 : Memref sig .tc .vmem S2x1x640 .f32) (harg15 : arg15.IsWhole) (arg16 : Memref sig .tc .vmem S2x640x128 .f32) (harg16 : arg16.IsWhole)
    (arg17 : Memref sig .tc .vmem S2x640x128 .f32) (harg17 : arg17.IsWhole) (arg18 : Memref sig .tc .vmem S2x1x640 .f32) (harg18 : arg18.IsWhole)
    (x : Ins F) (s : St F) (kk : PUnit.{1} → Prog (TpuEff nD τ sig (Elt F) Λ₀ .tc) PUnit.{1}) (K : PUnit.{1} → sProp 𝕄) :
    iprop(owns (c : Thread nD τ) arg3 fullShare x.q ∗ owns (c : Thread nD τ) arg4 fullShare x.k ∗ owns (c : Thread nD τ) arg5 fullShare x.v ∗ owns (c : Thread nD τ) arg6 fullShare x.fs ∗ owns (c : Thread nD τ) arg7 fullShare x.fr ∗ owns (c : Thread nD τ) arg8 fullShare x.dO ∗ owns (c : Thread nD τ) arg9 fullShare x.lse ∗ owns (c : Thread nD τ) arg10 fullShare x.dl ∗ owns (c : Thread nD τ) arg11 fullShare s.dq ∗ owns (c : Thread nD τ) arg14 fullShare s.dfq ∗ owns (c : Thread nD τ) arg16 fullShare s.dka ∗ owns (c : Thread nD τ) arg17 fullShare s.dva ∗ owns (c : Thread nD τ) arg18 fullShare s.dfa
      ∗ (iprop(owns (c : Thread nD τ) arg3 fullShare x.q ∗ owns (c : Thread nD τ) arg4 fullShare x.k ∗ owns (c : Thread nD τ) arg5 fullShare x.v ∗ owns (c : Thread nD τ) arg6 fullShare x.fs ∗ owns (c : Thread nD τ) arg7 fullShare x.fr ∗ owns (c : Thread nD τ) arg8 fullShare x.dO ∗ owns (c : Thread nD τ) arg9 fullShare x.lse ∗ owns (c : Thread nD τ) arg10 fullShare x.dl ∗ owns (c : Thread nD τ) arg11 fullShare (tileU i k0_h3 x s).dq ∗ owns (c : Thread nD τ) arg14 fullShare (tileU i k0_h3 x s).dfq ∗ owns (c : Thread nD τ) arg16 fullShare (tileU i k0_h3 x s).dka ∗ owns (c : Thread nD τ) arg17 fullShare (tileU i k0_h3 x s).dva ∗ owns (c : Thread nD τ) arg18 fullShare (tileU i k0_h3 x s).dfa) -∗ wp frame (wpE (defs₀ (F := F)) Variants.none (c : Thread nD τ) none) E (kk ⟨⟩) K))
      ⊢ wp frame (wpE (defs₀ (F := F)) Variants.none (c : Thread nD τ) none) E (b3u (F := F) i k0_h3 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kk) K := by
  by_cases h : k0_cond5 i = 1#1
  · simp only [b3u, tileU, dif_pos h]
    exact bFree_run c E i k0_h3 h arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x s kk K
  · simp only [b3u, tileU, dif_neg h]
    iintro ⟨H3, H4, H5, H6, H7, H8, H9, H10, H11, H14, H16, H17, H18, Hk⟩
    iapply Hk
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H14]
    · iexact H14
    isplitl [H16]
    · iexact H16
    isplitl [H17]
    · iexact H17
    iexact H18

/-- The tile at a point. -/
theorem b3_run (c : Dev nD) (E : Set ℕ) (i : grid0.Coords) (arg3 : Memref sig .tc .vmem S640x128 .bf16) (harg3 : arg3.IsWhole) (arg4 : Memref sig .tc .vmem S640x128 .bf16) (harg4 : arg4.IsWhole)
    (arg5 : Memref sig .tc .vmem S640x128 .f32) (harg5 : arg5.IsWhole) (arg6 : Memref sig .tc .vmem S640x128 .f32) (harg6 : arg6.IsWhole)
    (arg7 : Memref sig .tc .vmem S2x1x640 .f32) (harg7 : arg7.IsWhole) (arg8 : Memref sig .tc .vmem S640x128 .bf16) (harg8 : arg8.IsWhole)
    (arg9 : Memref sig .tc .vmem S640x128 .f32) (harg9 : arg9.IsWhole) (arg10 : Memref sig .tc .vmem S640x128 .f32) (harg10 : arg10.IsWhole)
    (arg11 : Memref sig .tc .vmem S8320x128 .f32) (harg11 : arg11.IsWhole) (arg12 : Memref sig .tc .vmem S640x128 .f32) (harg12 : arg12.IsWhole)
    (arg13 : Memref sig .tc .vmem S640x128 .bf16) (harg13 : arg13.IsWhole) (arg14 : Memref sig .tc .vmem S8320x128 .f32) (harg14 : arg14.IsWhole)
    (arg15 : Memref sig .tc .vmem S2x1x640 .f32) (harg15 : arg15.IsWhole) (arg16 : Memref sig .tc .vmem S2x640x128 .f32) (harg16 : arg16.IsWhole)
    (arg17 : Memref sig .tc .vmem S2x640x128 .f32) (harg17 : arg17.IsWhole) (arg18 : Memref sig .tc .vmem S2x1x640 .f32) (harg18 : arg18.IsWhole)
    (x : Ins F) (s : St F) (kk : PUnit.{1} → Prog (TpuEff nD τ sig (Elt F) Λ₀ .tc) PUnit.{1}) (K : PUnit.{1} → sProp 𝕄) :
    iprop(owns (c : Thread nD τ) arg3 fullShare x.q ∗ owns (c : Thread nD τ) arg4 fullShare x.k ∗ owns (c : Thread nD τ) arg5 fullShare x.v ∗ owns (c : Thread nD τ) arg6 fullShare x.fs ∗ owns (c : Thread nD τ) arg7 fullShare x.fr ∗ owns (c : Thread nD τ) arg8 fullShare x.dO ∗ owns (c : Thread nD τ) arg9 fullShare x.lse ∗ owns (c : Thread nD τ) arg10 fullShare x.dl ∗ owns (c : Thread nD τ) arg11 fullShare s.dq ∗ owns (c : Thread nD τ) arg14 fullShare s.dfq ∗ owns (c : Thread nD τ) arg16 fullShare s.dka ∗ owns (c : Thread nD τ) arg17 fullShare s.dva ∗ owns (c : Thread nD τ) arg18 fullShare s.dfa
      ∗ (iprop(owns (c : Thread nD τ) arg3 fullShare x.q ∗ owns (c : Thread nD τ) arg4 fullShare x.k ∗ owns (c : Thread nD τ) arg5 fullShare x.v ∗ owns (c : Thread nD τ) arg6 fullShare x.fs ∗ owns (c : Thread nD τ) arg7 fullShare x.fr ∗ owns (c : Thread nD τ) arg8 fullShare x.dO ∗ owns (c : Thread nD τ) arg9 fullShare x.lse ∗ owns (c : Thread nD τ) arg10 fullShare x.dl ∗ owns (c : Thread nD τ) arg11 fullShare (tile i x s).dq ∗ owns (c : Thread nD τ) arg14 fullShare (tile i x s).dfq ∗ owns (c : Thread nD τ) arg16 fullShare (tile i x s).dka ∗ owns (c : Thread nD τ) arg17 fullShare (tile i x s).dva ∗ owns (c : Thread nD τ) arg18 fullShare (tile i x s).dfa) -∗ wp frame (wpE (defs₀ (F := F)) Variants.none (c : Thread nD τ) none) E (kk ⟨⟩) K))
      ⊢ wp frame (wpE (defs₀ (F := F)) Variants.none (c : Thread nD τ) none) E (b3 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kk) K := by
  by_cases h : k0_cond3 i = 1#1
  · simp only [b3, tile, dif_pos h]
    iintro ⟨H3, H4, H5, H6, H7, H8, H9, H10, H11, H14, H16, H17, H18, Hk⟩
    iapply (b3m_run c E i h arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x s _ K)
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H14]
    · iexact H14
    isplitl [H16]
    · iexact H16
    isplitl [H17]
    · iexact H17
    isplitl [H18]
    · iexact H18
    iintro ⟨H3, H4, H5, H6, H7, H8, H9, H10, H11, H14, H16, H17, H18⟩
    iapply (b3u_run c E i h arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x (tileM i h x s) kk K)
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H14]
    · iexact H14
    isplitl [H16]
    · iexact H16
    isplitl [H17]
    · iexact H17
    isplitl [H18]
    · iexact H18
    iexact Hk
  · simp only [b3, tile, dif_neg h]
    iintro ⟨H3, H4, H5, H6, H7, H8, H9, H10, H11, H14, H16, H17, H18, Hk⟩
    iapply Hk
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H14]
    · iexact H14
    isplitl [H16]
    · iexact H16
    isplitl [H17]
    · iexact H17
    iexact H18

/-- One run of the kernel body: the carried buffers step, the blocks by key are written at the last query block. -/
theorem body_run (c : Dev nD) (E : Set ℕ) (i : grid0.Coords) (arg3 : Memref sig .tc .vmem S640x128 .bf16) (harg3 : arg3.IsWhole) (arg4 : Memref sig .tc .vmem S640x128 .bf16) (harg4 : arg4.IsWhole)
    (arg5 : Memref sig .tc .vmem S640x128 .f32) (harg5 : arg5.IsWhole) (arg6 : Memref sig .tc .vmem S640x128 .f32) (harg6 : arg6.IsWhole)
    (arg7 : Memref sig .tc .vmem S2x1x640 .f32) (harg7 : arg7.IsWhole) (arg8 : Memref sig .tc .vmem S640x128 .bf16) (harg8 : arg8.IsWhole)
    (arg9 : Memref sig .tc .vmem S640x128 .f32) (harg9 : arg9.IsWhole) (arg10 : Memref sig .tc .vmem S640x128 .f32) (harg10 : arg10.IsWhole)
    (arg11 : Memref sig .tc .vmem S8320x128 .f32) (harg11 : arg11.IsWhole) (arg12 : Memref sig .tc .vmem S640x128 .f32) (harg12 : arg12.IsWhole)
    (arg13 : Memref sig .tc .vmem S640x128 .bf16) (harg13 : arg13.IsWhole) (arg14 : Memref sig .tc .vmem S8320x128 .f32) (harg14 : arg14.IsWhole)
    (arg15 : Memref sig .tc .vmem S2x1x640 .f32) (harg15 : arg15.IsWhole) (arg16 : Memref sig .tc .vmem S2x640x128 .f32) (harg16 : arg16.IsWhole)
    (arg17 : Memref sig .tc .vmem S2x640x128 .f32) (harg17 : arg17.IsWhole) (arg18 : Memref sig .tc .vmem S2x1x640 .f32) (harg18 : arg18.IsWhole)
    (x : Ins F) (s : St F) (y9 : Vec F S640x128 .f32) (y10 : Vec F S640x128 .bf16) (y12 : Vec F S2x1x640 .f32) (K : PUnit.{1} → sProp 𝕄) :
    iprop(owns (c : Thread nD τ) arg3 fullShare x.q ∗ owns (c : Thread nD τ) arg4 fullShare x.k ∗ owns (c : Thread nD τ) arg5 fullShare x.v ∗ owns (c : Thread nD τ) arg6 fullShare x.fs ∗ owns (c : Thread nD τ) arg7 fullShare x.fr ∗ owns (c : Thread nD τ) arg8 fullShare x.dO ∗ owns (c : Thread nD τ) arg9 fullShare x.lse ∗ owns (c : Thread nD τ) arg10 fullShare x.dl ∗ owns (c : Thread nD τ) arg11 fullShare s.dq ∗ owns (c : Thread nD τ) arg14 fullShare s.dfq ∗ owns (c : Thread nD τ) arg16 fullShare s.dka ∗ owns (c : Thread nD τ) arg17 fullShare s.dva ∗ owns (c : Thread nD τ) arg18 fullShare s.dfa ∗ owns (c : Thread nD τ) arg12 fullShare y9 ∗ owns (c : Thread nD τ) arg13 fullShare y10 ∗ owns (c : Thread nD τ) arg15 fullShare y12
      ∗ (iprop(owns (c : Thread nD τ) arg3 fullShare x.q ∗ owns (c : Thread nD τ) arg4 fullShare x.k ∗ owns (c : Thread nD τ) arg5 fullShare x.v ∗ owns (c : Thread nD τ) arg6 fullShare x.fs ∗ owns (c : Thread nD τ) arg7 fullShare x.fr ∗ owns (c : Thread nD τ) arg8 fullShare x.dO ∗ owns (c : Thread nD τ) arg9 fullShare x.lse ∗ owns (c : Thread nD τ) arg10 fullShare x.dl ∗ owns (c : Thread nD τ) arg11 fullShare (step i x s).dq ∗ owns (c : Thread nD τ) arg14 fullShare (step i x s).dfq ∗ owns (c : Thread nD τ) arg16 fullShare (step i x s).dka ∗ owns (c : Thread nD τ) arg17 fullShare (step i x s).dva ∗ owns (c : Thread nD τ) arg18 fullShare (step i x s).dfa ∗ owns (c : Thread nD τ) arg12 fullShare (wrK i (step i x s) y9) ∗ owns (c : Thread nD τ) arg13 fullShare (wrV i (step i x s) y10) ∗ owns (c : Thread nD τ) arg15 fullShare (wrF i (step i x s) y12)) -∗ K ⟨⟩))
      ⊢ wp frame (wpE (defs₀ (F := F)) Variants.none (c : Thread nD τ) none) E (cc0_fox_bwd_skel (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [body_eq]
  iintro ⟨H3, H4, H5, H6, H7, H8, H9, H10, H11, H14, H16, H17, H18, H12, H13, H15, Hk⟩
  iapply (b1_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 s _ K)
  isplitl [H11]
  · iexact H11
  isplitl [H14]
  · iexact H14
  isplitl [H16]
  · iexact H16
  isplitl [H17]
  · iexact H17
  isplitl [H18]
  · iexact H18
  iintro ⟨H11, H14, H16, H17, H18⟩
  iapply (b2_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (clrQ i s) _ K)
  isplitl [H11]
  · iexact H11
  isplitl [H14]
  · iexact H14
  isplitl [H16]
  · iexact H16
  isplitl [H17]
  · iexact H17
  isplitl [H18]
  · iexact H18
  iintro ⟨H11, H14, H16, H17, H18⟩
  iapply (b3_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x (clrK i (clrQ i s)) _ K)
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H14]
  · iexact H14
  isplitl [H16]
  · iexact H16
  isplitl [H17]
  · iexact H17
  isplitl [H18]
  · iexact H18
  iintro ⟨H3, H4, H5, H6, H7, H8, H9, H10, H11, H14, H16, H17, H18⟩
  iapply (b4_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (step i x s) y9 y10 y12 _ K)
  isplitl [H12]
  · iexact H12
  isplitl [H13]
  · iexact H13
  isplitl [H15]
  · iexact H15
  isplitl [H16]
  · iexact H16
  isplitl [H17]
  · iexact H17
  isplitl [H18]
  · iexact H18
  iintro ⟨H12, H13, H15, H16, H17, H18⟩
  dsimp only
  sl_step
  iapply Hk
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H14]
  · iexact H14
  isplitl [H16]
  · iexact H16
  isplitl [H17]
  · iexact H17
  isplitl [H18]
  · iexact H18
  isplitl [H12]
  · iexact H12
  isplitl [H13]
  · iexact H13
  iexact H15

end Cert.KernelIdeal.Fox

end
-- ==== Proof.Idl.Point.lean ====
/-
  The run of the body at a point, between the carried states before and after it.
-/
module

public import proofs.«01_k».proof.Proof.Idl.Data
public import proofs.«01_k».proof.Proof.Idl.Body

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scratch buffers before a point: held at some contents, which are the carried ones from the second point on. -/
theorem PhiN_open (c : Dev nD) (n : ℕ) :
    PhiN m c n ⊢ iprop(∃ a b e, ⌜n ≠ 0 → a = (prev m c n).dka ∧ b = (prev m c n).dva ∧ e = (prev m c n).dfa⌝
      ∗ owns (c : Thread nD τ) (Memref.whole cc0_scratch0) fullShare a ∗ owns (c : Thread nD τ) (Memref.whole cc0_scratch1) fullShare b
      ∗ owns (c : Thread nD τ) (Memref.whole cc0_scratch2) fullShare e ∗ ∃ r, prngReg c r) := by
  unfold PhiN
  by_cases h : n = 0
  · rw [if_pos h]
    unfold Pipeline.ΦA
    rw [scopedRest0_eq]
    iintro ⟨⟨⟨%a, Ha⟩, ⟨%b, Hb⟩, ⟨%e, He⟩⟩, Hr⟩
    iexists a, b, e
    rw [owns_whole, owns_whole, owns_whole]
    isplitr
    · ipureintro
      exact fun h' => absurd h h'
    isplitl [Ha]
    · iexact Ha
    isplitl [Hb]
    · iexact Hb
    isplitl [He]
    · iexact He
    iexact Hr
  · rw [if_neg h]
    iintro ⟨Ha, Hb, He, Hr⟩
    iexists (prev m c n).dka, (prev m c n).dva, (prev m c n).dfa
    rw [owns_whole, owns_whole, owns_whole]
    isplitr
    · ipureintro
      exact fun _ => ⟨rfl, rfl, rfl⟩
    isplitl [Ha]
    · iexact Ha
    isplitl [Hb]
    · iexact Hb
    isplitl [He]
    · iexact He
    iexact Hr

theorem PhiN_close (c : Dev nD) (n : ℕ) :
    iprop(owns (c : Thread nD τ) (Memref.whole cc0_scratch0) fullShare (prev m c (n + 1)).dka ∗ owns (c : Thread nD τ) (Memref.whole cc0_scratch1) fullShare (prev m c (n + 1)).dva
      ∗ owns (c : Thread nD τ) (Memref.whole cc0_scratch2) fullShare (prev m c (n + 1)).dfa ∗ ∃ r, prngReg c r) ⊢ PhiN m c (n + 1) := by
  unfold PhiN
  rw [if_neg (Nat.succ_ne_zero n), owns_whole, owns_whole, owns_whole]

theorem Phi_in (c : Dev nD) : Pipeline.ΦA spec0 c ⊢ (PhiN m c 0 : sProp 𝕄) := by
  unfold PhiN
  rw [if_pos rfl]

theorem Phi_out (c : Dev nD) (n : ℕ) : PhiN m c n ⊢ Pipeline.ΦA spec0 c := by
  refine (PhiN_open m c n).trans ?_
  unfold Pipeline.ΦA
  rw [scopedRest0_eq]
  simp only [owns_whole]
  iintro ⟨%a, %b, %e, -, Ha, Hb, He, Hr⟩
  isplitr [Hr]
  · isplitl [Ha]
    · iexists a; iexact Ha
    isplitl [Hb]
    · iexists b; iexact Hb
    iexists e; iexact He
  iexact Hr

/-- The carried state a point finds: the query gradients in their staging buffers, the key gradients in scratch. -/
theorem step_found (c : Dev nD) (t : Fin cfg0.N) (d8 d11 : Vec F S8320x128 .f32) (a b : Vec F S2x640x128 .f32) (e : Vec F S2x1x640 .f32)
    (h : t.val ≠ 0 → a = (prev m c t.val).dka ∧ b = (prev m c t.val).dva ∧ e = (prev m c t.val).dfa) :
    step (grid0.coords t) (ins m c t) ⟨if t.val % 169 = 0 then d8 else (prev m c t.val).dq, if t.val % 169 = 0 then d11 else (prev m c t.val).dfq, a, b, e⟩
      = prev m c (t.val + 1) := by
  rw [prev_succ]
  refine step_congr _ _ _ _ ?_ ?_
  · by_cases h0 : t.val % 169 = 0
    · exact .inl ((c1_iff t).2 h0)
    · right
      simp only [if_neg h0, and_self]
  · by_cases h0 : t.val = 0
    · exact .inl ((first_iff t).2 (by omega))
    · exact .inr (h h0)

theorem in_0 (c : Dev nD) (t : Fin cfg0.N) :
    owns (c : Thread nD τ) (st0_0 t) fullShare (ins m c t).q ⊢ (owns (c : Thread nD τ) (st0_0 t) fullShare ((dats m 0 c).after 0 t) : sProp 𝕄) := by
  rw [after_0]
  exact BIBase.Entails.rfl

theorem in_1 (c : Dev nD) (t : Fin cfg0.N) :
    owns (c : Thread nD τ) (st0_1 t) fullShare (ins m c t).k ⊢ (owns (c : Thread nD τ) (st0_1 t) fullShare ((dats m 0 c).after 1 t) : sProp 𝕄) := by
  rw [after_1]
  exact BIBase.Entails.rfl

theorem in_2 (c : Dev nD) (t : Fin cfg0.N) :
    owns (c : Thread nD τ) (st0_2 t) fullShare (ins m c t).v ⊢ (owns (c : Thread nD τ) (st0_2 t) fullShare ((dats m 0 c).after 2 t) : sProp 𝕄) := by
  rw [after_2]
  exact BIBase.Entails.rfl

theorem in_3 (c : Dev nD) (t : Fin cfg0.N) :
    owns (c : Thread nD τ) (st0_3 t) fullShare (ins m c t).fs ⊢ (owns (c : Thread nD τ) (st0_3 t) fullShare ((dats m 0 c).after 3 t) : sProp 𝕄) := by
  rw [after_3]
  exact BIBase.Entails.rfl

theorem in_4 (c : Dev nD) (t : Fin cfg0.N) :
    owns (c : Thread nD τ) (st0_4 t) fullShare (ins m c t).fr ⊢ (owns (c : Thread nD τ) (st0_4 t) fullShare ((dats m 0 c).after 4 t) : sProp 𝕄) := by
  rw [after_4]
  exact BIBase.Entails.rfl

theorem in_5 (c : Dev nD) (t : Fin cfg0.N) :
    owns (c : Thread nD τ) (st0_5 t) fullShare (ins m c t).dO ⊢ (owns (c : Thread nD τ) (st0_5 t) fullShare ((dats m 0 c).after 5 t) : sProp 𝕄) := by
  rw [after_5]
  exact BIBase.Entails.rfl

theorem in_6 (c : Dev nD) (t : Fin cfg0.N) :
    owns (c : Thread nD τ) (st0_6 t) fullShare (ins m c t).lse ⊢ (owns (c : Thread nD τ) (st0_6 t) fullShare ((dats m 0 c).after 6 t) : sProp 𝕄) := by
  rw [after_6]
  exact BIBase.Entails.rfl

theorem in_7 (c : Dev nD) (t : Fin cfg0.N) :
    owns (c : Thread nD τ) (st0_7 t) fullShare (ins m c t).dl ⊢ (owns (c : Thread nD τ) (st0_7 t) fullShare ((dats m 0 c).after 7 t) : sProp 𝕄) := by
  rw [after_7]
  exact BIBase.Entails.rfl

theorem out_8 (c : Dev nD) (t : Fin cfg0.N) (d : Vec F S8320x128 .f32) :
    owns (c : Thread nD τ) (st0_8 t) fullShare ((prev m c (t.val + 1)).dq)
      ⊢ (match cfg0.idle 8 (cfg0.grid.coords t) with
        | true => match (cfg0.win 8).flush t with
          | false => iprop(∃ d, owns (c : Thread nD τ) (st0_8 t) fullShare ((dats m 0 c).before 8 t d))
          | true => owns (c : Thread nD τ) (st0_8 t) fullShare ((dats m 0 c).after 8 t)
        | false => owns (c : Thread nD τ) (st0_8 t) fullShare ((dats m 0 c).after 8 t) : sProp 𝕄) := by
  cases hi : cfg0.idle 8 (cfg0.grid.coords t)
  · dsimp only
    rw [after_8]
  · cases hf : (cfg0.win 8).flush t
    · dsimp only
      have h0 : t.val % 169 ≠ 0 := fun h => absurd ((touched0 t h).symm.trans hi) (by decide)
      have e : (prev m c (t.val + 1)).dq = (prev m c t.val).dq := by
        rw [prev_succ]
        exact (step_idle _ _ _ hi).1
      rw [e]
      iintro H
      iexists d
      rw [before_8, if_neg h0]
      iexact H
    · exact absurd ((touched t ((flush0_8 t).1 hf)).symm.trans hi) (by decide)

theorem out_9 (c : Dev nD) (t : Fin cfg0.N) (d : Vec F S640x128 .f32) :
    owns (c : Thread nD τ) (st0_9 t) fullShare (wrK (grid0.coords t) (prev m c (t.val + 1)) d)
      ⊢ (match cfg0.idle 9 (cfg0.grid.coords t) with
        | true => match (cfg0.win 9).flush t with
          | false => iprop(∃ d, owns (c : Thread nD τ) (st0_9 t) fullShare ((dats m 0 c).before 9 t d))
          | true => owns (c : Thread nD τ) (st0_9 t) fullShare ((dats m 0 c).after 9 t)
        | false => owns (c : Thread nD τ) (st0_9 t) fullShare ((dats m 0 c).after 9 t) : sProp 𝕄) := by
  cases hi : cfg0.idle 9 (cfg0.grid.coords t)
  · have h6 : k0_cond6 (grid0.coords t) = 1#1 := by
      refine (c6_iff t).2 ?_
      by_contra h
      exact absurd (hi.symm.trans ((idle_out t).2 h)) (by decide)
    dsimp only
    rw [after_9]
    unfold wrK
    rw [if_pos h6]
  · have h6 : ¬ k0_cond6 (grid0.coords t) = 1#1 := fun h => (idle_out t).1 hi ((c6_iff t).1 h)
    cases hf : (cfg0.win 9).flush t
    · dsimp only
      unfold wrK
      rw [if_neg h6]
      iintro H
      iexists d
      rw [before_9]
      iexact H
    · exact absurd ((flush0_9 t).1 hf) ((idle_out t).1 hi)

theorem out_10 (c : Dev nD) (t : Fin cfg0.N) (d : Vec F S640x128 .bf16) :
    owns (c : Thread nD τ) (st0_10 t) fullShare (wrV (grid0.coords t) (prev m c (t.val + 1)) d)
      ⊢ (match cfg0.idle 10 (cfg0.grid.coords t) with
        | true => match (cfg0.win 10).flush t with
          | false => iprop(∃ d, owns (c : Thread nD τ) (st0_10 t) fullShare ((dats m 0 c).before 10 t d))
          | true => owns (c : Thread nD τ) (st0_10 t) fullShare ((dats m 0 c).after 10 t)
        | false => owns (c : Thread nD τ) (st0_10 t) fullShare ((dats m 0 c).after 10 t) : sProp 𝕄) := by
  cases hi : cfg0.idle 10 (cfg0.grid.coords t)
  · have h6 : k0_cond6 (grid0.coords t) = 1#1 := by
      refine (c6_iff t).2 ?_
      by_contra h
      exact absurd (hi.symm.trans ((idle_out t).2 h)) (by decide)
    dsimp only
    rw [after_10]
    unfold wrV
    rw [if_pos h6]
  · have h6 : ¬ k0_cond6 (grid0.coords t) = 1#1 := fun h => (idle_out t).1 hi ((c6_iff t).1 h)
    cases hf : (cfg0.win 10).flush t
    · dsimp only
      unfold wrV
      rw [if_neg h6]
      iintro H
      iexists d
      rw [before_10]
      iexact H
    · exact absurd ((flush0_10 t).1 hf) ((idle_out t).1 hi)

theorem out_11 (c : Dev nD) (t : Fin cfg0.N) (d : Vec F S8320x128 .f32) :
    owns (c : Thread nD τ) (st0_11 t) fullShare ((prev m c (t.val + 1)).dfq)
      ⊢ (match cfg0.idle 11 (cfg0.grid.coords t) with
        | true => match (cfg0.win 11).flush t with
          | false => iprop(∃ d, owns (c : Thread nD τ) (st0_11 t) fullShare ((dats m 0 c).before 11 t d))
          | true => owns (c : Thread nD τ) (st0_11 t) fullShare ((dats m 0 c).after 11 t)
        | false => owns (c : Thread nD τ) (st0_11 t) fullShare ((dats m 0 c).after 11 t) : sProp 𝕄) := by
  cases hi : cfg0.idle 11 (cfg0.grid.coords t)
  · dsimp only
    rw [after_11]
  · cases hf : (cfg0.win 11).flush t
    · dsimp only
      have h0 : t.val % 169 ≠ 0 := fun h => absurd ((touched0 t h).symm.trans hi) (by decide)
      have e : (prev m c (t.val + 1)).dfq = (prev m c t.val).dfq := by
        rw [prev_succ]
        exact (step_idle _ _ _ hi).2
      rw [e]
      iintro H
      iexists d
      rw [before_11, if_neg h0]
      iexact H
    · exact absurd ((touched t ((flush0_11 t).1 hf)).symm.trans hi) (by decide)

theorem out_12 (c : Dev nD) (t : Fin cfg0.N) (d : Vec F S2x1x640 .f32) :
    owns (c : Thread nD τ) (st0_12 t) fullShare (wrF (grid0.coords t) (prev m c (t.val + 1)) d)
      ⊢ (match cfg0.idle 12 (cfg0.grid.coords t) with
        | true => match (cfg0.win 12).flush t with
          | false => iprop(∃ d, owns (c : Thread nD τ) (st0_12 t) fullShare ((dats m 0 c).before 12 t d))
          | true => owns (c : Thread nD τ) (st0_12 t) fullShare ((dats m 0 c).after 12 t)
        | false => owns (c : Thread nD τ) (st0_12 t) fullShare ((dats m 0 c).after 12 t) : sProp 𝕄) := by
  cases hi : cfg0.idle 12 (cfg0.grid.coords t)
  · have h6 : k0_cond6 (grid0.coords t) = 1#1 := by
      refine (c6_iff t).2 ?_
      by_contra h
      exact absurd (hi.symm.trans ((idle_out t).2 h)) (by decide)
    dsimp only
    rw [after_12]
    unfold wrF
    rw [if_pos h6]
  · have h6 : ¬ k0_cond6 (grid0.coords t) = 1#1 := fun h => (idle_out t).1 hi ((c6_iff t).1 h)
    cases hf : (cfg0.win 12).flush t
    · dsimp only
      unfold wrF
      rw [if_neg h6]
      iintro H
      iexists d
      rw [before_12]
      iexact H
    · exact absurd ((flush0_12 t).1 hf) ((idle_out t).1 hi)

set_option maxHeartbeats 1000000 in
/-- The body's run at a point: from the state the point finds to the state the next one finds. -/
theorem run_at (c : Dev nD) (t : Fin cfg0.N) (d8 d11 : Vec F S8320x128 .f32) (a b : Vec F S2x640x128 .f32) (e : Vec F S2x1x640 .f32)
    (h : t.val ≠ 0 → a = (prev m c t.val).dka ∧ b = (prev m c t.val).dva ∧ e = (prev m c t.val).dfa)
    (d9 : Vec F S640x128 .f32) (d10 : Vec F S640x128 .bf16) (d12 : Vec F S2x1x640 .f32) (K : PUnit → sProp 𝕄) :
    iprop(owns (c : Thread nD τ) (st0_0 t) fullShare (ins m c t).q
      ∗ owns (c : Thread nD τ) (st0_1 t) fullShare (ins m c t).k
      ∗ owns (c : Thread nD τ) (st0_2 t) fullShare (ins m c t).v
      ∗ owns (c : Thread nD τ) (st0_3 t) fullShare (ins m c t).fs
      ∗ owns (c : Thread nD τ) (st0_4 t) fullShare (ins m c t).fr
      ∗ owns (c : Thread nD τ) (st0_5 t) fullShare (ins m c t).dO
      ∗ owns (c : Thread nD τ) (st0_6 t) fullShare (ins m c t).lse
      ∗ owns (c : Thread nD τ) (st0_7 t) fullShare (ins m c t).dl
      ∗ owns (c : Thread nD τ) (st0_8 t) fullShare (if t.val % 169 = 0 then d8 else (prev m c t.val).dq)
      ∗ owns (c : Thread nD τ) (st0_11 t) fullShare (if t.val % 169 = 0 then d11 else (prev m c t.val).dfq)
      ∗ owns (c : Thread nD τ) (Memref.whole cc0_scratch0) fullShare a
      ∗ owns (c : Thread nD τ) (Memref.whole cc0_scratch1) fullShare b
      ∗ owns (c : Thread nD τ) (Memref.whole cc0_scratch2) fullShare e
      ∗ owns (c : Thread nD τ) (st0_9 t) fullShare d9
      ∗ owns (c : Thread nD τ) (st0_10 t) fullShare d10
      ∗ owns (c : Thread nD τ) (st0_12 t) fullShare d12
      ∗ (iprop(owns (c : Thread nD τ) (st0_0 t) fullShare (ins m c t).q
      ∗ owns (c : Thread nD τ) (st0_1 t) fullShare (ins m c t).k
      ∗ owns (c : Thread nD τ) (st0_2 t) fullShare (ins m c t).v
      ∗ owns (c : Thread nD τ) (st0_3 t) fullShare (ins m c t).fs
      ∗ owns (c : Thread nD τ) (st0_4 t) fullShare (ins m c t).fr
      ∗ owns (c : Thread nD τ) (st0_5 t) fullShare (ins m c t).dO
      ∗ owns (c : Thread nD τ) (st0_6 t) fullShare (ins m c t).lse
      ∗ owns (c : Thread nD τ) (st0_7 t) fullShare (ins m c t).dl
      ∗ owns (c : Thread nD τ) (st0_8 t) fullShare (prev m c (t.val + 1)).dq
      ∗ owns (c : Thread nD τ) (st0_11 t) fullShare (prev m c (t.val + 1)).dfq
      ∗ owns (c : Thread nD τ) (Memref.whole cc0_scratch0) fullShare (prev m c (t.val + 1)).dka
      ∗ owns (c : Thread nD τ) (Memref.whole cc0_scratch1) fullShare (prev m c (t.val + 1)).dva
      ∗ owns (c : Thread nD τ) (Memref.whole cc0_scratch2) fullShare (prev m c (t.val + 1)).dfa
      ∗ owns (c : Thread nD τ) (st0_9 t) fullShare (wrK (grid0.coords t) (prev m c (t.val + 1)) d9)
      ∗ owns (c : Thread nD τ) (st0_10 t) fullShare (wrV (grid0.coords t) (prev m c (t.val + 1)) d10)
      ∗ owns (c : Thread nD τ) (st0_12 t) fullShare (wrF (grid0.coords t) (prev m c (t.val + 1)) d12)) -∗ K ⟨⟩))
    ⊢ wp frame (wpE (defs₀ (F := F)) Variants.none (c : Thread nD τ) none) Set.univ (bodyAt0 t) K := by
  unfold bodyAt0
  rw [cc0_fox_bwd_eq_skeleton, ← step_found m c t d8 d11 a b e h]
  exact body_run c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (ins m c t) ⟨if t.val % 169 = 0 then d8 else (prev m c t.val).dq, if t.val % 169 = 0 then d11 else (prev m c t.val).dfq, a, b, e⟩ d9 d10 d12 K

end Cert.KernelIdeal.Fox

end
-- ==== Proof.Idl.Run.lean ====
/-
  The body obligation at every point.
-/
module

public import proofs.«01_k».proof.Proof.Idl.Point

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body obligation at every point. -/
theorem body_obligation (c : Dev nD) : BodyObligation (dats m 0 c) (defs₀ (F := F)) Variants.none () Set.univ := by
  intro t
  rw [bigSep_W0, bigSep_W0]
  show iprop(PhiN m c t.val ∗ _ ∗ _) ⊢ wp frame (wpE (defs₀ (F := F)) Variants.none (c : Thread nD τ) none) Set.univ (bodyAt0 t) fun _ => iprop(PhiN m c (t.val + 1) ∗ _ ∗ _)
  iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  dsimp only
  rw [before_0, before_1, before_2, before_3, before_4, before_5, before_6, before_7, before_8, before_9, before_10, before_11, before_12]
  ihave HQ := (PhiN_open m c t.val) $$ HP
  icases HQ with ⟨%a, %b, %e, %hs, Ha, Hb, He, Hr⟩
  iapply (run_at m c t d8 d11 a b e hs d9 d10 d12)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H11]
  · iexact H11
  isplitl [Ha]
  · iexact Ha
  isplitl [Hb]
  · iexact Hb
  isplitl [He]
  · iexact He
  isplitl [H9]
  · iexact H9
  isplitl [H10]
  · iexact H10
  isplitl [H12]
  · iexact H12
  iintro ⟨H0, H1, H2, H3, H4, H5, H6, H7, H8, H11, Ha, Hb, He, H9, H10, H12⟩
  isplitl [Ha Hb He Hr]
  · iapply (PhiN_close m c t.val)
    isplitl [Ha]
    · iexact Ha
    isplitl [Hb]
    · iexact Hb
    isplitl [He]
    · iexact He
    iexact Hr
  isplitl [HO]
  · iexact HO
  isplitl [H0]
  · iapply (in_0 m c t); iexact H0
  isplitl [H1]
  · iapply (in_1 m c t); iexact H1
  isplitl [H2]
  · iapply (in_2 m c t); iexact H2
  isplitl [H3]
  · iapply (in_3 m c t); iexact H3
  isplitl [H4]
  · iapply (in_4 m c t); iexact H4
  isplitl [H5]
  · iapply (in_5 m c t); iexact H5
  isplitl [H6]
  · iapply (in_6 m c t); iexact H6
  isplitl [H7]
  · iapply (in_7 m c t); iexact H7
  isplitl [H8]
  · iapply (out_8 m c t d8)
    iexact H8
  isplitl [H9]
  · iapply (out_9 m c t d9)
    iexact H9
  isplitl [H10]
  · iapply (out_10 m c t d10)
    iexact H10
  isplitl [H11]
  · iapply (out_11 m c t d11)
    iexact H11
  iapply (out_12 m c t d12)
  iexact H12

end Cert.KernelIdeal.Fox

end
-- ==== Proof.Idl.Main.lean ====
/-
  The run of the whole program, and its frame.
-/
module

public import proofs.«01_k».proof.Proof.Idl.Run

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem Phi_last (c : Dev nD) : (dats m 0 c).Φ (Fin.last cfg0.N) ⊢ (Pipeline.ΦA spec0 c : sProp 𝕄) :=
  show PhiN m c cfg0.N ⊢ _ from Phi_out m c _

set_option backward.isDefEq.respectTransparency.types false in
set_option maxHeartbeats 1000000 in
/-- The run of the whole program: every array at its contents after the last write-back, the counters at zero. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) 0 launch0 (defs₀ (F := F)) Variants.none m ρ (main (F := F))
    (fun c => (body_obligation m c).loose) (fun c => (dats m 0 c).share_full fun _ => rfl) (fun _ _ => rfl) (V m)
    (hmain m Variants.none) (fun _ _ => rfl) (fun c => Phi_in m c) (fun c => Phi_last m c) (Q' := _) (fun _ h => h)

theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.KernelIdeal.Fox

end
-- ==== Proof.Frames.lean ====
/-
  The frames of the three programs, and the naming of the kernel's two constants.
-/
module

public import proofs.«01_k».proof.Defs
public import proofs.«01_k».proof.Proof.Gen.ReferenceIdeal.Run
public import proofs.«01_k».proof.Proof.Gen.Pre_finite
public import proofs.«01_k».proof.Proof.Idl.Main
public import proofs.«01_k».proof.Proof.Ker.Main
public import Idealize.ShloMosaic.Lib.Quiescent

@[expose] public section

noncomputable section

namespace Cert.FoxClaims

open Idealize.ShloMosaic Idealize.SL.Sem

/-- The call as printed, on bit patterns. -/
theorem frame_kernel : Cert.quiescent_Kernel := fun m g _ => Cert.Kernel.Fox.frame_run m g

/-- The call with its constants named, on extended reals. -/
theorem frame_ideal : Cert.quiescent_KernelIdeal := fun m g _ => Cert.KernelIdeal.Fox.frame_run m g

theorem frame_ideal_finite : Cert.quiescent_KernelIdeal_pre_finite := fun m g _ => Cert.KernelIdeal.Fox.frame_run m g

/-- The reference's run with its arguments and, as it has no semaphores, its counters. -/
theorem ref_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono
    (fun r h => ⟨fun c => (h c).2.2.2.2.2, sem_eq_zero_of_no_sems (by decide) r.2⟩) (Cert.ReferenceIdeal.Value.run m g)

theorem frame_reference : Cert.quiescent_ReferenceIdeal := fun m g _ => ref_run m g

theorem frame_reference_finite : Cert.quiescent_ReferenceIdeal_pre_finite := fun m g _ => ref_run m g

/-- The mask's constant stands for −∞ and the other for 1 / ln 2. -/
theorem preserves : Cert.preserves_Kernel_KernelIdeal :=
  ⟨IdealRules.named_const.statement Cert.KernelIdeal.κ "neg_inf" .f32 0xF149F2CA#32 ⊥ rfl,
    IdealRules.named_const.statement Cert.KernelIdeal.κ "log2e" .f32 0x3FB8AA3B#32 (((Real.log 2)⁻¹ : ℝ) : EReal) rfl⟩

end Cert.FoxClaims

end
-- ==== Proof.Val.Words.lean ====
module

public import proofs.«01_k».proof.Proof.Idl.Traj
public import Idealize.ShloMosaic.Lib.Pointwise
public import Idealize.ShloMosaic.Lib.WordCmp
public import Idealize.ShloMosaic.Lib.Tactic.WordOmega

@[expose] public section

set_option maxRecDepth 1500

noncomputable section

namespace Cert.KernelIdeal.Fox

open Cert.KernelIdeal Cert.KernelIdeal.Gen
open Idealize.ShloMosaic Idealize.ShloMosaic.TcCoe Idealize.SL.Sem

theorem mask_word (J I r c : ℕ) (hJ : J < 13) (hI : I < 13) (hr : r < 640) (hc : c < 640) :
    IntOp.andi (IntOp.cmpi CmpIPredicate.sle (IntOp.addi (Scalar.muli (BitVec.ofNat 32 J) 640#32) (BitVec.ofNat 32 c))
          (IntOp.addi (Scalar.muli (BitVec.ofNat 32 I) 640#32) (BitVec.ofNat 32 r)))
        (IntOp.cmpi CmpIPredicate.sge (IntOp.addi (Scalar.muli (BitVec.ofNat 32 J) 640#32) (BitVec.ofNat 32 c)) 112#32) = 1#1
      ↔ 640 * J + c ≤ 640 * I + r ∧ 112 ≤ 640 * J + c := by
  have e : ∀ a b : ℕ, a < 13 → b < 640 → IntOp.addi (Scalar.muli (BitVec.ofNat 32 a) 640#32) (BitVec.ofNat 32 b) = BitVec.ofNat 32 (640 * a + b) := by
    intro a b ha hb
    apply BitVec.eq_of_toNat_eq
    simp [IntOp.addi, Scalar.muli, IntOp.muli]
    omega
  rw [e J c hJ hc, e I r hI hr]
  word_omega

theorem half_word (x : ℕ) (h : x < 128) : IntOp.cmpi CmpIPredicate.slt (BitVec.ofNat 32 x) 64#32 = 1#1 ↔ x < 64 := by
  word_omega
theorem half_word' (x : ℕ) (h : x < 128) : IntOp.cmpi CmpIPredicate.sge (BitVec.ofNat 32 x) 64#32 = 1#1 ↔ ¬ x < 64 := by
  word_omega
theorem lane_word (x y : ℕ) (h : x < 128) (hy : y < 128) : IntOp.cmpi CmpIPredicate.eq (BitVec.ofNat 32 x) (BitVec.ofNat 32 y) = 1#1 ↔ x = y := by
  word_omega
theorem pair_word (p h : ℕ) (hp : p < 4) (hh : h < 2) : Scalar.addi (Scalar.muli 2#32 (BitVec.ofNat 32 p)) (BitVec.ofNat 32 h) = BitVec.ofNat 32 (2 * p + h) := by
  apply BitVec.eq_of_toNat_eq
  simp [IntOp.addi, Scalar.muli, Scalar.addi, IntOp.muli]

theorem c3_iff : ∀ t : Fin grid0.N, k0_cond3 (grid0.coords t) = 1#1 ↔ t.val % 169 / 13 ≤ t.val % 13 := by decide +kernel
theorem c4_iff : ∀ t : Fin grid0.N, k0_cond4 (grid0.coords t) = 1#1 ↔ (t.val % 169 / 13 = t.val % 13 ∨ t.val % 169 / 13 = 0) := by decide +kernel
theorem c5_iff : ∀ t : Fin grid0.N, k0_cond5 (grid0.coords t) = 1#1 ↔ ¬ (t.val % 169 / 13 = t.val % 13 ∨ t.val % 169 / 13 = 0) := by decide +kernel
theorem co0 : ∀ t : Fin grid0.N, (grid0.coords t 0).val = t.val / 169 := by decide +kernel
theorem co1 : ∀ t : Fin grid0.N, (grid0.coords t 1).val = t.val % 169 / 13 := by decide +kernel
theorem co2 : ∀ t : Fin grid0.N, (grid0.coords t 2).val = t.val % 13 := by decide +kernel
theorem off1_0 : ∀ t : Fin grid0.N, k0_off1 (grid0.coords t) 0 = 640 * (t.val % 13) ∧ k0_off1 (grid0.coords t) 1 = 0 := by decide +kernel
theorem off2_0 : ∀ t : Fin grid0.N, k0_off2 (grid0.coords t) 0 = 640 * (t.val % 13) ∧ k0_off2 (grid0.coords t) 1 = 0 := by decide +kernel

end Cert.KernelIdeal.Fox
-- ==== Proof.Val.Tile.lean ====
/-
  One 640 by 640 tile of the backward pass at an element: the probabilities of a head, the gradient of its scores,
  with and without the mask.
-/
module

public import proofs.«01_k».proof.Proof.Val.Words

@[expose] public section

set_option maxRecDepth 8000

noncomputable section

namespace Cert.KernelIdeal.Fox

open Cert.KernelIdeal Cert.KernelIdeal.Gen
open Idealize.ShloMosaic Idealize.ShloMosaic.TcCoe Idealize.SL.Sem

/-- The lane of a pair's head `h` in the arrays that hold one lane a head. -/
def lane (p h : ℕ) : Fin 128 := ⟨(2 * p + h) % 128, Nat.mod_lt _ (by norm_num)⟩

/-- The lane of a head within its pair. -/
def hl (h : Fin 2) : Fin 128 := ⟨h.val, by omega⟩

/-- The entries of a tile a query may see: key `640 J + c` is not after query `640 I + r` and is no padding row. -/
def okT (J I : ℕ) (r c : Fin 640) : Prop := 640 * J + c.val ≤ 640 * I + r.val ∧ 112 ≤ 640 * J + c.val

instance (J I : ℕ) (r c : Fin 640) : Decidable (okT J I r c) := by unfold okT; infer_instance

/-- A product of a row of `a` with a row of `b` over the 64 columns of head `h`. -/
def dotH (h : Fin 2) (a b : S640x128.Idx → EReal) (r c : Fin 640) : EReal :=
  ∑ d : Fin 128, if d.val / 64 = h.val then a (ix2 r d) * b (ix2 c d) else 0

/-- The score of a query and a key. -/
def scT (p : ℕ) (h : Fin 2) (x : Ins Ideal) (r c : Fin 640) : EReal :=
  dotH h x.q x.k r c + x.fs (ix2 r (lane p h.val)) - x.fr (ix3 h 0 c)

/-- Its probability. -/
def pT (p J I : ℕ) (h : Fin 2) (x : Ins Ideal) (r c : Fin 640) : EReal :=
  if okT J I r c then Ideal.exp2 (scT p h x r c - x.lse (ix2 r (hl h))) else 0

/-- The gradient of the score. -/
def dT (p J I : ℕ) (h : Fin 2) (x : Ins Ideal) (r c : Fin 640) : EReal :=
  pT p J I h x r c * (dotH h x.dO x.v r c - x.dl (ix2 r (lane p h.val)))

theorem sum_lane (f : Fin 128 → EReal) (l : Fin 128) : (∑ x, if x = l then f x else 0) = f l := by
  simp

theorem sel_iff {P : Prop} [Decidable P] {c : BitVec 1} (h : c = 1#1 ↔ P) (a b : EReal) :
    Scalar.select c a b = if P then a else b := by
  unfold Scalar.select
  by_cases hP : P
  · rw [if_pos hP, h.mpr hP]; rfl
  · rw [if_neg hP]; exact if_neg (fun e => hP (h.mp e))

theorem sel_half0 (x : Fin 128) (a b : EReal) :
    Scalar.select (IntOp.cmpi CmpIPredicate.slt (BitVec.ofNat 32 x.val) 64#32) a b = if x.val / 64 = (0 : Fin 2).val then a else b :=
  sel_iff ((half_word x.val x.isLt).trans (by have := x.isLt; simp only [Fin.val_zero]; omega)) a b
theorem sel_half1 (x : Fin 128) (a b : EReal) :
    Scalar.select (IntOp.cmpi CmpIPredicate.sge (BitVec.ofNat 32 x.val) 64#32) a b = if x.val / 64 = (1 : Fin 2).val then a else b :=
  sel_iff ((half_word' x.val x.isLt).trans (by have := x.isLt; simp only [Fin.val_one]; omega)) a b
theorem sel_hl0 (x : Fin 128) (a b : EReal) :
    Scalar.select (IntOp.cmpi CmpIPredicate.eq (BitVec.ofNat 32 x.val) 0#32) a b = if x = hl 0 then a else b :=
  sel_iff ((lane_word x.val 0 x.isLt (by norm_num)).trans (by rw [Fin.ext_iff]; rfl)) a b
theorem sel_hl1 (x : Fin 128) (a b : EReal) :
    Scalar.select (IntOp.cmpi CmpIPredicate.eq (BitVec.ofNat 32 x.val) 1#32) a b = if x = hl 1 then a else b :=
  sel_iff ((lane_word x.val 1 x.isLt (by norm_num)).trans (by rw [Fin.ext_iff]; rfl)) a b
theorem sel_lane0 (i : grid0.Coords) (x : Fin 128) (a b : EReal) :
    Scalar.select (IntOp.cmpi CmpIPredicate.eq (BitVec.ofNat 32 x.val) (Scalar.addi (Scalar.muli (2#32) (w0 i)) 0#32)) a b
      = if x = lane (i 0).val (0 : Fin 2).val then a else b := by
  have hp : (i 0).val < 4 := (i 0).isLt
  refine sel_iff ?_ a b
  rw [show (0#32 : BitVec 32) = BitVec.ofNat 32 0 from rfl, pair_word _ 0 hp (by norm_num),
    lane_word x.val _ x.isLt (by omega), Fin.ext_iff]
  simp only [lane, Fin.val_zero]; omega
theorem sel_lane1 (i : grid0.Coords) (x : Fin 128) (a b : EReal) :
    Scalar.select (IntOp.cmpi CmpIPredicate.eq (BitVec.ofNat 32 x.val) (Scalar.addi (Scalar.muli (2#32) (w0 i)) 1#32)) a b
      = if x = lane (i 0).val (1 : Fin 2).val then a else b := by
  have hp : (i 0).val < 4 := (i 0).isLt
  refine sel_iff ?_ a b
  rw [show (1#32 : BitVec 32) = BitVec.ofNat 32 1 from rfl, pair_word _ 1 hp (by norm_num),
    lane_word x.val _ x.isLt (by omega), Fin.ext_iff]
  simp only [lane, Fin.val_one]; omega
theorem sel_mask (i : grid0.Coords) (r c : Fin 640) (a b : EReal) :
    Scalar.select (IntOp.andi
        (IntOp.cmpi CmpIPredicate.sle (IntOp.addi (Scalar.muli (w1 i) 640#32) (BitVec.ofNat 32 c.val))
          (IntOp.addi (Scalar.muli (w2 i) 640#32) (BitVec.ofNat 32 r.val)))
        (IntOp.cmpi CmpIPredicate.sge (IntOp.addi (Scalar.muli (w1 i) 640#32) (BitVec.ofNat 32 c.val)) 112#32)) a b
      = if okT (i 1).val (i 2).val r c then a else b :=
  sel_iff (mask_word _ _ _ _ (i 1).isLt (i 2).isLt r.isLt c.isLt) a b

theorem mP0_at (i : grid0.Coords) (x : Ins Ideal) (r c : Fin 640) :
    mP0 i x (ix2 r c) = pT (i 0).val (i 1).val (i 2).val 0 x r c := by
  unfold mP0
  pointwise [k0_pay15, k0_pay12, k0_pay13, k0_pay14, k0_pay10, k0_pay11]
  simp only [sel_half0, sel_hl0, sel_lane0, sel_mask, sum_lane]
  unfold pT scT dotH
  split <;> rfl

theorem mD0_at (i : grid0.Coords) (x : Ins Ideal) (r c : Fin 640) :
    mD0 i x (ix2 r c) = dT (i 0).val (i 1).val (i 2).val 0 x r c := by
  unfold mD0
  pointwise [k0_pay16, k0_pay15, k0_pay12, k0_pay13, k0_pay14, k0_pay10, k0_pay11]
  simp only [sel_half0, sel_hl0, sel_lane0, sel_mask, sum_lane]
  unfold dT pT scT dotH
  split
  · rfl
  · rw [zero_mul]

theorem mP1_at (i : grid0.Coords) (x : Ins Ideal) (r c : Fin 640) :
    mP1 i x (ix2 r c) = pT (i 0).val (i 1).val (i 2).val 1 x r c := by
  unfold mP1
  pointwise [k0_pay27, k0_pay25, k0_pay26, k0_pay24]
  simp only [sel_half1, sel_hl1, sel_lane1, sel_mask, sum_lane]
  unfold pT scT dotH
  split <;> rfl

theorem mV1_at (x : Ins Ideal) (r c : Fin 640) : mV1 x (ix2 r c) = dotH 1 x.dO x.v r c := by
  unfold mV1
  pointwise [k0_pay28, k0_pay24]
  simp only [sel_half1]
  rfl

theorem mL1_at (i : grid0.Coords) (x : Ins Ideal) (r : Fin 640) : mL1 i x (ix1 r) = x.dl (ix2 r (lane (i 0).val (1 : Fin 2).val)) := by
  unfold mL1
  pointwise [k0_pay29]
  simp only [sel_lane1, sum_lane]
  rfl

/-- Without the mask: the same values where the whole tile is in sight. -/
theorem uP0_at (i : grid0.Coords) (x : Ins Ideal) (r c : Fin 640) (h : okT (i 1).val (i 2).val r c) :
    k0_pay39 (uS0 i x) (uL0 x) (ix2 r c) = pT (i 0).val (i 1).val (i 2).val 0 x r c := by
  unfold uS0 uL0
  pointwise [k0_pay39, k0_pay36, k0_pay37, k0_pay38]
  simp only [sel_half0, sel_hl0, sel_lane0, sum_lane]
  unfold pT scT dotH
  rw [if_pos h]
  rfl

theorem uD0_at (i : grid0.Coords) (x : Ins Ideal) (r c : Fin 640) (h : okT (i 1).val (i 2).val r c) :
    uD0 i x (ix2 r c) = dT (i 0).val (i 1).val (i 2).val 0 x r c := by
  unfold uD0 uS0 uL0
  pointwise [k0_pay40, k0_pay39, k0_pay36, k0_pay37, k0_pay38]
  simp only [sel_half0, sel_hl0, sel_lane0, sum_lane]
  unfold dT pT scT dotH
  rw [if_pos h]
  rfl

theorem uE0_at (i : grid0.Coords) (x : Ins Ideal) (r c : Fin 640) (h : okT (i 1).val (i 2).val r c) :
    uE0 i x (ix2 r c) = dT (i 0).val (i 1).val (i 2).val 0 x r c := by
  unfold uE0 uS0 uL0
  pointwise [k0_pay41, k0_pay40, k0_pay39, k0_pay36, k0_pay37, k0_pay38]
  simp only [sel_half0, sel_hl0, sel_lane0, sum_lane]
  unfold dT pT scT dotH
  rw [if_pos h]
  rfl

theorem uP1_at (i : grid0.Coords) (x : Ins Ideal) (r c : Fin 640) (h : okT (i 1).val (i 2).val r c) :
    uP1 i x (ix2 r c) = pT (i 0).val (i 1).val (i 2).val 1 x r c := by
  unfold uP1
  pointwise [k0_pay50, k0_pay47, k0_pay48, k0_pay49]
  simp only [sel_half1, sel_hl1, sel_lane1, sum_lane]
  unfold pT scT dotH
  rw [if_pos h]
  rfl

theorem uD1_at (i : grid0.Coords) (x : Ins Ideal) (r c : Fin 640) (h : okT (i 1).val (i 2).val r c) :
    uD1 i x (ix2 r c) = dT (i 0).val (i 1).val (i 2).val 1 x r c := by
  unfold uD1
  pointwise [k0_pay53, k0_pay52, k0_pay51, k0_pay49]
  rw [uP1_at i x r c h]
  simp only [sel_half1, sel_hl1, sel_lane1, sum_lane]
  unfold dT dotH
  rfl

theorem uE1_at (i : grid0.Coords) (x : Ins Ideal) (r c : Fin 640) (h : okT (i 1).val (i 2).val r c) :
    uE1 i x (ix2 r c) = dT (i 0).val (i 1).val (i 2).val 1 x r c := by
  unfold uE1
  pointwise [k0_pay54, k0_pay53, k0_pay52, k0_pay51, k0_pay49]
  rw [uP1_at i x r c h]
  simp only [sel_half1, sel_hl1, sel_lane1, sum_lane]
  unfold dT dotH
  rfl

end Cert.KernelIdeal.Fox

end
-- ==== Proof.Val.Adds.lean ====
/-
  What one tile adds to the five carried buffers, at an element.
-/
module

public import proofs.«01_k».proof.Proof.Val.Tile

@[expose] public section

set_option maxRecDepth 8000

noncomputable section

namespace Cert.KernelIdeal.Fox

open Cert.KernelIdeal Cert.KernelIdeal.Gen
open Idealize.ShloMosaic Idealize.ShloMosaic.TcCoe Idealize.SL.Sem

/-- The head a column belongs to. -/
def hd (d : Fin 128) : Fin 2 := ⟨d.val / 64, by omega⟩

def addV (p J I : ℕ) (h : Fin 2) (x : Ins Ideal) (c : Fin 640) (d : Fin 128) : EReal := ∑ r, pT p J I h x r c * x.dO (ix2 r d)
def addK (p J I : ℕ) (h : Fin 2) (x : Ins Ideal) (c : Fin 640) (d : Fin 128) : EReal := ∑ r, dT p J I h x r c * x.q (ix2 r d)
def addF (p J I : ℕ) (h : Fin 2) (x : Ins Ideal) (c : Fin 640) : EReal := ∑ r, dT p J I h x r c
def addQ (p J I : ℕ) (x : Ins Ideal) (r : Fin 640) (d : Fin 128) : EReal := ∑ c, dT p J I (hd d) x r c * x.k (ix2 c d)
def addG (p J I : ℕ) (x : Ins Ideal) (r : Fin 640) (d : Fin 128) : EReal :=
  if d = hl 0 then ∑ c, dT p J I 0 x r c else if d = hl 1 then ∑ c, dT p J I 1 x r c else 0

theorem rk0_emb (c : Fin 640) (d : Fin 128) : rk0.emb (ix3 0 c d) = (ix3 0 c d : S2x640x128.Idx) := by
  funext k; fin_cases k
  · rfl
  · exact Fin.ext (by show 0 + 1 * c.val = c.val; omega)
  · exact Fin.ext (by show 0 + 1 * d.val = d.val; omega)
theorem rk1_emb (c : Fin 640) (d : Fin 128) : rk1.emb (ix3 0 c d) = (ix3 1 c d : S2x640x128.Idx) := by
  funext k; fin_cases k
  · rfl
  · exact Fin.ext (by show 0 + 1 * c.val = c.val; omega)
  · exact Fin.ext (by show 0 + 1 * d.val = d.val; omega)
theorem rf0_emb (c : Fin 640) : rf0.emb (ix3 0 0 c) = (ix3 0 0 c : S2x1x640.Idx) := by
  funext k; fin_cases k
  · rfl
  · rfl
  · exact Fin.ext (by show 0 + 1 * c.val = c.val; omega)
theorem rf1_emb (c : Fin 640) : rf1.emb (ix3 0 0 c) = (ix3 1 0 c : S2x1x640.Idx) := by
  funext k; fin_cases k
  · rfl
  · rfl
  · exact Fin.ext (by show 0 + 1 * c.val = c.val; omega)

/-- Two planes stored one after the other, read at the first and at the second. -/
theorem canonK0 (u v : Vec Ideal S1x640x128 .f32) (c : Fin 640) (d : Fin 128) :
    View.canon (Val := Elt Ideal) (e := .f32) [⟨rk1, u⟩, ⟨rk0, v⟩] (ix3 0 c d : S2x640x128.Idx) = v (ix3 0 c d) := by
  rw [View.canon_cons_of_not_mem, ← rk0_emb, View.canon_cons_emb]
  intro e
  have h : 1 ≤ 0 := (Rect.mem_set_unit (inb := inb_S2x640x128_S1x640x128_1_0_0).mp e (0 : Fin 3)).1
  omega
theorem canonK1 (u v : Vec Ideal S1x640x128 .f32) (c : Fin 640) (d : Fin 128) :
    View.canon (Val := Elt Ideal) (e := .f32) [⟨rk1, u⟩, ⟨rk0, v⟩] (ix3 1 c d : S2x640x128.Idx) = u (ix3 0 c d) := by
  rw [← rk1_emb, View.canon_cons_emb]
theorem canonF0 (u v : Vec Ideal S1x1x640 .f32) (c : Fin 640) :
    View.canon (Val := Elt Ideal) (e := .f32) [⟨rf1, u⟩, ⟨rf0, v⟩] (ix3 0 0 c : S2x1x640.Idx) = v (ix3 0 0 c) := by
  rw [View.canon_cons_of_not_mem, ← rf0_emb, View.canon_cons_emb]
  intro e
  have h : 1 ≤ 0 := (Rect.mem_set_unit (inb := inb_S2x1x640_S1x1x640_1_0_0).mp e (0 : Fin 3)).1
  omega
theorem canonF1 (u v : Vec Ideal S1x1x640 .f32) (c : Fin 640) :
    View.canon (Val := Elt Ideal) (e := .f32) [⟨rf1, u⟩, ⟨rf0, v⟩] (ix3 1 0 c : S2x1x640.Idx) = u (ix3 0 0 c) := by
  rw [← rf1_emb, View.canon_cons_emb]

/-- A block of 640 rows put into an array of rows. -/
theorem put_rows (a : S8320x128.Idx → EReal) (off : Fin 2 → ℕ) (w : S640x128.Idx → EReal) (I : ℕ) (h0 : off 0 = 640 * I) (h1 : off 1 = 0)
    (y : Fin 8320) (d : Fin 128) :
    VecWindow.put (s := S8320x128) a off S640x128.size w (ix2 y d)
      = if y.val / 640 = I then w (ix2 ⟨y.val % 640, Nat.mod_lt _ (by norm_num)⟩ d) else a (ix2 y d) := by
  have hd := d.isLt
  unfold VecWindow.put
  by_cases hy : y.val / 640 = I
  · rw [if_pos hy, dif_pos (by
      intro k; fin_cases k
      · show off 0 ≤ y.val ∧ y.val < off 0 + 640
        omega
      · show off 1 ≤ d.val ∧ d.val < off 1 + 128
        omega)]
    congr 1
    funext k; fin_cases k
    · exact Fin.ext (by show y.val - off 0 = y.val % 640; omega)
    · exact Fin.ext (by show d.val - off 1 = d.val; omega)
  · rw [if_neg hy, dif_neg]
    intro h
    have : off 0 ≤ y.val ∧ y.val < off 0 + 640 := h 0
    omega

theorem ld_rows (a : Vec Ideal S8320x128 .f32) (off : Fin 2 → ℕ) (inb) (I : ℕ) (h0 : off 0 = 640 * I) (h1 : off 1 = 0)
    (y : Fin 8320) (hy : y.val / 640 = I) (d : Fin 128) :
    View.ld (Val := Elt Ideal) (e' := .f32) a (Rect.unit (s := S8320x128) off S640x128.size inb) (ix2 ⟨y.val % 640, Nat.mod_lt _ (by norm_num)⟩ d) = a (ix2 y d) := by
  show a _ = a _
  congr 1
  funext k; fin_cases k
  · exact Fin.ext (by show off 0 + 1 * (y.val % 640) = y.val; omega)
  · exact Fin.ext (by show off 1 + 1 * d.val = d.val; omega)

/-- Of the two heads' sums, each kept in its own columns, one is left. -/
theorem head_sum (b : EReal) (d : Fin 128) (u v : Fin 640 → EReal) (w : Fin 2 → Fin 640 → EReal) (h0 : u = w 0) (h1 : v = w 1) :
    b + (∑ c, Scalar.select (IntOp.cmpi CmpIPredicate.slt (BitVec.ofNat 32 d.val) 64#32) (u c) 0
        + ∑ c, Scalar.select (IntOp.cmpi CmpIPredicate.sge (BitVec.ofNat 32 d.val) 64#32) (v c) 0) = b + ∑ c, w (hd d) c := by
  subst h0 h1
  simp only [sel_half0, sel_half1]
  by_cases h : d.val / 64 = 0
  · have e : hd d = 0 := Fin.ext h
    have h' : ¬ d.val / 64 = (1 : Fin 2).val := by rw [h]; decide
    simp only [Fin.val_zero, if_pos h, if_neg h', Finset.sum_const_zero, add_zero, e]
  · have h1 : d.val / 64 = 1 := by have := d.isLt; omega
    have e : hd d = 1 := Fin.ext h1
    have h' : d.val / 64 = (1 : Fin 2).val := h1
    simp only [Fin.val_zero, if_neg h, if_pos h', Finset.sum_const_zero, zero_add, e]

/-- Of the two row sums, each in its own lane. -/
theorem lane_sum (b : EReal) (d : Fin 128) (u v : EReal) :
    (b + if d = hl 1 then v else if d = hl 0 then u else 0) = b + if d = hl 0 then u else if d = hl 1 then v else 0 := by
  by_cases h : d = hl 0
  · have h' : ¬ d = hl 1 := by rw [h]; decide
    rw [if_neg h', if_pos h, if_pos h]
  · rw [if_neg h, if_neg h]

theorem mDva_at (i : grid0.Coords) (x : Ins Ideal) (a : Vec Ideal S2x640x128 .f32) (h : Fin 2) (c : Fin 640) (d : Fin 128) :
    mDva i x a (ix3 h c d) = a (ix3 h c d) + addV (i 0).val (i 1).val (i 2).val h x c d := by
  unfold mDva addV
  fin_cases h
  · refine (canonK0 _ _ c d).trans ?_
    pointwise [k0_pay18]
    simp only [mP0_at]
  · refine (canonK1 _ _ c d).trans ?_
    pointwise [k0_pay32]
    simp only [mP1_at]
theorem mDka_at (i : grid0.Coords) (x : Ins Ideal) (a : Vec Ideal S2x640x128 .f32) (h : Fin 2) (c : Fin 640) (d : Fin 128) :
    mDka i x a (ix3 h c d) = a (ix3 h c d) + addK (i 0).val (i 1).val (i 2).val h x c d := by
  unfold mDka addK
  fin_cases h
  · refine (canonK0 _ _ c d).trans ?_
    pointwise [k0_pay19, k0_pay17]
    simp only [mD0_at]
  · refine (canonK1 _ _ c d).trans ?_
    pointwise [k0_pay33, k0_pay31, k0_pay30]
    simp only [mP1_at, mV1_at, mL1_at]
    rfl
theorem mDfa_at (i : grid0.Coords) (x : Ins Ideal) (a : Vec Ideal S2x1x640 .f32) (h : Fin 2) (c : Fin 640) :
    mDfa i x a (ix3 h 0 c) = a (ix3 h 0 c) - addF (i 0).val (i 1).val (i 2).val h x c := by
  unfold mDfa addF
  fin_cases h
  · refine (canonF0 _ _ c).trans ?_
    pointwise [k0_pay20, k0_pay17]
    simp only [mD0_at]
  · refine (canonF1 _ _ c).trans ?_
    pointwise [k0_pay34, k0_pay30]
    simp only [mP1_at, mV1_at, mL1_at]
    rfl
theorem mDq_at (i : grid0.Coords) (h3 h4) (h0 : k0_off1 i 0 = 640 * (i 2).val) (h1 : k0_off1 i 1 = 0)
    (x : Ins Ideal) (a : Vec Ideal S8320x128 .f32) (y : Fin 8320) (d : Fin 128) :
    mDq i h3 h4 x a (ix2 y d) = if y.val / 640 = (i 2).val then
        a (ix2 y d) + addQ (i 0).val (i 1).val (i 2).val x ⟨y.val % 640, Nat.mod_lt _ (by norm_num)⟩ d else a (ix2 y d) := by
  refine (put_rows a _ _ _ h0 h1 y d).trans ?_
  by_cases hy : y.val / 640 = (i 2).val
  · rw [if_pos hy, if_pos hy, ← ld_rows a _ (k0_off1_inb i h3 h4) _ h0 h1 y hy d]
    generalize (⟨y.val % 640, Nat.mod_lt _ (by norm_num)⟩ : Fin 640) = r
    generalize View.ld a _ = b
    pointwise [k0_pay6, k0_pay22, k0_pay21, k0_pay31, k0_pay30, k0_pay17, k0_pay10, k0_pay11, k0_pay24]
    simp only [mD0_at, mP1_at, mV1_at, mL1_at]
    exact head_sum _ d _ _ (fun h c => dT (i 0).val (i 1).val (i 2).val h x r c * x.k (ix2 c d)) rfl rfl
  · rw [if_neg hy, if_neg hy]
theorem mDfq_at (i : grid0.Coords) (h3 h4) (h0 : k0_off1 i 0 = 640 * (i 2).val) (h1 : k0_off1 i 1 = 0)
    (x : Ins Ideal) (a : Vec Ideal S8320x128 .f32) (y : Fin 8320) (d : Fin 128) :
    mDfq i h3 h4 x a (ix2 y d) = if y.val / 640 = (i 2).val then
        a (ix2 y d) + addG (i 0).val (i 1).val (i 2).val x ⟨y.val % 640, Nat.mod_lt _ (by norm_num)⟩ d else a (ix2 y d) := by
  refine (put_rows a _ _ _ h0 h1 y d).trans ?_
  by_cases hy : y.val / 640 = (i 2).val
  · rw [if_pos hy, if_pos hy, ← ld_rows a _ (k0_off1_inb i h3 h4) _ h0 h1 y hy d]
    generalize (⟨y.val % 640, Nat.mod_lt _ (by norm_num)⟩ : Fin 640) = r
    generalize View.ld a _ = b
    pointwise [k0_pay7, k0_pay23, k0_pay30]
    simp only [mD0_at, mP1_at, mV1_at, mL1_at]
    simp only [sel_hl0, sel_hl1]
    exact lane_sum _ d _ _
  · rw [if_neg hy, if_neg hy]

/-! ## Without the mask, where the whole tile is in sight -/

theorem uE1_at' (i : grid0.Coords) (x : Ins Ideal) (r c : Fin 640) (h : okT (i 1).val (i 2).val r c) :
    k0_pay54 (w0 i) (uP1 i x) (k0_pay51 x.dO) (k0_pay52 x.v) x.dl (ix2 r c) = dT (i 0).val (i 1).val (i 2).val 1 x r c := uE1_at i x r c h

variable (i : grid0.Coords) (hok : ∀ r c, okT (i 1).val (i 2).val r c)
include hok

theorem uDva_at (x : Ins Ideal) (a : Vec Ideal S2x640x128 .f32) (h : Fin 2) (c : Fin 640) (d : Fin 128) :
    uDva i x a (ix3 h c d) = a (ix3 h c d) + addV (i 0).val (i 1).val (i 2).val h x c d := by
  unfold uDva addV
  fin_cases h
  · refine (canonK0 _ _ c d).trans ?_
    pointwise [k0_pay42]
    simp only [uP0_at, hok]
  · refine (canonK1 _ _ c d).trans ?_
    pointwise [k0_pay55]
    simp only [uP1_at, hok]
theorem uDka_at (x : Ins Ideal) (a : Vec Ideal S2x640x128 .f32) (h : Fin 2) (c : Fin 640) (d : Fin 128) :
    uDka i x a (ix3 h c d) = a (ix3 h c d) + addK (i 0).val (i 1).val (i 2).val h x c d := by
  unfold uDka addK
  fin_cases h
  · refine (canonK0 _ _ c d).trans ?_
    pointwise [k0_pay43]
    simp only [uE0_at, hok]
  · refine (canonK1 _ _ c d).trans ?_
    pointwise [k0_pay57, k0_pay56]
    simp only [uE1_at', hok]
theorem uDfa_at (x : Ins Ideal) (a : Vec Ideal S2x1x640 .f32) (h : Fin 2) (c : Fin 640) :
    uDfa i x a (ix3 h 0 c) = a (ix3 h 0 c) - addF (i 0).val (i 1).val (i 2).val h x c := by
  unfold uDfa addF
  fin_cases h
  · refine (canonF0 _ _ c).trans ?_
    pointwise [k0_pay44]
    simp only [uD0_at, hok]
  · refine (canonF1 _ _ c).trans ?_
    pointwise [k0_pay58]
    simp only [uD1_at, hok]
theorem uDq_at (h3 h5) (h0 : k0_off2 i 0 = 640 * (i 2).val) (h1 : k0_off2 i 1 = 0)
    (x : Ins Ideal) (a : Vec Ideal S8320x128 .f32) (y : Fin 8320) (d : Fin 128) :
    uDq i h3 h5 x a (ix2 y d) = if y.val / 640 = (i 2).val then
        a (ix2 y d) + addQ (i 0).val (i 1).val (i 2).val x ⟨y.val % 640, Nat.mod_lt _ (by norm_num)⟩ d else a (ix2 y d) := by
  refine (put_rows a _ _ _ h0 h1 y d).trans ?_
  by_cases hy : y.val / 640 = (i 2).val
  · rw [if_pos hy, if_pos hy, ← ld_rows a _ (k0_off2_inb i h3 h5) _ h0 h1 y hy d]
    generalize (⟨y.val % 640, Nat.mod_lt _ (by norm_num)⟩ : Fin 640) = r
    generalize View.ld a _ = b
    pointwise [k0_pay59, k0_pay45, k0_pay35, k0_pay36, k0_pay49]
    simp only [uE0_at, uE1_at, hok]
    exact head_sum _ d _ _ (fun h c => dT (i 0).val (i 1).val (i 2).val h x r c * x.k (ix2 c d)) rfl rfl
  · rw [if_neg hy, if_neg hy]
theorem uDfq_at (h3 h5) (h0 : k0_off2 i 0 = 640 * (i 2).val) (h1 : k0_off2 i 1 = 0)
    (x : Ins Ideal) (a : Vec Ideal S8320x128 .f32) (y : Fin 8320) (d : Fin 128) :
    uDfq i h3 h5 x a (ix2 y d) = if y.val / 640 = (i 2).val then
        a (ix2 y d) + addG (i 0).val (i 1).val (i 2).val x ⟨y.val % 640, Nat.mod_lt _ (by norm_num)⟩ d else a (ix2 y d) := by
  refine (put_rows a _ _ _ h0 h1 y d).trans ?_
  by_cases hy : y.val / 640 = (i 2).val
  · rw [if_pos hy, if_pos hy, ← ld_rows a _ (k0_off2_inb i h3 h5) _ h0 h1 y hy d]
    generalize (⟨y.val % 640, Nat.mod_lt _ (by norm_num)⟩ : Fin 640) = r
    generalize View.ld a _ = b
    pointwise [k0_pay60, k0_pay46]
    simp only [uD0_at, uD1_at, hok]
    simp only [sel_hl0, sel_hl1]
    exact lane_sum _ d _ _
  · rw [if_neg hy, if_neg hy]

end Cert.KernelIdeal.Fox

end
-- ==== Proof.Val.Sums.lean ====
/-
  The carried buffers along the grid, at an element, as sums.
-/
module

public import proofs.«01_k».proof.Proof.Val.Adds

@[expose] public section

set_option maxRecDepth 8000

noncomputable section

namespace Cert.KernelIdeal.Fox

open Cert.KernelIdeal Cert.KernelIdeal.Gen
open Idealize.ShloMosaic Idealize.ShloMosaic.TcCoe Idealize.SL.Sem
open Finset

/-- A buffer cleared every `K` points and added to at each. -/
theorem run_sum (f g : ℕ → EReal) (K N base : ℕ) (hb : base % K = 0)
    (hf : ∀ n < N, f (n + 1) = (if n % K = 0 then 0 else f n) + g n) :
    ∀ m, m < K → base + m < N → f (base + m + 1) = ∑ x ∈ range (m + 1), g (base + x) := by
  intro m
  induction m with
  | zero =>
    intro _ hN
    rw [hf _ hN, if_pos (by rw [Nat.add_zero, hb]), zero_add, sum_range_one]
  | succ m ih =>
    intro hK hN
    have hne : ¬ (base + (m + 1)) % K = 0 := by
      rw [Nat.add_mod, hb, Nat.zero_add, Nat.mod_mod, Nat.mod_eq_of_lt hK]; omega
    rw [hf _ hN, if_neg hne, show base + (m + 1) = base + m + 1 from rfl, ih (by omega) (by omega),
      sum_range_succ _ (m + 1)]
    rfl

/-- A sum over a row of blocks, block by block. -/
theorem sum_blocks {M : Type*} [AddCommMonoid M] (g : ℕ → M) (K : ℕ) : ∀ n, ∑ x ∈ range (K * n), g x = ∑ J ∈ range n, ∑ I ∈ range K, g (K * J + I)
  | 0 => by simp
  | n + 1 => by rw [Nat.mul_succ, sum_range_add, sum_blocks g K n, sum_range_succ]

/-- Every point of a tile is in sight where the kernel leaves the mask out. -/
theorem all_ok (J I : ℕ) (h : J < I) (h0 : J ≠ 0) (r c : Fin 640) : okT J I r c := by
  have := c.isLt
  unfold okT; omega
/-- None is where the key block comes after the query block. -/
theorem none_ok (J I : ℕ) (h : I < J) (r c : Fin 640) : ¬ okT J I r c := by
  have := r.isLt
  unfold okT; omega

theorem pT_zero {p J I : ℕ} {h : Fin 2} {x : Ins Ideal} {r c : Fin 640} (hn : ¬ okT J I r c) : pT p J I h x r c = 0 := if_neg hn
theorem dT_zero {p J I : ℕ} {h : Fin 2} {x : Ins Ideal} {r c : Fin 640} (hn : ¬ okT J I r c) : dT p J I h x r c = 0 := by
  unfold dT; rw [pT_zero hn, zero_mul]

/-! ## One point -/

variable (t : Fin grid0.N) (x : Ins Ideal) (s : St Ideal)

/-- What a tile adds, the buffers as the clearing left them. -/
structure Added (p J I : ℕ) (x : Ins Ideal) (s s' : St Ideal) : Prop where
  dva : ∀ h c d, s'.dva (ix3 h c d) = s.dva (ix3 h c d) + addV p J I h x c d
  dka : ∀ h c d, s'.dka (ix3 h c d) = s.dka (ix3 h c d) + addK p J I h x c d
  dfa : ∀ h c, s'.dfa (ix3 h 0 c) = s.dfa (ix3 h 0 c) - addF p J I h x c
  dq : ∀ (y : Fin 8320) d, s'.dq (ix2 y d) = if y.val / 640 = I then
    s.dq (ix2 y d) + addQ p J I x ⟨y.val % 640, Nat.mod_lt _ (by norm_num)⟩ d else s.dq (ix2 y d)
  dfq : ∀ (y : Fin 8320) d, s'.dfq (ix2 y d) = if y.val / 640 = I then
    s.dfq (ix2 y d) + addG p J I x ⟨y.val % 640, Nat.mod_lt _ (by norm_num)⟩ d else s.dfq (ix2 y d)

theorem m_added (i : grid0.Coords) (h3 h4) (h0 : k0_off1 i 0 = 640 * (i 2).val) (h1 : k0_off1 i 1 = 0) :
    Added (i 0).val (i 1).val (i 2).val x s (mstep i h3 h4 x s) where
  dva h c d := by dsimp only [mstep]; exact mDva_at i x s.dva h c d
  dka h c d := by dsimp only [mstep]; exact mDka_at i x s.dka h c d
  dfa h c := by dsimp only [mstep]; exact mDfa_at i x s.dfa h c
  dq y d := by dsimp only [mstep]; exact mDq_at i h3 h4 h0 h1 x s.dq y d
  dfq y d := by dsimp only [mstep]; exact mDfq_at i h3 h4 h0 h1 x s.dfq y d

theorem u_added (i : grid0.Coords) (hok : ∀ r c, okT (i 1).val (i 2).val r c) (h3 h5) (h0 : k0_off2 i 0 = 640 * (i 2).val)
    (h1 : k0_off2 i 1 = 0) : Added (i 0).val (i 1).val (i 2).val x s (ustep i h3 h5 x s) where
  dva h c d := by dsimp only [ustep]; exact uDva_at i hok x s.dva h c d
  dka h c d := by dsimp only [ustep]; exact uDka_at i hok x s.dka h c d
  dfa h c := by dsimp only [ustep]; exact uDfa_at i hok x s.dfa h c
  dq y d := by dsimp only [ustep]; exact uDq_at i hok h3 h5 h0 h1 x s.dq y d
  dfq y d := by dsimp only [ustep]; exact uDfq_at i hok h3 h5 h0 h1 x s.dfq y d

theorem n_added (p J I : ℕ) (hJ : I < J) : Added p J I x s s := by
  have hn := none_ok _ _ hJ
  have z : ∀ h r c, dT p J I h x r c = 0 := fun h r c => dT_zero (hn r c)
  have z' : ∀ h r c, pT p J I h x r c = 0 := fun h r c => pT_zero (hn r c)
  refine ⟨fun h c d => ?_, fun h c d => ?_, fun h c => ?_, fun y d => ?_, fun y d => ?_⟩
  · unfold addV; simp only [z', zero_mul, sum_const_zero, add_zero]
  · unfold addK; simp only [z, zero_mul, sum_const_zero, add_zero]
  · unfold addF; simp only [z, sum_const_zero, sub_zero]
  · unfold addQ; simp only [z, zero_mul, sum_const_zero, add_zero, ite_self]
  · unfold addG; simp only [z, sum_const_zero, add_zero, ite_self]

theorem tile_added : Added (t.val / 169) (t.val % 169 / 13) (t.val % 13) x s (tile (grid0.coords t) x s) := by
  have e0 := co0 t
  have e1 := co1 t
  have e2 := co2 t
  have o1 := off1_0 t
  have o2 := off2_0 t
  have i3 := c3_iff t
  have i4 := c4_iff t
  have i5 := c5_iff t
  rw [← e2] at o1 o2 i3 i4 i5
  rw [← e1] at i3 i4 i5
  rw [← e0, ← e1, ← e2]
  generalize grid0.coords t = i at *
  by_cases h3 : k0_cond3 i = 1#1
  · have hJ := i3.mp h3
    unfold tile
    rw [dif_pos h3]
    by_cases h4 : k0_cond4 i = 1#1
    · have h5 : ¬ k0_cond5 i = 1#1 := fun h => (i5.mp h) (i4.mp h4)
      unfold tileU tileM
      rw [dif_neg h5, dif_pos h4]
      exact m_added x s i h3 h4 o1.1 o1.2
    · have h4' := i4.not.mp h4
      have h5 : k0_cond5 i = 1#1 := i5.mpr h4'
      unfold tileU tileM
      rw [dif_pos h5, dif_neg h4]
      exact u_added x s i (all_ok _ _ (by omega) (by omega)) h3 h5 o2.1 o2.2
  · have hJ := i3.not.mp h3
    unfold tile
    rw [dif_neg h3]
    exact n_added x s _ _ _ (by omega)

theorem clear_at : (∀ y d, (k0_pay1 : FVec Ideal S8320x128 .f32) (ix2 y d) = 0) ∧ (∀ y d, (k0_pay2 : FVec Ideal S8320x128 .f32) (ix2 y d) = 0)
    ∧ (∀ h c d, (k0_pay3 : FVec Ideal S2x640x128 .f32) (ix3 h c d) = 0) ∧ (∀ h c d, (k0_pay4 : FVec Ideal S2x640x128 .f32) (ix3 h c d) = 0)
    ∧ (∀ h c, (k0_pay5 : FVec Ideal S2x1x640 .f32) (ix3 h 0 c) = 0) := by
  refine ⟨fun y d => ?_, fun y d => ?_, fun h c d => ?_, fun h c d => ?_, fun h c => ?_⟩
  · pointwise [k0_pay1]
  · pointwise [k0_pay2]
  · pointwise [k0_pay3]
  · pointwise [k0_pay4]
  · pointwise [k0_pay5]

theorem clr_key : clrK (grid0.coords t) (clrQ (grid0.coords t) s) =
    ⟨if t.val % 169 = 0 then (k0_pay1 : FVec Ideal S8320x128 .f32) else s.dq, if t.val % 169 = 0 then (k0_pay2 : FVec Ideal S8320x128 .f32) else s.dfq,
      if t.val % 13 = 0 then (k0_pay3 : FVec Ideal S2x640x128 .f32) else s.dka, if t.val % 13 = 0 then (k0_pay4 : FVec Ideal S2x640x128 .f32) else s.dva, if t.val % 13 = 0 then (k0_pay5 : FVec Ideal S2x1x640 .f32) else s.dfa⟩ := by
  unfold clrK clrQ
  simp only [c1_iff, first_iff]
  by_cases h : t.val % 169 = 0 <;> by_cases h' : t.val % 13 = 0 <;> simp only [h, h', if_true, if_false]

end Cert.KernelIdeal.Fox

end
-- ==== Proof.Val.Reads.lean ====
/-
  The blocks a point reads, at an element, as the arrays the call is given.
-/
module

public import proofs.«01_k».proof.Proof.Val.Sums
public import Idealize.ShloMosaic.Lib.Pipeline.ValueKit.Geometry

@[expose] public section

set_option maxRecDepth 8000

noncomputable section

namespace Cert.KernelIdeal.Fox

open Cert.KernelIdeal Cert.KernelIdeal.Gen
open Idealize.ShloMosaic Idealize.ShloMosaic.TcCoe Idealize.SL.Sem

variable (m : (ℓ : Loc nD τ sig) → Buf (Elt Ideal) ℓ) (c : Dev nD)

theorem ix0_0 : ∀ t : Fin cfg0.N, win0_0.index t = ![max (t.val % 13) (t.val % 169 / 13), t.val / 169] := (by decide +kernel : ∀ t : Fin grid0.N, _)
theorem ix0_1 : ∀ t : Fin cfg0.N, win0_1.index t = ![t.val % 169 / 13, t.val / 169] := (by decide +kernel : ∀ t : Fin grid0.N, _)
theorem ix0_2 : ∀ t : Fin cfg0.N, win0_2.index t = ![t.val % 169 / 13, 56 + t.val / 169] := (by decide +kernel : ∀ t : Fin grid0.N, _)
theorem ix0_3 : ∀ t : Fin cfg0.N, win0_3.index t = ![max (t.val % 13) (t.val % 169 / 13), 0] := (by decide +kernel : ∀ t : Fin grid0.N, _)
theorem ix0_4 : ∀ t : Fin cfg0.N, win0_4.index t = ![t.val / 169, 0, t.val % 169 / 13] := (by decide +kernel : ∀ t : Fin grid0.N, _)
theorem ix0_5 : ∀ t : Fin cfg0.N, win0_5.index t = ![max (t.val % 13) (t.val % 169 / 13), t.val / 169] := (by decide +kernel : ∀ t : Fin grid0.N, _)
theorem ix0_6 : ∀ t : Fin cfg0.N, win0_6.index t = ![max (t.val % 13) (t.val % 169 / 13), t.val / 169] := (by decide +kernel : ∀ t : Fin grid0.N, _)
theorem ix0_7 : ∀ t : Fin cfg0.N, win0_7.index t = ![max (t.val % 13) (t.val % 169 / 13), 0] := (by decide +kernel : ∀ t : Fin grid0.N, _)

/-! ## The arrays at numbers -/

def AQ (y w : ℕ) : EReal := V m c main_v42 (ix2 (Fin.ofNat 8320 y) (Fin.ofNat 512 w))
def AK (z w : ℕ) : EReal := V m c main_v45 (ix2 (Fin.ofNat 8320 z) (Fin.ofNat 512 w))
def AV (z w : ℕ) : EReal := V m c main_v47 (ix2 (Fin.ofNat 8320 z) (Fin.ofNat 7680 w))
def AF (y l : ℕ) : EReal := V m c main_v55 (ix2 (Fin.ofNat 8320 y) (Fin.ofNat 128 l))
def AR (k z : ℕ) : EReal := V m c main_v60 (ix3 (Fin.ofNat 8 k) 0 (Fin.ofNat 8320 z))
def AO (y w : ℕ) : EReal := V m c main_v52 (ix2 (Fin.ofNat 8320 y) (Fin.ofNat 512 w))
def AL (y w : ℕ) : EReal := V m c main_v69 (ix2 (Fin.ofNat 8320 y) (Fin.ofNat 512 w))
def AD (y l : ℕ) : EReal := V m c main_v65 (ix2 (Fin.ofNat 8320 y) (Fin.ofNat 128 l))

variable (t : Fin cfg0.N)

theorem ins_q (hJ : t.val % 169 / 13 ≤ t.val % 13) (r : Fin 640) (d : Fin 128) :
    (ins m c t).q (ix2 r d) = AQ m c (640 * (t.val % 13) + r.val) (128 * (t.val / 169) + d.val) := by
  have ht : t.val < 676 := t.isLt
  unfold ins AQ
  dsimp only
  blk_simp [iblk, ix0_0]
  congr 1
  blk_ext [ix0_0, Fin.val_ofNat]

theorem ins_k (r : Fin 640) (d : Fin 128) :
    (ins m c t).k (ix2 r d) = AK m c (640 * (t.val % 169 / 13) + r.val) (128 * (t.val / 169) + d.val) := by
  have ht : t.val < 676 := t.isLt
  unfold ins AK
  dsimp only
  blk_simp [iblk, ix0_1]
  congr 1
  blk_ext [ix0_1, Fin.val_ofNat]

theorem ins_v (r : Fin 640) (d : Fin 128) :
    (ins m c t).v (ix2 r d) = AV m c (640 * (t.val % 169 / 13) + r.val) (7168 + (128 * (t.val / 169) + d.val)) := by
  have ht : t.val < 676 := t.isLt
  unfold ins AV
  dsimp only
  blk_simp [iblk, ix0_2]
  congr 1
  blk_ext [ix0_2, Fin.val_ofNat]

theorem ins_fs (hJ : t.val % 169 / 13 ≤ t.val % 13) (r : Fin 640) (d : Fin 128) :
    (ins m c t).fs (ix2 r d) = AF m c (640 * (t.val % 13) + r.val) (d.val) := by
  have ht : t.val < 676 := t.isLt
  unfold ins AF
  dsimp only
  blk_simp [iblk, ix0_3]
  congr 1
  blk_ext [ix0_3, Fin.val_ofNat]

theorem ins_fr (h : Fin 2) (r : Fin 640) :
    (ins m c t).fr (ix3 h 0 r) = AR m c (2 * (t.val / 169) + h.val) (640 * (t.val % 169 / 13) + r.val) := by
  have ht : t.val < 676 := t.isLt
  unfold ins AR
  dsimp only
  blk_simp [iblk, ix0_4]
  congr 1
  blk_ext [ix0_4, Fin.val_ofNat]

theorem ins_dO (hJ : t.val % 169 / 13 ≤ t.val % 13) (r : Fin 640) (d : Fin 128) :
    (ins m c t).dO (ix2 r d) = AO m c (640 * (t.val % 13) + r.val) (128 * (t.val / 169) + d.val) := by
  have ht : t.val < 676 := t.isLt
  unfold ins AO
  dsimp only
  blk_simp [iblk, ix0_5]
  congr 1
  blk_ext [ix0_5, Fin.val_ofNat]

theorem ins_lse (hJ : t.val % 169 / 13 ≤ t.val % 13) (r : Fin 640) (d : Fin 128) :
    (ins m c t).lse (ix2 r d) = AL m c (640 * (t.val % 13) + r.val) (128 * (t.val / 169) + d.val) := by
  have ht : t.val < 676 := t.isLt
  unfold ins AL
  dsimp only
  blk_simp [iblk, ix0_6]
  congr 1
  blk_ext [ix0_6, Fin.val_ofNat]

theorem ins_dl (hJ : t.val % 169 / 13 ≤ t.val % 13) (r : Fin 640) (d : Fin 128) :
    (ins m c t).dl (ix2 r d) = AD m c (640 * (t.val % 13) + r.val) (d.val) := by
  have ht : t.val < 676 := t.isLt
  unfold ins AD
  dsimp only
  blk_simp [iblk, ix0_7]
  congr 1
  blk_ext [ix0_7, Fin.val_ofNat]

end Cert.KernelIdeal.Fox

end
-- ==== Proof.Val.Math.lean ====
/-
  The attention with forgetting and its gradients over the real numbers: what both programs compute when every
  argument is a real number. Rows, heads and columns are numbered from 0; the sums run over the 8208 tokens and over
  the 64 columns of a head.
-/
module

public import Idealize.ShloMosaic.PureOps.Ideal
public import Idealize.ShloMosaic.PureOps.Ideal.Laws
public import Idealize.ShloMosaic.Lib.IdealHost
public import Idealize.ShloMosaic.Lib.Pointwise
public import Idealize.ShloMosaic.Lib.Tactic.WordOmega

@[expose] public section

noncomputable section

namespace Cert.Attn

open Idealize.ShloMosaic

/-- The arguments as real numbers. -/
structure Args where
  q : ℕ → ℕ → ℕ → ℝ
  k : ℕ → ℕ → ℕ → ℝ
  v : ℕ → ℕ → ℕ → ℝ
  f : ℕ → ℕ → ℝ
  g : ℕ → ℕ → ℕ → ℝ

/-- A sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum whose terms are reals is their sum. -/
theorem sum_coe {ι : Type*} {s : Finset ι} {f : ι → EReal} {r : ι → ℝ} (h : ∀ i ∈ s, f i = (r i : EReal)) :
    ∑ i ∈ s, f i = ((∑ i ∈ s, r i : ℝ) : EReal) := (Finset.sum_congr rfl h).trans (coe_sum s r).symm

variable (A : Args)

/-- The score of key `j` for query `i`. -/
def score (h i j : ℕ) : ℝ := (∑ e : Fin 64, A.q i h e * A.k j h e) * (1 / 8) + A.f i h - A.f j h

/-- The greatest score a query sees. -/
def top (h i : ℕ) : ℝ :=
  (Finset.univ.filter fun j : Fin 8208 => j.val ≤ i).sup' ⟨0, by simp⟩ fun j => score A h i j

/-- A key's weight before it is divided by the row's sum. -/
def ex (h i j : ℕ) : ℝ := if j ≤ i then Real.exp (score A h i j - top A h i) else 0
/-- The row's sum. -/
def tot (h i : ℕ) : ℝ := ∑ j : Fin 8208, ex A h i j
/-- The attention's weight. -/
def prob (h i j : ℕ) : ℝ := ex A h i j / tot A h i
/-- The gradient of a weight. -/
def dp (h i j : ℕ) : ℝ := ∑ e : Fin 64, A.g i h e * A.v j h e
/-- The gradient of a score. -/
def ds (h i j : ℕ) : ℝ := prob A h i j * (dp A h i j - ∑ x : Fin 8208, prob A h i x * dp A h i x)

theorem ex_nonneg (h i j : ℕ) : 0 ≤ ex A h i j := by
  unfold ex
  split
  · exact (Real.exp_pos _).le
  · exact le_rfl

theorem tot_pos (h i : ℕ) : 0 < tot A h i := by
  refine Finset.sum_pos' (fun j _ => ex_nonneg A h i j) ⟨0, Finset.mem_univ _, ?_⟩
  unfold ex
  rw [if_pos (show ((0 : Fin 8208) : ℕ) ≤ i from Nat.zero_le _)]
  exact Real.exp_pos _

/-- The greatest of a row's scores, the keys after the query left out. -/
theorem fold_top (h i : ℕ) :
    Finset.fold max (⊥ : EReal) (fun j : Fin 8208 => if j.val ≤ i then (score A h i j : EReal) else ⊥) Finset.univ = (top A h i : EReal) := by
  refine le_antisymm ?_ ?_
  · refine (Finset.fold_max_le _).mpr ⟨bot_le, fun j _ => ?_⟩
    split
    next hj => exact EReal.coe_le_coe_iff.mpr (Finset.le_sup' (fun j : Fin 8208 => score A h i j) (by simpa using hj))
    next => exact bot_le
  · obtain ⟨j, hj, e⟩ := Finset.exists_mem_eq_sup' (s := Finset.univ.filter fun j : Fin 8208 => j.val ≤ i) ⟨0, by simp⟩ fun j => score A h i j
    have hj' : j.val ≤ i := by simpa using hj
    refine (Finset.le_fold_max _).mpr (Or.inr ⟨j, Finset.mem_univ _, ?_⟩)
    rw [if_pos hj']
    exact le_of_eq (congrArg _ e)

theorem ds_of_not {h i j : ℕ} (hj : ¬ j ≤ i) : ds A h i j = 0 := by simp [ds, prob, ex, hj]
theorem prob_of_not {h i j : ℕ} (hj : ¬ j ≤ i) : prob A h i j = 0 := by simp [prob, ex, hj]

/-- The gradient of a score as the chain of operations behind a softmax finds it. -/
theorem ds_chain (h i j : ℕ) :
    (dp A h i j / tot A h i + -(∑ x : Fin 8208, dp A h i x * (1 / (tot A h i * tot A h i)) * ex A h i x)) * ex A h i j = ds A h i j := by
  have ht : tot A h i ≠ 0 := (tot_pos A h i).ne'
  have e : ∑ x : Fin 8208, dp A h i x * (1 / (tot A h i * tot A h i)) * ex A h i x
      = (∑ x : Fin 8208, prob A h i x * dp A h i x) / tot A h i := by
    rw [Finset.sum_div]
    refine Finset.sum_congr rfl fun x _ => ?_
    unfold prob
    field_simp
  rw [e]
  unfold ds
  rw [show prob A h i j = ex A h i j / tot A h i from rfl]
  field_simp
  ring

/-- The weight as a power of two, from the score and the logarithm of the row's sum in units of `log 2`. -/
theorem prob_pow {h i j : ℕ} (hj : j ≤ i) :
    Real.rpow 2 (score A h i j * (Real.log 2)⁻¹ - (top A h i + Real.log (tot A h i)) * (Real.log 2)⁻¹) = prob A h i j := by
  have hl : Real.log 2 ≠ 0 := (Real.log_pos (by norm_num)).ne'
  have e : Real.log 2 * (score A h i j * (Real.log 2)⁻¹ - (top A h i + Real.log (tot A h i)) * (Real.log 2)⁻¹)
      = score A h i j - top A h i - Real.log (tot A h i) := by
    field_simp
    ring
  show (2 : ℝ) ^ (_ : ℝ) = _
  rw [Real.rpow_def_of_pos (by norm_num), e, Real.exp_sub, Real.exp_log (tot_pos A h i)]
  unfold prob ex
  rw [if_pos hj]

/-- The gradient of a score from the attention's output. -/
theorem ds_out (h i j : ℕ) :
    prob A h i j * ((∑ e : Fin 64, (A.g i h e * Real.log 2) * A.v j h e)
      - ∑ e : Fin 64, (∑ x : Fin 8208, A.v x h e * prob A h i x) * (A.g i h e * Real.log 2)) = Real.log 2 * ds A h i j := by
  have e1 : ∑ e : Fin 64, (A.g i h e * Real.log 2) * A.v j h e = Real.log 2 * dp A h i j := by
    unfold dp
    rw [Finset.mul_sum]
    exact Finset.sum_congr rfl fun _ _ => by ring
  have e2 : ∑ e : Fin 64, (∑ x : Fin 8208, A.v x h e * prob A h i x) * (A.g i h e * Real.log 2)
      = Real.log 2 * ∑ x : Fin 8208, prob A h i x * dp A h i x := by
    simp only [dp, Finset.mul_sum, Finset.sum_mul]
    rw [Finset.sum_comm]
    exact Finset.sum_congr rfl fun _ _ => Finset.sum_congr rfl fun _ _ => by ring
  rw [e1, e2]
  unfold ds
  ring

/-! ## The constants -/

theorem bits_eighth : Ideal.ofBits .f32 0x3E000000#32 = ((1 / 8 : ℝ) : EReal) := by
  simp [Ideal.ofBits, Ideal.ieee, -EReal.coe_mul]
  norm_num
theorem bits_two : Ideal.ofBits .f32 0x40000000#32 = ((2 : ℝ) : EReal) := by
  simp [Ideal.ofBits, Ideal.ieee, -EReal.coe_mul]
  norm_num
theorem bits_eight : Ideal.ofBits .f32 0x41000000#32 = ((8 : ℝ) : EReal) := by
  simp [Ideal.ofBits, Ideal.ieee, -EReal.coe_mul]
  norm_num
theorem bits_bot : Ideal.ofBits .f32 0xFF800000#32 = ⊥ := by
  simp [Ideal.ofBits, Ideal.ieee]
theorem log_bits : Ideal.log (Ideal.ofBits .f32 0x40000000#32) = ((Real.log 2 : ℝ) : EReal) := by
  rw [bits_two]
  rw [Ideal.log_coe, if_neg (by norm_num)]

/-! ## The results: row `y` is token `y − 112`, the first 112 rows are padding -/

/-- The gradient of the scaled queries, of the keys, of the values, and of the gates' sums on either side. -/
def resQ (y w : ℕ) : ℝ := if 112 ≤ y then Real.log 2 * ∑ j : Fin 8208, ds A (w / 64) (y - 112) j * A.k j (w / 64) (w % 64) else 0
def resK (z w : ℕ) : ℝ := if 112 ≤ z then 1 / 8 * ∑ i : Fin 8208, ds A (w / 64) i (z - 112) * A.q i (w / 64) (w % 64) else 0
def resV (z w : ℕ) : ℝ := if 112 ≤ z then ∑ i : Fin 8208, prob A (w / 64) i (z - 112) * A.g i (w / 64) (w % 64) else 0
def resFq (y w : ℕ) : ℝ :=
  if 112 ≤ y ∧ w % 128 < 2 then Real.log 2 * ∑ j : Fin 8208, ds A (w / 128 * 2 + w % 128) (y - 112) j else 0
def resFk (h z : ℕ) : ℝ := if 112 ≤ z then -(Real.log 2 * ∑ i : Fin 8208, ds A h i (z - 112)) else 0

theorem log_ne : Real.log 2 ≠ 0 := (Real.log_pos (by norm_num)).ne'

/-- A sum over the padded rows whose padding adds nothing. -/
theorem sum_pad (n : ℕ) (g : ℕ → ℝ) :
    ∑ z ∈ Finset.range (112 + n), (if 112 ≤ z then g (z - 112) else 0) = ∑ j : Fin n, g j := by
  rw [Finset.sum_range_add, Finset.sum_eq_zero, zero_add, Finset.sum_range]
  · exact Finset.sum_congr rfl fun j _ => by rw [if_pos (Nat.le_add_right _ _), Nat.add_sub_cancel_left]
  · intro z hz
    rw [if_neg (not_le.mpr (Finset.mem_range.mp hz))]

theorem sum_pad_coe {n : ℕ} {F : ℕ → EReal} (g : ℕ → ℝ)
    (h : ∀ z, z < 112 + n → F z = ((if 112 ≤ z then g (z - 112) else 0 : ℝ) : EReal)) :
    ∑ z ∈ Finset.range (112 + n), F z = ((∑ j : Fin n, g j : ℝ) : EReal) := by
  rw [sum_coe fun z hz => h z (Finset.mem_range.mp hz), sum_pad]

/-! ## Reading an array at an index -/

/-- The maximum over the last of three axes. -/
theorem max_last {n0 n1 n2 : ℕ} {u : Shape} (S : (⟨3, ![n0, n1, n2]⟩ : Shape).Idx → EReal) (init : u.Idx → EReal)
    (h : (⟨3, ![n0, n1, n2]⟩ : Shape).ReducesTo [2] ⟨2, ![n0, n1]⟩) (hu : 0 < u.numel) (a : Fin n0) (b : Fin n1) :
    Host.reduce max S init h hu (ix2 a b)
      = Finset.fold max (init (Shape.Idx.first hu)) (fun k : Fin n2 => S (ix3 a b k)) Finset.univ := by
  rw [Host.reduce_eq_fold]
  exact Shape.ReducesTo.fold_fiber_r3_a2 h (ix2 a b) max _ S

/-- A key is seen when it doesn't come after the query. -/
theorem seen_word (i j : ℕ) (hi : i < 8208) (hj : j < 8208) {α : Type} (x y : α) :
    Scalar.select (IntOp.cmpi CmpIPredicate.sle (BitVec.ofNat 32 j) (BitVec.ofNat 32 i)) x y = if j ≤ i then x else y := by
  have e : IntOp.cmpi CmpIPredicate.sle (BitVec.ofNat 32 j) (BitVec.ofNat 32 i) = if j ≤ i then 1#1 else 0#1 := by
    split <;> word_omega
  rw [e]
  split <;> rfl

/-- The value the padding takes. -/
theorem zero_word : (FloatOps.sitofp FTy.f32 0#32 : Ideal .f32) = (0 : EReal) := by
  simp [FloatOps.sitofp]

end Cert.Attn

end
-- ==== Proof.Val.HostReads.lean ====
/-
  The arrays the kernel's program prepares from its arguments alone, at an index, when every argument is a real number.
-/
module

public import proofs.«01_k».proof.Proof.Val.Reads
public import proofs.«01_k».proof.Proof.Val.Math
public import Idealize.ShloMosaic.Lib.StableHlo.ReadAt

@[expose] public section

set_option maxRecDepth 8192

noncomputable section

namespace Cert.KernelIdeal.Fox

open Cert.KernelIdeal Cert.KernelIdeal.Gen Cert.Attn
open Idealize.ShloMosaic Idealize.ShloMosaic.TcCoe Idealize.SL.Sem

/-- The arguments are the real numbers `A`. -/
structure Given (m : (ℓ : Loc nD τ sig) → Buf (Elt Ideal) ℓ) (c : Dev nD) (A : Args) : Prop where
  q : ∀ (i : Fin 8208) (h : Fin 8) (e : Fin 64), m (c, Proc.devRef .tc main_arg0) (ix3 i h e) = (A.q i h e : EReal)
  k : ∀ (i : Fin 8208) (h : Fin 8) (e : Fin 64), m (c, Proc.devRef .tc main_arg1) (ix3 i h e) = (A.k i h e : EReal)
  v : ∀ (i : Fin 8208) (h : Fin 8) (e : Fin 64), m (c, Proc.devRef .tc main_arg2) (ix3 i h e) = (A.v i h e : EReal)
  f : ∀ (i : Fin 8208) (h : Fin 8), m (c, Proc.devRef .tc main_arg3) (ix2 i h) = (A.f i h : EReal)
  g : ∀ (i : Fin 8208) (h : Fin 8) (e : Fin 64), m (c, Proc.devRef .tc main_arg4) (ix3 i h e) = (A.g i h e : EReal)

theorem inv_log : Ideal.div 1 (Ideal.log (Ideal.ofBits .f32 0x40000000#32)) = (((Real.log 2)⁻¹ : ℝ) : EReal) := by
  rw [log_bits, Ideal.div_coe (Real.log_pos (by norm_num)).ne', one_mul, one_div]

variable {m : (ℓ : Loc nD τ sig) → Buf (Elt Ideal) ℓ} {c : Dev nD} {A : Args} (a : Given m c A)
include a

theorem v42_at (y : Fin 8320) (w : Fin 512) :
    V m c main_v42 (ix2 y w) = if 112 ≤ y.val then ((A.q (y.val - 112) (w.val / 64) (w.val % 64) * (1 / 8 * (Real.log 2)⁻¹) : ℝ) : EReal) else 0 := by
  unfold V
  after_reads_at
  simp only [inv_log, bits_eighth, zero_word, a.q, ← EReal.coe_mul, show y.val - 112 < 8208 by omega, and_true]
  split <;> rfl

theorem v45_at (y : Fin 8320) (w : Fin 512) :
    V m c main_v45 (ix2 y w) = if 112 ≤ y.val then (A.k (y.val - 112) (w.val / 64) (w.val % 64) : EReal) else 0 := by
  unfold V
  after_reads_at
  simp only [zero_word, a.k, show y.val - 112 < 8208 by omega, and_true]
  split <;> rfl

theorem v52_at (y : Fin 8320) (w : Fin 512) :
    V m c main_v52 (ix2 y w) = if 112 ≤ y.val then ((A.g (y.val - 112) (w.val / 64) (w.val % 64) * Real.log 2 : ℝ) : EReal) else 0 := by
  unfold V
  after_reads_at
  simp only [log_bits, zero_word, a.g, ← EReal.coe_mul, show y.val - 112 < 8208 by omega, and_true]
  split <;> rfl

theorem v60_at (h : Fin 8) (z : Fin 8320) :
    V m c main_v60 (ix3 h 0 z) = if 112 ≤ z.val then ((A.f (z.val - 112) h * (Real.log 2)⁻¹ : ℝ) : EReal) else 0 := by
  unfold V
  after_reads_at
  simp only [inv_log, zero_word, a.f, ← EReal.coe_mul, show z.val - 112 < 8208 by omega, and_true]
  split <;> rfl

theorem v55_at (y : Fin 8320) (w : Fin 128) :
    V m c main_v55 (ix2 y w) = if 112 ≤ y.val ∧ w.val < 8 then ((A.f (y.val - 112) w * (Real.log 2)⁻¹ : ℝ) : EReal) else (0 : EReal) := by
  unfold V
  after_reads_at
  simp only [inv_log, zero_word, a.f, ← EReal.coe_mul, show y.val - 112 < 8208 by omega, and_true]
  split <;> rfl

set_option maxRecDepth 100000 in
theorem v47_at (y : Fin 8320) (w : Fin 512) :
    V m c main_v47 (ix2 y ⟨7168 + w.val, by omega⟩) = if 112 ≤ y.val then (A.v (y.val - 112) (w.val / 64) (w.val % 64) : EReal) else (0 : EReal) := by
  unfold V
  after_reads_at
  simp only [zero_word, a.v, show y.val - 112 < 8208 by omega, and_true]
  split <;> rfl

end Cert.KernelIdeal.Fox

end
-- ==== Proof.Val.Finite.lean ====
/-
  The precondition: every entry of the arguments is finite, so each is a real number.
-/
module

public import proofs.«01_k».proof.Defs
public import proofs.«01_k».proof.Proof.Gen.Pre_finite
public import proofs.«01_k».proof.Proof.Val.HostReads
public import Idealize.ShloMosaic.Lib.ReduceAll

@[expose] public section

noncomputable section

namespace Cert.KernelIdeal.Fox

open Cert.KernelIdeal Cert.KernelIdeal.Gen Cert.Attn
open Idealize.ShloMosaic Idealize.ShloMosaic.TcCoe Idealize.SL.Sem

theorem bits_top : Ideal.ofBits .f32 0x7F800000#32 = ⊤ := by
  simp [Ideal.ofBits, Ideal.ieee]

/-- A number whose absolute value is below +∞ is real. -/
theorem real_of_lt (x : EReal) (h : Ideal.cmp .olt (max x (-x)) (Ideal.ofBits .f32 0x7F800000#32) = 1#1) : x = (x.toReal : EReal) := by
  rw [bits_top] at h
  have h' : max x (-x) < ⊤ := by
    by_contra hn
    simp [Ideal.cmp, hn] at h
  obtain ⟨h1, h2⟩ := max_lt_iff.mp h'
  refine (EReal.coe_toReal h1.ne ?_).symm
  rintro rfl
  simp at h2

/-- An array whose entries all pass the comparison holds real numbers. -/
theorem reals {s t u : Shape} (v : Fin u.rank → Fin s.rank) {axes : List (Fin s.rank)} [Subsingleton t.Idx] (x : FVec Ideal s .f32) (b : u.BroadcastsInDim s v)
    (init : u.Idx → BitVec 1) (r : s.ReducesTo axes t) (hu : 0 < u.numel) (j : t.Idx)
    (h : Host.reduce IntOp.andi (cmpf .olt (Host.absf x) (broadcastInDim s v b (constant u .f32 0x7F800000#32))) init r hu j = 1#1)
    (i : s.Idx) : x i = ((x i).toReal : EReal) :=
  real_of_lt (x i) (Host.reduce_andi_all _ init r hu j h i)

theorem ofNat_val {n : ℕ} [NeZero n] (i : Fin n) : Fin.ofNat n i.val = i := Fin.ext (Nat.mod_eq_of_lt i.isLt)

variable (m : (ℓ : Loc nD τ sig) → Buf (Elt Ideal) ℓ) (c : Dev nD)

/-- The arguments as real numbers. -/
def args : Args where
  q i h e := EReal.toReal (m (c, Proc.devRef .tc main_arg0) (ix3 (Fin.ofNat 8208 i) (Fin.ofNat 8 h) (Fin.ofNat 64 e)))
  k i h e := EReal.toReal (m (c, Proc.devRef .tc main_arg1) (ix3 (Fin.ofNat 8208 i) (Fin.ofNat 8 h) (Fin.ofNat 64 e)))
  v i h e := EReal.toReal (m (c, Proc.devRef .tc main_arg2) (ix3 (Fin.ofNat 8208 i) (Fin.ofNat 8 h) (Fin.ofNat 64 e)))
  f i h := EReal.toReal (m (c, Proc.devRef .tc main_arg3) (ix2 (Fin.ofNat 8208 i) (Fin.ofNat 8 h)))
  g i h e := EReal.toReal (m (c, Proc.devRef .tc main_arg4) (ix3 (Fin.ofNat 8208 i) (Fin.ofNat 8 h) (Fin.ofNat 64 e)))

theorem given (hm : Cert.Pre_KernelIdeal_finite m) : Given m c (args m c) := by
  have h := congrFun (hm c) ix0
  unfold Cert.Pre_finite.fn Cert.Pre_finite.fn_part1 at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  haveI : Subsingleton (Cert.Pre_finite.S_).Idx := ⟨fun a b => funext fun d => d.elim0⟩
  refine ⟨fun i h e => ?_, fun i h e => ?_, fun i h e => ?_, fun i h => ?_, fun i h e => ?_⟩
  · simp only [args, ofNat_val]
    exact reals _ _ _ _ _ _ _ h0 _
  · simp only [args, ofNat_val]
    exact reals _ _ _ _ _ _ _ h1 _
  · simp only [args, ofNat_val]
    exact reals _ _ _ _ _ _ _ h2 _
  · simp only [args, ofNat_val]
    exact reals _ _ _ _ _ _ _ h3 _
  · simp only [args, ofNat_val]
    exact reals _ _ _ _ _ _ _ h4 _

end Cert.KernelIdeal.Fox

end
-- ==== Proof.Val.Host.lean ====
/-
  The arrays the kernel is given that its program computes from the attention, each a function of the arrays before it.
-/
module

public import proofs.«01_k».proof.Proof.Val.Reads
public import Idealize.ShloMosaic.Lib.StableHlo.ReadAt

@[expose] public section

set_option maxRecDepth 8192

noncomputable section

namespace Cert.KernelIdeal.Fox

open Cert.KernelIdeal Cert.KernelIdeal.Gen
open Idealize.ShloMosaic Idealize.ShloMosaic.TcCoe Idealize.SL.Sem

/-- The scores, −∞ where a key is not seen. -/
def scores (Q : FVec Ideal S8208x8x64 .f32) (K : FVec Ideal S8208x8x64 .f32) (F : FVec Ideal S8208x8 .f32) : FVec Ideal S8x8208x8208 .f32 := select (broadcastInDim S8x8208x8208 ![0, 1, 2] bcast_S1x8208x8208_S8x8208x8208_0_1_2 (broadcastInDim S1x8208x8208 ![1, 2] bcast_S8208x8208_S1x8208x8208_1_2 (cmpi .sle (broadcastInDim S8208x8208 ![0, 1] bcast_S1x8208_S8208x8208_0_1 (broadcastInDim S1x8208 ![1] bcast_S8208_S1x8208_1 (iotaInDim S8208 32 0))) (broadcastInDim S8208x8208 ![0, 1] bcast_S8208x1_S8208x8208_0_1 (broadcastInDim S8208x1 ![0] bcast_S8208_S8208x1_0 (iotaInDim S8208 32 0)))))) (subf (addf (mulf (Host.dotGeneral dot_S8208x8x64_S8208x8x64_S8x8208x8208_2_2_0_0_1_1 none Q K) (broadcastInDim S8x8208x8208 ![] bcast_S_S8x8208x8208 (constant S_ .f32 0x3E000000#32))) (broadcastInDim S8x8208x8208 ![0, 1, 2] bcast_S8x8208x1_S8x8208x8208_0_1_2 (broadcastInDim S8x8208x1 ![0, 1] bcast_S8x8208_S8x8208x1_0_1 (transpose S8x8208 [1, 0] F transposes_S8208x8_S8x8208_1_0)))) (broadcastInDim S8x8208x8208 ![0, 1, 2] bcast_S8x1x8208_S8x8208x8208_0_1_2 (broadcastInDim S8x1x8208 ![0, 2] bcast_S8x8208_S8x1x8208_0_2 (transpose S8x8208 [1, 0] F transposes_S8208x8_S8x8208_1_0)))) (broadcastInDim S8x8208x8208 ![] bcast_S_S8x8208x8208 (id (constant S_ .f32 0xFF800000#32)))
/-- Each row's greatest score. -/
def greatest (S : FVec Ideal S8x8208x8208 .f32) : FVec Ideal S8x8208 .f32 := Host.reduce FloatOps.maximumf S (constant S_ .f32 0xFF800000#32) reducesTo_S8x8208x8208_S8x8208_d2 h_S_
/-- The weights before they are divided by the row's sum. -/
def weights (S : FVec Ideal S8x8208x8208 .f32) (X : FVec Ideal S8x8208 .f32) : FVec Ideal S8x8208x8208 .f32 := Host.exp (subf S (broadcastInDim S8x8208x8208 ![0, 1, 2] bcast_S8x8208x1_S8x8208x8208_0_1_2 (broadcastInDim S8x8208x1 ![0, 1] bcast_S8x8208_S8x8208x1_0_1 X)))
/-- Each row's sum. -/
def sums (E : FVec Ideal S8x8208x8208 .f32) : FVec Ideal S8x8208x1 .f32 := broadcastInDim S8x8208x1 ![0, 1] bcast_S8x8208_S8x8208x1_0_1 (Host.reduceAdd E (constant S_ .f32 0x00000000#32) reducesTo_S8x8208x8208_S8x8208_d2 h_S_)
/-- The logarithm of two. -/
def logTwo : FVec Ideal S_ .f32 := Host.log (constant S_ .f32 0x40000000#32)
/-- Its inverse. -/
def logTwoInv (c : FVec Ideal S_ .f32) : FVec Ideal S_ .f32 := Host.divf (constant S_ .f32 0x3F800000#32) c
/-- Each row's logarithm of its sum, in units of the logarithm of two. -/
def logSums (X : FVec Ideal S8x8208 .f32) (L : FVec Ideal S8x8208x1 .f32) (d : FVec Ideal S_ .f32) : FVec Ideal S8x8208 .f32 := mulf (shapeCast S8x8208 (addf (broadcastInDim S8x8208x1 ![0, 1] bcast_S8x8208_S8x8208x1_0_1 X) (Host.log L)) shapeCasts_S8x8208x1_S8x8208) (broadcastInDim S8x8208 ![] bcast_S_S8x8208 d)
/-- The attention's output. -/
def outs (W : FVec Ideal S8208x8x64 .f32) (E : FVec Ideal S8x8208x8208 .f32) (L : FVec Ideal S8x8208x1 .f32) : FVec Ideal S8208x8x64 .f32 := transpose S8208x8x64 [2, 0, 1] (Host.dotGeneral dot_S8208x8x64_S8x8208x8208_S8x64x8208_0_2_2_1_1_0 none W (Host.divf E (broadcastInDim S8x8208x8208 ![0, 1, 2] bcast_S8x8208x1_S8x8208x8208_0_1_2 L))) transposes_S8x64x8208_S8208x8x64_2_0_1
/-- Each row's product of the output with its gradient. -/
def delta (O : FVec Ideal S8208x8x64 .f32) (G : FVec Ideal S8208x8x64 .f32) (c : FVec Ideal S_ .f32) : FVec Ideal S8208x8 .f32 := Host.reduceAdd (mulf O (mulf G (broadcastInDim S8208x8x64 ![] bcast_S_S8208x8x64 c))) (constant S_ .f32 0x00000000#32) reducesTo_S8208x8x64_S8208x8_d2 h_S_
/-- That, padded. -/
def padDelta (B : FVec Ideal S8208x8 .f32) : FVec Ideal S8320x128 .f32 := pad S8320x128 ![112, 0] ![0, 120] ![0, 0] B (sitofp .f32 (constantI S_ 32 0#32)) pads_S8208x8_S8320x128_11200_01200 h_S_
/-- The logarithms of the sums, padded. -/
def padLog (Z : FVec Ideal S8x8208 .f32) : FVec Ideal S8320x512 .f32 := shapeCast S8320x512 (pad S8320x4x128 ![112, 0, 0] ![0, 0, 126] ![0, 0, 0] (shapeCast S8208x4x2 (transpose S8208x8 [1, 0] Z transposes_S8x8208_S8208x8_1_0) shapeCasts_S8208x8_S8208x4x2) (sitofp .f32 (constantI S_ 32 0#32)) pads_S8208x4x2_S8320x4x128_11200_000_01260 h_S_) shapeCasts_S8320x4x128_S8320x512

/-- Two lines of operations, one after the other. -/
theorem after_two (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons a l ih => exact ih _

variable (m : (ℓ : Loc nD τ sig) → Buf (Elt Ideal) ℓ) (c : Dev nD)

/-- The buffers when the scores are done. -/
def mid : Valuation τ sig (Elt Ideal) := StableHlo.after (hostOps0 ++ hostOps0_1) (fun b => m (c, b))

theorem V_mid (b : Ref sig .tc) : V m c b = StableHlo.after (List.flatten [hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) (mid m c) b := by
  unfold V mid
  rw [← after_two, List.append_assoc]
  simp only [List.flatten_cons]

theorem mid_v20 : mid m c (Proc.devRef .tc main_v20) = scores (m ((c : Thread nD τ).loc main_arg0)) (m ((c : Thread nD τ).loc main_arg1)) (m ((c : Thread nD τ).loc main_arg3)) := by
  unfold mid
  after_reads_simp
  rfl
theorem mid_v0 : mid m c (Proc.devRef .tc main_v0) = logTwo := by
  unfold mid
  after_reads_simp
  rfl
theorem mid_v1 : mid m c (Proc.devRef .tc main_v1) = logTwoInv logTwo := by
  unfold mid
  after_reads_simp
  rfl
theorem mid_arg2 : mid m c (Proc.devRef .tc main_arg2) = m ((c : Thread nD τ).loc main_arg2) := by
  unfold mid
  after_reads_simp
theorem mid_arg4 : mid m c (Proc.devRef .tc main_arg4) = m ((c : Thread nD τ).loc main_arg4) := by
  unfold mid
  after_reads_simp

theorem host_v69 : V m c main_v69 = padLog (logSums (greatest (scores (m ((c : Thread nD τ).loc main_arg0)) (m ((c : Thread nD τ).loc main_arg1)) (m ((c : Thread nD τ).loc main_arg3)))) (sums (weights (scores (m ((c : Thread nD τ).loc main_arg0)) (m ((c : Thread nD τ).loc main_arg1)) (m ((c : Thread nD τ).loc main_arg3))) (greatest (scores (m ((c : Thread nD τ).loc main_arg0)) (m ((c : Thread nD τ).loc main_arg1)) (m ((c : Thread nD τ).loc main_arg3)))))) (logTwoInv logTwo)) := by
  rw [V_mid, ← mid_v20 m c, ← mid_v1 m c]
  generalize mid m c = W
  after_reads_simp
  simp -implicitDefEqProofs only [StableHlo.TRef.toBuf, StableHlo.TRef.ofBuf, cast_cast, cast_eq]
  unfold padLog logSums greatest sums weights
  obtain ⟨S, hS⟩ : ∃ S : FVec Ideal S8x8208x8208 .f32, W (Proc.devRef .tc main_v20) = S := ⟨_, rfl⟩
  obtain ⟨d, hd⟩ : ∃ d : FVec Ideal S_ .f32, W (Proc.devRef .tc main_v1) = d := ⟨_, rfl⟩
  rw [hS, hd]
  generalize Host.reduce FloatOps.maximumf S (constant S_ .f32 4286578688#32) reducesTo_S8x8208x8208_S8x8208_d2 h_S_ = X
  generalize addf (broadcastInDim S8x8208x1 ![0, 1] bcast_S8x8208_S8x8208x1_0_1 X) _ = Y
  generalize broadcastInDim S8x8208 ![] bcast_S_S8x8208 d = Z
  rfl

theorem host_v65 : V m c main_v65 = padDelta (delta (outs (m ((c : Thread nD τ).loc main_arg2)) (weights (scores (m ((c : Thread nD τ).loc main_arg0)) (m ((c : Thread nD τ).loc main_arg1)) (m ((c : Thread nD τ).loc main_arg3))) (greatest (scores (m ((c : Thread nD τ).loc main_arg0)) (m ((c : Thread nD τ).loc main_arg1)) (m ((c : Thread nD τ).loc main_arg3))))) (sums (weights (scores (m ((c : Thread nD τ).loc main_arg0)) (m ((c : Thread nD τ).loc main_arg1)) (m ((c : Thread nD τ).loc main_arg3))) (greatest (scores (m ((c : Thread nD τ).loc main_arg0)) (m ((c : Thread nD τ).loc main_arg1)) (m ((c : Thread nD τ).loc main_arg3))))))) (m ((c : Thread nD τ).loc main_arg4)) logTwo) := by
  rw [V_mid, ← mid_v20 m c, ← mid_v0 m c, ← mid_arg2 m c, ← mid_arg4 m c]
  generalize mid m c = W
  after_reads_simp
  simp -implicitDefEqProofs only [StableHlo.TRef.toBuf, StableHlo.TRef.ofBuf, cast_cast, cast_eq]
  rfl

end Cert.KernelIdeal.Fox

end
-- ==== Proof.Val.HostVal.lean ====
/-
  The arrays the kernel's program computes from the attention, at an index, when every argument is a real number.
-/
module

public import proofs.«01_k».proof.Proof.Val.Host
public import proofs.«01_k».proof.Proof.Val.Math

@[expose] public section

set_option maxRecDepth 8192

noncomputable section

namespace Cert.KernelIdeal.Fox

open Cert.KernelIdeal Cert.KernelIdeal.Gen Cert.Attn
open Idealize.ShloMosaic Idealize.ShloMosaic.TcCoe Idealize.SL.Sem

variable {A : Args} {Q K W G O : FVec Ideal S8208x8x64 .f32} {F : FVec Ideal S8208x8 .f32}
  {S E : FVec Ideal S8x8208x8208 .f32} {X : FVec Ideal S8x8208 .f32} {L : FVec Ideal S8x8208x1 .f32} {d : FVec Ideal S_ .f32}

/-- The maximum over the last of three axes, of an array of floats. -/
theorem max_row {n0 n1 n2 : ℕ} {u : Shape} (S : FVec Ideal (⟨3, ![n0, n1, n2]⟩ : Shape) .f32) (init : FVec Ideal u .f32)
    (h : (⟨3, ![n0, n1, n2]⟩ : Shape).ReducesTo [2] ⟨2, ![n0, n1]⟩) (hu : 0 < u.numel) (a : Fin n0) (b : Fin n1) :
    Host.reduce FloatOps.maximumf S init h hu (ix2 a b)
      = Finset.fold max (init (Shape.Idx.first hu)) (fun k : Fin n2 => S (ix3 a b k)) Finset.univ := max_last S init h hu a b

theorem scores_at (hQ : ∀ i h e, Q (ix3 i h e) = (A.q i.val h.val e.val : EReal)) (hK : ∀ i h e, K (ix3 i h e) = (A.k i.val h.val e.val : EReal))
    (hF : ∀ i h, F (ix2 i h) = (A.f i.val h.val : EReal)) (h : Fin 8) (i j : Fin 8208) :
    scores Q K F (ix3 h i j) = if j.val ≤ i.val then (score A h i j : EReal) else ⊥ := by
  pointwise [scores]
  simp only [seen_word _ _ i.isLt j.isLt, hQ, hK, hF, bits_eighth]
  split
  · simp only [← EReal.coe_mul, ← coe_sum, ← EReal.coe_add, ← EReal.coe_sub]
    rfl
  · exact bits_bot

theorem greatest_at (hS : ∀ h i j, S (ix3 h i j) = if j.val ≤ i.val then (score A h.val i.val j.val : EReal) else ⊥) (h : Fin 8) (i : Fin 8208) :
    greatest S (ix2 h i) = (top A h i : EReal) := by
  have e' : (constant S_ .f32 0xFF800000#32 : FVec Ideal S_ .f32) (Shape.Idx.first h_S_) = (⊥ : EReal) := bits_bot
  unfold greatest
  rw [max_row S _ reducesTo_S8x8208x8208_S8x8208_d2 h_S_ h i, e']
  simp only [hS]
  rw [fold_top]

theorem weights_at (hS : ∀ h i j, S (ix3 h i j) = if j.val ≤ i.val then (score A h.val i.val j.val : EReal) else ⊥)
    (hX : ∀ h i, X (ix2 h i) = (top A h.val i.val : EReal)) (h : Fin 8) (i j : Fin 8208) :
    weights S X (ix3 h i j) = (ex A h i j : EReal) := by
  pointwise [weights]
  rw [hS, hX]
  unfold ex
  split
  · rw [← EReal.coe_sub, Ideal.exp_coe]
  · rw [EReal.bot_sub, Ideal.exp_bot]
    rfl

theorem sums_at (hE : ∀ h i j, E (ix3 h i j) = (ex A h.val i.val j.val : EReal)) (h : Fin 8) (i : Fin 8208) :
    sums E (ix3 h i 0) = (tot A h i : EReal) := by
  pointwise [sums]
  simp only [hE, ← coe_sum]
  rfl

theorem logTwo_at : logTwo ix0 = ((Real.log 2 : ℝ) : EReal) := log_bits

theorem one_div_log : Ideal.div 1 (Ideal.log (Ideal.ofBits .f32 0x40000000#32)) = (((Real.log 2)⁻¹ : ℝ) : EReal) := by
  rw [log_bits, Ideal.div_coe (Real.log_pos (by norm_num)).ne', one_mul, one_div]

theorem logTwoInv_at : logTwoInv logTwo ix0 = (((Real.log 2)⁻¹ : ℝ) : EReal) := by
  pointwise [logTwoInv, logTwo]
  exact one_div_log

theorem logSums_at (hX : ∀ h i, X (ix2 h i) = (top A h.val i.val : EReal)) (hL : ∀ h i, L (ix3 h i 0) = (tot A h.val i.val : EReal))
    (hd : d ix0 = (((Real.log 2)⁻¹ : ℝ) : EReal)) (h : Fin 8) (i : Fin 8208) :
    logSums X L d (ix2 h i) = (((top A h i + Real.log (tot A h i)) * (Real.log 2)⁻¹ : ℝ) : EReal) := by
  pointwise [logSums]
  rw [hX, hL, hd, Ideal.log_coe, if_neg (not_le.mpr (tot_pos A h i)), ← EReal.coe_add, ← EReal.coe_mul]

theorem outs_at (hW : ∀ i h e, W (ix3 i h e) = (A.v i.val h.val e.val : EReal)) (hE : ∀ h i j, E (ix3 h i j) = (ex A h.val i.val j.val : EReal))
    (hL : ∀ h i, L (ix3 h i 0) = (tot A h.val i.val : EReal)) (i : Fin 8208) (h : Fin 8) (e : Fin 64) :
    outs W E L (ix3 i h e) = ((∑ x : Fin 8208, A.v x h e * prob A h i x : ℝ) : EReal) := by
  pointwise [outs]
  simp only [hW, hE, hL, Ideal.div_coe (tot_pos A h i).ne', ← EReal.coe_mul, ← coe_sum, mul_one_div]
  rfl

theorem delta_at (hO : ∀ i h e, O (ix3 i h e) = ((∑ x : Fin 8208, A.v x h.val e.val * prob A h.val i.val x : ℝ) : EReal))
    (hG : ∀ i h e, G (ix3 i h e) = (A.g i.val h.val e.val : EReal)) (hd : d ix0 = ((Real.log 2 : ℝ) : EReal)) (i : Fin 8208) (h : Fin 8) :
    delta O G d (ix2 i h) = ((∑ e : Fin 64, (∑ x : Fin 8208, A.v x h e * prob A h i x) * (A.g i h e * Real.log 2) : ℝ) : EReal) := by
  pointwise [delta]
  simp only [hO, hG, hd, ← EReal.coe_mul, ← coe_sum]

theorem padDelta_at (B : FVec Ideal S8208x8 .f32) (y : Fin 8320) (w : Fin 128) :
    padDelta B (ix2 y w) = if h : (112 ≤ y.val ∧ y.val - 112 < 8208) ∧ w.val < 8 then B (ix2 ⟨y.val - 112, h.1.2⟩ ⟨w.val, h.2⟩) else (0 : EReal) := by
  pointwise [padDelta]
  rw [zero_word]

theorem padLog_at (Z : FVec Ideal S8x8208 .f32) (y : Fin 8320) (w : Fin 512) :
    padLog Z (ix2 y w) = if h : (112 ≤ y.val ∧ y.val - 112 < 8208) ∧ w.val / 128 < 4 ∧ w.val % 128 < 2 then Z (ix2 ⟨w.val / 128 * 2 + w.val % 128, by omega⟩ ⟨y.val - 112, h.1.2⟩) else (0 : EReal) := by
  pointwise [padLog]
  rw [zero_word]

end Cert.KernelIdeal.Fox

end
-- ==== Proof.Val.Along.lean ====
/-
  The carried buffers at the points where they are written out, as sums over the points since they were cleared.
-/
module

public import proofs.«01_k».proof.Proof.Val.Sums

@[expose] public section

set_option maxRecDepth 8000

noncomputable section

namespace Cert.KernelIdeal.Fox

open Cert.KernelIdeal Cert.KernelIdeal.Gen
open Idealize.ShloMosaic Idealize.ShloMosaic.TcCoe Idealize.SL.Sem
open Finset

variable (m : (ℓ : Loc nD τ sig) → Buf (Elt Ideal) ℓ) (c : Dev nD)

theorem step_added (t : Fin cfg0.N) :
    Added (t.val / 169) (t.val % 169 / 13) (t.val % 13) (ins m c t)
      ⟨if t.val % 169 = 0 then (k0_pay1 : FVec Ideal S8320x128 .f32) else (prev m c t.val).dq,
        if t.val % 169 = 0 then (k0_pay2 : FVec Ideal S8320x128 .f32) else (prev m c t.val).dfq,
        if t.val % 13 = 0 then (k0_pay3 : FVec Ideal S2x640x128 .f32) else (prev m c t.val).dka,
        if t.val % 13 = 0 then (k0_pay4 : FVec Ideal S2x640x128 .f32) else (prev m c t.val).dva,
        if t.val % 13 = 0 then (k0_pay5 : FVec Ideal S2x1x640 .f32) else (prev m c t.val).dfa⟩
      (prev m c (t.val + 1)) := by
  rw [prev_succ]
  unfold step
  have h := tile_added t (ins m c t) (clrK (grid0.coords t) (clrQ (grid0.coords t) (prev m c t.val)))
  rw [clr_key] at h
  rw [show cfg0.grid.coords t = grid0.coords t from rfl, clr_key]
  exact h

/-- What point `n` adds, as a function of the point's number. -/
def atPt (g : ℕ → ℕ → ℕ → Ins Ideal → EReal) (n : ℕ) : EReal :=
  if hn : n < cfg0.N then g (n / 169) (n % 169 / 13) (n % 13) (ins m c ⟨n, hn⟩) else 0

theorem atPt_lt (g : ℕ → ℕ → ℕ → Ins Ideal → EReal) (t : Fin cfg0.N) :
    atPt m c g t.val = g (t.val / 169) (t.val % 169 / 13) (t.val % 13) (ins m c t) := dif_pos t.isLt

theorem dva_next (h : Fin 2) (z : Fin 640) (d : Fin 128) : ∀ n < cfg0.N, (prev m c (n + 1)).dva (ix3 h z d)
    = (if n % 13 = 0 then 0 else (prev m c n).dva (ix3 h z d)) + atPt m c (fun p J I x => addV p J I h x z d) n := by
  intro n hn
  rw [(step_added m c ⟨n, hn⟩).dva h z d, atPt_lt m c _ ⟨n, hn⟩]
  dsimp only
  congr 1
  split
  · exact clear_at.2.2.2.1 h z d
  · rfl
theorem dka_next (h : Fin 2) (z : Fin 640) (d : Fin 128) : ∀ n < cfg0.N, (prev m c (n + 1)).dka (ix3 h z d)
    = (if n % 13 = 0 then 0 else (prev m c n).dka (ix3 h z d)) + atPt m c (fun p J I x => addK p J I h x z d) n := by
  intro n hn
  rw [(step_added m c ⟨n, hn⟩).dka h z d, atPt_lt m c _ ⟨n, hn⟩]
  dsimp only
  congr 1
  split
  · exact clear_at.2.2.1 h z d
  · rfl
theorem dfa_next (h : Fin 2) (z : Fin 640) : ∀ n < cfg0.N, (prev m c (n + 1)).dfa (ix3 h 0 z)
    = (if n % 13 = 0 then 0 else (prev m c n).dfa (ix3 h 0 z)) + atPt m c (fun p J I x => -addF p J I h x z) n := by
  intro n hn
  rw [(step_added m c ⟨n, hn⟩).dfa h z, atPt_lt m c _ ⟨n, hn⟩, sub_eq_add_neg]
  dsimp only
  congr 1
  split
  · exact clear_at.2.2.2.2 h z
  · rfl
theorem dq_next (y : Fin 8320) (d : Fin 128) : ∀ n < cfg0.N, (prev m c (n + 1)).dq (ix2 y d)
    = (if n % 169 = 0 then 0 else (prev m c n).dq (ix2 y d)) + atPt m c (fun p J I x =>
      if y.val / 640 = I then addQ p J I x ⟨y.val % 640, Nat.mod_lt _ (by norm_num)⟩ d else 0) n := by
  intro n hn
  rw [(step_added m c ⟨n, hn⟩).dq y d, atPt_lt m c _ ⟨n, hn⟩]
  dsimp only
  have e : (if n % 169 = 0 then (k0_pay1 : FVec Ideal S8320x128 .f32) else (prev m c n).dq) (ix2 y d)
      = if n % 169 = 0 then 0 else (prev m c n).dq (ix2 y d) := by
    split
    · exact clear_at.1 y d
    · rfl
  rw [e]
  by_cases hy : y.val / 640 = n % 13
  · rw [if_pos hy, if_pos hy]
  · rw [if_neg hy, if_neg hy, add_zero]
theorem dfq_next (y : Fin 8320) (d : Fin 128) : ∀ n < cfg0.N, (prev m c (n + 1)).dfq (ix2 y d)
    = (if n % 169 = 0 then 0 else (prev m c n).dfq (ix2 y d)) + atPt m c (fun p J I x =>
      if y.val / 640 = I then addG p J I x ⟨y.val % 640, Nat.mod_lt _ (by norm_num)⟩ d else 0) n := by
  intro n hn
  rw [(step_added m c ⟨n, hn⟩).dfq y d, atPt_lt m c _ ⟨n, hn⟩]
  dsimp only
  have e : (if n % 169 = 0 then (k0_pay2 : FVec Ideal S8320x128 .f32) else (prev m c n).dfq) (ix2 y d)
      = if n % 169 = 0 then 0 else (prev m c n).dfq (ix2 y d) := by
    split
    · exact clear_at.2.1 y d
    · rfl
  rw [e]
  by_cases hy : y.val / 640 = n % 13
  · rw [if_pos hy, if_pos hy]
  · rw [if_neg hy, if_neg hy, add_zero]

/-- The point of a pair of heads, a key block and a query block. -/
def pt (p J I : ℕ) : Fin cfg0.N := ⟨(169 * p + 13 * J + I) % 676, Nat.mod_lt _ (by norm_num)⟩

theorem atPt_pt (g : ℕ → ℕ → ℕ → Ins Ideal → EReal) (p J I : ℕ) (hp : p < 4) (hJ : J < 13) (hI : I < 13) :
    atPt m c g (169 * p + 13 * J + I) = g p J I (ins m c (pt p J I)) := by
  have hlt : 169 * p + 13 * J + I < 676 := by omega
  have e : (169 * p + 13 * J + I) = (pt p J I).val := (Nat.mod_eq_of_lt hlt).symm
  have e' : (pt p J I).val = 169 * p + 13 * J + I := e.symm
  rw [e, atPt_lt, e', show (169 * p + 13 * J + I) / 169 = p by omega, show (169 * p + 13 * J + I) % 169 / 13 = J by omega,
    show (169 * p + 13 * J + I) % 13 = I by omega]

/-- A key block's buffer after its last query block. -/
theorem key_end (f : ℕ → EReal) (g : ℕ → ℕ → ℕ → Ins Ideal → EReal)
    (hf : ∀ n < cfg0.N, f (n + 1) = (if n % 13 = 0 then 0 else f n) + atPt m c g n) (t : Fin cfg0.N) (ht : t.val % 13 = 12) :
    f (t.val + 1) = ∑ I ∈ range 13, g (t.val / 169) (t.val % 169 / 13) I (ins m c (pt (t.val / 169) (t.val % 169 / 13) I)) := by
  have hlt : t.val < 676 := t.isLt
  have h := run_sum f (atPt m c g) 13 676 (169 * (t.val / 169) + 13 * (t.val % 169 / 13)) (by omega) hf 12 (by norm_num) (by omega)
  rw [show 169 * (t.val / 169) + 13 * (t.val % 169 / 13) + 12 + 1 = t.val + 1 by omega] at h
  rw [h]
  refine sum_congr rfl fun I hI => ?_
  rw [mem_range] at hI
  exact atPt_pt m c g _ _ I (by omega) (by omega) hI

/-- A pair of heads' buffer after its last point: of each key block the row's own query block. -/
theorem query_end (f : ℕ → EReal) (g : ℕ → ℕ → ℕ → Ins Ideal → EReal) (k : ℕ) (hk : k < 13)
    (hf : ∀ n < cfg0.N, f (n + 1) = (if n % 169 = 0 then 0 else f n) + atPt m c (fun p J I x => if k = I then g p J I x else 0) n)
    (t : Fin cfg0.N) (ht : t.val % 169 = 168) :
    f (t.val + 1) = ∑ J ∈ range 13, g (t.val / 169) J k (ins m c (pt (t.val / 169) J k)) := by
  have hlt : t.val < 676 := t.isLt
  have h := run_sum f _ 169 676 (169 * (t.val / 169)) (by omega) hf 168 (by norm_num) (by omega)
  rw [show 169 * (t.val / 169) + 168 + 1 = t.val + 1 by omega] at h
  rw [h, show 168 + 1 = 13 * 13 from rfl,
    sum_blocks (fun x => atPt m c (fun p J I x => if k = I then g p J I x else 0) (169 * (t.val / 169) + x)) 13 13]
  refine sum_congr rfl fun J hJ => ?_
  rw [mem_range] at hJ
  rw [sum_eq_single k]
  · rw [← add_assoc, atPt_pt m c _ _ _ k (by omega) hJ hk, if_pos rfl]
  · intro I hI hne
    rw [mem_range] at hI
    rw [← add_assoc, atPt_pt m c _ _ _ I (by omega) hJ hI, if_neg (Ne.symm hne)]
  · intro hn
    exact absurd (mem_range.mpr hk) hn

end Cert.KernelIdeal.Fox

end
-- ==== Proof.Val.Whole.lean ====
/-
  A tile's probabilities, scores' gradients and sums, as functions of the rows of the whole arrays.
-/
module

public import proofs.«01_k».proof.Proof.Val.Along
public import proofs.«01_k».proof.Proof.Val.Reads

@[expose] public section

set_option maxRecDepth 8000

noncomputable section

namespace Cert.KernelIdeal.Fox

open Cert.KernelIdeal Cert.KernelIdeal.Gen
open Idealize.ShloMosaic Idealize.ShloMosaic.TcCoe Idealize.SL.Sem
open Finset

variable (m : (ℓ : Loc nD τ sig) → Buf (Elt Ideal) ℓ) (c : Dev nD)

/-- The score of head `k`, query row `y`, key row `z`; its probability; the gradient of the score. -/
def SG (k y z : ℕ) : EReal := (∑ e ∈ range 64, AQ m c y (64 * k + e) * AK m c z (64 * k + e)) + AF m c y k - AR m c k z
def PG (k y z : ℕ) : EReal :=
  if z ≤ y ∧ 112 ≤ z then Ideal.exp2 (SG m c k y z - AL m c y (128 * (k / 2) + k % 2)) else 0
def DG (k y z : ℕ) : EReal :=
  PG m c k y z * ((∑ e ∈ range 64, AO m c y (64 * k + e) * AV m c z (7168 + (64 * k + e))) - AD m c y k)

/-- The sum over a head's columns of a pair's 128. -/
theorem half_sum (h : Fin 2) (f : ℕ → EReal) : (∑ d : Fin 128, if d.val / 64 = h.val then f d.val else 0) = ∑ e ∈ range 64, f (64 * h.val + e) := by
  rw [← Finset.sum_range (fun d => if d / 64 = h.val then f d else 0), show 128 = 64 + 64 from rfl, sum_range_add]
  fin_cases h
  · rw [sum_congr rfl (g := fun e => f (64 * 0 + e)), sum_eq_zero (s := range 64) (f := fun x => ite _ _ _), add_zero]
    · intro x hx
      rw [mem_range] at hx
      rw [if_neg (by show ¬ (64 + x) / 64 = 0; omega)]
    · intro x hx
      rw [mem_range] at hx
      rw [if_pos (by show x / 64 = 0; omega), Nat.mul_zero, Nat.zero_add]
  · rw [sum_congr rfl (s₁ := range 64) (f := fun x => ite _ (f (64 + x)) 0) (g := fun e => f (64 * 1 + e)), sum_eq_zero, zero_add]
    · intro x hx
      rw [mem_range] at hx
      rw [if_neg (by show ¬ x / 64 = 1; omega)]
    · intro x hx
      rw [mem_range] at hx
      rw [if_pos (by show (64 + x) / 64 = 1; omega)]

variable (p J I : ℕ) (hp : p < 4) (hJ : J < 13) (hI : I < 13)
include hp hJ hI

theorem pt_val : (pt p J I).val = 169 * p + 13 * J + I := Nat.mod_eq_of_lt (by omega)
theorem pt_p : (pt p J I).val / 169 = p := by rw [pt_val p J I hp hJ hI]; omega
theorem pt_J : (pt p J I).val % 169 / 13 = J := by rw [pt_val p J I hp hJ hI]; omega
theorem pt_I : (pt p J I).val % 13 = I := by rw [pt_val p J I hp hJ hI]; omega

theorem pT_at (h : Fin 2) (r z : Fin 640) :
    pT p J I h (ins m c (pt p J I)) r z = PG m c (2 * p + h.val) (640 * I + r.val) (640 * J + z.val) := by
  have e0 := pt_p p J I hp hJ hI
  have e1 := pt_J p J I hp hJ hI
  have e2 := pt_I p J I hp hJ hI
  unfold pT PG
  by_cases hok : okT J I r z
  · have hJI : J ≤ I := by
      by_contra hn
      exact none_ok J I (by omega) r z hok
    have hh := h.isLt
    rw [if_pos hok, if_pos (show 640 * J + z.val ≤ 640 * I + r.val ∧ 112 ≤ 640 * J + z.val from hok)]
    unfold scT dotH SG
    simp only [ins_q m c _ (by rw [e1, e2]; exact hJI), ins_fs m c _ (by rw [e1, e2]; exact hJI), ins_lse m c _ (by rw [e1, e2]; exact hJI),
      ins_k, ins_fr, e0, e1, e2]
    rw [half_sum h (fun d => AQ m c (640 * I + r.val) (128 * p + d) * AK m c (640 * J + z.val) (128 * p + d))]
    rw [show (lane p h.val).val = 2 * p + h.val from Nat.mod_eq_of_lt (by omega), show (hl h).val = h.val from rfl,
      show 128 * ((2 * p + h.val) / 2) + (2 * p + h.val) % 2 = 128 * p + h.val by omega]
    simp only [show ∀ e, 128 * p + (64 * h.val + e) = 64 * (2 * p + h.val) + e from fun e => by omega]
  · rw [if_neg hok, if_neg (show ¬ (640 * J + z.val ≤ 640 * I + r.val ∧ 112 ≤ 640 * J + z.val) from hok)]

theorem dT_at (h : Fin 2) (r z : Fin 640) :
    dT p J I h (ins m c (pt p J I)) r z = DG m c (2 * p + h.val) (640 * I + r.val) (640 * J + z.val) := by
  have e0 := pt_p p J I hp hJ hI
  have e1 := pt_J p J I hp hJ hI
  have e2 := pt_I p J I hp hJ hI
  unfold dT DG
  rw [pT_at m c p J I hp hJ hI]
  by_cases hok : okT J I r z
  · have hJI : J ≤ I := by
      by_contra hn
      exact none_ok J I (by omega) r z hok
    have hh := h.isLt
    unfold dotH
    simp only [ins_dO m c _ (by rw [e1, e2]; exact hJI), ins_dl m c _ (by rw [e1, e2]; exact hJI), ins_v, e0, e1, e2]
    rw [half_sum h (fun d => AO m c (640 * I + r.val) (128 * p + d) * AV m c (640 * J + z.val) (7168 + (128 * p + d)))]
    rw [show (lane p h.val).val = 2 * p + h.val from Nat.mod_eq_of_lt (by omega)]
    simp only [show ∀ e, 128 * p + (64 * h.val + e) = 64 * (2 * p + h.val) + e from fun e => by omega]
  · have hz : PG m c (2 * p + h.val) (640 * I + r.val) (640 * J + z.val) = 0 := if_neg hok
    rw [hz, zero_mul, zero_mul]

/-- A value at a query's row, times what is zero where the key block comes after the query block. -/
theorem addV_at (h : Fin 2) (z : Fin 640) (d : Fin 128) : addV p J I h (ins m c (pt p J I)) z d
    = ∑ r ∈ range 640, PG m c (2 * p + h.val) (640 * I + r) (640 * J + z.val) * AO m c (640 * I + r) (128 * p + d.val) := by
  rw [Finset.sum_range]
  unfold addV
  refine sum_congr rfl fun r _ => ?_
  rw [pT_at m c p J I hp hJ hI]
  by_cases hJI : J ≤ I
  · rw [ins_dO m c _ (by rw [pt_J p J I hp hJ hI, pt_I p J I hp hJ hI]; exact hJI), pt_p p J I hp hJ hI, pt_I p J I hp hJ hI]
  · have hz : PG m c (2 * p + h.val) (640 * I + r.val) (640 * J + z.val) = 0 := if_neg (none_ok J I (by omega) r z)
    rw [hz, zero_mul, zero_mul]
theorem addK_at (h : Fin 2) (z : Fin 640) (d : Fin 128) : addK p J I h (ins m c (pt p J I)) z d
    = ∑ r ∈ range 640, DG m c (2 * p + h.val) (640 * I + r) (640 * J + z.val) * AQ m c (640 * I + r) (128 * p + d.val) := by
  rw [Finset.sum_range]
  unfold addK
  refine sum_congr rfl fun r _ => ?_
  rw [dT_at m c p J I hp hJ hI]
  by_cases hJI : J ≤ I
  · rw [ins_q m c _ (by rw [pt_J p J I hp hJ hI, pt_I p J I hp hJ hI]; exact hJI), pt_p p J I hp hJ hI, pt_I p J I hp hJ hI]
  · have hz : DG m c (2 * p + h.val) (640 * I + r.val) (640 * J + z.val) = 0 := by
      unfold DG; rw [show PG m c (2 * p + h.val) (640 * I + r.val) (640 * J + z.val) = 0 from if_neg (none_ok J I (by omega) r z), zero_mul]
    rw [hz, zero_mul, zero_mul]
theorem addF_at (h : Fin 2) (z : Fin 640) : addF p J I h (ins m c (pt p J I)) z
    = ∑ r ∈ range 640, DG m c (2 * p + h.val) (640 * I + r) (640 * J + z.val) := by
  rw [Finset.sum_range]
  unfold addF
  exact sum_congr rfl fun r _ => dT_at m c p J I hp hJ hI h r z
theorem addQ_at (r : Fin 640) (d : Fin 128) : addQ p J I (ins m c (pt p J I)) r d
    = ∑ z ∈ range 640, DG m c (2 * p + d.val / 64) (640 * I + r.val) (640 * J + z) * AK m c (640 * J + z) (128 * p + d.val) := by
  rw [Finset.sum_range]
  unfold addQ
  refine sum_congr rfl fun z _ => ?_
  rw [dT_at m c p J I hp hJ hI, ins_k, pt_p p J I hp hJ hI, pt_J p J I hp hJ hI]
  rfl
theorem addG_at (r : Fin 640) (d : Fin 128) : addG p J I (ins m c (pt p J I)) r d
    = if d.val < 2 then ∑ z ∈ range 640, DG m c (2 * p + d.val) (640 * I + r.val) (640 * J + z) else 0 := by
  unfold addG
  by_cases h0 : d = hl 0
  · subst h0
    rw [if_pos rfl, if_pos (by decide), Finset.sum_range]
    exact sum_congr rfl fun z _ => dT_at m c p J I hp hJ hI 0 r z
  · by_cases h1 : d = hl 1
    · subst h1
      rw [if_neg h0, if_pos rfl, if_pos (by decide), Finset.sum_range]
      exact sum_congr rfl fun z _ => dT_at m c p J I hp hJ hI 1 r z
    · rw [if_neg h0, if_neg h1, if_neg]
      intro h
      have : d.val = 0 ∨ d.val = 1 := by omega
      rcases this with h | h
      · exact h0 (Fin.ext h)
      · exact h1 (Fin.ext h)

end Cert.KernelIdeal.Fox

end
-- ==== Proof.Val.Outs.lean ====
/-
  The five arrays the call leaves, at an element.
-/
module

public import proofs.«01_k».proof.Proof.Val.Whole
public import proofs.«01_k».proof.Proof.Idl.Data

@[expose] public section

set_option maxRecDepth 8000

noncomputable section

namespace Cert.KernelIdeal.Fox

open Cert.KernelIdeal Cert.KernelIdeal.Gen
open Idealize.ShloMosaic Idealize.ShloMosaic.TcCoe Idealize.SL.Sem
open Finset

variable (m : (ℓ : Loc nD τ sig) → Buf (Elt Ideal) ℓ) (c : Dev nD)

theorem ix0_8 : ∀ t : Fin cfg0.N, win0_8.index t = ![0, t.val / 169] := (by decide +kernel : ∀ t : Fin grid0.N, _)
theorem ix0_9 : ∀ t : Fin cfg0.N, win0_9.index t = ![t.val % 169 / 13, t.val / 169] := (by decide +kernel : ∀ t : Fin grid0.N, _)
theorem ix0_10 : ∀ t : Fin cfg0.N, win0_10.index t = ![t.val % 169 / 13, t.val / 169] := (by decide +kernel : ∀ t : Fin grid0.N, _)
theorem ix0_11 : ∀ t : Fin cfg0.N, win0_11.index t = ![0, t.val / 169] := (by decide +kernel : ∀ t : Fin grid0.N, _)
theorem ix0_12 : ∀ t : Fin cfg0.N, win0_12.index t = ![t.val / 169, 0, t.val % 169 / 13] := (by decide +kernel : ∀ t : Fin grid0.N, _)

theorem blocks8320 (g : ℕ → EReal) : ∑ x ∈ range 8320, g x = ∑ J ∈ range 13, ∑ I ∈ range 640, g (640 * J + I) := sum_blocks g 640 13

/-- A key gradient's block when it is written out. -/
theorem dka_end (t : Fin cfg0.N) (ht : t.val % 13 = 12) (h : Fin 2) (z : Fin 640) (d : Fin 128) :
    (prev m c (t.val + 1)).dka (ix3 h z d)
      = ∑ y ∈ range 8320, DG m c (2 * (t.val / 169) + h.val) y (640 * (t.val % 169 / 13) + z.val) * AQ m c y (128 * (t.val / 169) + d.val) := by
  have hlt : t.val < 676 := t.isLt
  rw [key_end m c (fun n => (prev m c n).dka (ix3 h z d)) _ (dka_next m c h z d) t ht, blocks8320]
  refine sum_congr rfl fun I hI => ?_
  rw [mem_range] at hI
  exact addK_at m c _ _ I (by omega) (by omega) hI h z d
theorem dva_end (t : Fin cfg0.N) (ht : t.val % 13 = 12) (h : Fin 2) (z : Fin 640) (d : Fin 128) :
    (prev m c (t.val + 1)).dva (ix3 h z d)
      = ∑ y ∈ range 8320, PG m c (2 * (t.val / 169) + h.val) y (640 * (t.val % 169 / 13) + z.val) * AO m c y (128 * (t.val / 169) + d.val) := by
  have hlt : t.val < 676 := t.isLt
  rw [key_end m c (fun n => (prev m c n).dva (ix3 h z d)) _ (dva_next m c h z d) t ht, blocks8320]
  refine sum_congr rfl fun I hI => ?_
  rw [mem_range] at hI
  exact addV_at m c _ _ I (by omega) (by omega) hI h z d
theorem dfa_end (t : Fin cfg0.N) (ht : t.val % 13 = 12) (h : Fin 2) (z : Fin 640) :
    (prev m c (t.val + 1)).dfa (ix3 h 0 z)
      = ∑ I ∈ range 13, -∑ r ∈ range 640, DG m c (2 * (t.val / 169) + h.val) (640 * I + r) (640 * (t.val % 169 / 13) + z.val) := by
  have hlt : t.val < 676 := t.isLt
  rw [key_end m c (fun n => (prev m c n).dfa (ix3 h 0 z)) _ (dfa_next m c h z) t ht]
  refine sum_congr rfl fun I hI => ?_
  rw [mem_range] at hI
  exact congrArg Neg.neg (addF_at m c _ _ I (by omega) (by omega) hI h z)
theorem dq_end (t : Fin cfg0.N) (ht : t.val % 169 = 168) (y : Fin 8320) (d : Fin 128) :
    (prev m c (t.val + 1)).dq (ix2 y d)
      = ∑ z ∈ range 8320, DG m c (2 * (t.val / 169) + d.val / 64) y.val z * AK m c z (128 * (t.val / 169) + d.val) := by
  have hlt : t.val < 676 := t.isLt
  have hy := y.isLt
  rw [query_end m c (fun n => (prev m c n).dq (ix2 y d)) (fun p J I x => addQ p J I x ⟨y.val % 640, Nat.mod_lt _ (by norm_num)⟩ d)
    (y.val / 640) (by omega) (dq_next m c y d) t ht, blocks8320]
  refine sum_congr rfl fun J hJ => ?_
  rw [mem_range] at hJ
  rw [addQ_at m c _ J _ (by omega) hJ (by omega)]
  simp only [Nat.div_add_mod]
theorem dfq_end (t : Fin cfg0.N) (ht : t.val % 169 = 168) (y : Fin 8320) (d : Fin 128) :
    (prev m c (t.val + 1)).dfq (ix2 y d)
      = if d.val < 2 then ∑ z ∈ range 8320, DG m c (2 * (t.val / 169) + d.val) y.val z else 0 := by
  have hlt : t.val < 676 := t.isLt
  have hy := y.isLt
  rw [query_end m c (fun n => (prev m c n).dfq (ix2 y d)) (fun p J I x => addG p J I x ⟨y.val % 640, Nat.mod_lt _ (by norm_num)⟩ d)
    (y.val / 640) (by omega) (dfq_next m c y d) t ht]
  have e : ∀ J ∈ range 13, addG (t.val / 169) J (y.val / 640) (ins m c (pt (t.val / 169) J (y.val / 640))) ⟨y.val % 640, Nat.mod_lt _ (by norm_num)⟩ d
      = if d.val < 2 then ∑ z ∈ range 640, DG m c (2 * (t.val / 169) + d.val) y.val (640 * J + z) else 0 := by
    intro J hJ
    rw [mem_range] at hJ
    rw [addG_at m c _ J _ (by omega) hJ (by omega)]
    simp only [Nat.div_add_mod]
  rw [sum_congr rfl e]
  split
  · rw [blocks8320]
  · rw [sum_const_zero]

/-- The gradients of q, k and v, and of the gates' sums by queries and by keys. -/
def Gq (i : S8320x512.Idx) : EReal := ∑ z ∈ range 8320, DG m c ((i 1).val / 64) (i 0).val z * AK m c z (i 1).val
def Gk (i : S8320x512.Idx) : EReal := ∑ y ∈ range 8320, DG m c ((i 1).val / 64) y (i 0).val * AQ m c y (i 1).val
def Gv (i : S8320x512.Idx) : EReal :=
  (∑ y ∈ range 8320, PG m c ((i 1).val / 64) y (i 0).val * AO m c y (i 1).val) * (((Real.log 2)⁻¹ : ℝ) : EReal)
def Gfq (i : S8320x512.Idx) : EReal :=
  if (i 1).val % 128 < 2 then ∑ z ∈ range 8320, DG m c (2 * ((i 1).val / 128) + (i 1).val % 128) (i 0).val z else 0
def Gfk (i : S8x1x8320.Idx) : EReal := ∑ I ∈ range 13, -∑ r ∈ range 640, DG m c (i 0).val (640 * I + r) (i 2).val

theorem outK_at (s : St Ideal) (z : Fin 640) (d : Fin 128) : outK s (ix2 z d) = s.dka (ix3 (hd d) z d) := by
  unfold outK
  pointwise [k0_pay8]
  rw [sel_half0]
  by_cases h : d.val / 64 = 0
  · rw [if_pos (show d.val / 64 = (0 : Fin 2).val from h), show hd d = 0 from Fin.ext h]
  · rw [if_neg (show ¬ d.val / 64 = (0 : Fin 2).val from h), show hd d = 1 from Fin.ext (by have := d.isLt; show d.val / 64 = 1; omega)]
theorem outV_at (s : St Ideal) (z : Fin 640) (d : Fin 128) :
    outV s (ix2 z d) = s.dva (ix3 (hd d) z d) * (((Real.log 2)⁻¹ : ℝ) : EReal) := by
  have e : (Named.named (F := Ideal) (φ := .f32) κ "log2e" 1069066811#32 : EReal) = (((Real.log 2)⁻¹ : ℝ) : EReal) :=
    IdealRules.named_const.ideal_named_scalar _ _ _ _ rfl
  unfold outV
  pointwise [k0_pay9]
  rw [sel_half0]
  by_cases h : d.val / 64 = 0
  · rw [if_pos (show d.val / 64 = (0 : Fin 2).val from h), show hd d = 0 from Fin.ext h]
    exact congrArg _ e
  · rw [if_neg (show ¬ d.val / 64 = (0 : Fin 2).val from h), show hd d = 1 from Fin.ext (by have := d.isLt; show d.val / 64 = 1; omega)]
    exact congrArg _ e

theorem final_8 : (dats m 0 c).arrAt 8 cfg0.N = Gq m c := by
  refine (dats m 0 c).arrAt_eq_of_covers 8 _ (by decide +kernel) fun t hf y => ?_
  have ht := (flush0_8 t).mp hf
  have hlt : t.val < 676 := t.isLt
  blk_simp
  rw [after_8]
  obtain ⟨a, d, rfl⟩ : ∃ (a : Fin 8320) (d : Fin 128), y = ix2 a d := ⟨y 0, y 1, eq_ix2 y⟩
  have hd' := d.isLt
  have e0 : ((win0_8.blk t).view.emb (ix2 a d) 0 : ℕ) = a.val := by
    blk_simp [ix0_8]
    first | done | omega | simp only [Matrix.cons_val_zero, ix2]; omega | (show _ + a.val = _; simp; try omega)
  have e1 : ((win0_8.blk t).view.emb (ix2 a d) 1 : ℕ) = 128 * (t.val / 169) + d.val := by
    blk_simp [ix0_8]
    first | done | omega | simp only [Matrix.cons_val_one, ix2]; omega | (show _ + d.val = _; simp; try omega)
  unfold Gq
  rw [dq_end m c t ht, e0, e1, show (128 * (t.val / 169) + d.val) / 64 = 2 * (t.val / 169) + d.val / 64 by omega]
theorem final_9 : (dats m 0 c).arrAt 9 cfg0.N = Gk m c := by
  refine (dats m 0 c).arrAt_eq_of_covers 9 _ (by decide +kernel) fun t hf y => ?_
  have ht := (flush0_9 t).mp hf
  have hlt : t.val < 676 := t.isLt
  blk_simp
  rw [after_9]
  obtain ⟨a, d, rfl⟩ : ∃ (a : Fin 640) (d : Fin 128), y = ix2 a d := ⟨y 0, y 1, eq_ix2 y⟩
  have hd' := d.isLt
  have e0 : ((win0_9.blk t).view.emb (ix2 a d) 0 : ℕ) = 640 * (t.val % 169 / 13) + a.val := by
    blk_simp [ix0_9]
    first | done | omega | simp only [Matrix.cons_val_zero, ix2]; omega | (show _ + a.val = _; simp; try omega)
  have e1 : ((win0_9.blk t).view.emb (ix2 a d) 1 : ℕ) = 128 * (t.val / 169) + d.val := by
    blk_simp [ix0_9]
    first | done | omega | simp only [Matrix.cons_val_one, ix2]; omega | (show _ + d.val = _; simp; try omega)
  unfold Gk
  rw [outK_at, dka_end m c t ht, e0, e1, show (128 * (t.val / 169) + d.val) / 64 = 2 * (t.val / 169) + d.val / 64 by omega]
  rfl
theorem final_10 : (dats m 0 c).arrAt 10 cfg0.N = Gv m c := by
  refine (dats m 0 c).arrAt_eq_of_covers 10 _ (by decide +kernel) fun t hf y => ?_
  have ht := (flush0_10 t).mp hf
  have hlt : t.val < 676 := t.isLt
  blk_simp
  rw [after_10]
  obtain ⟨a, d, rfl⟩ : ∃ (a : Fin 640) (d : Fin 128), y = ix2 a d := ⟨y 0, y 1, eq_ix2 y⟩
  have hd' := d.isLt
  have e0 : ((win0_10.blk t).view.emb (ix2 a d) 0 : ℕ) = 640 * (t.val % 169 / 13) + a.val := by
    blk_simp [ix0_10]
    first | done | omega | simp only [Matrix.cons_val_zero, ix2]; omega | (show _ + a.val = _; simp; try omega)
  have e1 : ((win0_10.blk t).view.emb (ix2 a d) 1 : ℕ) = 128 * (t.val / 169) + d.val := by
    blk_simp [ix0_10]
    first | done | omega | simp only [Matrix.cons_val_one, ix2]; omega | (show _ + d.val = _; simp; try omega)
  unfold Gv
  rw [outV_at, dva_end m c t ht, e0, e1, show (128 * (t.val / 169) + d.val) / 64 = 2 * (t.val / 169) + d.val / 64 by omega]
  rfl
theorem final_11 : (dats m 0 c).arrAt 11 cfg0.N = Gfq m c := by
  refine (dats m 0 c).arrAt_eq_of_covers 11 _ (by decide +kernel) fun t hf y => ?_
  have ht := (flush0_11 t).mp hf
  have hlt : t.val < 676 := t.isLt
  blk_simp
  rw [after_11]
  obtain ⟨a, d, rfl⟩ : ∃ (a : Fin 8320) (d : Fin 128), y = ix2 a d := ⟨y 0, y 1, eq_ix2 y⟩
  have hd' := d.isLt
  have e0 : ((win0_11.blk t).view.emb (ix2 a d) 0 : ℕ) = a.val := by
    blk_simp [ix0_11]
    first | done | omega | simp only [Matrix.cons_val_zero, ix2]; omega | (show _ + a.val = _; simp; try omega)
  have e1 : ((win0_11.blk t).view.emb (ix2 a d) 1 : ℕ) = 128 * (t.val / 169) + d.val := by
    blk_simp [ix0_11]
    first | done | omega | simp only [Matrix.cons_val_one, ix2]; omega | (show _ + d.val = _; simp; try omega)
  unfold Gfq
  rw [dfq_end m c t ht, e0, e1, show (128 * (t.val / 169) + d.val) % 128 = d.val by omega, show (128 * (t.val / 169) + d.val) / 128 = t.val / 169 by omega]
theorem final_12 : (dats m 0 c).arrAt 12 cfg0.N = Gfk m c := by
  refine (dats m 0 c).arrAt_eq_of_covers 12 _ (by decide +kernel) fun t hf y => ?_
  have ht := (flush0_12 t).mp hf
  blk_simp
  rw [after_12]
  obtain ⟨h, z, rfl⟩ : ∃ (h : Fin 2) (z : Fin 640), y = ix3 h 0 z := ⟨y 0, y 2, by
    refine (eq_ix3 (n0 := 2) (n1 := 1) (n2 := 640) y).trans ?_
    exact congrArg (fun w => ix3 (n0 := 2) (n1 := 1) (n2 := 640) (y 0) w (y 2)) (Subsingleton.elim (α := Fin 1) _ _)⟩
  have e0 : ((win0_12.blk t).view.emb (ix3 h 0 z) 0 : ℕ) = 2 * (t.val / 169) + h.val := by
    blk_simp [ix0_12]
    first | done | omega | (show _ + h.val = _; simp; try omega)
  have e1 : ((win0_12.blk t).view.emb (ix3 h 0 z) 2 : ℕ) = 640 * (t.val % 169 / 13) + z.val := by
    blk_simp [ix0_12]
    first | done | omega | (show _ + z.val = _; simp; try omega)
  unfold Gfk
  rw [dfa_end m c t ht, e0, e1]

end Cert.KernelIdeal.Fox

end
-- ==== Proof.Val.KerVal.lean ====
/-
  The kernel's results over the real numbers: the blocks it reads, the weights and the gradients of the scores that it
  finds from them, and the sums of these.
-/
module

public import proofs.«01_k».proof.Proof.Val.HostReads
public import proofs.«01_k».proof.Proof.Val.HostVal
public import proofs.«01_k».proof.Proof.Val.Outs

@[expose] public section

set_option maxRecDepth 8192

noncomputable section

namespace Cert.KernelIdeal.Fox

open Cert.KernelIdeal Cert.KernelIdeal.Gen Cert.Attn Finset
open Idealize.ShloMosaic Idealize.ShloMosaic.TcCoe Idealize.SL.Sem

variable {m : (ℓ : Loc nD τ sig) → Buf (Elt Ideal) ℓ} {c : Dev nD} {A : Args} (a : Given m c A)
include a

/-! ## What the kernel reads -/

theorem v69_at (y : Fin 8320) (w : Fin 512) :
    V m c main_v69 (ix2 y w) = if 112 ≤ y.val ∧ w.val % 128 < 2 then
      (((top A (w.val / 128 * 2 + w.val % 128) (y.val - 112) + Real.log (tot A (w.val / 128 * 2 + w.val % 128) (y.val - 112))) * (Real.log 2)⁻¹ : ℝ) : EReal)
      else (0 : EReal) := by
  have hS := scores_at (A := A) a.q a.k a.f
  have hX := greatest_at hS
  have hE := weights_at hS hX
  have hZ := logSums_at hX (sums_at hE) logTwoInv_at
  rw [host_v69, padLog_at]
  simp only [show y.val - 112 < 8208 by omega, show w.val / 128 < 4 by omega, and_true, true_and]
  split
  next h => exact hZ ⟨w.val / 128 * 2 + w.val % 128, by omega⟩ ⟨y.val - 112, by omega⟩
  next h => rfl

theorem v65_at (y : Fin 8320) (w : Fin 128) :
    V m c main_v65 (ix2 y w) = if 112 ≤ y.val ∧ w.val < 8 then
      ((∑ e : Fin 64, (∑ x : Fin 8208, A.v x w e * prob A w (y.val - 112) x) * (A.g (y.val - 112) w e * Real.log 2) : ℝ) : EReal)
      else (0 : EReal) := by
  have hS := scores_at (A := A) a.q a.k a.f
  have hX := greatest_at hS
  have hE := weights_at hS hX
  have hZ := delta_at (outs_at a.v hE (sums_at hE)) a.g logTwo_at
  rw [host_v65, padDelta_at]
  simp only [show y.val - 112 < 8208 by omega, and_true]
  split
  next h => exact hZ ⟨y.val - 112, by omega⟩ ⟨w.val, h.2⟩
  next h => rfl

theorem AQ_at (y w : ℕ) (hy : y < 8320) (hw : w < 512) :
    AQ m c y w = if 112 ≤ y then ((A.q (y - 112) (w / 64) (w % 64) * (1 / 8 * (Real.log 2)⁻¹) : ℝ) : EReal) else 0 := by
  unfold AQ
  rw [v42_at a]
  simp only [Fin.val_ofNat, Nat.mod_eq_of_lt hy, Nat.mod_eq_of_lt hw]
theorem AK_at (y w : ℕ) (hy : y < 8320) (hw : w < 512) :
    AK m c y w = if 112 ≤ y then (A.k (y - 112) (w / 64) (w % 64) : EReal) else 0 := by
  unfold AK
  rw [v45_at a]
  simp only [Fin.val_ofNat, Nat.mod_eq_of_lt hy, Nat.mod_eq_of_lt hw]
theorem AO_at (y w : ℕ) (hy : y < 8320) (hw : w < 512) :
    AO m c y w = if 112 ≤ y then ((A.g (y - 112) (w / 64) (w % 64) * Real.log 2 : ℝ) : EReal) else 0 := by
  unfold AO
  rw [v52_at a]
  simp only [Fin.val_ofNat, Nat.mod_eq_of_lt hy, Nat.mod_eq_of_lt hw]
theorem AV_at (y w : ℕ) (hy : y < 8320) (hw : w < 512) :
    AV m c y (7168 + w) = if 112 ≤ y then (A.v (y - 112) (w / 64) (w % 64) : EReal) else 0 := by
  unfold AV
  have e : Fin.ofNat 7680 (7168 + w) = ⟨7168 + (⟨w, hw⟩ : Fin 512).val, by show 7168 + w < 7680; omega⟩ := Fin.ext (Nat.mod_eq_of_lt (by omega))
  rw [e, v47_at a _ ⟨w, hw⟩]
  simp only [Fin.val_ofNat, Nat.mod_eq_of_lt hy]
theorem AF_at (y k : ℕ) (hy : y < 8320) (hk : k < 8) :
    AF m c y k = if 112 ≤ y then ((A.f (y - 112) k * (Real.log 2)⁻¹ : ℝ) : EReal) else 0 := by
  unfold AF
  rw [v55_at a]
  simp only [Fin.val_ofNat, Nat.mod_eq_of_lt hy, Nat.mod_eq_of_lt (show k < 128 by omega), hk, and_true]
theorem AR_at (k y : ℕ) (hy : y < 8320) (hk : k < 8) :
    AR m c k y = if 112 ≤ y then ((A.f (y - 112) k * (Real.log 2)⁻¹ : ℝ) : EReal) else 0 := by
  unfold AR
  rw [v60_at a]
  simp only [Fin.val_ofNat, Nat.mod_eq_of_lt hy, Nat.mod_eq_of_lt hk]
theorem AL_at (y k : ℕ) (hy : y < 8320) (hk : k < 8) :
    AL m c y (128 * (k / 2) + k % 2) = if 112 ≤ y then (((top A k (y - 112) + Real.log (tot A k (y - 112))) * (Real.log 2)⁻¹ : ℝ) : EReal) else 0 := by
  unfold AL
  rw [v69_at a]
  simp only [Fin.val_ofNat, Nat.mod_eq_of_lt hy, Nat.mod_eq_of_lt (show 128 * (k / 2) + k % 2 < 512 by omega),
    show (128 * (k / 2) + k % 2) / 128 * 2 + (128 * (k / 2) + k % 2) % 128 = k by omega, show (128 * (k / 2) + k % 2) % 128 < 2 by omega, and_true]
theorem AD_at (y k : ℕ) (hy : y < 8320) (hk : k < 8) :
    AD m c y k = if 112 ≤ y then ((∑ e : Fin 64, (∑ x : Fin 8208, A.v x k e * prob A k (y - 112) x) * (A.g (y - 112) k e * Real.log 2) : ℝ) : EReal) else 0 := by
  unfold AD
  rw [v65_at a]
  simp only [Fin.val_ofNat, Nat.mod_eq_of_lt hy, Nat.mod_eq_of_lt (show k < 128 by omega), hk, and_true]

/-! ## The weights and the gradients of the scores -/

theorem SG_at (k y z : ℕ) (hk : k < 8) (hy : y < 8320) (hz : z < 8320) (hy' : 112 ≤ y) (hz' : 112 ≤ z) :
    SG m c k y z = ((score A k (y - 112) (z - 112) * (Real.log 2)⁻¹ : ℝ) : EReal) := by
  have hs : (∑ e ∈ range 64, AQ m c y (64 * k + e) * AK m c z (64 * k + e))
      = ((∑ e ∈ range 64, (A.q (y - 112) k e * (1 / 8 * (Real.log 2)⁻¹)) * A.k (z - 112) k e : ℝ) : EReal) := by
    refine sum_coe fun e he => ?_
    have he' := mem_range.mp he
    rw [AQ_at a y _ hy (by omega), AK_at a z _ hz (by omega), if_pos hy', if_pos hz', show (64 * k + e) / 64 = k by omega,
      show (64 * k + e) % 64 = e by omega, ← EReal.coe_mul]
  unfold SG
  rw [hs, AF_at a y k hy hk, AR_at a k z hz hk, if_pos hy', if_pos hz', ← EReal.coe_add, ← EReal.coe_sub]
  refine congrArg Real.toEReal ?_
  unfold score
  rw [sum_range]
  have e : ∑ e : Fin 64, (A.q (y - 112) k e * (1 / 8 * (Real.log 2)⁻¹)) * A.k (z - 112) k e
      = (∑ e : Fin 64, A.q (y - 112) k e * A.k (z - 112) k e) * (1 / 8 * (Real.log 2)⁻¹) := by
    rw [sum_mul]
    exact sum_congr rfl fun _ _ => by ring
  rw [e]
  ring

theorem PG_at (k y z : ℕ) (hk : k < 8) (hy : y < 8320) (hz : z < 8320) :
    PG m c k y z = ((if 112 ≤ y ∧ 112 ≤ z then prob A k (y - 112) (z - 112) else 0 : ℝ) : EReal) := by
  unfold PG
  by_cases h : z ≤ y ∧ 112 ≤ z
  · have hy' : 112 ≤ y := h.2.trans h.1
    rw [if_pos h, if_pos ⟨hy', h.2⟩, SG_at a k y z hk hy hz hy' h.2, AL_at a y k hy hk, if_pos hy', ← EReal.coe_sub, Ideal.exp2_coe]
    exact congrArg Real.toEReal (prob_pow A (by omega))
  · rw [if_neg h]
    split
    next h' => rw [prob_of_not A (by omega)]; rfl
    next => rfl

theorem DG_at (k y z : ℕ) (hk : k < 8) (hy : y < 8320) (hz : z < 8320) :
    DG m c k y z = ((if 112 ≤ y ∧ 112 ≤ z then Real.log 2 * ds A k (y - 112) (z - 112) else 0 : ℝ) : EReal) := by
  unfold DG
  rw [PG_at a k y z hk hy hz]
  by_cases h : 112 ≤ y ∧ 112 ≤ z
  · have hs : (∑ e ∈ range 64, AO m c y (64 * k + e) * AV m c z (7168 + (64 * k + e)))
        = ((∑ e ∈ range 64, (A.g (y - 112) k e * Real.log 2) * A.v (z - 112) k e : ℝ) : EReal) := by
      refine sum_coe fun e he => ?_
      have he' := mem_range.mp he
      rw [AO_at a y _ hy (by omega), AV_at a z _ hz (by omega), if_pos h.1, if_pos h.2, show (64 * k + e) / 64 = k by omega,
        show (64 * k + e) % 64 = e by omega, ← EReal.coe_mul]
    rw [if_pos h, if_pos h, hs, AD_at a y k hy hk, if_pos h.1, ← EReal.coe_sub, ← EReal.coe_mul, sum_range]
    exact congrArg Real.toEReal (ds_out A _ _ _)
  · rw [if_neg h, if_neg h, EReal.coe_zero, zero_mul]

/-! ## The results -/

theorem Gq_at (y : Fin 8320) (w : Fin 512) : Gq m c (ix2 y w) = (resQ A y w : EReal) := by
  have e : Gq m c (ix2 y w) = ∑ z ∈ range (112 + 8208), DG m c (w.val / 64) y z * AK m c z w := rfl
  rw [e, sum_pad_coe (fun j => if 112 ≤ y.val then Real.log 2 * ds A (w.val / 64) (y.val - 112) j * A.k j (w.val / 64) (w.val % 64) else 0)]
  · refine congrArg Real.toEReal ?_
    unfold resQ
    by_cases h2 : 112 ≤ y.val
    · simp only [h2, if_true, mul_sum]
      exact sum_congr rfl fun _ _ => by ring
    · simp only [h2, if_false, sum_const_zero]
  · intro z hz
    rw [DG_at a _ _ _ (by omega) y.isLt (by omega), AK_at a z _ (by omega) w.isLt]
    by_cases h1 : 112 ≤ z <;> by_cases h2 : 112 ≤ y.val <;> simp [h1, h2]

theorem Gk_at (z : Fin 8320) (w : Fin 512) : Gk m c (ix2 z w) = (resK A z w : EReal) := by
  have e : Gk m c (ix2 z w) = ∑ y ∈ range (112 + 8208), DG m c (w.val / 64) y z * AQ m c y w := rfl
  rw [e, sum_pad_coe (fun i => if 112 ≤ z.val then Real.log 2 * ds A (w.val / 64) i (z.val - 112) * (A.q i (w.val / 64) (w.val % 64) * (1 / 8 * (Real.log 2)⁻¹)) else 0)]
  · refine congrArg Real.toEReal ?_
    unfold resK
    by_cases h2 : 112 ≤ z.val
    · simp only [h2, if_true, mul_sum]
      refine sum_congr rfl fun _ _ => ?_
      have := log_ne
      field_simp
    · simp only [h2, if_false, sum_const_zero]
  · intro y hy
    rw [DG_at a _ _ _ (by omega) (by omega) z.isLt, AQ_at a y _ (by omega) w.isLt]
    by_cases h1 : 112 ≤ y <;> by_cases h2 : 112 ≤ z.val <;> simp [h1, h2]

theorem Gv_at (z : Fin 8320) (w : Fin 512) : Gv m c (ix2 z w) = (resV A z w : EReal) := by
  have e : Gv m c (ix2 z w) = (∑ y ∈ range (112 + 8208), PG m c (w.val / 64) y z * AO m c y w) * (((Real.log 2)⁻¹ : ℝ) : EReal) := rfl
  rw [e, sum_pad_coe (fun i => if 112 ≤ z.val then prob A (w.val / 64) i (z.val - 112) * (A.g i (w.val / 64) (w.val % 64) * Real.log 2) else 0), ← EReal.coe_mul]
  · refine congrArg Real.toEReal ?_
    unfold resV
    by_cases h2 : 112 ≤ z.val
    · simp only [h2, if_true, sum_mul]
      refine sum_congr rfl fun _ _ => ?_
      have := log_ne
      field_simp
    · simp only [h2, if_false, sum_const_zero, zero_mul]
  · intro y hy
    rw [PG_at a _ _ _ (by omega) (by omega) z.isLt, AO_at a y _ (by omega) w.isLt]
    by_cases h1 : 112 ≤ y <;> by_cases h2 : 112 ≤ z.val <;> simp [h1, h2]

theorem Gfq_at (y : Fin 8320) (w : Fin 512) : Gfq m c (ix2 y w) = (resFq A y w : EReal) := by
  have e : Gfq m c (ix2 y w) = if w.val % 128 < 2 then ∑ z ∈ range (112 + 8208), DG m c (2 * (w.val / 128) + w.val % 128) y z else 0 := rfl
  rw [e]
  unfold resFq
  by_cases hw : w.val % 128 < 2
  · rw [if_pos hw, sum_pad_coe (fun j => if 112 ≤ y.val then Real.log 2 * ds A (w.val / 128 * 2 + w.val % 128) (y.val - 112) j else 0)]
    · refine congrArg Real.toEReal ?_
      by_cases h2 : 112 ≤ y.val
      · simp only [h2, hw, and_self, if_true, mul_sum]
      · simp [h2]
    · intro z hz
      rw [DG_at a _ _ _ (by omega) y.isLt (by omega), mul_comm 2]
      by_cases h1 : 112 ≤ z <;> by_cases h2 : 112 ≤ y.val <;> simp [h1, h2]
  · rw [if_neg hw, if_neg (fun h => hw h.2)]
    rfl

theorem Gfk_at (h : Fin 8) (z : Fin 8320) : Gfk m c (ix3 h 0 z) = (resFk A h z : EReal) := by
  have e : Gfk m c (ix3 h 0 z) = ∑ I ∈ range 13, -∑ r ∈ range 640, DG m c h (640 * I + r) z := rfl
  rw [e, sum_coe (r := fun I => -∑ r ∈ range 640, if 112 ≤ 640 * I + r then (fun i => if 112 ≤ z.val then Real.log 2 * ds A h i (z.val - 112) else 0) (640 * I + r - 112) else 0)]
  · refine congrArg Real.toEReal ?_
    rw [sum_neg_distrib, ← sum_blocks (fun y : ℕ => if 112 ≤ y then (fun i => if 112 ≤ z.val then Real.log 2 * ds A h i (z.val - 112) else 0) (y - 112) else 0) 640 13]
    have := sum_pad 8208 (fun i => if 112 ≤ z.val then Real.log 2 * ds A h i (z.val - 112) else 0)
    refine (congrArg Neg.neg this).trans ?_
    unfold resFk
    by_cases h2 : 112 ≤ z.val
    · simp only [h2, if_true, mul_sum]
    · simp only [h2, if_false, sum_const_zero, neg_zero]
  · intro I hI
    have hI' := mem_range.mp hI
    rw [EReal.coe_neg]
    refine congrArg Neg.neg (sum_coe fun r hr => ?_)
    have hr' := mem_range.mp hr
    rw [DG_at a _ _ _ h.isLt (by omega) z.isLt]
    by_cases h1 : 112 ≤ 640 * I + r <;> by_cases h2 : 112 ≤ z.val <;> simp [h1, h2]

end Cert.KernelIdeal.Fox

end
-- ==== Proof.Val.Ref.lean ====
/-
  The reference's arrays, each a function of the arrays before it, and its results composed of them.
-/
module

public import proofs.«01_k».proof.Proof.Gen.ReferenceIdeal.Run
public import Idealize.ShloMosaic.PureOps.Ideal

@[expose] public section

set_option maxRecDepth 8192

noncomputable section

namespace Cert.ReferenceIdeal.Fox

open Cert.ReferenceIdeal Cert.ReferenceIdeal.Gen Cert.ReferenceIdeal.Value
open Idealize.ShloMosaic Idealize.ShloMosaic.TcCoe Idealize.SL.Sem

/-- Which keys a query sees. -/
def seen : IVec S8x8208x8208 1 := broadcastInDim S8x8208x8208 ![0, 1, 2] bcast_S1x8208x8208_S8x8208x8208_0_1_2 (broadcastInDim S1x8208x8208 ![1, 2] bcast_S8208x8208_S1x8208x8208_1_2 (cmpi .sle (broadcastInDim S8208x8208 ![0, 1] bcast_S1x8208_S8208x8208_0_1 (broadcastInDim S1x8208 ![1] bcast_S8208_S1x8208_1 (iotaInDim S8208 32 0))) (broadcastInDim S8208x8208 ![0, 1] bcast_S8208x1_S8208x8208_0_1 (broadcastInDim S8208x1 ![0] bcast_S8208_S8208x1_0 (iotaInDim S8208 32 0)))))
/-- The scores, −∞ where a key is not seen. -/
def scores (M : IVec S8x8208x8208 1) (Q : FVec Ideal S8208x8x64 .f32) (K : FVec Ideal S8208x8x64 .f32) (F : FVec Ideal S8208x8 .f32) : FVec Ideal S8x8208x8208 .f32 := select M (subf (addf (mulf (Host.dotGeneral dot_S8208x8x64_S8208x8x64_S8x8208x8208_2_2_0_0_1_1 none Q K) (broadcastInDim S8x8208x8208 ![] bcast_S_S8x8208x8208 (constant S_ .f32 0x3E000000#32))) (broadcastInDim S8x8208x8208 ![0, 1, 2] bcast_S8x8208x1_S8x8208x8208_0_1_2 (broadcastInDim S8x8208x1 ![0, 1] bcast_S8x8208_S8x8208x1_0_1 (transpose S8x8208 [1, 0] F transposes_S8208x8_S8x8208_1_0)))) (broadcastInDim S8x8208x8208 ![0, 1, 2] bcast_S8x1x8208_S8x8208x8208_0_1_2 (broadcastInDim S8x1x8208 ![0, 2] bcast_S8x8208_S8x1x8208_0_2 (transpose S8x8208 [1, 0] F transposes_S8208x8_S8x8208_1_0)))) (broadcastInDim S8x8208x8208 ![] bcast_S_S8x8208x8208 (id (constant S_ .f32 0xFF800000#32)))
/-- Each row's greatest score. -/
def greatest (S : FVec Ideal S8x8208x8208 .f32) : FVec Ideal S8x8208 .f32 := maximumf (broadcastInDim S8x8208 ![] bcast_S_S8x8208 (constant S_ .f32 0xFF800000#32)) (Host.reduce FloatOps.maximumf S (constant S_ .f32 0xFF800000#32) reducesTo_S8x8208x8208_S8x8208_d2 h_S_)
/-- The weights before they are divided by the row's sum. -/
def weights (S : FVec Ideal S8x8208x8208 .f32) (X : FVec Ideal S8x8208 .f32) : FVec Ideal S8x8208x8208 .f32 := Host.exp (subf S (broadcastInDim S8x8208x8208 ![0, 1, 2] bcast_S8x8208x1_S8x8208x8208_0_1_2 (broadcastInDim S8x8208x1 ![0, 1] bcast_S8x8208_S8x8208x1_0_1 X)))
/-- Each row's sum. -/
def sums (E : FVec Ideal S8x8208x8208 .f32) : FVec Ideal S8x8208x1 .f32 := broadcastInDim S8x8208x1 ![0, 1] bcast_S8x8208_S8x8208x1_0_1 (Host.reduceAdd E (constant S_ .f32 0x00000000#32) reducesTo_S8x8208x8208_S8x8208_d2 h_S_)
/-- The attention's weights. -/
def probs (E : FVec Ideal S8x8208x8208 .f32) (L : FVec Ideal S8x8208x1 .f32) : FVec Ideal S8x8208x8208 .f32 := Host.divf E (broadcastInDim S8x8208x8208 ![0, 1, 2] bcast_S8x8208x1_S8x8208x8208_0_1_2 L)
/-- The gradients of the weights. -/
def dprobs (G : FVec Ideal S8208x8x64 .f32) (W : FVec Ideal S8208x8x64 .f32) : FVec Ideal S8x8208x8208 .f32 := Host.dotGeneral dot_S8x64x8208_S8208x8x64_S8x8208x8208_1_2_2_0_0_1 none (transpose S8x64x8208 [1, 2, 0] G transposes_S8208x8x64_S8x64x8208_1_2_0) W
/-- What the softmax's normalisation takes off in a row. -/
def inner (D : FVec Ideal S8x8208x8208 .f32) (L : FVec Ideal S8x8208x1 .f32) (E : FVec Ideal S8x8208x8208 .f32) : FVec Ideal S8x8208x1 .f32 := Host.negf (shapeCast S8x8208x1 (Host.reduceAdd (mulf (mulf D (broadcastInDim S8x8208x8208 ![0, 1, 2] bcast_S8x8208x1_S8x8208x8208_0_1_2 (Host.divf (broadcastInDim S8x8208x1 ![] bcast_S_S8x8208x1 (constant S_ .f32 0x3F800000#32)) (mulf L L)))) E) (constant S_ .f32 0x00000000#32) reducesTo_S8x8208x8208_S8x8208_d2 h_S_) shapeCasts_S8x8208_S8x8208x1)
/-- The gradients of the scores. -/
def dscores (M : IVec S8x8208x8208 1) (D : FVec Ideal S8x8208x8208 .f32) (L : FVec Ideal S8x8208x1 .f32) (N : FVec Ideal S8x8208x1 .f32) (E : FVec Ideal S8x8208x8208 .f32) : FVec Ideal S8x8208x8208 .f32 := select M (mulf (addf (Host.divf D (broadcastInDim S8x8208x8208 ![0, 1, 2] bcast_S8x8208x1_S8x8208x8208_0_1_2 L)) (broadcastInDim S8x8208x8208 ![0, 1] bcast_S8x8208_S8x8208x8208_0_1 (Host.reduceAdd N (constant S_ .f32 0x00000000#32) reducesTo_S8x8208x1_S8x8208_d2 h_S_))) E) (broadcastInDim S8x8208x8208 ![] bcast_S_S8x8208x8208 (constant S_ .f32 0x00000000#32))
/-- The logarithm of two. -/
def logTwo : FVec Ideal S_ .f32 := Host.log (constant S_ .f32 0x40000000#32)
/-- The first result, from the gradients of the scores. -/
def outDq (T : FVec Ideal S8x8208x8208 .f32) (K : FVec Ideal S8208x8x64 .f32) (c : FVec Ideal S_ .f32) : FVec Ideal S8320x512 .f32 := pad S8320x512 ![112, 0] ![0, 0] ![0, 0] (mulf (shapeCast S8208x512 (transpose S8208x8x64 [1, 0, 2] (Host.dotGeneral dot_S8x8208x8208_S8208x8x64_S8x8208x64_2_0_1_2_0_1 none (mulf T (broadcastInDim S8x8208x8208 ![] bcast_S_S8x8208x8208 (constant S_ .f32 0x3E000000#32))) K) transposes_S8x8208x64_S8208x8x64_1_0_2) shapeCasts_S8208x8x64_S8208x512) (broadcastInDim S8208x512 ![] bcast_S_S8208x512 (mulf (constant S_ .f32 0x41000000#32) c))) (sitofp .f32 (constantI S_ 32 0#32)) pads_S8208x512_S8320x512_11200_000 h_S_
/-- The second result. -/
def outDk (T : FVec Ideal S8x8208x8208 .f32) (Q : FVec Ideal S8208x8x64 .f32) : FVec Ideal S8320x512 .f32 := pad S8320x512 ![112, 0] ![0, 0] ![0, 0] (shapeCast S8208x512 (transpose S8208x8x64 [1, 0, 2] (Host.dotGeneral dot_S8x8208x8208_S8208x8x64_S8x8208x64_1_0_2_2_0_1 none (mulf T (broadcastInDim S8x8208x8208 ![] bcast_S_S8x8208x8208 (constant S_ .f32 0x3E000000#32))) Q) transposes_S8x8208x64_S8208x8x64_1_0_2) shapeCasts_S8208x8x64_S8208x512) (sitofp .f32 (constantI S_ 32 0#32)) pads_S8208x512_S8320x512_11200_000 h_S_
/-- The third result. -/
def outDv (G : FVec Ideal S8208x8x64 .f32) (P : FVec Ideal S8x8208x8208 .f32) : FVec Ideal S8320x512 .bf16 := truncf .bf16 (pad S8320x512 ![112, 0] ![0, 0] ![0, 0] (shapeCast S8208x512 (transpose S8208x8x64 [2, 0, 1] (Host.dotGeneral dot_S8x64x8208_S8x8208x8208_S8x64x8208_2_1_1_2_0_0 none (transpose S8x64x8208 [1, 2, 0] G transposes_S8208x8x64_S8x64x8208_1_2_0) P) transposes_S8x64x8208_S8208x8x64_2_0_1) shapeCasts_S8208x8x64_S8208x512) (sitofp .f32 (constantI S_ 32 0#32)) pads_S8208x512_S8320x512_11200_000 h_S_) bitsLt_bf16_f32
/-- The fourth result. -/
def outDfq (T : FVec Ideal S8x8208x8208 .f32) (c : FVec Ideal S_ .f32) : FVec Ideal S8320x512 .f32 := shapeCast S8320x512 (pad S8320x4x128 ![112, 0, 0] ![0, 0, 126] ![0, 0, 0] (shapeCast S8208x4x2 (mulf (transpose S8208x8 [1, 0] (Host.reduceAdd (shapeCast S8x8208x1 (Host.reduceAdd T (constant S_ .f32 0x00000000#32) reducesTo_S8x8208x8208_S8x8208_d2 h_S_) shapeCasts_S8x8208_S8x8208x1) (constant S_ .f32 0x00000000#32) reducesTo_S8x8208x1_S8x8208_d2 h_S_) transposes_S8x8208_S8208x8_1_0) (broadcastInDim S8208x8 ![] bcast_S_S8208x8 c)) shapeCasts_S8208x8_S8208x4x2) (sitofp .f32 (constantI S_ 32 0#32)) pads_S8208x4x2_S8320x4x128_11200_000_01260 h_S_) shapeCasts_S8320x4x128_S8320x512
/-- The fifth result. -/
def outDfk (T : FVec Ideal S8x8208x8208 .f32) (c : FVec Ideal S_ .f32) : FVec Ideal S8x1x8320 .f32 := shapeCast S8x1x8320 (pad S8x8320 ![0, 112] ![0, 0] ![0, 0] (transpose S8x8208 [1, 0] (mulf (transpose S8208x8 [1, 0] (Host.reduceAdd (shapeCast S8x1x8208 (Host.reduceAdd (Host.negf T) (constant S_ .f32 0x00000000#32) reducesTo_S8x8208x8208_S8x8208_d1 h_S_) shapeCasts_S8x8208_S8x1x8208) (constant S_ .f32 0x00000000#32) reducesTo_S8x1x8208_S8x8208_d1 h_S_) transposes_S8x8208_S8208x8_1_0) (broadcastInDim S8208x8 ![] bcast_S_S8208x8 c)) transposes_S8208x8_S8x8208_1_0) (sitofp .f32 (constantI S_ 32 0#32)) pads_S8x8208_S8x8320_000_11200 h_S_) shapeCasts_S8x8320_S8x1x8320

variable (m : (ℓ : Loc nD τ sig) → Buf (Elt Ideal) ℓ) (c : Dev nD)

theorem res_0 : res_main_v86 m c = outDq (dscores seen (dprobs (m ((c.tc : Thread nD τ).loc main_arg4)) (m ((c.tc : Thread nD τ).loc main_arg2))) (sums (weights (scores seen (m ((c.tc : Thread nD τ).loc main_arg0)) (m ((c.tc : Thread nD τ).loc main_arg1)) (m ((c.tc : Thread nD τ).loc main_arg3))) (greatest (scores seen (m ((c.tc : Thread nD τ).loc main_arg0)) (m ((c.tc : Thread nD τ).loc main_arg1)) (m ((c.tc : Thread nD τ).loc main_arg3)))))) (inner (dprobs (m ((c.tc : Thread nD τ).loc main_arg4)) (m ((c.tc : Thread nD τ).loc main_arg2))) (sums (weights (scores seen (m ((c.tc : Thread nD τ).loc main_arg0)) (m ((c.tc : Thread nD τ).loc main_arg1)) (m ((c.tc : Thread nD τ).loc main_arg3))) (greatest (scores seen (m ((c.tc : Thread nD τ).loc main_arg0)) (m ((c.tc : Thread nD τ).loc main_arg1)) (m ((c.tc : Thread nD τ).loc main_arg3)))))) (weights (scores seen (m ((c.tc : Thread nD τ).loc main_arg0)) (m ((c.tc : Thread nD τ).loc main_arg1)) (m ((c.tc : Thread nD τ).loc main_arg3))) (greatest (scores seen (m ((c.tc : Thread nD τ).loc main_arg0)) (m ((c.tc : Thread nD τ).loc main_arg1)) (m ((c.tc : Thread nD τ).loc main_arg3)))))) (weights (scores seen (m ((c.tc : Thread nD τ).loc main_arg0)) (m ((c.tc : Thread nD τ).loc main_arg1)) (m ((c.tc : Thread nD τ).loc main_arg3))) (greatest (scores seen (m ((c.tc : Thread nD τ).loc main_arg0)) (m ((c.tc : Thread nD τ).loc main_arg1)) (m ((c.tc : Thread nD τ).loc main_arg3)))))) (m ((c.tc : Thread nD τ).loc main_arg1)) logTwo := by
  unfold res_main_v86
  rfl
theorem res_1 : res_main_v88 m c = outDk (dscores seen (dprobs (m ((c.tc : Thread nD τ).loc main_arg4)) (m ((c.tc : Thread nD τ).loc main_arg2))) (sums (weights (scores seen (m ((c.tc : Thread nD τ).loc main_arg0)) (m ((c.tc : Thread nD τ).loc main_arg1)) (m ((c.tc : Thread nD τ).loc main_arg3))) (greatest (scores seen (m ((c.tc : Thread nD τ).loc main_arg0)) (m ((c.tc : Thread nD τ).loc main_arg1)) (m ((c.tc : Thread nD τ).loc main_arg3)))))) (inner (dprobs (m ((c.tc : Thread nD τ).loc main_arg4)) (m ((c.tc : Thread nD τ).loc main_arg2))) (sums (weights (scores seen (m ((c.tc : Thread nD τ).loc main_arg0)) (m ((c.tc : Thread nD τ).loc main_arg1)) (m ((c.tc : Thread nD τ).loc main_arg3))) (greatest (scores seen (m ((c.tc : Thread nD τ).loc main_arg0)) (m ((c.tc : Thread nD τ).loc main_arg1)) (m ((c.tc : Thread nD τ).loc main_arg3)))))) (weights (scores seen (m ((c.tc : Thread nD τ).loc main_arg0)) (m ((c.tc : Thread nD τ).loc main_arg1)) (m ((c.tc : Thread nD τ).loc main_arg3))) (greatest (scores seen (m ((c.tc : Thread nD τ).loc main_arg0)) (m ((c.tc : Thread nD τ).loc main_arg1)) (m ((c.tc : Thread nD τ).loc main_arg3)))))) (weights (scores seen (m ((c.tc : Thread nD τ).loc main_arg0)) (m ((c.tc : Thread nD τ).loc main_arg1)) (m ((c.tc : Thread nD τ).loc main_arg3))) (greatest (scores seen (m ((c.tc : Thread nD τ).loc main_arg0)) (m ((c.tc : Thread nD τ).loc main_arg1)) (m ((c.tc : Thread nD τ).loc main_arg3)))))) (m ((c.tc : Thread nD τ).loc main_arg0)) := by
  unfold res_main_v88
  rfl
theorem res_2 : res_main_v91 m c = outDv (m ((c.tc : Thread nD τ).loc main_arg4)) (probs (weights (scores seen (m ((c.tc : Thread nD τ).loc main_arg0)) (m ((c.tc : Thread nD τ).loc main_arg1)) (m ((c.tc : Thread nD τ).loc main_arg3))) (greatest (scores seen (m ((c.tc : Thread nD τ).loc main_arg0)) (m ((c.tc : Thread nD τ).loc main_arg1)) (m ((c.tc : Thread nD τ).loc main_arg3))))) (sums (weights (scores seen (m ((c.tc : Thread nD τ).loc main_arg0)) (m ((c.tc : Thread nD τ).loc main_arg1)) (m ((c.tc : Thread nD τ).loc main_arg3))) (greatest (scores seen (m ((c.tc : Thread nD τ).loc main_arg0)) (m ((c.tc : Thread nD τ).loc main_arg1)) (m ((c.tc : Thread nD τ).loc main_arg3))))))) := by
  unfold res_main_v91
  rfl
theorem res_3 : res_main_v96 m c = outDfq (dscores seen (dprobs (m ((c.tc : Thread nD τ).loc main_arg4)) (m ((c.tc : Thread nD τ).loc main_arg2))) (sums (weights (scores seen (m ((c.tc : Thread nD τ).loc main_arg0)) (m ((c.tc : Thread nD τ).loc main_arg1)) (m ((c.tc : Thread nD τ).loc main_arg3))) (greatest (scores seen (m ((c.tc : Thread nD τ).loc main_arg0)) (m ((c.tc : Thread nD τ).loc main_arg1)) (m ((c.tc : Thread nD τ).loc main_arg3)))))) (inner (dprobs (m ((c.tc : Thread nD τ).loc main_arg4)) (m ((c.tc : Thread nD τ).loc main_arg2))) (sums (weights (scores seen (m ((c.tc : Thread nD τ).loc main_arg0)) (m ((c.tc : Thread nD τ).loc main_arg1)) (m ((c.tc : Thread nD τ).loc main_arg3))) (greatest (scores seen (m ((c.tc : Thread nD τ).loc main_arg0)) (m ((c.tc : Thread nD τ).loc main_arg1)) (m ((c.tc : Thread nD τ).loc main_arg3)))))) (weights (scores seen (m ((c.tc : Thread nD τ).loc main_arg0)) (m ((c.tc : Thread nD τ).loc main_arg1)) (m ((c.tc : Thread nD τ).loc main_arg3))) (greatest (scores seen (m ((c.tc : Thread nD τ).loc main_arg0)) (m ((c.tc : Thread nD τ).loc main_arg1)) (m ((c.tc : Thread nD τ).loc main_arg3)))))) (weights (scores seen (m ((c.tc : Thread nD τ).loc main_arg0)) (m ((c.tc : Thread nD τ).loc main_arg1)) (m ((c.tc : Thread nD τ).loc main_arg3))) (greatest (scores seen (m ((c.tc : Thread nD τ).loc main_arg0)) (m ((c.tc : Thread nD τ).loc main_arg1)) (m ((c.tc : Thread nD τ).loc main_arg3)))))) logTwo := by
  unfold res_main_v96
  rfl
theorem res_4 : res_main_v101 m c = outDfk (dscores seen (dprobs (m ((c.tc : Thread nD τ).loc main_arg4)) (m ((c.tc : Thread nD τ).loc main_arg2))) (sums (weights (scores seen (m ((c.tc : Thread nD τ).loc main_arg0)) (m ((c.tc : Thread nD τ).loc main_arg1)) (m ((c.tc : Thread nD τ).loc main_arg3))) (greatest (scores seen (m ((c.tc : Thread nD τ).loc main_arg0)) (m ((c.tc : Thread nD τ).loc main_arg1)) (m ((c.tc : Thread nD τ).loc main_arg3)))))) (inner (dprobs (m ((c.tc : Thread nD τ).loc main_arg4)) (m ((c.tc : Thread nD τ).loc main_arg2))) (sums (weights (scores seen (m ((c.tc : Thread nD τ).loc main_arg0)) (m ((c.tc : Thread nD τ).loc main_arg1)) (m ((c.tc : Thread nD τ).loc main_arg3))) (greatest (scores seen (m ((c.tc : Thread nD τ).loc main_arg0)) (m ((c.tc : Thread nD τ).loc main_arg1)) (m ((c.tc : Thread nD τ).loc main_arg3)))))) (weights (scores seen (m ((c.tc : Thread nD τ).loc main_arg0)) (m ((c.tc : Thread nD τ).loc main_arg1)) (m ((c.tc : Thread nD τ).loc main_arg3))) (greatest (scores seen (m ((c.tc : Thread nD τ).loc main_arg0)) (m ((c.tc : Thread nD τ).loc main_arg1)) (m ((c.tc : Thread nD τ).loc main_arg3)))))) (weights (scores seen (m ((c.tc : Thread nD τ).loc main_arg0)) (m ((c.tc : Thread nD τ).loc main_arg1)) (m ((c.tc : Thread nD τ).loc main_arg3))) (greatest (scores seen (m ((c.tc : Thread nD τ).loc main_arg0)) (m ((c.tc : Thread nD τ).loc main_arg1)) (m ((c.tc : Thread nD τ).loc main_arg3)))))) logTwo := by
  unfold res_main_v101
  rfl

end Cert.ReferenceIdeal.Fox

end
-- ==== Proof.Val.RefVal.lean ====
/-
  The reference's arrays at an index, when every argument is a real number.
-/
module

public import proofs.«01_k».proof.Proof.Val.Ref
public import proofs.«01_k».proof.Proof.Val.Math

@[expose] public section

set_option maxRecDepth 8192

noncomputable section

namespace Cert.ReferenceIdeal.Fox

open Cert.ReferenceIdeal Cert.ReferenceIdeal.Gen Cert.Attn
open Idealize.ShloMosaic Idealize.ShloMosaic.TcCoe Idealize.SL.Sem

variable {A : Args} {Q K W G : FVec Ideal S8208x8x64 .f32} {F : FVec Ideal S8208x8 .f32}
  {S E D T P : FVec Ideal S8x8208x8208 .f32} {X : FVec Ideal S8x8208 .f32} {L N : FVec Ideal S8x8208x1 .f32} {c : FVec Ideal S_ .f32}

/-- The maximum over the last of three axes, of an array of floats. -/
theorem max_row {n0 n1 n2 : ℕ} {u : Shape} (S : FVec Ideal (⟨3, ![n0, n1, n2]⟩ : Shape) .f32) (init : FVec Ideal u .f32)
    (h : (⟨3, ![n0, n1, n2]⟩ : Shape).ReducesTo [2] ⟨2, ![n0, n1]⟩) (hu : 0 < u.numel) (a : Fin n0) (b : Fin n1) :
    Host.reduce FloatOps.maximumf S init h hu (ix2 a b)
      = Finset.fold max (init (Shape.Idx.first hu)) (fun k : Fin n2 => S (ix3 a b k)) Finset.univ := max_last S init h hu a b

/-- The larger of two arrays, at an index. -/
theorem maximumf_at {s : Shape} (a b : FVec Ideal s .f32) (i : s.Idx) : maximumf a b i = FloatOps.maximumf (a i) (b i) := rfl

theorem scores_at (hQ : ∀ i h e, Q (ix3 i h e) = (A.q i.val h.val e.val : EReal)) (hK : ∀ i h e, K (ix3 i h e) = (A.k i.val h.val e.val : EReal))
    (hF : ∀ i h, F (ix2 i h) = (A.f i.val h.val : EReal)) (h : Fin 8) (i j : Fin 8208) :
    scores seen Q K F (ix3 h i j) = if j.val ≤ i.val then (score A h i j : EReal) else ⊥ := by
  pointwise [scores, seen]
  simp only [seen_word _ _ i.isLt j.isLt, hQ, hK, hF, bits_eighth]
  split
  · simp only [← EReal.coe_mul, ← coe_sum, ← EReal.coe_add, ← EReal.coe_sub]
    rfl
  · exact bits_bot

theorem greatest_at (hS : ∀ h i j, S (ix3 h i j) = if j.val ≤ i.val then (score A h.val i.val j.val : EReal) else ⊥) (h : Fin 8) (i : Fin 8208) :
    greatest S (ix2 h i) = (top A h i : EReal) := by
  have e : greatest S (ix2 h i) = FloatOps.maximumf (broadcastInDim S8x8208 ![] bcast_S_S8x8208 (constant S_ .f32 0xFF800000#32 : FVec Ideal S_ .f32) (ix2 h i))
      (Host.reduce FloatOps.maximumf S (constant S_ .f32 0xFF800000#32 : FVec Ideal S_ .f32) reducesTo_S8x8208x8208_S8x8208_d2 h_S_ (ix2 h i)) := by
    unfold greatest
    rw [maximumf_at]
  have e' : (constant S_ .f32 0xFF800000#32 : FVec Ideal S_ .f32) (Shape.Idx.first h_S_) = (⊥ : EReal) := bits_bot
  have e2 : broadcastInDim S8x8208 ![] bcast_S_S8x8208 (constant S_ .f32 0xFF800000#32 : FVec Ideal S_ .f32) (ix2 h i) = (⊥ : EReal) := bits_bot
  rw [e, max_row S _ reducesTo_S8x8208x8208_S8x8208_d2 h_S_ h i, e', e2]
  simp only [hS]
  rw [fold_top]
  exact max_eq_right bot_le

theorem weights_at (hS : ∀ h i j, S (ix3 h i j) = if j.val ≤ i.val then (score A h.val i.val j.val : EReal) else ⊥)
    (hX : ∀ h i, X (ix2 h i) = (top A h.val i.val : EReal)) (h : Fin 8) (i j : Fin 8208) :
    weights S X (ix3 h i j) = (ex A h i j : EReal) := by
  pointwise [weights]
  rw [hS, hX]
  unfold ex
  split
  · rw [← EReal.coe_sub, Ideal.exp_coe]
  · rw [EReal.bot_sub, Ideal.exp_bot]
    rfl

theorem sums_at (hE : ∀ h i j, E (ix3 h i j) = (ex A h.val i.val j.val : EReal)) (h : Fin 8) (i : Fin 8208) :
    sums E (ix3 h i 0) = (tot A h i : EReal) := by
  pointwise [sums]
  simp only [hE, ← coe_sum]
  rfl

theorem probs_at (hE : ∀ h i j, E (ix3 h i j) = (ex A h.val i.val j.val : EReal)) (hL : ∀ h i, L (ix3 h i 0) = (tot A h.val i.val : EReal))
    (h : Fin 8) (i j : Fin 8208) : probs E L (ix3 h i j) = (prob A h i j : EReal) := by
  pointwise [probs]
  rw [hE, hL, Ideal.div_coe (tot_pos A h i).ne', ← EReal.coe_mul]
  unfold prob
  rw [mul_one_div]

theorem dprobs_at (hG : ∀ i h e, G (ix3 i h e) = (A.g i.val h.val e.val : EReal)) (hW : ∀ i h e, W (ix3 i h e) = (A.v i.val h.val e.val : EReal))
    (h : Fin 8) (i j : Fin 8208) : dprobs G W (ix3 h i j) = (dp A h i j : EReal) := by
  pointwise [dprobs]
  simp only [hG, hW, ← EReal.coe_mul, ← coe_sum]
  rfl

theorem inner_at (hE : ∀ h i j, E (ix3 h i j) = (ex A h.val i.val j.val : EReal)) (hL : ∀ h i, L (ix3 h i 0) = (tot A h.val i.val : EReal))
    (hD : ∀ h i j, D (ix3 h i j) = (dp A h.val i.val j.val : EReal)) (h : Fin 8) (i : Fin 8208) :
    inner D L E (ix3 h i 0) = ((-(∑ x : Fin 8208, dp A h i x * (1 / (tot A h i * tot A h i)) * ex A h i x) : ℝ) : EReal) := by
  pointwise [inner]
  have ht : tot A h i * tot A h i ≠ 0 := mul_ne_zero (tot_pos A h i).ne' (tot_pos A h i).ne'
  simp only [hE, hL, hD, ← EReal.coe_mul, Ideal.div_coe ht, one_mul, ← coe_sum, ← EReal.coe_neg]

theorem dscores_at (hE : ∀ h i j, E (ix3 h i j) = (ex A h.val i.val j.val : EReal)) (hL : ∀ h i, L (ix3 h i 0) = (tot A h.val i.val : EReal))
    (hD : ∀ h i j, D (ix3 h i j) = (dp A h.val i.val j.val : EReal))
    (hN : ∀ h i, N (ix3 h i 0) = ((-(∑ x : Fin 8208, dp A h.val i.val x * (1 / (tot A h.val i.val * tot A h.val i.val)) * ex A h.val i.val x) : ℝ) : EReal))
    (h : Fin 8) (i j : Fin 8208) : dscores seen D L N E (ix3 h i j) = (ds A h i j : EReal) := by
  pointwise [dscores, seen]
  simp only [seen_word _ _ i.isLt j.isLt, hE, hL, hD]
  split
  · rw [Fin.sum_univ_one, hN, Ideal.div_coe (tot_pos A h i).ne', ← ds_chain, ← EReal.coe_mul, ← EReal.coe_add, ← EReal.coe_mul, mul_one_div]
  next hj => rw [ds_of_not A hj]; rfl

end Cert.ReferenceIdeal.Fox

end
-- ==== Proof.Val.RefOut.lean ====
/-
  The reference's results at an index, when every argument is a real number.
-/
module

public import proofs.«01_k».proof.Proof.Val.RefVal

@[expose] public section

set_option maxRecDepth 8192

noncomputable section

namespace Cert.ReferenceIdeal.Fox

open Cert.ReferenceIdeal Cert.ReferenceIdeal.Gen Cert.Attn
open Idealize.ShloMosaic Idealize.ShloMosaic.TcCoe Idealize.SL.Sem

variable {A : Args} {Q K G : FVec Ideal S8208x8x64 .f32} {T P : FVec Ideal S8x8208x8208 .f32} {c : FVec Ideal S_ .f32}

theorem logTwo_at : logTwo ix0 = ((Real.log 2 : ℝ) : EReal) := log_bits

theorem outDq_at (hT : ∀ h i j, T (ix3 h i j) = (ds A h.val i.val j.val : EReal)) (hK : ∀ i h e, K (ix3 i h e) = (A.k i.val h.val e.val : EReal))
    (hc : c ix0 = ((Real.log 2 : ℝ) : EReal)) (y : Fin 8320) (w : Fin 512) : outDq T K c (ix2 y w) = (resQ A y w : EReal) := by
  pointwise [outDq]
  simp only [hT, hK, hc, bits_eighth, bits_eight, zero_word, ← EReal.coe_mul, ← coe_sum, show y.val - 112 < 8208 by omega, and_true]
  unfold resQ
  split
  · refine congrArg Real.toEReal ?_
    rw [Finset.sum_mul, Finset.mul_sum]
    exact Finset.sum_congr rfl fun _ _ => by ring
  · rfl

theorem outDk_at (hT : ∀ h i j, T (ix3 h i j) = (ds A h.val i.val j.val : EReal)) (hQ : ∀ i h e, Q (ix3 i h e) = (A.q i.val h.val e.val : EReal))
    (y : Fin 8320) (w : Fin 512) : outDk T Q (ix2 y w) = (resK A y w : EReal) := by
  pointwise [outDk]
  simp only [hT, hQ, bits_eighth, zero_word, ← EReal.coe_mul, ← coe_sum, show y.val - 112 < 8208 by omega, and_true]
  unfold resK
  split
  · refine congrArg Real.toEReal ?_
    rw [Finset.mul_sum]
    exact Finset.sum_congr rfl fun _ _ => by ring
  · rfl

theorem outDv_at (hP : ∀ h i j, P (ix3 h i j) = (prob A h.val i.val j.val : EReal)) (hG : ∀ i h e, G (ix3 i h e) = (A.g i.val h.val e.val : EReal))
    (y : Fin 8320) (w : Fin 512) : outDv G P (ix2 y w) = (resV A y w : EReal) := by
  pointwise [outDv]
  simp only [hP, hG, zero_word, ← EReal.coe_mul, ← coe_sum, show y.val - 112 < 8208 by omega, and_true]
  unfold resV
  split
  · refine congrArg Real.toEReal ?_
    exact Finset.sum_congr rfl fun _ _ => by ring
  · rfl

theorem outDfq_at (hT : ∀ h i j, T (ix3 h i j) = (ds A h.val i.val j.val : EReal)) (hc : c ix0 = ((Real.log 2 : ℝ) : EReal))
    (y : Fin 8320) (w : Fin 512) : outDfq T c (ix2 y w) = (resFq A y w : EReal) := by
  pointwise [outDfq]
  simp only [hT, hc, zero_word, ← EReal.coe_mul, ← coe_sum, show y.val - 112 < 8208 by omega, show w.val / 128 < 4 by omega, and_true, true_and]
  unfold resFq
  split
  · refine congrArg Real.toEReal ?_
    rw [Fin.sum_univ_one, mul_comm]
  · rfl

theorem outDfk_at (hT : ∀ h i j, T (ix3 h i j) = (ds A h.val i.val j.val : EReal)) (hc : c ix0 = ((Real.log 2 : ℝ) : EReal))
    (h : Fin 8) (z : Fin 8320) : outDfk T c (ix3 h 0 z) = (resFk A h z : EReal) := by
  pointwise [outDfk]
  simp only [hT, hc, zero_word, ← EReal.coe_neg, ← EReal.coe_mul, ← coe_sum, show z.val - 112 < 8208 by omega, and_true]
  unfold resFk
  split
  · refine congrArg Real.toEReal ?_
    rw [Fin.sum_univ_one, Finset.sum_neg_distrib, neg_mul, mul_comm]
  · rfl

end Cert.ReferenceIdeal.Fox

end
-- ==== Proof.Algebraic.lean ====
/-
  The value claim: over the extended reals, on finite arguments, the call and the reference have the same results.
-/
module

public import proofs.«01_k».proof.Proof.Val.Finite
public import proofs.«01_k».proof.Proof.Val.KerVal
public import proofs.«01_k».proof.Proof.Val.RefOut
public import proofs.«01_k».proof.Proof.Idl.Main

@[expose] public section

noncomputable section

/-! ## The reference's results from its arguments -/

namespace Cert.ReferenceIdeal.Fox

open Cert.ReferenceIdeal Cert.ReferenceIdeal.Gen Cert.ReferenceIdeal.Value Cert.Attn
open Idealize.ShloMosaic Idealize.ShloMosaic.TcCoe Idealize.SL.Sem

/-- The reference's arguments are the real numbers `A`. -/
structure Given (m : (ℓ : Loc nD τ sig) → Buf (Elt Ideal) ℓ) (c : Dev nD) (A : Args) : Prop where
  q : ∀ (i : Fin 8208) (h : Fin 8) (e : Fin 64), m ((c.tc : Thread nD τ).loc main_arg0) (ix3 i h e) = (A.q i h e : EReal)
  k : ∀ (i : Fin 8208) (h : Fin 8) (e : Fin 64), m ((c.tc : Thread nD τ).loc main_arg1) (ix3 i h e) = (A.k i h e : EReal)
  v : ∀ (i : Fin 8208) (h : Fin 8) (e : Fin 64), m ((c.tc : Thread nD τ).loc main_arg2) (ix3 i h e) = (A.v i h e : EReal)
  f : ∀ (i : Fin 8208) (h : Fin 8), m ((c.tc : Thread nD τ).loc main_arg3) (ix2 i h) = (A.f i h : EReal)
  g : ∀ (i : Fin 8208) (h : Fin 8) (e : Fin 64), m ((c.tc : Thread nD τ).loc main_arg4) (ix3 i h e) = (A.g i h e : EReal)

variable {m : (ℓ : Loc nD τ sig) → Buf (Elt Ideal) ℓ} {c : Dev nD} {A : Args} (a : Given m c A)
include a

theorem dq_at (y : Fin 8320) (w : Fin 512) : res_main_v86 m c (ix2 y w) = (resQ A y w : EReal) := by
  have hS := scores_at (A := A) a.q a.k a.f
  have hE := weights_at hS (greatest_at hS)
  have hD := dprobs_at (A := A) a.g a.v
  have hT := dscores_at hE (sums_at hE) hD (inner_at hE (sums_at hE) hD)
  rw [res_0]
  exact outDq_at hT a.k logTwo_at y w

theorem dk_at (y : Fin 8320) (w : Fin 512) : res_main_v88 m c (ix2 y w) = (resK A y w : EReal) := by
  have hS := scores_at (A := A) a.q a.k a.f
  have hE := weights_at hS (greatest_at hS)
  have hD := dprobs_at (A := A) a.g a.v
  have hT := dscores_at hE (sums_at hE) hD (inner_at hE (sums_at hE) hD)
  rw [res_1]
  exact outDk_at hT a.q y w

theorem dv_at (y : Fin 8320) (w : Fin 512) : res_main_v91 m c (ix2 y w) = (resV A y w : EReal) := by
  have hS := scores_at (A := A) a.q a.k a.f
  have hE := weights_at hS (greatest_at hS)
  rw [res_2]
  exact outDv_at (probs_at hE (sums_at hE)) a.g y w

theorem dfq_at (y : Fin 8320) (w : Fin 512) : res_main_v96 m c (ix2 y w) = (resFq A y w : EReal) := by
  have hS := scores_at (A := A) a.q a.k a.f
  have hE := weights_at hS (greatest_at hS)
  have hD := dprobs_at (A := A) a.g a.v
  have hT := dscores_at hE (sums_at hE) hD (inner_at hE (sums_at hE) hD)
  rw [res_3]
  exact outDfq_at hT logTwo_at y w

theorem dfk_at (h : Fin 8) (z : Fin 8320) : res_main_v101 m c (ix3 h 0 z) = (resFk A h z : EReal) := by
  have hS := scores_at (A := A) a.q a.k a.f
  have hE := weights_at hS (greatest_at hS)
  have hD := dprobs_at (A := A) a.g a.v
  have hT := dscores_at hE (sums_at hE) hD (inner_at hE (sums_at hE) hD)
  rw [res_4]
  exact outDfk_at hT logTwo_at h z

end Cert.ReferenceIdeal.Fox

namespace Cert.FoxClaims

open Idealize.ShloMosaic Idealize.ShloMosaic.TcCoe Idealize.SL.Sem
open Cert.KernelIdeal.Fox (Gq Gk Gv Gfq Gfk)

/-- Two arrays of two axes with the same entries. -/
theorem ext2 {n0 n1 : ℕ} {x y : (⟨2, ![n0, n1]⟩ : Shape).Idx → EReal} (h : ∀ i j, x (ix2 i j) = y (ix2 i j)) : x = y :=
  funext fun i => by rw [eq_ix2 i]; exact h _ _
/-- Two arrays of three axes with the same entries, the middle axis of one entry. -/
theorem ext3 {n0 n2 : ℕ} {x y : (⟨3, ![n0, 1, n2]⟩ : Shape).Idx → EReal} (h : ∀ i j, x (ix3 i 0 j) = y (ix3 i 0 j)) : x = y :=
  funext fun i => by
    have e : i = ix3 (i 0) 0 (i 2) := (eq_ix3 (n0 := n0) (n1 := 1) (n2 := n2) i).trans
      (congrArg (fun t => ix3 (i 0) t (i 2)) (Subsingleton.elim (α := Fin 1) _ _))
    rw [e]; exact h _ _

set_option backward.isDefEq.respectTransparency.types false in
set_option maxHeartbeats 4000000 in
/-- The call's results and its arguments when it has run. -/
theorem call_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v70_0) = Gq m c
      ∧ r.2.mem ((c.tc : Thread Cert.KernelIdeal.nD Cert.KernelIdeal.τ).loc Cert.KernelIdeal.main_v70_1) = Gk m c
      ∧ r.2.mem ((c.tc : Thread Cert.KernelIdeal.nD Cert.KernelIdeal.τ).loc Cert.KernelIdeal.main_v70_2) = Gv m c
      ∧ r.2.mem ((c.tc : Thread Cert.KernelIdeal.nD Cert.KernelIdeal.τ).loc Cert.KernelIdeal.main_v70_3) = Gfq m c
      ∧ r.2.mem ((c.tc : Thread Cert.KernelIdeal.nD Cert.KernelIdeal.τ).loc Cert.KernelIdeal.main_v70_4) = Gfk m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun r h c =>
    ⟨((h.1 c).1 8).trans (Cert.KernelIdeal.Fox.final_8 m c), ((h.1 c).1 9).trans (Cert.KernelIdeal.Fox.final_9 m c),
      ((h.1 c).1 10).trans (Cert.KernelIdeal.Fox.final_10 m c), ((h.1 c).1 11).trans (Cert.KernelIdeal.Fox.final_11 m c),
      ((h.1 c).1 12).trans (Cert.KernelIdeal.Fox.final_12 m c),
      ((h.1 c).2 Cert.KernelIdeal.main_arg0 (Pipeline.mem_restRefs_of Cert.KernelIdeal.main_arg0 (by decide) (by decide))).trans (Cert.KernelIdeal.Gen.V_main_arg0 m c),
      ((h.1 c).2 Cert.KernelIdeal.main_arg1 (Pipeline.mem_restRefs_of Cert.KernelIdeal.main_arg1 (by decide) (by decide))).trans (Cert.KernelIdeal.Gen.V_main_arg1 m c),
      ((h.1 c).2 Cert.KernelIdeal.main_arg2 (Pipeline.mem_restRefs_of Cert.KernelIdeal.main_arg2 (by decide) (by decide))).trans (Cert.KernelIdeal.Gen.V_main_arg2 m c),
      ((h.1 c).2 Cert.KernelIdeal.main_arg3 (Pipeline.mem_restRefs_of Cert.KernelIdeal.main_arg3 (by decide) (by decide))).trans (Cert.KernelIdeal.Gen.V_main_arg3 m c),
      ((h.1 c).2 Cert.KernelIdeal.main_arg4 (Pipeline.mem_restRefs_of Cert.KernelIdeal.main_arg4 (by decide) (by decide))).trans (Cert.KernelIdeal.Gen.V_main_arg4 m c)⟩)
    (Cert.KernelIdeal.Fox.run_main m g)

/-- On finite arguments the call's results are the reference's. -/
theorem algebraic : Cert.algebraic_KernelIdeal_ReferenceIdeal_pre_finite := by
  intro m g m' g' hm hargs
  refine ⟨Gq m, Gk m, Gv m, Gfq m, Gfk m, call_run m g, (θ_run Cert.ReferenceIdeal.defs _ _).mono (fun r h c => ?_) (Cert.ReferenceIdeal.Value.run m' g')⟩
  have a := Cert.KernelIdeal.Fox.given m c hm
  have b : Cert.ReferenceIdeal.Fox.Given m' c (Cert.KernelIdeal.Fox.args m c) := by
    obtain ⟨h0, h1, h2, h3, h4⟩ := hargs c
    exact ⟨fun i h e => (congrFun h0 _).trans (a.q i h e), fun i h e => (congrFun h1 _).trans (a.k i h e),
      fun i h e => (congrFun h2 _).trans (a.v i h e), fun i h => (congrFun h3 _).trans (a.f i h), fun i h e => (congrFun h4 _).trans (a.g i h e)⟩
  obtain ⟨r0, r1, r2, r3, r4, rest⟩ := h c
  refine ⟨r0.trans ?_, r1.trans ?_, r2.trans ?_, r3.trans ?_, r4.trans ?_, rest⟩
  · exact ext2 (n0 := 8320) (n1 := 512) fun y w => (Cert.ReferenceIdeal.Fox.dq_at b y w).trans (Cert.KernelIdeal.Fox.Gq_at a y w).symm
  · exact ext2 (n0 := 8320) (n1 := 512) fun y w => (Cert.ReferenceIdeal.Fox.dk_at b y w).trans (Cert.KernelIdeal.Fox.Gk_at a y w).symm
  · exact ext2 (n0 := 8320) (n1 := 512) fun y w => (Cert.ReferenceIdeal.Fox.dv_at b y w).trans (Cert.KernelIdeal.Fox.Gv_at a y w).symm
  · exact ext2 (n0 := 8320) (n1 := 512) fun y w => (Cert.ReferenceIdeal.Fox.dfq_at b y w).trans (Cert.KernelIdeal.Fox.Gfq_at a y w).symm
  · exact ext3 (n0 := 8) (n2 := 8320) fun h z => (Cert.ReferenceIdeal.Fox.dfk_at b h z).trans (Cert.KernelIdeal.Fox.Gfk_at a h z).symm

end Cert.FoxClaims

end
-- ==== Proof.Mat.Tiles.lean ====
/-
  What the matrix products of the step have in common: an array read at two numbers, a sum kept from grid point to grid
  point, and a product whose contracted axis is walked in blocks.
-/
module

public import Idealize.ShloMosaic.Lib.Pointwise
public import Idealize.ShloMosaic.Lib.Pipeline.Value
public import Mathlib.Data.EReal.Operations

@[expose] public section

noncomputable section

namespace Cert.Mat

open Idealize.ShloMosaic Finset

/-- An array of two axes at a row and a column given as numbers; zero outside the array. -/
def el {p q : ℕ} (a : (⟨2, ![p, q]⟩ : Shape).Idx → EReal) (r c : ℕ) : EReal :=
  if h : r < p ∧ c < q then a (ix2 ⟨r, h.1⟩ ⟨c, h.2⟩) else 0

theorem el_fin {p q : ℕ} (a : (⟨2, ![p, q]⟩ : Shape).Idx → EReal) (r : Fin p) (c : Fin q) :
    el a r.val c.val = a (ix2 r c) :=
  dif_pos ⟨r.isLt, c.isLt⟩

/-- An array at an index whose two coordinates are known as numbers. -/
theorem el_of {p q : ℕ} (a : (⟨2, ![p, q]⟩ : Shape).Idx → EReal) (i : (⟨2, ![p, q]⟩ : Shape).Idx) (r c : ℕ)
    (h0 : (i 0).val = r) (h1 : (i 1).val = c) : a i = el a r c := by
  subst h0; subst h1
  have e : el a (i 0).val (i 1).val = a (ix2 (i 0) (i 1)) := el_fin a (i 0) (i 1)
  rw [e]
  refine congrArg a (funext fun b => ?_)
  match b with
  | ⟨0, _⟩ => rfl
  | ⟨1, _⟩ => rfl

/-- A value that starts anew at the multiples of `k` and adds a term at every other point is the sum of its run's terms. -/
theorem kept {X : Type} (k N : ℕ) (hk : 0 < k) (f : (n : ℕ) → n < N → X → EReal) (M : ℕ → X → EReal)
    (h0 : ∀ n (h : n < N), n % k = 0 → ∀ x, f n h x = M n x)
    (hs : ∀ n (h : n + 1 < N), (n + 1) % k ≠ 0 → ∀ x, f (n + 1) h x = f n (Nat.lt_of_succ_lt h) x + M (n + 1) x) (x : X) :
    ∀ n (h : n < N), f n h x = ∑ s ∈ range (n % k + 1), M (n / k * k + s) x
  | 0, h => by rw [h0 0 h (Nat.zero_mod _) x, Nat.zero_mod, Nat.zero_div]; simp
  | n + 1, h => by
    by_cases e : (n + 1) % k = 0
    · have hd := Nat.div_add_mod' (n + 1) k
      rw [h0 _ h e x, e, Finset.sum_range_one]
      rw [e] at hd
      rw [hd]
    · have hm := Nat.mod_lt (n + 1) hk
      have hd := Nat.div_add_mod' (n + 1) k
      have e1 : n = (n + 1) / k * k + ((n + 1) % k - 1) := by omega
      have e2 : n % k = (n + 1) % k - 1 := by
        conv_lhs => rw [e1]
        rw [Nat.mul_comm, Nat.mul_add_mod, Nat.mod_eq_of_lt (by omega)]
      have e3 : n / k = (n + 1) / k := by
        have := Nat.div_add_mod' n k
        have h4 : n / k * k = (n + 1) / k * k := by omega
        exact Nat.eq_of_mul_eq_mul_right hk h4
      rw [hs n h e x, kept k N hk f M h0 hs x n, e2, e3, Nat.sub_add_cancel (by omega), Finset.sum_range_succ _ ((n + 1) % k), hd]

/-- A sum over a contracted axis, block after block. -/
theorem blocks (g : ℕ → EReal) (tk : ℕ) :
    ∀ nk, ∑ s ∈ range nk, ∑ k : Fin tk, g (s * tk + k.val) = ∑ x ∈ range (nk * tk), g x
  | 0 => by simp
  | n + 1 => by
    rw [Finset.sum_range_succ, blocks g tk n, Nat.succ_mul, Finset.sum_range_add]
    rw [Finset.sum_range fun x => g (n * tk + x)]

/-- At the last point of a run it is the sum of all the run's terms. -/
theorem run_sum {X : Type} (k N : ℕ) (hk : 0 < k) (f : (n : ℕ) → n < N → X → EReal) (M : ℕ → X → EReal)
    (h0 : ∀ n (h : n < N), n % k = 0 → ∀ x, f n h x = M n x)
    (hs : ∀ n (h : n + 1 < N), (n + 1) % k ≠ 0 → ∀ x, f (n + 1) h x = f n (Nat.lt_of_succ_lt h) x + M (n + 1) x)
    (n : ℕ) (h : n < N) (e : n % k = k - 1) (x : X) : f n h x = ∑ s ∈ range k, M (n / k * k + s) x := by
  rw [kept k N hk f M h0 hs x n h, e, Nat.sub_add_cancel hk]

/-! ## A product in tiles

The first factor is a function of its row and the contracted number, the second of its column and the contracted number. The
grid has `gn` tiles in a row of tiles and `nk` points for each tile, the last axis the fastest. -/

section
variable (a b : ℕ → ℕ → EReal) (tm tn tk gn nk : ℕ)

/-- The product at an element: the sum over the contracted axis. -/
def prod (K r d : ℕ) : EReal := ∑ k ∈ range K, a r k * b d k

theorem prod_fin (K r d : ℕ) : prod a b K r d = ∑ k : Fin K, a r k.val * b d k.val := Finset.sum_range _

/-- What grid point `n` adds to the element (r, d) of its tile. -/
def tile (n r d : ℕ) : EReal :=
  ∑ k : Fin tk, a (n / nk / gn * tm + r) (n % nk * tk + k.val) * b (n / nk % gn * tn + d) (n % nk * tk + k.val)

/-- All the points of a tile together give the product. -/
theorem tiles (hk : 0 < nk) (q r d : ℕ) :
    ∑ s ∈ range nk, tile a b tm tn tk gn nk (q * nk + s) r d = prod a b (nk * tk) (q / gn * tm + r) (q % gn * tn + d) := by
  unfold prod
  rw [← blocks (fun k => a (q / gn * tm + r) k * b (q % gn * tn + d) k) tk nk]
  refine Finset.sum_congr rfl fun s hs => ?_
  have hs : s < nk := Finset.mem_range.mp hs
  have e1 : (q * nk + s) / nk = q := by rw [Nat.mul_comm, Nat.mul_add_div hk, Nat.div_eq_of_lt hs, Nat.add_zero]
  have e2 : (q * nk + s) % nk = s := by rw [Nat.mul_comm, Nat.mul_add_mod, Nat.mod_eq_of_lt hs]
  unfold tile
  rw [e1, e2]

/-- The same when each tile has one point. -/
theorem tile_one (n r d : ℕ) : tile a b tm tn tk gn 1 n r d = prod a b tk (n / gn * tm + r) (n % gn * tn + d) := by
  have h := tiles a b tm tn tk gn 1 Nat.one_pos n r d
  rw [Finset.sum_range_one, Nat.mul_one, Nat.add_zero, Nat.one_mul] at h
  exact h

/-- The product at the element (i, j), by the tile that holds it. -/
theorem tiled (hk : 0 < nk) (i j : ℕ) (h : j / tn < gn) :
    ∑ s ∈ range nk, tile a b tm tn tk gn nk ((gn * (i / tm) + j / tn) * nk + s) (i % tm) (j % tn) = prod a b (nk * tk) i j := by
  rw [tiles a b tm tn tk gn nk hk, Nat.mul_add_div (Nat.zero_lt_of_lt h), Nat.div_eq_of_lt h, Nat.add_zero, Nat.mul_add_mod,
    Nat.mod_eq_of_lt h, Nat.div_add_mod', Nat.div_add_mod']

end

/-- An element's number in an array, from its block's number and its number in the block. -/
theorem off {i q t r : ℕ} (e : i = q) : i * t + 1 * r = q * t + r := by rw [e, Nat.one_mul]

/-- A number lies in the block that division by the block's length gives. -/
theorem in_block {b i t : ℕ} (ht : 0 < t) (e : b = i / t) : b * t ≤ i ∧ i < b * t + t := by
  subst e
  exact ⟨Nat.div_mul_le_self i t, Nat.lt_div_mul_add ht⟩

theorem eq_pair {p q : ℕ} (i : (⟨2, ![p, q]⟩ : Shape).Idx) : ∃ r d, i = ix2 r d :=
  ⟨i 0, i 1, by funext b; match b with | ⟨0, _⟩ => rfl | ⟨1, _⟩ => rfl⟩

theorem hz : (![0, 0] : Fin 2 → Nat) = fun _ => 0 := funext fun a => by fin_cases a <;> rfl

end Cert.Mat

end
-- ==== Proof.Mat.P2.lean ====
/-
  Program 2, the gradient of the rows that went into the first projection:
  its result and that of its reference, at an element.
-/
module

public import proofs.«01_k».proof.Proof.Gen.Kernel2.Frame
public import proofs.«01_k».proof.Proof.Gen.Kernel2Ideal.Value
public import proofs.«01_k».proof.Proof.Gen.Reference2Ideal.Run
public import proofs.«01_k».proof.Proof.Mat.Tiles
public import proofs.«01_k».proof.Defs
public import Idealize.ShloMosaic.Lib.Quiescent

@[expose] public section

set_option maxRecDepth 8000

noncomputable section

namespace Cert.Kernel2Ideal.Mat

open Cert.Kernel2Ideal Cert.Kernel2Ideal.Gen Cert.Mat
open Idealize.ShloMosaic Idealize.ShloMosaic.TcCoe Idealize.SL.Sem

variable (m : (ℓ : Loc nD τ sig) → Buf (Elt Ideal) ℓ) (c : Dev nD)

/-- The first factor by its row and the contracted number, the second by its column and the contracted number. -/
abbrev A : ℕ → ℕ → EReal := el (m ((c : Thread nD τ).loc main_arg0) : S8320x7680.Idx → EReal)
abbrev B : ℕ → ℕ → EReal := el (m ((c : Thread nD τ).loc main_arg1) : S1024x7680.Idx → EReal)

/-- The result. -/
def G : S8320x1024.Idx → EReal := fun i => prod (A m c) (B m c) 7680 (i 0).val (i 1).val

/-- Which blocks of the arguments a grid point takes. -/
theorem places : ∀ t : Fin cfg0.N, win0_0.index t (0 : Fin 2) = t.val / 3 / 1 ∧ win0_0.index t (1 : Fin 2) = t.val % 3
    ∧ win0_1.index t (0 : Fin 2) = t.val / 3 % 1 ∧ win0_1.index t (1 : Fin 2) = t.val % 3 :=
  (by decide +kernel : ∀ t : Fin grid0.N, _)

theorem blockA (t : Fin cfg0.N) (r : Fin 640) (k : Fin 2560) :
    (iblk m c 0 t : S640x2560.Idx → EReal) (ix2 r k) = A m c (t.val / 3 / 1 * 640 + r.val) (t.val % 3 * 2560 + k.val) := by
  obtain ⟨e0, e1, -⟩ := places t
  unfold iblk
  rw [View.read_apply]
  exact el_of _ _ _ _ (off e0) (off e1)

theorem blockB (t : Fin cfg0.N) (r : Fin 1024) (k : Fin 2560) :
    (iblk m c 1 t : S1024x2560.Idx → EReal) (ix2 r k) = B m c (t.val / 3 % 1 * 1024 + r.val) (t.val % 3 * 2560 + k.val) := by
  obtain ⟨-, -, e0, e1⟩ := places t
  unfold iblk
  rw [View.read_apply]
  exact el_of _ _ _ _ (off e0) (off e1)

/-- A grid point's product at an element of its tile. -/
theorem pay_at (t : Fin cfg0.N) (x : S640x1024.Idx) :
    (k0_pay1 (F := Ideal) (iblk m c 0 t) (iblk m c 1 t) : S640x1024.Idx → EReal) x
      = tile (A m c) (B m c) 640 1024 2560 1 3 t.val (x 0).val (x 1).val := by
  obtain ⟨r, d, rfl⟩ := eq_pair x
  pointwise [k0_pay1]
  exact Finset.sum_congr rfl fun k _ =>
    congrArg₂ (· * ·) (blockA m c t r k) (blockB m c t d k)

section
variable {F : FTy → Type} [FloatOps F]
variable (c : Dev nD) (i : grid0.Coords) (a3 : Memref sig .tc .vmem S640x2560 .bf16) (h3 : a3.IsWhole)
  (a4 : Memref sig .tc .vmem S1024x2560 .bf16) (h4 : a4.IsWhole) (a5 : Memref sig .tc .vmem S640x1024 .f32) (h5 : a5.IsWhole)
  (a6 : Memref sig .tc .vmem S640x1024 .f32) (h6 : a6.IsWhole) (x : Vec F S640x2560 .bf16) (y : Vec F S1024x2560 .bf16)
  (s : Vec F S640x1024 .f32)

/-- The first point of a run keeps its product. -/
theorem first (hc0 hc1 hc2) : sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  unfold k0_pay2
  simp only [View.readAt_eq_ld, h3.read_unread, h4.read_unread, View.ld_unit_zero (S := S640x2560) hz,
    View.ld_unit_zero (S := S1024x2560) hz, shapeCast_self]

/-- A later point adds its product to what is kept. -/
theorem later (hc0 hc1 hc2) : sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  rw [View.canon_unit_zero hz]
  unfold k0_pay3
  simp only [View.readAt_eq_ld, h3.read_unread, h4.read_unread, h6.read_unread, View.ld_unit_zero (S := S640x2560) hz,
    View.ld_unit_zero (S := S1024x2560) hz, View.ld_unit_zero (S := S640x1024) hz, shapeCast_self]

/-- So does the last point of a run. -/
theorem last (hc0 hc1 hc2) : sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero hz]
  unfold k0_pay3
  simp only [View.readAt_eq_ld, h3.read_unread, h4.read_unread, h6.read_unread, View.ld_unit_zero (S := S640x2560) hz,
    View.ld_unit_zero (S := S1024x2560) hz, View.ld_unit_zero (S := S640x1024) hz, shapeCast_self]

/-- And it writes out the same sum. -/
theorem out (hc0 hc1 hc2) : out0_C_2 c i a3 h3 a4 h4 a5 h5 a6 h6 hc0 hc1 hc2 x y s = addf s (k0_pay1 x y) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero hz, View.readCov_unit_zero (S := S640x1024) _ hz]
  unfold k0_pay3
  simp only [View.readAt_eq_ld, h3.read_unread, h4.read_unread, h6.read_unread, View.ld_unit_zero (S := S640x2560) hz,
    View.ld_unit_zero (S := S1024x2560) hz, View.ld_unit_zero (S := S640x1024) hz, shapeCast_self]

end

theorem stepA (t : Fin cfg0.N) (e0 : t.val % 3 = 0) :
    (outsAt0 (F := Ideal) m c t.val t.isLt).2 = k0_pay1 (iblk m c 0 t) (iblk m c 1 t) := by
  rw [outsAt0_A m c t e0 (by omega) (by omega)]
  dsimp only
  exact first ..

theorem step (n : ℕ) (h : n + 1 < cfg0.N) (e0 : ¬ (n + 1) % 3 = 0) :
    (outsAt0 (F := Ideal) m c (n + 1) h).2
      = addf (outsAt0 m c n (Nat.lt_of_succ_lt h)).2 (k0_pay1 (iblk m c 0 ⟨n + 1, h⟩) (iblk m c 1 ⟨n + 1, h⟩)) := by
  by_cases e2 : (n + 1) % 3 = 2
  · refine (congrArg Prod.snd (outsAt0_C m c ⟨n + 1, h⟩ e0 (show 1 ≤ (n + 1) % 3 by omega) e2)).trans ?_
    dsimp only
    exact last ..
  · refine (congrArg Prod.snd (outsAt0_B m c ⟨n + 1, h⟩ e0 (show 1 ≤ (n + 1) % 3 by omega) e2)).trans ?_
    dsimp only
    exact later ..

theorem shown (t : Fin cfg0.N) (e2 : t.val % 3 = 2) :
    (outsAt0 (F := Ideal) m c t.val t.isLt).1 = (outsAt0 m c t.val t.isLt).2 := by
  rw [outsAt0_C m c t (by omega) (by omega) e2]
  dsimp only
  rw [out, last]

/-- What the last point of a run writes out: all of the run's products. -/
theorem out_at (n : ℕ) (h : n < cfg0.N) (e2 : n % 3 = 2) (x : S640x1024.Idx) :
    ((outsAt0 m c n h).1 : S640x1024.Idx → EReal) x
      = ∑ s ∈ Finset.range 3, tile (A m c) (B m c) 640 1024 2560 1 3 (n / 3 * 3 + s) (x 0).val (x 1).val :=
  (congrFun (shown m c ⟨n, h⟩ e2) x).trans
    (run_sum 3 cfg0.N (by decide) (fun n h => ((outsAt0 m c n h).2 : S640x1024.Idx → EReal))
      (fun n x => tile (A m c) (B m c) 640 1024 2560 1 3 n (x 0).val (x 1).val)
      (fun n h e x => (congrFun (stepA m c ⟨n, h⟩ e) x).trans (pay_at m c ⟨n, h⟩ x))
      (fun n h e x => (congrFun (step m c n h e) x).trans (congrArg (_ + ·) (pay_at m c ⟨n + 1, h⟩ x))) n h e2 x)

/-- The result after the run. -/
theorem value : (Value.G2 m c : S8320x1024.Idx → EReal) = G m c := by
  funext i
  have hi0 : (i 0).val < 8320 := (i 0).isLt
  have hi1 : (i 1).val < 1024 := (i 1).isLt
  have hN : cfg0.N = 39 := N_0
  have hr : Value.run2Of i = 1 * ((i 0).val / 640) + (i 1).val / 1024 := by
    show 1 * ((i 0).val / 640 - 0) + 1 * ((i 1).val / 1024 - 0) = _
    omega
  have hq : Value.pt2Of i = 3 * (1 * ((i 0).val / 640) + (i 1).val / 1024) + 2 := congrArg (3 * · + 2) hr
  have hp : Value.pt2Of i < cfg0.N := by rw [hN, hq]; omega
  have hd : Value.pt2Of i / 3 = 1 * ((i 0).val / 640) + (i 1).val / 1024 := by rw [hq]; omega
  have e := Value.outsAt0_sweep m c (Value.pt2Of i) hp
  refine (dif_pos hp).trans ((congrArg (fun p => p.1 (Value.loc2Of i)) e.symm).trans
    ((out_at m c _ hp (by rw [hq]; omega) _).trans ?_))
  rw [hd]
  exact tiled (A m c) (B m c) 640 1024 2560 1 3 (by decide) (i 0).val (i 1).val (by omega)

end Cert.Kernel2Ideal.Mat

namespace Cert.Reference2Ideal.Mat

open Cert.Reference2Ideal Cert.Reference2Ideal.Gen Cert.Reference2Ideal.Value Cert.Mat
open Idealize.ShloMosaic Idealize.SL.Sem

/-- What the reference gives. -/
theorem value (x : FVec Ideal S8320x7680 .bf16) (y : FVec Ideal S1024x7680 .bf16) :
    (Host.dotGeneral dot_S8320x7680_S1024x7680_S8320x1024_1_1_0_0_n_n none
      (extf .f32 x bitsLt_bf16_f32) (extf .f32 y bitsLt_bf16_f32) : S8320x1024.Idx → EReal)
      = fun i => prod (el (p := 8320) (q := 7680) x) (el (p := 1024) (q := 7680) y) 7680 (i 0).val (i 1).val := by
  funext i
  obtain ⟨r, d, rfl⟩ := eq_pair i
  pointwise
  rw [prod_fin]
  exact Finset.sum_congr rfl fun k _ => congrArg₂ (· * ·) (el_fin x r k).symm (el_fin y d k).symm

end Cert.Reference2Ideal.Mat

namespace Cert.MatClaims

open Idealize.ShloMosaic Idealize.ShloMosaic.TcCoe Idealize.SL.Sem

theorem frame_kernel2 : Cert.quiescent_Kernel2 := fun m g _ => Cert.Kernel2.Gen.frame m g

theorem frame_ideal2 : Cert.quiescent_Kernel2Ideal := fun m g _ => Cert.Kernel2Ideal.Gen.frame m g

theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem preserves2 : Cert.preserves_Kernel2_Kernel2Ideal := trivial

/-- The call's result is the reference's. -/
theorem algebraic2 : Cert.algebraic_Kernel2Ideal_Reference2Ideal := by
  intro m g m' g' _ hargs
  refine ⟨fun c => Cert.Kernel2Ideal.Mat.G m c,
    (θ_run Cert.Kernel2Ideal.defs _ _).mono (fun r h c => ⟨(h c).1.trans (Cert.Kernel2Ideal.Mat.value m c), (h c).2⟩)
      (Cert.Kernel2Ideal.Value.run m g),
    (θ_run Cert.Reference2Ideal.defs _ _).mono (fun r h c => ⟨(h c).1.trans ?_, (h c).2⟩)
      (Cert.Reference2Ideal.Value.run (F := Ideal) m' g')⟩
  obtain ⟨e0, e1⟩ := hargs c
  rw [e0, e1]
  exact Cert.Reference2Ideal.Mat.value _ _

end Cert.MatClaims

end
-- ==== Proof.Mat.P3.lean ====
/-
  Program 3, the gradient of the first projection's weights:
  its result and that of its reference, at an element.
-/
module

public import proofs.«01_k».proof.Proof.Gen.Kernel3.Frame
public import proofs.«01_k».proof.Proof.Gen.Kernel3Ideal.Value
public import proofs.«01_k».proof.Proof.Gen.Reference3Ideal.Run
public import proofs.«01_k».proof.Proof.Mat.Tiles
public import proofs.«01_k».proof.Defs
public import Idealize.ShloMosaic.Lib.Quiescent

@[expose] public section

set_option maxRecDepth 8000

noncomputable section

namespace Cert.Kernel3Ideal.Mat

open Cert.Kernel3Ideal Cert.Kernel3Ideal.Gen Cert.Mat
open Idealize.ShloMosaic Idealize.ShloMosaic.TcCoe Idealize.SL.Sem

variable (m : (ℓ : Loc nD τ sig) → Buf (Elt Ideal) ℓ) (c : Dev nD)

/-- The first factor by its row and the contracted number, the second by its column and the contracted number. -/
abbrev A : ℕ → ℕ → EReal := flip (el (m ((c : Thread nD τ).loc main_arg0) : S8320x1024.Idx → EReal))
abbrev B : ℕ → ℕ → EReal := flip (el (m ((c : Thread nD τ).loc main_arg1) : S8320x7680.Idx → EReal))

/-- The result. -/
def G : S1024x7680.Idx → EReal := fun i => prod (A m c) (B m c) 8320 (i 0).val (i 1).val

/-- Which blocks of the arguments a grid point takes. -/
theorem places : ∀ t : Fin cfg0.N, win0_0.index t (0 : Fin 2) = t.val % 5 ∧ win0_0.index t (1 : Fin 2) = t.val / 5 / 5
    ∧ win0_1.index t (0 : Fin 2) = t.val % 5 ∧ win0_1.index t (1 : Fin 2) = t.val / 5 % 5 :=
  (by decide +kernel : ∀ t : Fin grid0.N, _)

theorem blockA (t : Fin cfg0.N) (r : Fin 1664) (k : Fin 1024) :
    (iblk m c 0 t : S1664x1024.Idx → EReal) (ix2 r k) = A m c (t.val / 5 / 5 * 1024 + k.val) (t.val % 5 * 1664 + r.val) := by
  obtain ⟨e0, e1, -⟩ := places t
  unfold iblk
  rw [View.read_apply]
  exact el_of _ _ _ _ (off e0) (off e1)

theorem blockB (t : Fin cfg0.N) (r : Fin 1664) (k : Fin 1536) :
    (iblk m c 1 t : S1664x1536.Idx → EReal) (ix2 r k) = B m c (t.val / 5 % 5 * 1536 + k.val) (t.val % 5 * 1664 + r.val) := by
  obtain ⟨-, -, e0, e1⟩ := places t
  unfold iblk
  rw [View.read_apply]
  exact el_of _ _ _ _ (off e0) (off e1)

/-- A grid point's product at an element of its tile. -/
theorem pay_at (t : Fin cfg0.N) (x : S1024x1536.Idx) :
    (k0_pay1 (F := Ideal) (iblk m c 0 t) (iblk m c 1 t) : S1024x1536.Idx → EReal) x
      = tile (A m c) (B m c) 1024 1536 1664 5 5 t.val (x 0).val (x 1).val := by
  obtain ⟨r, d, rfl⟩ := eq_pair x
  pointwise [k0_pay1]
  exact Finset.sum_congr rfl fun k _ =>
    congrArg₂ (· * ·) (blockA m c t k r) (blockB m c t k d)

section
variable {F : FTy → Type} [FloatOps F]
variable (c : Dev nD) (i : grid0.Coords) (a3 : Memref sig .tc .vmem S1664x1024 .bf16) (h3 : a3.IsWhole)
  (a4 : Memref sig .tc .vmem S1664x1536 .bf16) (h4 : a4.IsWhole) (a5 : Memref sig .tc .vmem S1024x1536 .f32) (h5 : a5.IsWhole)
  (a6 : Memref sig .tc .vmem S1024x1536 .f32) (h6 : a6.IsWhole) (x : Vec F S1664x1024 .bf16) (y : Vec F S1664x1536 .bf16)
  (s : Vec F S1024x1536 .f32)

/-- The first point of a run keeps its product. -/
theorem first (hc0 hc1 hc2) : sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  unfold k0_pay2
  simp only [View.readAt_eq_ld, h3.read_unread, h4.read_unread, View.ld_unit_zero (S := S1664x1024) hz,
    View.ld_unit_zero (S := S1664x1536) hz, shapeCast_self]

/-- A later point adds its product to what is kept. -/
theorem later (hc0 hc1 hc2) : sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  rw [View.canon_unit_zero hz]
  unfold k0_pay3
  simp only [View.readAt_eq_ld, h3.read_unread, h4.read_unread, h6.read_unread, View.ld_unit_zero (S := S1664x1024) hz,
    View.ld_unit_zero (S := S1664x1536) hz, View.ld_unit_zero (S := S1024x1536) hz, shapeCast_self]

/-- So does the last point of a run. -/
theorem last (hc0 hc1 hc2) : sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero hz]
  unfold k0_pay3
  simp only [View.readAt_eq_ld, h3.read_unread, h4.read_unread, h6.read_unread, View.ld_unit_zero (S := S1664x1024) hz,
    View.ld_unit_zero (S := S1664x1536) hz, View.ld_unit_zero (S := S1024x1536) hz, shapeCast_self]

/-- And it writes out the same sum. -/
theorem out (hc0 hc1 hc2) : out0_C_2 c i a3 h3 a4 h4 a5 h5 a6 h6 hc0 hc1 hc2 x y s = addf s (k0_pay1 x y) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero hz, View.readCov_unit_zero (S := S1024x1536) _ hz]
  unfold k0_pay3
  simp only [View.readAt_eq_ld, h3.read_unread, h4.read_unread, h6.read_unread, View.ld_unit_zero (S := S1664x1024) hz,
    View.ld_unit_zero (S := S1664x1536) hz, View.ld_unit_zero (S := S1024x1536) hz, shapeCast_self]

end

theorem stepA (t : Fin cfg0.N) (e0 : t.val % 5 = 0) :
    (outsAt0 (F := Ideal) m c t.val t.isLt).2 = k0_pay1 (iblk m c 0 t) (iblk m c 1 t) := by
  rw [outsAt0_A m c t e0 (by omega) (by omega)]
  dsimp only
  exact first ..

theorem step (n : ℕ) (h : n + 1 < cfg0.N) (e0 : ¬ (n + 1) % 5 = 0) :
    (outsAt0 (F := Ideal) m c (n + 1) h).2
      = addf (outsAt0 m c n (Nat.lt_of_succ_lt h)).2 (k0_pay1 (iblk m c 0 ⟨n + 1, h⟩) (iblk m c 1 ⟨n + 1, h⟩)) := by
  by_cases e2 : (n + 1) % 5 = 4
  · refine (congrArg Prod.snd (outsAt0_C m c ⟨n + 1, h⟩ e0 (show 1 ≤ (n + 1) % 5 by omega) e2)).trans ?_
    dsimp only
    exact last ..
  · refine (congrArg Prod.snd (outsAt0_B m c ⟨n + 1, h⟩ e0 (show 1 ≤ (n + 1) % 5 by omega) e2)).trans ?_
    dsimp only
    exact later ..

theorem shown (t : Fin cfg0.N) (e2 : t.val % 5 = 4) :
    (outsAt0 (F := Ideal) m c t.val t.isLt).1 = (outsAt0 m c t.val t.isLt).2 := by
  rw [outsAt0_C m c t (by omega) (by omega) e2]
  dsimp only
  rw [out, last]

/-- What the last point of a run writes out: all of the run's products. -/
theorem out_at (n : ℕ) (h : n < cfg0.N) (e2 : n % 5 = 4) (x : S1024x1536.Idx) :
    ((outsAt0 m c n h).1 : S1024x1536.Idx → EReal) x
      = ∑ s ∈ Finset.range 5, tile (A m c) (B m c) 1024 1536 1664 5 5 (n / 5 * 5 + s) (x 0).val (x 1).val :=
  (congrFun (shown m c ⟨n, h⟩ e2) x).trans
    (run_sum 5 cfg0.N (by decide) (fun n h => ((outsAt0 m c n h).2 : S1024x1536.Idx → EReal))
      (fun n x => tile (A m c) (B m c) 1024 1536 1664 5 5 n (x 0).val (x 1).val)
      (fun n h e x => (congrFun (stepA m c ⟨n, h⟩ e) x).trans (pay_at m c ⟨n, h⟩ x))
      (fun n h e x => (congrFun (step m c n h e) x).trans (congrArg (_ + ·) (pay_at m c ⟨n + 1, h⟩ x))) n h e2 x)

/-- The result after the run. -/
theorem value : (Value.G2 m c : S1024x7680.Idx → EReal) = G m c := by
  funext i
  have hi0 : (i 0).val < 1024 := (i 0).isLt
  have hi1 : (i 1).val < 7680 := (i 1).isLt
  have hN : cfg0.N = 25 := N_0
  have hr : Value.run2Of i = 5 * ((i 0).val / 1024) + (i 1).val / 1536 := by
    show 5 * ((i 0).val / 1024 - 0) + 1 * ((i 1).val / 1536 - 0) = _
    omega
  have hq : Value.pt2Of i = 5 * (5 * ((i 0).val / 1024) + (i 1).val / 1536) + 4 := congrArg (5 * · + 4) hr
  have hp : Value.pt2Of i < cfg0.N := by rw [hN, hq]; omega
  have hd : Value.pt2Of i / 5 = 5 * ((i 0).val / 1024) + (i 1).val / 1536 := by rw [hq]; omega
  have e := Value.outsAt0_sweep m c (Value.pt2Of i) hp
  refine (dif_pos hp).trans ((congrArg (fun p => p.1 (Value.loc2Of i)) e.symm).trans
    ((out_at m c _ hp (by rw [hq]; omega) _).trans ?_))
  rw [hd]
  exact tiled (A m c) (B m c) 1024 1536 1664 5 5 (by decide) (i 0).val (i 1).val (by omega)

end Cert.Kernel3Ideal.Mat

namespace Cert.Reference3Ideal.Mat

open Cert.Reference3Ideal Cert.Reference3Ideal.Gen Cert.Reference3Ideal.Value Cert.Mat
open Idealize.ShloMosaic Idealize.SL.Sem

/-- What the reference gives. -/
theorem value (x : FVec Ideal S8320x1024 .bf16) (y : FVec Ideal S8320x7680 .bf16) :
    (transpose S1024x7680 [1, 0] (Host.dotGeneral dot_S8320x7680_S8320x1024_S7680x1024_0_0_1_1_n_n none
      (extf .f32 y bitsLt_bf16_f32) (extf .f32 x bitsLt_bf16_f32))
         transposes_S7680x1024_S1024x7680_1_0 : S1024x7680.Idx → EReal)
      = fun i => prod (flip (el (p := 8320) (q := 1024) x)) (flip (el (p := 8320) (q := 7680) y)) 8320 (i 0).val (i 1).val := by
  funext i
  obtain ⟨r, d, rfl⟩ := eq_pair i
  pointwise
  rw [prod_fin]
  exact Finset.sum_congr rfl fun k _ => (mul_comm _ _).trans (congrArg₂ (· * ·) (el_fin x k r).symm (el_fin y k d).symm)

end Cert.Reference3Ideal.Mat

namespace Cert.MatClaims

open Idealize.ShloMosaic Idealize.ShloMosaic.TcCoe Idealize.SL.Sem

theorem frame_kernel3 : Cert.quiescent_Kernel3 := fun m g _ => Cert.Kernel3.Gen.frame m g

theorem frame_ideal3 : Cert.quiescent_Kernel3Ideal := fun m g _ => Cert.Kernel3Ideal.Gen.frame m g

theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem preserves3 : Cert.preserves_Kernel3_Kernel3Ideal := trivial

/-- The call's result is the reference's. -/
theorem algebraic3 : Cert.algebraic_Kernel3Ideal_Reference3Ideal := by
  intro m g m' g' _ hargs
  refine ⟨fun c => Cert.Kernel3Ideal.Mat.G m c,
    (θ_run Cert.Kernel3Ideal.defs _ _).mono (fun r h c => ⟨(h c).1.trans (Cert.Kernel3Ideal.Mat.value m c), (h c).2⟩)
      (Cert.Kernel3Ideal.Value.run m g),
    (θ_run Cert.Reference3Ideal.defs _ _).mono (fun r h c => ⟨(h c).1.trans ?_, (h c).2⟩)
      (Cert.Reference3Ideal.Value.run (F := Ideal) m' g')⟩
  obtain ⟨e0, e1⟩ := hargs c
  rw [e0, e1]
  exact Cert.Reference3Ideal.Mat.value _ _

end Cert.MatClaims

end
-- ==== Proof.Mat.P4.lean ====
/-
  Program 4, the gradient of the rows that went into the up projection:
  its result and that of its reference, at an element.
-/
module

public import proofs.«01_k».proof.Proof.Gen.Kernel4.Frame
public import proofs.«01_k».proof.Proof.Gen.Kernel4Ideal.Value
public import proofs.«01_k».proof.Proof.Gen.Reference4Ideal.Run
public import proofs.«01_k».proof.Proof.Mat.Tiles
public import proofs.«01_k».proof.Defs
public import Idealize.ShloMosaic.Lib.Quiescent

@[expose] public section

set_option maxRecDepth 8000

noncomputable section

namespace Cert.Kernel4Ideal.Mat

open Cert.Kernel4Ideal Cert.Kernel4Ideal.Gen Cert.Mat
open Idealize.ShloMosaic Idealize.ShloMosaic.TcCoe Idealize.SL.Sem

variable (m : (ℓ : Loc nD τ sig) → Buf (Elt Ideal) ℓ) (c : Dev nD)

/-- The first factor by its row and the contracted number, the second by its column and the contracted number. -/
abbrev A : ℕ → ℕ → EReal := el (m ((c : Thread nD τ).loc main_arg0) : S8320x5632.Idx → EReal)
abbrev B : ℕ → ℕ → EReal := el (m ((c : Thread nD τ).loc main_arg1) : S1024x5632.Idx → EReal)

/-- The result. -/
def G : S8320x1024.Idx → EReal := fun i => prod (A m c) (B m c) 5632 (i 0).val (i 1).val

/-- Which blocks of the arguments a grid point takes. -/
theorem places : ∀ t : Fin cfg0.N, win0_0.index t (0 : Fin 2) = t.val / 2 / 1 ∧ win0_0.index t (1 : Fin 2) = t.val % 2
    ∧ win0_1.index t (0 : Fin 2) = t.val / 2 % 1 ∧ win0_1.index t (1 : Fin 2) = t.val % 2 :=
  (by decide +kernel : ∀ t : Fin grid0.N, _)

theorem blockA (t : Fin cfg0.N) (r : Fin 640) (k : Fin 2816) :
    (iblk m c 0 t : S640x2816.Idx → EReal) (ix2 r k) = A m c (t.val / 2 / 1 * 640 + r.val) (t.val % 2 * 2816 + k.val) := by
  obtain ⟨e0, e1, -⟩ := places t
  unfold iblk
  rw [View.read_apply]
  exact el_of _ _ _ _ (off e0) (off e1)

theorem blockB (t : Fin cfg0.N) (r : Fin 1024) (k : Fin 2816) :
    (iblk m c 1 t : S1024x2816.Idx → EReal) (ix2 r k) = B m c (t.val / 2 % 1 * 1024 + r.val) (t.val % 2 * 2816 + k.val) := by
  obtain ⟨-, -, e0, e1⟩ := places t
  unfold iblk
  rw [View.read_apply]
  exact el_of _ _ _ _ (off e0) (off e1)

/-- A grid point's product at an element of its tile. -/
theorem pay_at (t : Fin cfg0.N) (x : S640x1024.Idx) :
    (k0_pay1 (F := Ideal) (iblk m c 0 t) (iblk m c 1 t) : S640x1024.Idx → EReal) x
      = tile (A m c) (B m c) 640 1024 2816 1 2 t.val (x 0).val (x 1).val := by
  obtain ⟨r, d, rfl⟩ := eq_pair x
  pointwise [k0_pay1]
  exact Finset.sum_congr rfl fun k _ =>
    congrArg₂ (· * ·) (blockA m c t r k) (blockB m c t d k)

section
variable {F : FTy → Type} [FloatOps F]
variable (c : Dev nD) (i : grid0.Coords) (a3 : Memref sig .tc .vmem S640x2816 .bf16) (h3 : a3.IsWhole)
  (a4 : Memref sig .tc .vmem S1024x2816 .bf16) (h4 : a4.IsWhole) (a5 : Memref sig .tc .vmem S640x1024 .f32) (h5 : a5.IsWhole)
  (a6 : Memref sig .tc .vmem S640x1024 .f32) (h6 : a6.IsWhole) (x : Vec F S640x2816 .bf16) (y : Vec F S1024x2816 .bf16)
  (s : Vec F S640x1024 .f32)

/-- The first point of a run keeps its product. -/
theorem first (hc0 hc1 hc2) : sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  unfold k0_pay2
  simp only [View.readAt_eq_ld, h3.read_unread, h4.read_unread, View.ld_unit_zero (S := S640x2816) hz,
    View.ld_unit_zero (S := S1024x2816) hz, shapeCast_self]

/-- So does the last point of a run. -/
theorem last (hc0 hc1 hc2) : sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero hz]
  unfold k0_pay3
  simp only [View.readAt_eq_ld, h3.read_unread, h4.read_unread, h6.read_unread, View.ld_unit_zero (S := S640x2816) hz,
    View.ld_unit_zero (S := S1024x2816) hz, View.ld_unit_zero (S := S640x1024) hz, shapeCast_self]

/-- And it writes out the same sum. -/
theorem out (hc0 hc1 hc2) : out0_B_2 c i a3 h3 a4 h4 a5 h5 a6 h6 hc0 hc1 hc2 x y s = addf s (k0_pay1 x y) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero hz, View.readCov_unit_zero (S := S640x1024) _ hz]
  unfold k0_pay3
  simp only [View.readAt_eq_ld, h3.read_unread, h4.read_unread, h6.read_unread, View.ld_unit_zero (S := S640x2816) hz,
    View.ld_unit_zero (S := S1024x2816) hz, View.ld_unit_zero (S := S640x1024) hz, shapeCast_self]

end

theorem stepA (t : Fin cfg0.N) (e0 : t.val % 2 = 0) :
    (outsAt0 (F := Ideal) m c t.val t.isLt).2 = k0_pay1 (iblk m c 0 t) (iblk m c 1 t) := by
  rw [outsAt0_A m c t e0 (by omega) (by omega)]
  dsimp only
  exact first ..

theorem step (n : ℕ) (h : n + 1 < cfg0.N) (e0 : ¬ (n + 1) % 2 = 0) :
    (outsAt0 (F := Ideal) m c (n + 1) h).2
      = addf (outsAt0 m c n (Nat.lt_of_succ_lt h)).2 (k0_pay1 (iblk m c 0 ⟨n + 1, h⟩) (iblk m c 1 ⟨n + 1, h⟩)) := by
  have e2 : (n + 1) % 2 = 1 := by omega
  refine (congrArg Prod.snd (outsAt0_B m c ⟨n + 1, h⟩ e0 e2 e2)).trans ?_
  dsimp only
  exact last ..

theorem shown (t : Fin cfg0.N) (e2 : t.val % 2 = 1) :
    (outsAt0 (F := Ideal) m c t.val t.isLt).1 = (outsAt0 m c t.val t.isLt).2 := by
  rw [outsAt0_B m c t (by omega) (by omega) e2]
  dsimp only
  rw [out, last]

/-- What the last point of a run writes out: all of the run's products. -/
theorem out_at (n : ℕ) (h : n < cfg0.N) (e2 : n % 2 = 1) (x : S640x1024.Idx) :
    ((outsAt0 m c n h).1 : S640x1024.Idx → EReal) x
      = ∑ s ∈ Finset.range 2, tile (A m c) (B m c) 640 1024 2816 1 2 (n / 2 * 2 + s) (x 0).val (x 1).val :=
  (congrFun (shown m c ⟨n, h⟩ e2) x).trans
    (run_sum 2 cfg0.N (by decide) (fun n h => ((outsAt0 m c n h).2 : S640x1024.Idx → EReal))
      (fun n x => tile (A m c) (B m c) 640 1024 2816 1 2 n (x 0).val (x 1).val)
      (fun n h e x => (congrFun (stepA m c ⟨n, h⟩ e) x).trans (pay_at m c ⟨n, h⟩ x))
      (fun n h e x => (congrFun (step m c n h e) x).trans (congrArg (_ + ·) (pay_at m c ⟨n + 1, h⟩ x))) n h e2 x)

/-- The result after the run. -/
theorem value : (Value.G2 m c : S8320x1024.Idx → EReal) = G m c := by
  funext i
  have hi0 : (i 0).val < 8320 := (i 0).isLt
  have hi1 : (i 1).val < 1024 := (i 1).isLt
  have hN : cfg0.N = 26 := N_0
  have hr : Value.run2Of i = 1 * ((i 0).val / 640) + (i 1).val / 1024 := by
    show 1 * ((i 0).val / 640 - 0) + 1 * ((i 1).val / 1024 - 0) = _
    omega
  have hq : Value.pt2Of i = 2 * (1 * ((i 0).val / 640) + (i 1).val / 1024) + 1 := congrArg (2 * · + 1) hr
  have hp : Value.pt2Of i < cfg0.N := by rw [hN, hq]; omega
  have hd : Value.pt2Of i / 2 = 1 * ((i 0).val / 640) + (i 1).val / 1024 := by rw [hq]; omega
  have e := Value.outsAt0_sweep m c (Value.pt2Of i) hp
  refine (dif_pos hp).trans ((congrArg (fun p => p.1 (Value.loc2Of i)) e.symm).trans
    ((out_at m c _ hp (by rw [hq]; omega) _).trans ?_))
  rw [hd]
  exact tiled (A m c) (B m c) 640 1024 2816 1 2 (by decide) (i 0).val (i 1).val (by omega)

end Cert.Kernel4Ideal.Mat

namespace Cert.Reference4Ideal.Mat

open Cert.Reference4Ideal Cert.Reference4Ideal.Gen Cert.Reference4Ideal.Value Cert.Mat
open Idealize.ShloMosaic Idealize.SL.Sem

/-- What the reference gives. -/
theorem value (x : FVec Ideal S8320x5632 .bf16) (y : FVec Ideal S1024x5632 .bf16) :
    (Host.dotGeneral dot_S8320x5632_S1024x5632_S8320x1024_1_1_0_0_n_n none
      (extf .f32 x bitsLt_bf16_f32) (extf .f32 y bitsLt_bf16_f32) : S8320x1024.Idx → EReal)
      = fun i => prod (el (p := 8320) (q := 5632) x) (el (p := 1024) (q := 5632) y) 5632 (i 0).val (i 1).val := by
  funext i
  obtain ⟨r, d, rfl⟩ := eq_pair i
  pointwise
  rw [prod_fin]
  exact Finset.sum_congr rfl fun k _ => congrArg₂ (· * ·) (el_fin x r k).symm (el_fin y d k).symm

end Cert.Reference4Ideal.Mat

namespace Cert.MatClaims

open Idealize.ShloMosaic Idealize.ShloMosaic.TcCoe Idealize.SL.Sem

theorem frame_kernel4 : Cert.quiescent_Kernel4 := fun m g _ => Cert.Kernel4.Gen.frame m g

theorem frame_ideal4 : Cert.quiescent_Kernel4Ideal := fun m g _ => Cert.Kernel4Ideal.Gen.frame m g

theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem preserves4 : Cert.preserves_Kernel4_Kernel4Ideal := trivial

/-- The call's result is the reference's. -/
theorem algebraic4 : Cert.algebraic_Kernel4Ideal_Reference4Ideal := by
  intro m g m' g' _ hargs
  refine ⟨fun c => Cert.Kernel4Ideal.Mat.G m c,
    (θ_run Cert.Kernel4Ideal.defs _ _).mono (fun r h c => ⟨(h c).1.trans (Cert.Kernel4Ideal.Mat.value m c), (h c).2⟩)
      (Cert.Kernel4Ideal.Value.run m g),
    (θ_run Cert.Reference4Ideal.defs _ _).mono (fun r h c => ⟨(h c).1.trans ?_, (h c).2⟩)
      (Cert.Reference4Ideal.Value.run (F := Ideal) m' g')⟩
  obtain ⟨e0, e1⟩ := hargs c
  rw [e0, e1]
  exact Cert.Reference4Ideal.Mat.value _ _

end Cert.MatClaims

end
-- ==== Proof.Mat.P5.lean ====
/-
  Program 5, the gradient of the up projection's weights:
  its result and that of its reference, at an element.
-/
module

public import proofs.«01_k».proof.Proof.Gen.Kernel5.Frame
public import proofs.«01_k».proof.Proof.Gen.Kernel5Ideal.Value
public import proofs.«01_k».proof.Proof.Gen.Reference5Ideal.Run
public import proofs.«01_k».proof.Proof.Mat.Tiles
public import proofs.«01_k».proof.Defs
public import Idealize.ShloMosaic.Lib.Quiescent

@[expose] public section

set_option maxRecDepth 8000

noncomputable section

namespace Cert.Kernel5Ideal.Mat

open Cert.Kernel5Ideal Cert.Kernel5Ideal.Gen Cert.Mat
open Idealize.ShloMosaic Idealize.ShloMosaic.TcCoe Idealize.SL.Sem

variable (m : (ℓ : Loc nD τ sig) → Buf (Elt Ideal) ℓ) (c : Dev nD)

/-- The first factor by its row and the contracted number, the second by its column and the contracted number. -/
abbrev A : ℕ → ℕ → EReal := flip (el (m ((c : Thread nD τ).loc main_arg0) : S8320x1024.Idx → EReal))
abbrev B : ℕ → ℕ → EReal := flip (el (m ((c : Thread nD τ).loc main_arg1) : S8320x5632.Idx → EReal))

/-- The result. -/
def G : S1024x5632.Idx → EReal := fun i => prod (A m c) (B m c) 8320 (i 0).val (i 1).val

/-- Which blocks of the arguments a grid point takes. -/
theorem places : ∀ t : Fin cfg0.N, win0_0.index t (0 : Fin 2) = t.val % 5 ∧ win0_0.index t (1 : Fin 2) = t.val / 5 / 4
    ∧ win0_1.index t (0 : Fin 2) = t.val % 5 ∧ win0_1.index t (1 : Fin 2) = t.val / 5 % 4 :=
  (by decide +kernel : ∀ t : Fin grid0.N, _)

theorem blockA (t : Fin cfg0.N) (r : Fin 1664) (k : Fin 1024) :
    (iblk m c 0 t : S1664x1024.Idx → EReal) (ix2 r k) = A m c (t.val / 5 / 4 * 1024 + k.val) (t.val % 5 * 1664 + r.val) := by
  obtain ⟨e0, e1, -⟩ := places t
  unfold iblk
  rw [View.read_apply]
  exact el_of _ _ _ _ (off e0) (off e1)

theorem blockB (t : Fin cfg0.N) (r : Fin 1664) (k : Fin 1408) :
    (iblk m c 1 t : S1664x1408.Idx → EReal) (ix2 r k) = B m c (t.val / 5 % 4 * 1408 + k.val) (t.val % 5 * 1664 + r.val) := by
  obtain ⟨-, -, e0, e1⟩ := places t
  unfold iblk
  rw [View.read_apply]
  exact el_of _ _ _ _ (off e0) (off e1)

/-- A grid point's product at an element of its tile. -/
theorem pay_at (t : Fin cfg0.N) (x : S1024x1408.Idx) :
    (k0_pay1 (F := Ideal) (iblk m c 0 t) (iblk m c 1 t) : S1024x1408.Idx → EReal) x
      = tile (A m c) (B m c) 1024 1408 1664 4 5 t.val (x 0).val (x 1).val := by
  obtain ⟨r, d, rfl⟩ := eq_pair x
  pointwise [k0_pay1]
  exact Finset.sum_congr rfl fun k _ =>
    congrArg₂ (· * ·) (blockA m c t k r) (blockB m c t k d)

section
variable {F : FTy → Type} [FloatOps F]
variable (c : Dev nD) (i : grid0.Coords) (a3 : Memref sig .tc .vmem S1664x1024 .bf16) (h3 : a3.IsWhole)
  (a4 : Memref sig .tc .vmem S1664x1408 .bf16) (h4 : a4.IsWhole) (a5 : Memref sig .tc .vmem S1024x1408 .f32) (h5 : a5.IsWhole)
  (a6 : Memref sig .tc .vmem S1024x1408 .f32) (h6 : a6.IsWhole) (x : Vec F S1664x1024 .bf16) (y : Vec F S1664x1408 .bf16)
  (s : Vec F S1024x1408 .f32)

/-- The first point of a run keeps its product. -/
theorem first (hc0 hc1 hc2) : sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  unfold k0_pay2
  simp only [View.readAt_eq_ld, h3.read_unread, h4.read_unread, View.ld_unit_zero (S := S1664x1024) hz,
    View.ld_unit_zero (S := S1664x1408) hz, shapeCast_self]

/-- A later point adds its product to what is kept. -/
theorem later (hc0 hc1 hc2) : sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  rw [View.canon_unit_zero hz]
  unfold k0_pay3
  simp only [View.readAt_eq_ld, h3.read_unread, h4.read_unread, h6.read_unread, View.ld_unit_zero (S := S1664x1024) hz,
    View.ld_unit_zero (S := S1664x1408) hz, View.ld_unit_zero (S := S1024x1408) hz, shapeCast_self]

/-- So does the last point of a run. -/
theorem last (hc0 hc1 hc2) : sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero hz]
  unfold k0_pay3
  simp only [View.readAt_eq_ld, h3.read_unread, h4.read_unread, h6.read_unread, View.ld_unit_zero (S := S1664x1024) hz,
    View.ld_unit_zero (S := S1664x1408) hz, View.ld_unit_zero (S := S1024x1408) hz, shapeCast_self]

/-- And it writes out the same sum. -/
theorem out (hc0 hc1 hc2) : out0_C_2 c i a3 h3 a4 h4 a5 h5 a6 h6 hc0 hc1 hc2 x y s = addf s (k0_pay1 x y) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero hz, View.readCov_unit_zero (S := S1024x1408) _ hz]
  unfold k0_pay3
  simp only [View.readAt_eq_ld, h3.read_unread, h4.read_unread, h6.read_unread, View.ld_unit_zero (S := S1664x1024) hz,
    View.ld_unit_zero (S := S1664x1408) hz, View.ld_unit_zero (S := S1024x1408) hz, shapeCast_self]

end

theorem stepA (t : Fin cfg0.N) (e0 : t.val % 5 = 0) :
    (outsAt0 (F := Ideal) m c t.val t.isLt).2 = k0_pay1 (iblk m c 0 t) (iblk m c 1 t) := by
  rw [outsAt0_A m c t e0 (by omega) (by omega)]
  dsimp only
  exact first ..

theorem step (n : ℕ) (h : n + 1 < cfg0.N) (e0 : ¬ (n + 1) % 5 = 0) :
    (outsAt0 (F := Ideal) m c (n + 1) h).2
      = addf (outsAt0 m c n (Nat.lt_of_succ_lt h)).2 (k0_pay1 (iblk m c 0 ⟨n + 1, h⟩) (iblk m c 1 ⟨n + 1, h⟩)) := by
  by_cases e2 : (n + 1) % 5 = 4
  · refine (congrArg Prod.snd (outsAt0_C m c ⟨n + 1, h⟩ e0 (show 1 ≤ (n + 1) % 5 by omega) e2)).trans ?_
    dsimp only
    exact last ..
  · refine (congrArg Prod.snd (outsAt0_B m c ⟨n + 1, h⟩ e0 (show 1 ≤ (n + 1) % 5 by omega) e2)).trans ?_
    dsimp only
    exact later ..

theorem shown (t : Fin cfg0.N) (e2 : t.val % 5 = 4) :
    (outsAt0 (F := Ideal) m c t.val t.isLt).1 = (outsAt0 m c t.val t.isLt).2 := by
  rw [outsAt0_C m c t (by omega) (by omega) e2]
  dsimp only
  rw [out, last]

/-- What the last point of a run writes out: all of the run's products. -/
theorem out_at (n : ℕ) (h : n < cfg0.N) (e2 : n % 5 = 4) (x : S1024x1408.Idx) :
    ((outsAt0 m c n h).1 : S1024x1408.Idx → EReal) x
      = ∑ s ∈ Finset.range 5, tile (A m c) (B m c) 1024 1408 1664 4 5 (n / 5 * 5 + s) (x 0).val (x 1).val :=
  (congrFun (shown m c ⟨n, h⟩ e2) x).trans
    (run_sum 5 cfg0.N (by decide) (fun n h => ((outsAt0 m c n h).2 : S1024x1408.Idx → EReal))
      (fun n x => tile (A m c) (B m c) 1024 1408 1664 4 5 n (x 0).val (x 1).val)
      (fun n h e x => (congrFun (stepA m c ⟨n, h⟩ e) x).trans (pay_at m c ⟨n, h⟩ x))
      (fun n h e x => (congrFun (step m c n h e) x).trans (congrArg (_ + ·) (pay_at m c ⟨n + 1, h⟩ x))) n h e2 x)

/-- The result after the run. -/
theorem value : (Value.G2 m c : S1024x5632.Idx → EReal) = G m c := by
  funext i
  have hi0 : (i 0).val < 1024 := (i 0).isLt
  have hi1 : (i 1).val < 5632 := (i 1).isLt
  have hN : cfg0.N = 20 := N_0
  have hr : Value.run2Of i = 4 * ((i 0).val / 1024) + (i 1).val / 1408 := by
    show 4 * ((i 0).val / 1024 - 0) + 1 * ((i 1).val / 1408 - 0) = _
    omega
  have hq : Value.pt2Of i = 5 * (4 * ((i 0).val / 1024) + (i 1).val / 1408) + 4 := congrArg (5 * · + 4) hr
  have hp : Value.pt2Of i < cfg0.N := by rw [hN, hq]; omega
  have hd : Value.pt2Of i / 5 = 4 * ((i 0).val / 1024) + (i 1).val / 1408 := by rw [hq]; omega
  have e := Value.outsAt0_sweep m c (Value.pt2Of i) hp
  refine (dif_pos hp).trans ((congrArg (fun p => p.1 (Value.loc2Of i)) e.symm).trans
    ((out_at m c _ hp (by rw [hq]; omega) _).trans ?_))
  rw [hd]
  exact tiled (A m c) (B m c) 1024 1408 1664 4 5 (by decide) (i 0).val (i 1).val (by omega)

end Cert.Kernel5Ideal.Mat

namespace Cert.Reference5Ideal.Mat

open Cert.Reference5Ideal Cert.Reference5Ideal.Gen Cert.Reference5Ideal.Value Cert.Mat
open Idealize.ShloMosaic Idealize.SL.Sem

/-- What the reference gives. -/
theorem value (x : FVec Ideal S8320x1024 .bf16) (y : FVec Ideal S8320x5632 .bf16) :
    (transpose S1024x5632 [1, 0] (Host.dotGeneral dot_S8320x5632_S8320x1024_S5632x1024_0_0_1_1_n_n none
      (extf .f32 y bitsLt_bf16_f32) (extf .f32 x bitsLt_bf16_f32))
         transposes_S5632x1024_S1024x5632_1_0 : S1024x5632.Idx → EReal)
      = fun i => prod (flip (el (p := 8320) (q := 1024) x)) (flip (el (p := 8320) (q := 5632) y)) 8320 (i 0).val (i 1).val := by
  funext i
  obtain ⟨r, d, rfl⟩ := eq_pair i
  pointwise
  rw [prod_fin]
  exact Finset.sum_congr rfl fun k _ => (mul_comm _ _).trans (congrArg₂ (· * ·) (el_fin x k r).symm (el_fin y k d).symm)

end Cert.Reference5Ideal.Mat

namespace Cert.MatClaims

open Idealize.ShloMosaic Idealize.ShloMosaic.TcCoe Idealize.SL.Sem

theorem frame_kernel5 : Cert.quiescent_Kernel5 := fun m g _ => Cert.Kernel5.Gen.frame m g

theorem frame_ideal5 : Cert.quiescent_Kernel5Ideal := fun m g _ => Cert.Kernel5Ideal.Gen.frame m g

theorem frame_reference5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem preserves5 : Cert.preserves_Kernel5_Kernel5Ideal := trivial

/-- The call's result is the reference's. -/
theorem algebraic5 : Cert.algebraic_Kernel5Ideal_Reference5Ideal := by
  intro m g m' g' _ hargs
  refine ⟨fun c => Cert.Kernel5Ideal.Mat.G m c,
    (θ_run Cert.Kernel5Ideal.defs _ _).mono (fun r h c => ⟨(h c).1.trans (Cert.Kernel5Ideal.Mat.value m c), (h c).2⟩)
      (Cert.Kernel5Ideal.Value.run m g),
    (θ_run Cert.Reference5Ideal.defs _ _).mono (fun r h c => ⟨(h c).1.trans ?_, (h c).2⟩)
      (Cert.Reference5Ideal.Value.run (F := Ideal) m' g')⟩
  obtain ⟨e0, e1⟩ := hargs c
  rw [e0, e1]
  exact Cert.Reference5Ideal.Mat.value _ _

end Cert.MatClaims

end
-- ==== Proof.Mat.P6.lean ====
/-
  Program 6, the gradient of the activations:
  its result and that of its reference, at an element.
-/
module

public import proofs.«01_k».proof.Proof.Gen.Kernel6.Frame
public import proofs.«01_k».proof.Proof.Gen.Kernel6Ideal.Value
public import proofs.«01_k».proof.Proof.Gen.Reference6Ideal.Run
public import proofs.«01_k».proof.Proof.Mat.Tiles
public import proofs.«01_k».proof.Defs
public import Idealize.ShloMosaic.Lib.Quiescent

@[expose] public section

set_option maxRecDepth 8000

noncomputable section

namespace Cert.Kernel6Ideal.Mat

open Cert.Kernel6Ideal Cert.Kernel6Ideal.Gen Cert.Mat
open Idealize.ShloMosaic Idealize.ShloMosaic.TcCoe Idealize.SL.Sem

variable (m : (ℓ : Loc nD τ sig) → Buf (Elt Ideal) ℓ) (c : Dev nD)

/-- The first factor by its row and the contracted number, the second by its column and the contracted number. -/
abbrev A : ℕ → ℕ → EReal := el (m ((c : Thread nD τ).loc main_arg0) : S8320x1024.Idx → EReal)
abbrev B : ℕ → ℕ → EReal := el (m ((c : Thread nD τ).loc main_arg1) : S2816x1024.Idx → EReal)

/-- The result. -/
def G : S8320x2816.Idx → EReal := fun i => prod (A m c) (B m c) 1024 (i 0).val (i 1).val

/-- Which blocks of the arguments a grid point takes. -/
theorem places : ∀ t : Fin cfg0.N, win0_0.index t (0 : Fin 2) = t.val / 1 / 2 ∧ win0_0.index t (1 : Fin 2) = t.val % 1
    ∧ win0_1.index t (0 : Fin 2) = t.val / 1 % 2 ∧ win0_1.index t (1 : Fin 2) = t.val % 1 :=
  (by decide +kernel : ∀ t : Fin grid0.N, _)

theorem blockA (t : Fin cfg0.N) (r : Fin 640) (k : Fin 1024) :
    (iblk m c 0 t : S640x1024.Idx → EReal) (ix2 r k) = A m c (t.val / 1 / 2 * 640 + r.val) (t.val % 1 * 1024 + k.val) := by
  obtain ⟨e0, e1, -⟩ := places t
  unfold iblk
  rw [View.read_apply]
  exact el_of _ _ _ _ (off e0) (off e1)

theorem blockB (t : Fin cfg0.N) (r : Fin 1408) (k : Fin 1024) :
    (iblk m c 1 t : S1408x1024.Idx → EReal) (ix2 r k) = B m c (t.val / 1 % 2 * 1408 + r.val) (t.val % 1 * 1024 + k.val) := by
  obtain ⟨-, -, e0, e1⟩ := places t
  unfold iblk
  rw [View.read_apply]
  exact el_of _ _ _ _ (off e0) (off e1)

/-- A grid point's product at an element of its tile. -/
theorem pay_at (t : Fin cfg0.N) (x : S640x1408.Idx) :
    (k0_pay1 (F := Ideal) (iblk m c 0 t) (iblk m c 1 t) : S640x1408.Idx → EReal) x
      = tile (A m c) (B m c) 640 1408 1024 2 1 t.val (x 0).val (x 1).val := by
  obtain ⟨r, d, rfl⟩ := eq_pair x
  pointwise [k0_pay1]
  exact Finset.sum_congr rfl fun k _ =>
    congrArg₂ (· * ·) (blockA m c t r k) (blockB m c t d k)

/-- A grid point writes its product out. -/
theorem out {F : FTy → Type} [FloatOps F] (x : Vec F S640x1024 .f32) (y : Vec F S1408x1024 .bf16) :
    out0_2 x y = k0_pay1 x y := by
  unfold out0_2
  rw [View.canon_unit_zero hz, View.ld_unit_zero (S := S640x1024) hz, View.ld_unit_zero (S := S1408x1024) hz]

/-- Every grid point writes back, to a block of its own. -/
theorem target : ∀ t : Fin cfg0.N, win0_2.index t (0 : Fin 2) = t.val / 2 ∧ win0_2.index t (1 : Fin 2) = t.val % 2
    ∧ win0_2.flush t = true :=
  (by decide +kernel : ∀ t : Fin grid0.N, _)

/-- What a grid point writes back is its block of the result. -/
theorem written (t : Fin cfg0.N) :
    (dats m 0 c).flushed 2 t = ((cfg0.win 2).blk t).view.read (Elt Ideal) (G m c) := by
  obtain ⟨e0, e1, -⟩ := target t
  rw [Value.flushed2, out]
  funext y
  refine (pay_at m c t ((cfg0.win 2).xinj (grid0.coords t) y)).trans ?_
  show tile (A m c) (B m c) 640 1408 1024 2 1 t.val (y 0).val (y 1).val
    = prod (A m c) (B m c) 1024 (win0_2.index t (0 : Fin 2) * 640 + 1 * (y 0).val)
      (win0_2.index t (1 : Fin 2) * 1408 + 1 * (y 1).val)
  rw [tile_one, off e0, off e1]

/-- Every element of the result is in some point's block. -/
theorem covered (i : S8320x2816.Idx) : ∃ t : Fin cfg0.N, (cfg0.win 2).flush t = true ∧ i ∈ ((cfg0.win 2).blk t).view.set := by
  have hi0 : (i 0).val < 8320 := (i 0).isLt
  have hi1 : (i 1).val < 2816 := (i 1).isLt
  have hN : cfg0.N = 26 := N_0
  have hp : 2 * ((i 0).val / 640) + (i 1).val / 1408 < cfg0.N := by rw [hN]; omega
  obtain ⟨e0, e1, e2⟩ := target ⟨_, hp⟩
  have q0 := e0.trans (show (2 * ((i 0).val / 640) + (i 1).val / 1408) / 2 = (i 0).val / 640 by omega)
  have q1 := e1.trans (show (2 * ((i 0).val / 640) + (i 1).val / 1408) % 2 = (i 1).val / 1408 by omega)
  refine ⟨⟨_, hp⟩, e2, ?_⟩
  show i ∈ ((View.whole main_v0).slice (win0_2.rect ⟨_, hp⟩)).set
  rw [View.set_slice_whole, Rect.mem_set_unit]
  intro a
  match a with
  | ⟨0, _⟩ => exact in_block (t := 640) (by decide) q0
  | ⟨1, _⟩ => exact in_block (t := 1408) (by decide) q1

/-- The result after the run. -/
theorem value : (dats m 0 c).arrAt 2 cfg0.N = G m c :=
  (dats m 0 c).arrAt_eq_of_cover 2 _ (fun t _ => written m c t) covered

end Cert.Kernel6Ideal.Mat

namespace Cert.Reference6Ideal.Mat

open Cert.Reference6Ideal Cert.Reference6Ideal.Gen Cert.Reference6Ideal.Value Cert.Mat
open Idealize.ShloMosaic Idealize.SL.Sem

/-- What the reference gives. -/
theorem value (x : FVec Ideal S8320x1024 .f32) (y : FVec Ideal S2816x1024 .bf16) :
    (truncf .bf16 (Host.dotGeneral dot_S8320x1024_S2816x1024_S8320x2816_1_1_0_0_n_n none
      x (extf .f32 y bitsLt_bf16_f32)) bitsLt_bf16_f32 : S8320x2816.Idx → EReal)
      = fun i => prod (el (p := 8320) (q := 1024) x) (el (p := 2816) (q := 1024) y) 1024 (i 0).val (i 1).val := by
  funext i
  obtain ⟨r, d, rfl⟩ := eq_pair i
  pointwise
  rw [prod_fin]
  exact Finset.sum_congr rfl fun k _ => congrArg₂ (· * ·) (el_fin x r k).symm (el_fin y d k).symm

end Cert.Reference6Ideal.Mat

namespace Cert.MatClaims

open Idealize.ShloMosaic Idealize.ShloMosaic.TcCoe Idealize.SL.Sem

theorem frame_kernel6 : Cert.quiescent_Kernel6 := fun m g _ => Cert.Kernel6.Gen.frame m g

theorem frame_ideal6 : Cert.quiescent_Kernel6Ideal := fun m g _ => Cert.Kernel6Ideal.Gen.frame m g

theorem frame_reference6 : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem preserves6 : Cert.preserves_Kernel6_Kernel6Ideal := trivial

/-- The call's result is the reference's. -/
theorem algebraic6 : Cert.algebraic_Kernel6Ideal_Reference6Ideal := by
  intro m g m' g' _ hargs
  refine ⟨fun c => Cert.Kernel6Ideal.Mat.G m c,
    (θ_run Cert.Kernel6Ideal.defs _ _).mono (fun r h c => ⟨(h c).1.trans (Cert.Kernel6Ideal.Mat.value m c), (h c).2⟩)
      (Cert.Kernel6Ideal.Value.run_blocks m g),
    (θ_run Cert.Reference6Ideal.defs _ _).mono (fun r h c => ⟨(h c).1.trans ?_, (h c).2⟩)
      (Cert.Reference6Ideal.Value.run (F := Ideal) m' g')⟩
  obtain ⟨e0, e1⟩ := hargs c
  rw [e0, e1]
  exact Cert.Reference6Ideal.Mat.value _ _

end Cert.MatClaims

end
-- ==== Proof.Mat.P7.lean ====
/-
  Program 7, the gradient of the down projection's weights:
  its result and that of its reference, at an element.
-/
module

public import proofs.«01_k».proof.Proof.Gen.Kernel7.Frame
public import proofs.«01_k».proof.Proof.Gen.Kernel7Ideal.Value
public import proofs.«01_k».proof.Proof.Gen.Reference7Ideal.Run
public import proofs.«01_k».proof.Proof.Mat.Tiles
public import proofs.«01_k».proof.Defs
public import Idealize.ShloMosaic.Lib.Quiescent

@[expose] public section

set_option maxRecDepth 8000

noncomputable section

namespace Cert.Kernel7Ideal.Mat

open Cert.Kernel7Ideal Cert.Kernel7Ideal.Gen Cert.Mat
open Idealize.ShloMosaic Idealize.ShloMosaic.TcCoe Idealize.SL.Sem

variable (m : (ℓ : Loc nD τ sig) → Buf (Elt Ideal) ℓ) (c : Dev nD)

/-- The first factor by its row and the contracted number, the second by its column and the contracted number. -/
abbrev A : ℕ → ℕ → EReal := flip (el (m ((c : Thread nD τ).loc main_arg0) : S8320x2816.Idx → EReal))
abbrev B : ℕ → ℕ → EReal := flip (el (m ((c : Thread nD τ).loc main_arg1) : S8320x1024.Idx → EReal))

/-- The result. -/
def G : S2816x1024.Idx → EReal := fun i => prod (A m c) (B m c) 8320 (i 0).val (i 1).val

/-- Which blocks of the arguments a grid point takes. -/
theorem places : ∀ t : Fin cfg0.N, win0_0.index t (0 : Fin 2) = t.val % 10 ∧ win0_0.index t (1 : Fin 2) = t.val / 10 / 1
    ∧ win0_1.index t (0 : Fin 2) = t.val % 10 ∧ win0_1.index t (1 : Fin 2) = t.val / 10 % 1 :=
  (by decide +kernel : ∀ t : Fin grid0.N, _)

theorem blockA (t : Fin cfg0.N) (r : Fin 832) (k : Fin 1408) :
    (iblk m c 0 t : S832x1408.Idx → EReal) (ix2 r k) = A m c (t.val / 10 / 1 * 1408 + k.val) (t.val % 10 * 832 + r.val) := by
  obtain ⟨e0, e1, -⟩ := places t
  unfold iblk
  rw [View.read_apply]
  exact el_of _ _ _ _ (off e0) (off e1)

theorem blockB (t : Fin cfg0.N) (r : Fin 832) (k : Fin 1024) :
    (iblk m c 1 t : S832x1024.Idx → EReal) (ix2 r k) = B m c (t.val / 10 % 1 * 1024 + k.val) (t.val % 10 * 832 + r.val) := by
  obtain ⟨-, -, e0, e1⟩ := places t
  unfold iblk
  rw [View.read_apply]
  exact el_of _ _ _ _ (off e0) (off e1)

/-- A grid point's product at an element of its tile. -/
theorem pay_at (t : Fin cfg0.N) (x : S1408x1024.Idx) :
    (k0_pay1 (F := Ideal) (iblk m c 0 t) (iblk m c 1 t) : S1408x1024.Idx → EReal) x
      = tile (A m c) (B m c) 1408 1024 832 1 10 t.val (x 0).val (x 1).val := by
  obtain ⟨r, d, rfl⟩ := eq_pair x
  pointwise [k0_pay1]
  exact Finset.sum_congr rfl fun k _ =>
    congrArg₂ (· * ·) (blockA m c t k r) (blockB m c t k d)

section
variable {F : FTy → Type} [FloatOps F]
variable (c : Dev nD) (i : grid0.Coords) (a3 : Memref sig .tc .vmem S832x1408 .bf16) (h3 : a3.IsWhole)
  (a4 : Memref sig .tc .vmem S832x1024 .f32) (h4 : a4.IsWhole) (a5 : Memref sig .tc .vmem S1408x1024 .f32) (h5 : a5.IsWhole)
  (a6 : Memref sig .tc .vmem S1408x1024 .f32) (h6 : a6.IsWhole) (x : Vec F S832x1408 .bf16) (y : Vec F S832x1024 .f32)
  (s : Vec F S1408x1024 .f32)

/-- The first point of a run keeps its product. -/
theorem first (hc0 hc1 hc2) : sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  unfold k0_pay2
  simp only [View.readAt_eq_ld, h3.read_unread, h4.read_unread, View.ld_unit_zero (S := S832x1408) hz,
    View.ld_unit_zero (S := S832x1024) hz, shapeCast_self]

/-- A later point adds its product to what is kept. -/
theorem later (hc0 hc1 hc2) : sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  rw [View.canon_unit_zero hz]
  unfold k0_pay3
  simp only [View.readAt_eq_ld, h3.read_unread, h4.read_unread, h6.read_unread, View.ld_unit_zero (S := S832x1408) hz,
    View.ld_unit_zero (S := S832x1024) hz, View.ld_unit_zero (S := S1408x1024) hz, shapeCast_self]

/-- So does the last point of a run. -/
theorem last (hc0 hc1 hc2) : sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero hz]
  unfold k0_pay3
  simp only [View.readAt_eq_ld, h3.read_unread, h4.read_unread, h6.read_unread, View.ld_unit_zero (S := S832x1408) hz,
    View.ld_unit_zero (S := S832x1024) hz, View.ld_unit_zero (S := S1408x1024) hz, shapeCast_self]

/-- And it writes out the same sum. -/
theorem out (hc0 hc1 hc2) : out0_C_2 c i a3 h3 a4 h4 a5 h5 a6 h6 hc0 hc1 hc2 x y s = addf s (k0_pay1 x y) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero hz, View.readCov_unit_zero (S := S1408x1024) _ hz]
  unfold k0_pay3
  simp only [View.readAt_eq_ld, h3.read_unread, h4.read_unread, h6.read_unread, View.ld_unit_zero (S := S832x1408) hz,
    View.ld_unit_zero (S := S832x1024) hz, View.ld_unit_zero (S := S1408x1024) hz, shapeCast_self]

end

theorem stepA (t : Fin cfg0.N) (e0 : t.val % 10 = 0) :
    (outsAt0 (F := Ideal) m c t.val t.isLt).2 = k0_pay1 (iblk m c 0 t) (iblk m c 1 t) := by
  rw [outsAt0_A m c t e0 (by omega) (by omega)]
  dsimp only
  exact first ..

theorem step (n : ℕ) (h : n + 1 < cfg0.N) (e0 : ¬ (n + 1) % 10 = 0) :
    (outsAt0 (F := Ideal) m c (n + 1) h).2
      = addf (outsAt0 m c n (Nat.lt_of_succ_lt h)).2 (k0_pay1 (iblk m c 0 ⟨n + 1, h⟩) (iblk m c 1 ⟨n + 1, h⟩)) := by
  by_cases e2 : (n + 1) % 10 = 9
  · refine (congrArg Prod.snd (outsAt0_C m c ⟨n + 1, h⟩ e0 (show 1 ≤ (n + 1) % 10 by omega) e2)).trans ?_
    dsimp only
    exact last ..
  · refine (congrArg Prod.snd (outsAt0_B m c ⟨n + 1, h⟩ e0 (show 1 ≤ (n + 1) % 10 by omega) e2)).trans ?_
    dsimp only
    exact later ..

theorem shown (t : Fin cfg0.N) (e2 : t.val % 10 = 9) :
    (outsAt0 (F := Ideal) m c t.val t.isLt).1 = (outsAt0 m c t.val t.isLt).2 := by
  rw [outsAt0_C m c t (by omega) (by omega) e2]
  dsimp only
  rw [out, last]

/-- What the last point of a run writes out: all of the run's products. -/
theorem out_at (n : ℕ) (h : n < cfg0.N) (e2 : n % 10 = 9) (x : S1408x1024.Idx) :
    ((outsAt0 m c n h).1 : S1408x1024.Idx → EReal) x
      = ∑ s ∈ Finset.range 10, tile (A m c) (B m c) 1408 1024 832 1 10 (n / 10 * 10 + s) (x 0).val (x 1).val :=
  (congrFun (shown m c ⟨n, h⟩ e2) x).trans
    (run_sum 10 cfg0.N (by decide) (fun n h => ((outsAt0 m c n h).2 : S1408x1024.Idx → EReal))
      (fun n x => tile (A m c) (B m c) 1408 1024 832 1 10 n (x 0).val (x 1).val)
      (fun n h e x => (congrFun (stepA m c ⟨n, h⟩ e) x).trans (pay_at m c ⟨n, h⟩ x))
      (fun n h e x => (congrFun (step m c n h e) x).trans (congrArg (_ + ·) (pay_at m c ⟨n + 1, h⟩ x))) n h e2 x)

/-- The result after the run. -/
theorem value : (Value.G2 m c : S2816x1024.Idx → EReal) = G m c := by
  funext i
  have hi0 : (i 0).val < 2816 := (i 0).isLt
  have hi1 : (i 1).val < 1024 := (i 1).isLt
  have hN : cfg0.N = 20 := N_0
  have hr : Value.run2Of i = 1 * ((i 0).val / 1408) + (i 1).val / 1024 := by
    show 1 * ((i 0).val / 1408 - 0) + 1 * ((i 1).val / 1024 - 0) = _
    omega
  have hq : Value.pt2Of i = 10 * (1 * ((i 0).val / 1408) + (i 1).val / 1024) + 9 := congrArg (10 * · + 9) hr
  have hp : Value.pt2Of i < cfg0.N := by rw [hN, hq]; omega
  have hd : Value.pt2Of i / 10 = 1 * ((i 0).val / 1408) + (i 1).val / 1024 := by rw [hq]; omega
  have e := Value.outsAt0_sweep m c (Value.pt2Of i) hp
  refine (dif_pos hp).trans ((congrArg (fun p => p.1 (Value.loc2Of i)) e.symm).trans
    ((out_at m c _ hp (by rw [hq]; omega) _).trans ?_))
  rw [hd]
  exact tiled (A m c) (B m c) 1408 1024 832 1 10 (by decide) (i 0).val (i 1).val (by omega)

end Cert.Kernel7Ideal.Mat

namespace Cert.Reference7Ideal.Mat

open Cert.Reference7Ideal Cert.Reference7Ideal.Gen Cert.Reference7Ideal.Value Cert.Mat
open Idealize.ShloMosaic Idealize.SL.Sem

/-- What the reference gives. -/
theorem value (x : FVec Ideal S8320x2816 .bf16) (y : FVec Ideal S8320x1024 .f32) :
    (transpose S2816x1024 [1, 0] (Host.dotGeneral dot_S8320x1024_S8320x2816_S1024x2816_0_0_1_1_n_n none
      y (extf .f32 x bitsLt_bf16_f32))
         transposes_S1024x2816_S2816x1024_1_0 : S2816x1024.Idx → EReal)
      = fun i => prod (flip (el (p := 8320) (q := 2816) x)) (flip (el (p := 8320) (q := 1024) y)) 8320 (i 0).val (i 1).val := by
  funext i
  obtain ⟨r, d, rfl⟩ := eq_pair i
  pointwise
  rw [prod_fin]
  exact Finset.sum_congr rfl fun k _ => (mul_comm _ _).trans (congrArg₂ (· * ·) (el_fin x k r).symm (el_fin y k d).symm)

end Cert.Reference7Ideal.Mat

namespace Cert.MatClaims

open Idealize.ShloMosaic Idealize.ShloMosaic.TcCoe Idealize.SL.Sem

theorem frame_kernel7 : Cert.quiescent_Kernel7 := fun m g _ => Cert.Kernel7.Gen.frame m g

theorem frame_ideal7 : Cert.quiescent_Kernel7Ideal := fun m g _ => Cert.Kernel7Ideal.Gen.frame m g

theorem frame_reference7 : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

theorem preserves7 : Cert.preserves_Kernel7_Kernel7Ideal := trivial

/-- The call's result is the reference's. -/
theorem algebraic7 : Cert.algebraic_Kernel7Ideal_Reference7Ideal := by
  intro m g m' g' _ hargs
  refine ⟨fun c => Cert.Kernel7Ideal.Mat.G m c,
    (θ_run Cert.Kernel7Ideal.defs _ _).mono (fun r h c => ⟨(h c).1.trans (Cert.Kernel7Ideal.Mat.value m c), (h c).2⟩)
      (Cert.Kernel7Ideal.Value.run m g),
    (θ_run Cert.Reference7Ideal.defs _ _).mono (fun r h c => ⟨(h c).1.trans ?_, (h c).2⟩)
      (Cert.Reference7Ideal.Value.run (F := Ideal) m' g')⟩
  obtain ⟨e0, e1⟩ := hargs c
  rw [e0, e1]
  exact Cert.Reference7Ideal.Mat.value _ _

end Cert.MatClaims

end
-- ==== Proof.Mat.P8.lean ====
/-
  Program 8, the first projection:
  its result and that of its reference, at an element.
-/
module

public import proofs.«01_k».proof.Proof.Gen.Kernel8.Frame
public import proofs.«01_k».proof.Proof.Gen.Kernel8Ideal.Value
public import proofs.«01_k».proof.Proof.Gen.Reference8Ideal.Run
public import proofs.«01_k».proof.Proof.Mat.Tiles
public import proofs.«01_k».proof.Defs
public import Idealize.ShloMosaic.Lib.Quiescent

@[expose] public section

set_option maxRecDepth 8000

noncomputable section

namespace Cert.Kernel8Ideal.Mat

open Cert.Kernel8Ideal Cert.Kernel8Ideal.Gen Cert.Mat
open Idealize.ShloMosaic Idealize.ShloMosaic.TcCoe Idealize.SL.Sem

variable (m : (ℓ : Loc nD τ sig) → Buf (Elt Ideal) ℓ) (c : Dev nD)

/-- The first factor by its row and the contracted number, the second by its column and the contracted number. -/
abbrev A : ℕ → ℕ → EReal := el (m ((c : Thread nD τ).loc main_arg0) : S8320x1024.Idx → EReal)
abbrev B : ℕ → ℕ → EReal := flip (el (m ((c : Thread nD τ).loc main_arg1) : S1024x7680.Idx → EReal))

/-- The result. -/
def G : S8320x7680.Idx → EReal := fun i => prod (A m c) (B m c) 1024 (i 0).val (i 1).val

/-- Which blocks of the arguments a grid point takes. -/
theorem places : ∀ t : Fin cfg0.N, win0_0.index t (0 : Fin 2) = t.val / 1 / 5 ∧ win0_0.index t (1 : Fin 2) = t.val % 1
    ∧ win0_1.index t (0 : Fin 2) = t.val % 1 ∧ win0_1.index t (1 : Fin 2) = t.val / 1 % 5 :=
  (by decide +kernel : ∀ t : Fin grid0.N, _)

theorem blockA (t : Fin cfg0.N) (r : Fin 640) (k : Fin 1024) :
    (iblk m c 0 t : S640x1024.Idx → EReal) (ix2 r k) = A m c (t.val / 1 / 5 * 640 + r.val) (t.val % 1 * 1024 + k.val) := by
  obtain ⟨e0, e1, -⟩ := places t
  unfold iblk
  rw [View.read_apply]
  exact el_of _ _ _ _ (off e0) (off e1)

theorem blockB (t : Fin cfg0.N) (r : Fin 1024) (k : Fin 1536) :
    (iblk m c 1 t : S1024x1536.Idx → EReal) (ix2 r k) = B m c (t.val / 1 % 5 * 1536 + k.val) (t.val % 1 * 1024 + r.val) := by
  obtain ⟨-, -, e0, e1⟩ := places t
  unfold iblk
  rw [View.read_apply]
  exact el_of _ _ _ _ (off e0) (off e1)

/-- A grid point's product at an element of its tile. -/
theorem pay_at (t : Fin cfg0.N) (x : S640x1536.Idx) :
    (k0_pay1 (F := Ideal) (iblk m c 0 t) (iblk m c 1 t) : S640x1536.Idx → EReal) x
      = tile (A m c) (B m c) 640 1536 1024 5 1 t.val (x 0).val (x 1).val := by
  obtain ⟨r, d, rfl⟩ := eq_pair x
  pointwise [k0_pay1]
  exact Finset.sum_congr rfl fun k _ =>
    congrArg₂ (· * ·) (blockA m c t r k) (blockB m c t k d)

/-- A grid point writes its product out. -/
theorem out {F : FTy → Type} [FloatOps F] (x : Vec F S640x1024 .bf16) (y : Vec F S1024x1536 .bf16) :
    out0_2 x y = k0_pay1 x y := by
  unfold out0_2
  rw [View.canon_unit_zero hz, View.ld_unit_zero (S := S640x1024) hz, View.ld_unit_zero (S := S1024x1536) hz]

/-- Every grid point writes back, to a block of its own. -/
theorem target : ∀ t : Fin cfg0.N, win0_2.index t (0 : Fin 2) = t.val / 5 ∧ win0_2.index t (1 : Fin 2) = t.val % 5
    ∧ win0_2.flush t = true :=
  (by decide +kernel : ∀ t : Fin grid0.N, _)

/-- What a grid point writes back is its block of the result. -/
theorem written (t : Fin cfg0.N) :
    (dats m 0 c).flushed 2 t = ((cfg0.win 2).blk t).view.read (Elt Ideal) (G m c) := by
  obtain ⟨e0, e1, -⟩ := target t
  rw [Value.flushed2, out]
  funext y
  refine (pay_at m c t ((cfg0.win 2).xinj (grid0.coords t) y)).trans ?_
  show tile (A m c) (B m c) 640 1536 1024 5 1 t.val (y 0).val (y 1).val
    = prod (A m c) (B m c) 1024 (win0_2.index t (0 : Fin 2) * 640 + 1 * (y 0).val)
      (win0_2.index t (1 : Fin 2) * 1536 + 1 * (y 1).val)
  rw [tile_one, off e0, off e1]

/-- Every element of the result is in some point's block. -/
theorem covered (i : S8320x7680.Idx) : ∃ t : Fin cfg0.N, (cfg0.win 2).flush t = true ∧ i ∈ ((cfg0.win 2).blk t).view.set := by
  have hi0 : (i 0).val < 8320 := (i 0).isLt
  have hi1 : (i 1).val < 7680 := (i 1).isLt
  have hN : cfg0.N = 65 := N_0
  have hp : 5 * ((i 0).val / 640) + (i 1).val / 1536 < cfg0.N := by rw [hN]; omega
  obtain ⟨e0, e1, e2⟩ := target ⟨_, hp⟩
  have q0 := e0.trans (show (5 * ((i 0).val / 640) + (i 1).val / 1536) / 5 = (i 0).val / 640 by omega)
  have q1 := e1.trans (show (5 * ((i 0).val / 640) + (i 1).val / 1536) % 5 = (i 1).val / 1536 by omega)
  refine ⟨⟨_, hp⟩, e2, ?_⟩
  show i ∈ ((View.whole main_v0).slice (win0_2.rect ⟨_, hp⟩)).set
  rw [View.set_slice_whole, Rect.mem_set_unit]
  intro a
  match a with
  | ⟨0, _⟩ => exact in_block (t := 640) (by decide) q0
  | ⟨1, _⟩ => exact in_block (t := 1536) (by decide) q1

/-- The result after the run. -/
theorem value : (dats m 0 c).arrAt 2 cfg0.N = G m c :=
  (dats m 0 c).arrAt_eq_of_cover 2 _ (fun t _ => written m c t) covered

end Cert.Kernel8Ideal.Mat

namespace Cert.Reference8Ideal.Mat

open Cert.Reference8Ideal Cert.Reference8Ideal.Gen Cert.Reference8Ideal.Value Cert.Mat
open Idealize.ShloMosaic Idealize.SL.Sem

/-- What the reference gives. -/
theorem value (x : FVec Ideal S8320x1024 .bf16) (y : FVec Ideal S1024x7680 .bf16) :
    (Host.dotGeneral dot_S8320x1024_S1024x7680_S8320x7680_1_0_0_1_n_n none
      (extf .f32 x bitsLt_bf16_f32) (extf .f32 y bitsLt_bf16_f32) : S8320x7680.Idx → EReal)
      = fun i => prod (el (p := 8320) (q := 1024) x) (flip (el (p := 1024) (q := 7680) y)) 1024 (i 0).val (i 1).val := by
  funext i
  obtain ⟨r, d, rfl⟩ := eq_pair i
  pointwise
  rw [prod_fin]
  exact Finset.sum_congr rfl fun k _ => congrArg₂ (· * ·) (el_fin x r k).symm (el_fin y k d).symm

end Cert.Reference8Ideal.Mat

namespace Cert.MatClaims

open Idealize.ShloMosaic Idealize.ShloMosaic.TcCoe Idealize.SL.Sem

theorem frame_kernel8 : Cert.quiescent_Kernel8 := fun m g _ => Cert.Kernel8.Gen.frame m g

theorem frame_ideal8 : Cert.quiescent_Kernel8Ideal := fun m g _ => Cert.Kernel8Ideal.Gen.frame m g

theorem frame_reference8 : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

theorem preserves8 : Cert.preserves_Kernel8_Kernel8Ideal := trivial

/-- The call's result is the reference's. -/
theorem algebraic8 : Cert.algebraic_Kernel8Ideal_Reference8Ideal := by
  intro m g m' g' _ hargs
  refine ⟨fun c => Cert.Kernel8Ideal.Mat.G m c,
    (θ_run Cert.Kernel8Ideal.defs _ _).mono (fun r h c => ⟨(h c).1.trans (Cert.Kernel8Ideal.Mat.value m c), (h c).2⟩)
      (Cert.Kernel8Ideal.Value.run_blocks m g),
    (θ_run Cert.Reference8Ideal.defs _ _).mono (fun r h c => ⟨(h c).1.trans ?_, (h c).2⟩)
      (Cert.Reference8Ideal.Value.run (F := Ideal) m' g')⟩
  obtain ⟨e0, e1⟩ := hargs c
  rw [e0, e1]
  exact Cert.Reference8Ideal.Mat.value _ _

end Cert.MatClaims

end
-- ==== Proof.Mat.P9.lean ====
/-
  Program 9, the up projection:
  its result and that of its reference, at an element.
-/
module

public import proofs.«01_k».proof.Proof.Gen.Kernel9.Frame
public import proofs.«01_k».proof.Proof.Gen.Kernel9Ideal.Value
public import proofs.«01_k».proof.Proof.Gen.Reference9Ideal.Run
public import proofs.«01_k».proof.Proof.Mat.Tiles
public import proofs.«01_k».proof.Defs
public import Idealize.ShloMosaic.Lib.Quiescent

@[expose] public section

set_option maxRecDepth 8000

noncomputable section

namespace Cert.Kernel9Ideal.Mat

open Cert.Kernel9Ideal Cert.Kernel9Ideal.Gen Cert.Mat
open Idealize.ShloMosaic Idealize.ShloMosaic.TcCoe Idealize.SL.Sem

variable (m : (ℓ : Loc nD τ sig) → Buf (Elt Ideal) ℓ) (c : Dev nD)

/-- The first factor by its row and the contracted number, the second by its column and the contracted number. -/
abbrev A : ℕ → ℕ → EReal := el (m ((c : Thread nD τ).loc main_arg0) : S8320x1024.Idx → EReal)
abbrev B : ℕ → ℕ → EReal := flip (el (m ((c : Thread nD τ).loc main_arg1) : S1024x5632.Idx → EReal))

/-- The result. -/
def G : S8320x5632.Idx → EReal := fun i => prod (A m c) (B m c) 1024 (i 0).val (i 1).val

/-- Which blocks of the arguments a grid point takes. -/
theorem places : ∀ t : Fin cfg0.N, win0_0.index t (0 : Fin 2) = t.val / 1 / 4 ∧ win0_0.index t (1 : Fin 2) = t.val % 1
    ∧ win0_1.index t (0 : Fin 2) = t.val % 1 ∧ win0_1.index t (1 : Fin 2) = t.val / 1 % 4 :=
  (by decide +kernel : ∀ t : Fin grid0.N, _)

theorem blockA (t : Fin cfg0.N) (r : Fin 640) (k : Fin 1024) :
    (iblk m c 0 t : S640x1024.Idx → EReal) (ix2 r k) = A m c (t.val / 1 / 4 * 640 + r.val) (t.val % 1 * 1024 + k.val) := by
  obtain ⟨e0, e1, -⟩ := places t
  unfold iblk
  rw [View.read_apply]
  exact el_of _ _ _ _ (off e0) (off e1)

theorem blockB (t : Fin cfg0.N) (r : Fin 1024) (k : Fin 1408) :
    (iblk m c 1 t : S1024x1408.Idx → EReal) (ix2 r k) = B m c (t.val / 1 % 4 * 1408 + k.val) (t.val % 1 * 1024 + r.val) := by
  obtain ⟨-, -, e0, e1⟩ := places t
  unfold iblk
  rw [View.read_apply]
  exact el_of _ _ _ _ (off e0) (off e1)

/-- A grid point's product at an element of its tile. -/
theorem pay_at (t : Fin cfg0.N) (x : S640x1408.Idx) :
    (k0_pay1 (F := Ideal) (iblk m c 0 t) (iblk m c 1 t) : S640x1408.Idx → EReal) x
      = tile (A m c) (B m c) 640 1408 1024 4 1 t.val (x 0).val (x 1).val := by
  obtain ⟨r, d, rfl⟩ := eq_pair x
  pointwise [k0_pay1]
  exact Finset.sum_congr rfl fun k _ =>
    congrArg₂ (· * ·) (blockA m c t r k) (blockB m c t k d)

/-- A grid point writes its product out. -/
theorem out {F : FTy → Type} [FloatOps F] (x : Vec F S640x1024 .bf16) (y : Vec F S1024x1408 .bf16) :
    out0_2 x y = k0_pay1 x y := by
  unfold out0_2
  rw [View.canon_unit_zero hz, View.ld_unit_zero (S := S640x1024) hz, View.ld_unit_zero (S := S1024x1408) hz]

/-- Every grid point writes back, to a block of its own. -/
theorem target : ∀ t : Fin cfg0.N, win0_2.index t (0 : Fin 2) = t.val / 4 ∧ win0_2.index t (1 : Fin 2) = t.val % 4
    ∧ win0_2.flush t = true :=
  (by decide +kernel : ∀ t : Fin grid0.N, _)

/-- What a grid point writes back is its block of the result. -/
theorem written (t : Fin cfg0.N) :
    (dats m 0 c).flushed 2 t = ((cfg0.win 2).blk t).view.read (Elt Ideal) (G m c) := by
  obtain ⟨e0, e1, -⟩ := target t
  rw [Value.flushed2, out]
  funext y
  refine (pay_at m c t ((cfg0.win 2).xinj (grid0.coords t) y)).trans ?_
  show tile (A m c) (B m c) 640 1408 1024 4 1 t.val (y 0).val (y 1).val
    = prod (A m c) (B m c) 1024 (win0_2.index t (0 : Fin 2) * 640 + 1 * (y 0).val)
      (win0_2.index t (1 : Fin 2) * 1408 + 1 * (y 1).val)
  rw [tile_one, off e0, off e1]

/-- Every element of the result is in some point's block. -/
theorem covered (i : S8320x5632.Idx) : ∃ t : Fin cfg0.N, (cfg0.win 2).flush t = true ∧ i ∈ ((cfg0.win 2).blk t).view.set := by
  have hi0 : (i 0).val < 8320 := (i 0).isLt
  have hi1 : (i 1).val < 5632 := (i 1).isLt
  have hN : cfg0.N = 52 := N_0
  have hp : 4 * ((i 0).val / 640) + (i 1).val / 1408 < cfg0.N := by rw [hN]; omega
  obtain ⟨e0, e1, e2⟩ := target ⟨_, hp⟩
  have q0 := e0.trans (show (4 * ((i 0).val / 640) + (i 1).val / 1408) / 4 = (i 0).val / 640 by omega)
  have q1 := e1.trans (show (4 * ((i 0).val / 640) + (i 1).val / 1408) % 4 = (i 1).val / 1408 by omega)
  refine ⟨⟨_, hp⟩, e2, ?_⟩
  show i ∈ ((View.whole main_v0).slice (win0_2.rect ⟨_, hp⟩)).set
  rw [View.set_slice_whole, Rect.mem_set_unit]
  intro a
  match a with
  | ⟨0, _⟩ => exact in_block (t := 640) (by decide) q0
  | ⟨1, _⟩ => exact in_block (t := 1408) (by decide) q1

/-- The result after the run. -/
theorem value : (dats m 0 c).arrAt 2 cfg0.N = G m c :=
  (dats m 0 c).arrAt_eq_of_cover 2 _ (fun t _ => written m c t) covered

end Cert.Kernel9Ideal.Mat

namespace Cert.Reference9Ideal.Mat

open Cert.Reference9Ideal Cert.Reference9Ideal.Gen Cert.Reference9Ideal.Value Cert.Mat
open Idealize.ShloMosaic Idealize.SL.Sem

/-- What the reference gives. -/
theorem value (x : FVec Ideal S8320x1024 .bf16) (y : FVec Ideal S1024x5632 .bf16) :
    (Host.dotGeneral dot_S8320x1024_S1024x5632_S8320x5632_1_0_0_1_n_n none
      (extf .f32 x bitsLt_bf16_f32) (extf .f32 y bitsLt_bf16_f32) : S8320x5632.Idx → EReal)
      = fun i => prod (el (p := 8320) (q := 1024) x) (flip (el (p := 1024) (q := 5632) y)) 1024 (i 0).val (i 1).val := by
  funext i
  obtain ⟨r, d, rfl⟩ := eq_pair i
  pointwise
  rw [prod_fin]
  exact Finset.sum_congr rfl fun k _ => congrArg₂ (· * ·) (el_fin x r k).symm (el_fin y k d).symm

end Cert.Reference9Ideal.Mat

namespace Cert.MatClaims

open Idealize.ShloMosaic Idealize.ShloMosaic.TcCoe Idealize.SL.Sem

theorem frame_kernel9 : Cert.quiescent_Kernel9 := fun m g _ => Cert.Kernel9.Gen.frame m g

theorem frame_ideal9 : Cert.quiescent_Kernel9Ideal := fun m g _ => Cert.Kernel9Ideal.Gen.frame m g

theorem frame_reference9 : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

theorem preserves9 : Cert.preserves_Kernel9_Kernel9Ideal := trivial

/-- The call's result is the reference's. -/
theorem algebraic9 : Cert.algebraic_Kernel9Ideal_Reference9Ideal := by
  intro m g m' g' _ hargs
  refine ⟨fun c => Cert.Kernel9Ideal.Mat.G m c,
    (θ_run Cert.Kernel9Ideal.defs _ _).mono (fun r h c => ⟨(h c).1.trans (Cert.Kernel9Ideal.Mat.value m c), (h c).2⟩)
      (Cert.Kernel9Ideal.Value.run_blocks m g),
    (θ_run Cert.Reference9Ideal.defs _ _).mono (fun r h c => ⟨(h c).1.trans ?_, (h c).2⟩)
      (Cert.Reference9Ideal.Value.run (F := Ideal) m' g')⟩
  obtain ⟨e0, e1⟩ := hargs c
  rw [e0, e1]
  exact Cert.Reference9Ideal.Mat.value _ _

end Cert.MatClaims

end
-- ==== Proof.Mat.P10.lean ====
/-
  Program 10, the down projection, added to the residual:
  its result and that of its reference, at an element.
-/
module

public import proofs.«01_k».proof.Proof.Gen.Kernel10.Frame
public import proofs.«01_k».proof.Proof.Gen.Kernel10Ideal.Value
public import proofs.«01_k».proof.Proof.Gen.Reference10Ideal.Run
public import proofs.«01_k».proof.Proof.Mat.Tiles
public import proofs.«01_k».proof.Defs
public import Idealize.ShloMosaic.Lib.Quiescent

@[expose] public section

set_option maxRecDepth 8000

noncomputable section

namespace Cert.Kernel10Ideal.Mat

open Cert.Kernel10Ideal Cert.Kernel10Ideal.Gen Cert.Mat
open Idealize.ShloMosaic Idealize.ShloMosaic.TcCoe Idealize.SL.Sem

variable (m : (ℓ : Loc nD τ sig) → Buf (Elt Ideal) ℓ) (c : Dev nD)

/-- The first factor by its row and the contracted number, the second by its column and the contracted number; the added array. -/
abbrev A : ℕ → ℕ → EReal := el (m ((c : Thread nD τ).loc main_arg0) : S8320x2816.Idx → EReal)
abbrev B : ℕ → ℕ → EReal := flip (el (m ((c : Thread nD τ).loc main_arg1) : S2816x1024.Idx → EReal))
abbrev D : ℕ → ℕ → EReal := el (m ((c : Thread nD τ).loc main_arg2) : S8320x1024.Idx → EReal)

/-- The result. -/
def G : S8320x1024.Idx → EReal := fun i => prod (A m c) (B m c) 2816 (i 0).val (i 1).val + D m c (i 0).val (i 1).val

/-- Which blocks of the arguments a grid point takes. -/
theorem places : ∀ t : Fin cfg0.N, win0_0.index t (0 : Fin 2) = t.val / 1 / 1 ∧ win0_0.index t (1 : Fin 2) = t.val % 1
    ∧ win0_1.index t (0 : Fin 2) = t.val % 1 ∧ win0_1.index t (1 : Fin 2) = t.val / 1 % 1
    ∧ win0_2.index t (0 : Fin 2) = t.val / 1 / 1 ∧ win0_2.index t (1 : Fin 2) = t.val / 1 % 1 :=
  (by decide +kernel : ∀ t : Fin grid0.N, _)

theorem blockA (t : Fin cfg0.N) (r : Fin 640) (k : Fin 2816) :
    (iblk m c 0 t : S640x2816.Idx → EReal) (ix2 r k) = A m c (t.val / 1 / 1 * 640 + r.val) (t.val % 1 * 2816 + k.val) := by
  obtain ⟨e0, e1, -⟩ := places t
  unfold iblk
  rw [View.read_apply]
  exact el_of _ _ _ _ (off e0) (off e1)

theorem blockB (t : Fin cfg0.N) (r : Fin 2816) (k : Fin 1024) :
    (iblk m c 1 t : S2816x1024.Idx → EReal) (ix2 r k) = B m c (t.val / 1 % 1 * 1024 + k.val) (t.val % 1 * 2816 + r.val) := by
  obtain ⟨-, -, e0, e1, -⟩ := places t
  unfold iblk
  rw [View.read_apply]
  exact el_of _ _ _ _ (off e0) (off e1)

theorem blockD (t : Fin cfg0.N) (r : Fin 640) (k : Fin 1024) :
    (iblk m c 2 t : S640x1024.Idx → EReal) (ix2 r k) = D m c (t.val / 1 / 1 * 640 + r.val) (t.val / 1 % 1 * 1024 + k.val) := by
  obtain ⟨-, -, -, -, e0, e1⟩ := places t
  unfold iblk
  rw [View.read_apply]
  exact el_of _ _ _ _ (off e0) (off e1)

/-- A grid point's product at an element of its tile. -/
theorem pay_at (t : Fin cfg0.N) (x : S640x1024.Idx) :
    (k0_pay1 (F := Ideal) (iblk m c 0 t) (iblk m c 1 t) (iblk m c 2 t) : S640x1024.Idx → EReal) x
      = tile (A m c) (B m c) 640 1024 2816 1 1 t.val (x 0).val (x 1).val
        + D m c (t.val / 1 / 1 * 640 + (x 0).val) (t.val / 1 % 1 * 1024 + (x 1).val) := by
  obtain ⟨r, d, rfl⟩ := eq_pair x
  pointwise [k0_pay1]
  exact congrArg₂ (· + ·) (Finset.sum_congr rfl fun k _ =>
    congrArg₂ (· * ·) (blockA m c t r k) (blockB m c t k d))
    ((blockD m c t r d).trans (by simp only [Nat.div_one, Nat.mod_one, Nat.zero_mul, Nat.zero_add]))

/-- A grid point writes its product out. -/
theorem out {F : FTy → Type} [FloatOps F] (x : Vec F S640x2816 .bf16) (y : Vec F S2816x1024 .bf16) (z : Vec F S640x1024 .f32) :
    out0_3 x y z = k0_pay1 x y z := by
  unfold out0_3
  rw [View.canon_unit_zero hz, View.ld_unit_zero (S := S640x2816) hz, View.ld_unit_zero (S := S2816x1024) hz,
    View.ld_unit_zero (S := S640x1024) hz]

/-- Every grid point writes back, to a block of its own. -/
theorem target : ∀ t : Fin cfg0.N, win0_3.index t (0 : Fin 2) = t.val / 1 ∧ win0_3.index t (1 : Fin 2) = t.val % 1
    ∧ win0_3.flush t = true :=
  (by decide +kernel : ∀ t : Fin grid0.N, _)

/-- What a grid point writes back is its block of the result. -/
theorem written (t : Fin cfg0.N) :
    (dats m 0 c).flushed 3 t = ((cfg0.win 3).blk t).view.read (Elt Ideal) (G m c) := by
  obtain ⟨e0, e1, -⟩ := target t
  rw [Value.flushed3, out]
  funext y
  refine (pay_at m c t ((cfg0.win 3).xinj (grid0.coords t) y)).trans ?_
  show tile (A m c) (B m c) 640 1024 2816 1 1 t.val (y 0).val (y 1).val
      + D m c (t.val / 1 / 1 * 640 + (y 0).val) (t.val / 1 % 1 * 1024 + (y 1).val)
    = prod (A m c) (B m c) 2816 (win0_3.index t (0 : Fin 2) * 640 + 1 * (y 0).val)
      (win0_3.index t (1 : Fin 2) * 1024 + 1 * (y 1).val)
      + D m c (win0_3.index t (0 : Fin 2) * 640 + 1 * (y 0).val) (win0_3.index t (1 : Fin 2) * 1024 + 1 * (y 1).val)
  rw [tile_one, off e0, off e1]
  simp only [Nat.div_one]

/-- Every element of the result is in some point's block. -/
theorem covered (i : S8320x1024.Idx) : ∃ t : Fin cfg0.N, (cfg0.win 3).flush t = true ∧ i ∈ ((cfg0.win 3).blk t).view.set := by
  have hi0 : (i 0).val < 8320 := (i 0).isLt
  have hi1 : (i 1).val < 1024 := (i 1).isLt
  have hN : cfg0.N = 13 := N_0
  have hp : 1 * ((i 0).val / 640) + (i 1).val / 1024 < cfg0.N := by rw [hN]; omega
  obtain ⟨e0, e1, e2⟩ := target ⟨_, hp⟩
  have q0 := e0.trans (show (1 * ((i 0).val / 640) + (i 1).val / 1024) / 1 = (i 0).val / 640 by omega)
  have q1 := e1.trans (show (1 * ((i 0).val / 640) + (i 1).val / 1024) % 1 = (i 1).val / 1024 by omega)
  refine ⟨⟨_, hp⟩, e2, ?_⟩
  show i ∈ ((View.whole main_v0).slice (win0_3.rect ⟨_, hp⟩)).set
  rw [View.set_slice_whole, Rect.mem_set_unit]
  intro a
  match a with
  | ⟨0, _⟩ => exact in_block (t := 640) (by decide) q0
  | ⟨1, _⟩ => exact in_block (t := 1024) (by decide) q1

/-- The result after the run. -/
theorem value : (dats m 0 c).arrAt 3 cfg0.N = G m c :=
  (dats m 0 c).arrAt_eq_of_cover 3 _ (fun t _ => written m c t) covered

end Cert.Kernel10Ideal.Mat

namespace Cert.Reference10Ideal.Mat

open Cert.Reference10Ideal Cert.Reference10Ideal.Gen Cert.Reference10Ideal.Value Cert.Mat
open Idealize.ShloMosaic Idealize.SL.Sem

/-- What the reference gives. -/
theorem value (x : FVec Ideal S8320x2816 .bf16) (y : FVec Ideal S2816x1024 .bf16) (z : FVec Ideal S8320x1024 .f32) :
    (addf z (Host.dotGeneral dot_S8320x2816_S2816x1024_S8320x1024_1_0_0_1_n_n none
      (extf .f32 x bitsLt_bf16_f32) (extf .f32 y bitsLt_bf16_f32)) : S8320x1024.Idx → EReal)
      = fun i => prod (el (p := 8320) (q := 2816) x) (flip (el (p := 2816) (q := 1024) y)) 2816 (i 0).val (i 1).val
        + el (p := 8320) (q := 1024) z (i 0).val (i 1).val := by
  funext i
  obtain ⟨r, d, rfl⟩ := eq_pair i
  pointwise
  rw [add_comm, prod_fin]
  exact congrArg₂ (· + ·) (Finset.sum_congr rfl fun k _ => congrArg₂ (· * ·) (el_fin x r k).symm (el_fin y k d).symm)
    (el_fin z r d).symm

end Cert.Reference10Ideal.Mat

namespace Cert.MatClaims

open Idealize.ShloMosaic Idealize.ShloMosaic.TcCoe Idealize.SL.Sem

theorem frame_kernel10 : Cert.quiescent_Kernel10 := fun m g _ => Cert.Kernel10.Gen.frame m g

theorem frame_ideal10 : Cert.quiescent_Kernel10Ideal := fun m g _ => Cert.Kernel10Ideal.Gen.frame m g

theorem frame_reference10 : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

theorem preserves10 : Cert.preserves_Kernel10_Kernel10Ideal := trivial

/-- The call's result is the reference's. -/
theorem algebraic10 : Cert.algebraic_Kernel10Ideal_Reference10Ideal := by
  intro m g m' g' _ hargs
  refine ⟨fun c => Cert.Kernel10Ideal.Mat.G m c,
    (θ_run Cert.Kernel10Ideal.defs _ _).mono (fun r h c => ⟨(h c).1.trans (Cert.Kernel10Ideal.Mat.value m c), (h c).2⟩)
      (Cert.Kernel10Ideal.Value.run_blocks m g),
    (θ_run Cert.Reference10Ideal.defs _ _).mono (fun r h c => ⟨(h c).1.trans ?_, (h c).2⟩)
      (Cert.Reference10Ideal.Value.run (F := Ideal) m' g')⟩
  obtain ⟨e0, e1, e2⟩ := hargs c
  rw [e0, e1, e2]
  exact Cert.Reference10Ideal.Mat.value _ _ _

end Cert.MatClaims

end
-- ==== Proof.Mat.P11.lean ====
/-
  Program 11, the gradient of the output projection's weights:
  its result and that of its reference, at an element.
-/
module

public import proofs.«01_k».proof.Proof.Gen.Kernel11.Frame
public import proofs.«01_k».proof.Proof.Gen.Kernel11Ideal.Value
public import proofs.«01_k».proof.Proof.Gen.Reference11Ideal.Run
public import proofs.«01_k».proof.Proof.Mat.Tiles
public import proofs.«01_k».proof.Defs
public import Idealize.ShloMosaic.Lib.Quiescent

@[expose] public section

set_option maxRecDepth 8000

noncomputable section

namespace Cert.Kernel11Ideal.Mat

open Cert.Kernel11Ideal Cert.Kernel11Ideal.Gen Cert.Mat
open Idealize.ShloMosaic Idealize.ShloMosaic.TcCoe Idealize.SL.Sem

variable (m : (ℓ : Loc nD τ sig) → Buf (Elt Ideal) ℓ) (c : Dev nD)

/-- The first factor by its row and the contracted number, the second by its column and the contracted number. -/
abbrev A : ℕ → ℕ → EReal := flip (el (m ((c : Thread nD τ).loc main_arg0) : S8320x1024.Idx → EReal))
abbrev B : ℕ → ℕ → EReal := flip (el (m ((c : Thread nD τ).loc main_arg1) : S8320x1024.Idx → EReal))

/-- The result. -/
def G : S1024x1024.Idx → EReal := fun i => prod (A m c) (B m c) 8320 (i 0).val (i 1).val

/-- Which blocks of the arguments a grid point takes. -/
theorem places : ∀ t : Fin cfg0.N, win0_0.index t (0 : Fin 2) = t.val % 5 ∧ win0_0.index t (1 : Fin 2) = t.val / 5 / 1
    ∧ win0_1.index t (0 : Fin 2) = t.val % 5 ∧ win0_1.index t (1 : Fin 2) = t.val / 5 % 1 :=
  (by decide +kernel : ∀ t : Fin grid0.N, _)

theorem blockA (t : Fin cfg0.N) (r : Fin 1664) (k : Fin 1024) :
    (iblk m c 0 t : S1664x1024.Idx → EReal) (ix2 r k) = A m c (t.val / 5 / 1 * 1024 + k.val) (t.val % 5 * 1664 + r.val) := by
  obtain ⟨e0, e1, -⟩ := places t
  unfold iblk
  rw [View.read_apply]
  exact el_of _ _ _ _ (off e0) (off e1)

theorem blockB (t : Fin cfg0.N) (r : Fin 1664) (k : Fin 1024) :
    (iblk m c 1 t : S1664x1024.Idx → EReal) (ix2 r k) = B m c (t.val / 5 % 1 * 1024 + k.val) (t.val % 5 * 1664 + r.val) := by
  obtain ⟨-, -, e0, e1⟩ := places t
  unfold iblk
  rw [View.read_apply]
  exact el_of _ _ _ _ (off e0) (off e1)

/-- A grid point's product at an element of its tile. -/
theorem pay_at (t : Fin cfg0.N) (x : S1024x1024.Idx) :
    (k0_pay1 (F := Ideal) (iblk m c 0 t) (iblk m c 1 t) : S1024x1024.Idx → EReal) x
      = tile (A m c) (B m c) 1024 1024 1664 1 5 t.val (x 0).val (x 1).val := by
  obtain ⟨r, d, rfl⟩ := eq_pair x
  pointwise [k0_pay1]
  exact Finset.sum_congr rfl fun k _ =>
    congrArg₂ (· * ·) (blockA m c t k r) (blockB m c t k d)

section
variable {F : FTy → Type} [FloatOps F]
variable (c : Dev nD) (i : grid0.Coords) (a3 : Memref sig .tc .vmem S1664x1024 .bf16) (h3 : a3.IsWhole)
  (a4 : Memref sig .tc .vmem S1664x1024 .f32) (h4 : a4.IsWhole) (a5 : Memref sig .tc .vmem S1024x1024 .f32) (h5 : a5.IsWhole)
  (a6 : Memref sig .tc .vmem S1024x1024 .f32) (h6 : a6.IsWhole) (x : Vec F S1664x1024 .bf16) (y : Vec F S1664x1024 .f32)
  (s : Vec F S1024x1024 .f32)

/-- The first point of a run keeps its product. -/
theorem first (hc0 hc1 hc2) : sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  unfold k0_pay2
  simp only [View.readAt_eq_ld, h3.read_unread, h4.read_unread, View.ld_unit_zero (S := S1664x1024) hz,
    View.ld_unit_zero (S := S1664x1024) hz, shapeCast_self]

/-- A later point adds its product to what is kept. -/
theorem later (hc0 hc1 hc2) : sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  rw [View.canon_unit_zero hz]
  unfold k0_pay3
  simp only [View.readAt_eq_ld, h3.read_unread, h4.read_unread, h6.read_unread, View.ld_unit_zero (S := S1664x1024) hz,
    View.ld_unit_zero (S := S1664x1024) hz, View.ld_unit_zero (S := S1024x1024) hz, shapeCast_self]

/-- So does the last point of a run. -/
theorem last (hc0 hc1 hc2) : sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero hz]
  unfold k0_pay3
  simp only [View.readAt_eq_ld, h3.read_unread, h4.read_unread, h6.read_unread, View.ld_unit_zero (S := S1664x1024) hz,
    View.ld_unit_zero (S := S1664x1024) hz, View.ld_unit_zero (S := S1024x1024) hz, shapeCast_self]

/-- And it writes out the same sum. -/
theorem out (hc0 hc1 hc2) : out0_C_2 c i a3 h3 a4 h4 a5 h5 a6 h6 hc0 hc1 hc2 x y s = addf s (k0_pay1 x y) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S1664x1024) hz,
    View.ld_unit_zero (S := S1664x1024) hz, View.ld_unit_zero (S := S1024x1024) hz, shapeCast_self]

end

theorem stepA (t : Fin cfg0.N) (e0 : t.val % 5 = 0) :
    (outsAt0 (F := Ideal) m c t.val t.isLt).2 = k0_pay1 (iblk m c 0 t) (iblk m c 1 t) := by
  have ht : t.val < 5 := lt_of_lt_of_eq t.isLt N_0
  rw [outsAt0_A m c t e0 (by omega) (by omega)]
  dsimp only
  exact first ..

theorem step (n : ℕ) (h : n + 1 < cfg0.N) (e0 : ¬ (n + 1) % 5 = 0) :
    (outsAt0 (F := Ideal) m c (n + 1) h).2
      = addf (outsAt0 m c n (Nat.lt_of_succ_lt h)).2 (k0_pay1 (iblk m c 0 ⟨n + 1, h⟩) (iblk m c 1 ⟨n + 1, h⟩)) := by
  by_cases e2 : (n + 1) % 5 = 4
  · refine (congrArg Prod.snd (outsAt0_C m c ⟨n + 1, h⟩ e0 (Nat.le_add_left 1 n) e2)).trans ?_
    dsimp only
    exact last ..
  · refine (congrArg Prod.snd (outsAt0_B m c ⟨n + 1, h⟩ e0 (Nat.le_add_left 1 n) e2)).trans ?_
    dsimp only
    exact later ..

theorem shown (t : Fin cfg0.N) (e2 : t.val % 5 = 4) :
    (outsAt0 (F := Ideal) m c t.val t.isLt).1 = (outsAt0 m c t.val t.isLt).2 := by
  rw [outsAt0_C m c t (by omega) (by omega) e2]
  dsimp only
  rw [out, last]

/-- What the last point of a run writes out: all of the run's products. -/
theorem out_at (n : ℕ) (h : n < cfg0.N) (e2 : n % 5 = 4) (x : S1024x1024.Idx) :
    ((outsAt0 m c n h).1 : S1024x1024.Idx → EReal) x
      = ∑ s ∈ Finset.range 5, tile (A m c) (B m c) 1024 1024 1664 1 5 (n / 5 * 5 + s) (x 0).val (x 1).val :=
  (congrFun (shown m c ⟨n, h⟩ e2) x).trans
    (run_sum 5 cfg0.N (by decide) (fun n h => ((outsAt0 m c n h).2 : S1024x1024.Idx → EReal))
      (fun n x => tile (A m c) (B m c) 1024 1024 1664 1 5 n (x 0).val (x 1).val)
      (fun n h e x => (congrFun (stepA m c ⟨n, h⟩ e) x).trans (pay_at m c ⟨n, h⟩ x))
      (fun n h e x => (congrFun (step m c n h e) x).trans (congrArg (_ + ·) (pay_at m c ⟨n + 1, h⟩ x))) n h e2 x)

/-- The result after the run. -/
theorem value : (Value.G2 m c : S1024x1024.Idx → EReal) = G m c := by
  funext i
  have hi0 : (i 0).val < 1024 := (i 0).isLt
  have hi1 : (i 1).val < 1024 := (i 1).isLt
  have hN : cfg0.N = 5 := N_0
  have hr : Value.run2Of i = 1 * ((i 0).val / 1024) + (i 1).val / 1024 := by
    show 1 * ((i 0).val / 1024 - 0) + 1 * ((i 1).val / 1024 - 0) = _
    omega
  have hq : Value.pt2Of i = 5 * (1 * ((i 0).val / 1024) + (i 1).val / 1024) + 4 := congrArg (5 * · + 4) hr
  have hp : Value.pt2Of i < cfg0.N := by rw [hN, hq]; omega
  have hd : Value.pt2Of i / 5 = 1 * ((i 0).val / 1024) + (i 1).val / 1024 := by rw [hq]; omega
  have e := Value.outsAt0_sweep m c (Value.pt2Of i) hp
  refine (dif_pos hp).trans ((congrArg (fun p => p.1 (Value.loc2Of i)) e.symm).trans
    ((out_at m c _ hp (by rw [hq]; omega) _).trans ?_))
  rw [hd]
  exact tiled (A m c) (B m c) 1024 1024 1664 1 5 (by decide) (i 0).val (i 1).val (by omega)

end Cert.Kernel11Ideal.Mat

namespace Cert.Reference11Ideal.Mat

open Cert.Reference11Ideal Cert.Reference11Ideal.Gen Cert.Reference11Ideal.Value Cert.Mat
open Idealize.ShloMosaic Idealize.SL.Sem

/-- What the reference gives. -/
theorem value (x : FVec Ideal S8320x1024 .bf16) (y : FVec Ideal S8320x1024 .f32) :
    (transpose S1024x1024 [1, 0] (Host.dotGeneral dot_S8320x1024_S8320x1024_S1024x1024_0_0_1_1_n_n none
      y (extf .f32 x bitsLt_bf16_f32))
         transposes_S1024x1024_S1024x1024_1_0 : S1024x1024.Idx → EReal)
      = fun i => prod (flip (el (p := 8320) (q := 1024) x)) (flip (el (p := 8320) (q := 1024) y)) 8320 (i 0).val (i 1).val := by
  funext i
  obtain ⟨r, d, rfl⟩ := eq_pair i
  pointwise
  rw [prod_fin]
  exact Finset.sum_congr rfl fun k _ => (mul_comm _ _).trans (congrArg₂ (· * ·) (el_fin x k r).symm (el_fin y k d).symm)

end Cert.Reference11Ideal.Mat

namespace Cert.MatClaims

open Idealize.ShloMosaic Idealize.ShloMosaic.TcCoe Idealize.SL.Sem

theorem frame_kernel11 : Cert.quiescent_Kernel11 := fun m g _ => Cert.Kernel11.Gen.frame m g

theorem frame_ideal11 : Cert.quiescent_Kernel11Ideal := fun m g _ => Cert.Kernel11Ideal.Gen.frame m g

theorem frame_reference11 : Cert.quiescent_Reference11Ideal := fun m g _ =>
  (θ_run Cert.Reference11Ideal.defs _ _).mono (fun r h => ⟨fun c => (h c).2, sem_eq_zero_of_no_sems (by decide) r.2⟩)
    (Cert.Reference11Ideal.Value.run (F := Ideal) m g)

theorem preserves11 : Cert.preserves_Kernel11_Kernel11Ideal := trivial

/-- The call's result is the reference's. -/
theorem algebraic11 : Cert.algebraic_Kernel11Ideal_Reference11Ideal := by
  intro m g m' g' _ hargs
  refine ⟨fun c => Cert.Kernel11Ideal.Mat.G m c,
    (θ_run Cert.Kernel11Ideal.defs _ _).mono (fun r h c => ⟨(h c).1.trans (Cert.Kernel11Ideal.Mat.value m c), (h c).2⟩)
      (Cert.Kernel11Ideal.Value.run m g),
    (θ_run Cert.Reference11Ideal.defs _ _).mono (fun r h c => ⟨(h c).1.trans ?_, (h c).2⟩)
      (Cert.Reference11Ideal.Value.run (F := Ideal) m' g')⟩
  obtain ⟨e0, e1⟩ := hargs c
  rw [e0, e1]
  exact Cert.Reference11Ideal.Mat.value _ _

end Cert.MatClaims

end
-- ==== Proof.Mat.P12.lean ====
/-
  Program 12, the gradient of the rows that went into the output projection:
  its result and that of its reference, at an element.
-/
module

public import proofs.«01_k».proof.Proof.Gen.Kernel12.Frame
public import proofs.«01_k».proof.Proof.Gen.Kernel12Ideal.Value
public import proofs.«01_k».proof.Proof.Gen.Reference12Ideal.Run
public import proofs.«01_k».proof.Proof.Mat.Tiles
public import proofs.«01_k».proof.Defs
public import Idealize.ShloMosaic.Lib.Quiescent

@[expose] public section

set_option maxRecDepth 8000

noncomputable section

namespace Cert.Kernel12Ideal.Mat

open Cert.Kernel12Ideal Cert.Kernel12Ideal.Gen Cert.Mat
open Idealize.ShloMosaic Idealize.ShloMosaic.TcCoe Idealize.SL.Sem

variable (m : (ℓ : Loc nD τ sig) → Buf (Elt Ideal) ℓ) (c : Dev nD)

/-- The first factor by its row and the contracted number, the second by its column and the contracted number. -/
abbrev A : ℕ → ℕ → EReal := el (m ((c : Thread nD τ).loc main_arg0) : S8320x1024.Idx → EReal)
abbrev B : ℕ → ℕ → EReal := el (m ((c : Thread nD τ).loc main_arg1) : S1024x1024.Idx → EReal)

/-- The result. -/
def G : S8320x1024.Idx → EReal := fun i => prod (A m c) (B m c) 1024 (i 0).val (i 1).val

/-- Which blocks of the arguments a grid point takes. -/
theorem places : ∀ t : Fin cfg0.N, win0_0.index t (0 : Fin 2) = t.val / 1 / 1 ∧ win0_0.index t (1 : Fin 2) = t.val % 1
    ∧ win0_1.index t (0 : Fin 2) = t.val / 1 % 1 ∧ win0_1.index t (1 : Fin 2) = t.val % 1 :=
  (by decide +kernel : ∀ t : Fin grid0.N, _)

theorem blockA (t : Fin cfg0.N) (r : Fin 640) (k : Fin 1024) :
    (iblk m c 0 t : S640x1024.Idx → EReal) (ix2 r k) = A m c (t.val / 1 / 1 * 640 + r.val) (t.val % 1 * 1024 + k.val) := by
  obtain ⟨e0, e1, -⟩ := places t
  unfold iblk
  rw [View.read_apply]
  exact el_of _ _ _ _ (off e0) (off e1)

theorem blockB (t : Fin cfg0.N) (r : Fin 1024) (k : Fin 1024) :
    (iblk m c 1 t : S1024x1024.Idx → EReal) (ix2 r k) = B m c (t.val / 1 % 1 * 1024 + r.val) (t.val % 1 * 1024 + k.val) := by
  obtain ⟨-, -, e0, e1⟩ := places t
  unfold iblk
  rw [View.read_apply]
  exact el_of _ _ _ _ (off e0) (off e1)

/-- A grid point's product at an element of its tile. -/
theorem pay_at (t : Fin cfg0.N) (x : S640x1024.Idx) :
    (k0_pay1 (F := Ideal) (iblk m c 0 t) (iblk m c 1 t) : S640x1024.Idx → EReal) x
      = tile (A m c) (B m c) 640 1024 1024 1 1 t.val (x 0).val (x 1).val := by
  obtain ⟨r, d, rfl⟩ := eq_pair x
  pointwise [k0_pay1]
  exact Finset.sum_congr rfl fun k _ =>
    congrArg₂ (· * ·) (blockA m c t r k) (blockB m c t d k)

/-- A grid point writes its product out. -/
theorem out {F : FTy → Type} [FloatOps F] (x : Vec F S640x1024 .f32) (y : Vec F S1024x1024 .bf16) :
    out0_2 x y = k0_pay1 x y := by
  unfold out0_2
  rw [View.canon_unit_zero hz, View.ld_unit_zero (S := S640x1024) hz, View.ld_unit_zero (S := S1024x1024) hz]

/-- Every grid point writes back, to a block of its own. -/
theorem target : ∀ t : Fin cfg0.N, win0_2.index t (0 : Fin 2) = t.val / 1 ∧ win0_2.index t (1 : Fin 2) = t.val % 1
    ∧ win0_2.flush t = true :=
  (by decide +kernel : ∀ t : Fin grid0.N, _)

/-- What a grid point writes back is its block of the result. -/
theorem written (t : Fin cfg0.N) :
    (dats m 0 c).flushed 2 t = ((cfg0.win 2).blk t).view.read (Elt Ideal) (G m c) := by
  obtain ⟨e0, e1, -⟩ := target t
  rw [Value.flushed2, out]
  funext y
  refine (pay_at m c t ((cfg0.win 2).xinj (grid0.coords t) y)).trans ?_
  show tile (A m c) (B m c) 640 1024 1024 1 1 t.val (y 0).val (y 1).val
    = prod (A m c) (B m c) 1024 (win0_2.index t (0 : Fin 2) * 640 + 1 * (y 0).val)
      (win0_2.index t (1 : Fin 2) * 1024 + 1 * (y 1).val)
  rw [tile_one, off e0, off e1]

/-- Every element of the result is in some point's block. -/
theorem covered (i : S8320x1024.Idx) : ∃ t : Fin cfg0.N, (cfg0.win 2).flush t = true ∧ i ∈ ((cfg0.win 2).blk t).view.set := by
  have hi0 : (i 0).val < 8320 := (i 0).isLt
  have hi1 : (i 1).val < 1024 := (i 1).isLt
  have hN : cfg0.N = 13 := N_0
  have hp : 1 * ((i 0).val / 640) + (i 1).val / 1024 < cfg0.N := by rw [hN]; omega
  obtain ⟨e0, e1, e2⟩ := target ⟨_, hp⟩
  have q0 := e0.trans (show (1 * ((i 0).val / 640) + (i 1).val / 1024) / 1 = (i 0).val / 640 by omega)
  have q1 := e1.trans (show (1 * ((i 0).val / 640) + (i 1).val / 1024) % 1 = (i 1).val / 1024 by omega)
  refine ⟨⟨_, hp⟩, e2, ?_⟩
  show i ∈ ((View.whole main_v0).slice (win0_2.rect ⟨_, hp⟩)).set
  rw [View.set_slice_whole, Rect.mem_set_unit]
  intro a
  match a with
  | ⟨0, _⟩ => exact in_block (t := 640) (by decide) q0
  | ⟨1, _⟩ => exact in_block (t := 1024) (by decide) q1

/-- The result after the run. -/
theorem value : (dats m 0 c).arrAt 2 cfg0.N = G m c :=
  (dats m 0 c).arrAt_eq_of_cover 2 _ (fun t _ => written m c t) covered

end Cert.Kernel12Ideal.Mat

namespace Cert.Reference12Ideal.Mat

open Cert.Reference12Ideal Cert.Reference12Ideal.Gen Cert.Reference12Ideal.Value Cert.Mat
open Idealize.ShloMosaic Idealize.SL.Sem

/-- What the reference gives. -/
theorem value (x : FVec Ideal S8320x1024 .f32) (y : FVec Ideal S1024x1024 .bf16) :
    (Host.dotGeneral dot_S8320x1024_S1024x1024_S8320x1024_1_1_0_0_n_n none
      x (extf .f32 y bitsLt_bf16_f32) : S8320x1024.Idx → EReal)
      = fun i => prod (el (p := 8320) (q := 1024) x) (el (p := 1024) (q := 1024) y) 1024 (i 0).val (i 1).val := by
  funext i
  obtain ⟨r, d, rfl⟩ := eq_pair i
  pointwise
  rw [prod_fin]
  exact Finset.sum_congr rfl fun k _ => congrArg₂ (· * ·) (el_fin x r k).symm (el_fin y d k).symm

end Cert.Reference12Ideal.Mat

namespace Cert.MatClaims

open Idealize.ShloMosaic Idealize.ShloMosaic.TcCoe Idealize.SL.Sem

theorem frame_kernel12 : Cert.quiescent_Kernel12 := fun m g _ => Cert.Kernel12.Gen.frame m g

theorem frame_ideal12 : Cert.quiescent_Kernel12Ideal := fun m g _ => Cert.Kernel12Ideal.Gen.frame m g

theorem frame_reference12 : Cert.quiescent_Reference12Ideal := fun m g _ =>
  (θ_run Cert.Reference12Ideal.defs _ _).mono (fun r h => ⟨fun c => (h c).2, sem_eq_zero_of_no_sems (by decide) r.2⟩)
    (Cert.Reference12Ideal.Value.run (F := Ideal) m g)

theorem preserves12 : Cert.preserves_Kernel12_Kernel12Ideal := trivial

/-- The call's result is the reference's. -/
theorem algebraic12 : Cert.algebraic_Kernel12Ideal_Reference12Ideal := by
  intro m g m' g' _ hargs
  refine ⟨fun c => Cert.Kernel12Ideal.Mat.G m c,
    (θ_run Cert.Kernel12Ideal.defs _ _).mono (fun r h c => ⟨(h c).1.trans (Cert.Kernel12Ideal.Mat.value m c), (h c).2⟩)
      (Cert.Kernel12Ideal.Value.run_blocks m g),
    (θ_run Cert.Reference12Ideal.defs _ _).mono (fun r h c => ⟨(h c).1.trans ?_, (h c).2⟩)
      (Cert.Reference12Ideal.Value.run (F := Ideal) m' g')⟩
  obtain ⟨e0, e1⟩ := hargs c
  rw [e0, e1]
  exact Cert.Reference12Ideal.Mat.value _ _

end Cert.MatClaims

end
-- ==== Proof.Mat.P13.lean ====
/-
  Program 13, the gradient of the attention branch's weights:
  its result and that of its reference, at an element.
-/
module

public import proofs.«01_k».proof.Proof.Gen.Kernel13.Frame
public import proofs.«01_k».proof.Proof.Gen.Kernel13Ideal.Value
public import proofs.«01_k».proof.Proof.Gen.Reference13Ideal.Run
public import proofs.«01_k».proof.Proof.Mat.Tiles
public import proofs.«01_k».proof.Defs
public import Idealize.ShloMosaic.Lib.Quiescent

@[expose] public section

set_option maxRecDepth 8000

noncomputable section

namespace Cert.Kernel13Ideal.Mat

open Cert.Kernel13Ideal Cert.Kernel13Ideal.Gen Cert.Mat
open Idealize.ShloMosaic Idealize.ShloMosaic.TcCoe Idealize.SL.Sem

variable (m : (ℓ : Loc nD τ sig) → Buf (Elt Ideal) ℓ) (c : Dev nD)

/-- The first factor by its row and the contracted number, the second by its column and the contracted number. -/
abbrev A : ℕ → ℕ → EReal := flip (el (m ((c : Thread nD τ).loc main_arg0) : S8320x512.Idx → EReal))
abbrev B : ℕ → ℕ → EReal := flip (el (m ((c : Thread nD τ).loc main_arg1) : S8320x1024.Idx → EReal))

/-- The result. -/
def G : S512x1024.Idx → EReal := fun i => prod (A m c) (B m c) 8320 (i 0).val (i 1).val

/-- Which blocks of the arguments a grid point takes. -/
theorem places : ∀ t : Fin cfg0.N, win0_0.index t (0 : Fin 2) = t.val % 5 ∧ win0_0.index t (1 : Fin 2) = t.val / 5 / 1
    ∧ win0_1.index t (0 : Fin 2) = t.val % 5 ∧ win0_1.index t (1 : Fin 2) = t.val / 5 % 1 :=
  (by decide +kernel : ∀ t : Fin grid0.N, _)

theorem blockA (t : Fin cfg0.N) (r : Fin 1664) (k : Fin 512) :
    (iblk m c 0 t : S1664x512.Idx → EReal) (ix2 r k) = A m c (t.val / 5 / 1 * 512 + k.val) (t.val % 5 * 1664 + r.val) := by
  obtain ⟨e0, e1, -⟩ := places t
  unfold iblk
  rw [View.read_apply]
  exact el_of _ _ _ _ (off e0) (off e1)

theorem blockB (t : Fin cfg0.N) (r : Fin 1664) (k : Fin 1024) :
    (iblk m c 1 t : S1664x1024.Idx → EReal) (ix2 r k) = B m c (t.val / 5 % 1 * 1024 + k.val) (t.val % 5 * 1664 + r.val) := by
  obtain ⟨-, -, e0, e1⟩ := places t
  unfold iblk
  rw [View.read_apply]
  exact el_of _ _ _ _ (off e0) (off e1)

/-- A grid point's product at an element of its tile. -/
theorem pay_at (t : Fin cfg0.N) (x : S512x1024.Idx) :
    (k0_pay1 (F := Ideal) (iblk m c 0 t) (iblk m c 1 t) : S512x1024.Idx → EReal) x
      = tile (A m c) (B m c) 512 1024 1664 1 5 t.val (x 0).val (x 1).val := by
  obtain ⟨r, d, rfl⟩ := eq_pair x
  pointwise [k0_pay1]
  exact Finset.sum_congr rfl fun k _ =>
    congrArg₂ (· * ·) (blockA m c t k r) (blockB m c t k d)

section
variable {F : FTy → Type} [FloatOps F]
variable (c : Dev nD) (i : grid0.Coords) (a3 : Memref sig .tc .vmem S1664x512 .bf16) (h3 : a3.IsWhole)
  (a4 : Memref sig .tc .vmem S1664x1024 .bf16) (h4 : a4.IsWhole) (a5 : Memref sig .tc .vmem S512x1024 .f32) (h5 : a5.IsWhole)
  (a6 : Memref sig .tc .vmem S512x1024 .f32) (h6 : a6.IsWhole) (x : Vec F S1664x512 .bf16) (y : Vec F S1664x1024 .bf16)
  (s : Vec F S512x1024 .f32)

/-- The first point of a run keeps its product. -/
theorem first (hc0 hc1 hc2) : sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  unfold k0_pay2
  simp only [View.readAt_eq_ld, h3.read_unread, h4.read_unread, View.ld_unit_zero (S := S1664x512) hz,
    View.ld_unit_zero (S := S1664x1024) hz, shapeCast_self]

/-- A later point adds its product to what is kept. -/
theorem later (hc0 hc1 hc2) : sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  rw [View.canon_unit_zero hz]
  unfold k0_pay3
  simp only [View.readAt_eq_ld, h3.read_unread, h4.read_unread, h6.read_unread, View.ld_unit_zero (S := S1664x512) hz,
    View.ld_unit_zero (S := S1664x1024) hz, View.ld_unit_zero (S := S512x1024) hz, shapeCast_self]

/-- So does the last point of a run. -/
theorem last (hc0 hc1 hc2) : sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero hz]
  unfold k0_pay3
  simp only [View.readAt_eq_ld, h3.read_unread, h4.read_unread, h6.read_unread, View.ld_unit_zero (S := S1664x512) hz,
    View.ld_unit_zero (S := S1664x1024) hz, View.ld_unit_zero (S := S512x1024) hz, shapeCast_self]

/-- And it writes out the same sum. -/
theorem out (hc0 hc1 hc2) : out0_C_2 c i a3 h3 a4 h4 a5 h5 a6 h6 hc0 hc1 hc2 x y s = addf s (k0_pay1 x y) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero hz, View.readCov_unit_zero (S := S512x1024) _ hz]
  unfold k0_pay3
  simp only [View.readAt_eq_ld, h3.read_unread, h4.read_unread, h6.read_unread, View.ld_unit_zero (S := S1664x512) hz,
    View.ld_unit_zero (S := S1664x1024) hz, View.ld_unit_zero (S := S512x1024) hz, shapeCast_self]

end

theorem stepA (t : Fin cfg0.N) (e0 : t.val % 5 = 0) :
    (outsAt0 (F := Ideal) m c t.val t.isLt).2 = k0_pay1 (iblk m c 0 t) (iblk m c 1 t) := by
  have ht : t.val < 5 := lt_of_lt_of_eq t.isLt N_0
  rw [outsAt0_A m c t e0 (by omega) (by omega)]
  dsimp only
  exact first ..

theorem step (n : ℕ) (h : n + 1 < cfg0.N) (e0 : ¬ (n + 1) % 5 = 0) :
    (outsAt0 (F := Ideal) m c (n + 1) h).2
      = addf (outsAt0 m c n (Nat.lt_of_succ_lt h)).2 (k0_pay1 (iblk m c 0 ⟨n + 1, h⟩) (iblk m c 1 ⟨n + 1, h⟩)) := by
  by_cases e2 : (n + 1) % 5 = 4
  · refine (congrArg Prod.snd (outsAt0_C m c ⟨n + 1, h⟩ e0 (Nat.le_add_left 1 n) e2)).trans ?_
    dsimp only
    exact last ..
  · refine (congrArg Prod.snd (outsAt0_B m c ⟨n + 1, h⟩ e0 (Nat.le_add_left 1 n) e2)).trans ?_
    dsimp only
    exact later ..

theorem shown (t : Fin cfg0.N) (e2 : t.val % 5 = 4) :
    (outsAt0 (F := Ideal) m c t.val t.isLt).1 = (outsAt0 m c t.val t.isLt).2 := by
  rw [outsAt0_C m c t (by omega) (by omega) e2]
  dsimp only
  rw [out, last]

/-- What the last point of a run writes out: all of the run's products. -/
theorem out_at (n : ℕ) (h : n < cfg0.N) (e2 : n % 5 = 4) (x : S512x1024.Idx) :
    ((outsAt0 m c n h).1 : S512x1024.Idx → EReal) x
      = ∑ s ∈ Finset.range 5, tile (A m c) (B m c) 512 1024 1664 1 5 (n / 5 * 5 + s) (x 0).val (x 1).val :=
  (congrFun (shown m c ⟨n, h⟩ e2) x).trans
    (run_sum 5 cfg0.N (by decide) (fun n h => ((outsAt0 m c n h).2 : S512x1024.Idx → EReal))
      (fun n x => tile (A m c) (B m c) 512 1024 1664 1 5 n (x 0).val (x 1).val)
      (fun n h e x => (congrFun (stepA m c ⟨n, h⟩ e) x).trans (pay_at m c ⟨n, h⟩ x))
      (fun n h e x => (congrFun (step m c n h e) x).trans (congrArg (_ + ·) (pay_at m c ⟨n + 1, h⟩ x))) n h e2 x)

/-- The result after the run. -/
theorem value : (Value.G2 m c : S512x1024.Idx → EReal) = G m c := by
  funext i
  have hi0 : (i 0).val < 512 := (i 0).isLt
  have hi1 : (i 1).val < 1024 := (i 1).isLt
  have hN : cfg0.N = 5 := N_0
  have hr : Value.run2Of i = 1 * ((i 0).val / 512) + (i 1).val / 1024 := by
    show 1 * ((i 0).val / 512 - 0) + 1 * ((i 1).val / 1024 - 0) = _
    omega
  have hq : Value.pt2Of i = 5 * (1 * ((i 0).val / 512) + (i 1).val / 1024) + 4 := congrArg (5 * · + 4) hr
  have hp : Value.pt2Of i < cfg0.N := by rw [hN, hq]; omega
  have hd : Value.pt2Of i / 5 = 1 * ((i 0).val / 512) + (i 1).val / 1024 := by rw [hq]; omega
  have e := Value.outsAt0_sweep m c (Value.pt2Of i) hp
  refine (dif_pos hp).trans ((congrArg (fun p => p.1 (Value.loc2Of i)) e.symm).trans
    ((out_at m c _ hp (by rw [hq]; omega) _).trans ?_))
  rw [hd]
  exact tiled (A m c) (B m c) 512 1024 1664 1 5 (by decide) (i 0).val (i 1).val (by omega)

end Cert.Kernel13Ideal.Mat

namespace Cert.Reference13Ideal.Mat

open Cert.Reference13Ideal Cert.Reference13Ideal.Gen Cert.Reference13Ideal.Value Cert.Mat
open Idealize.ShloMosaic Idealize.SL.Sem

/-- What the reference gives. -/
theorem value (x : FVec Ideal S8320x512 .bf16) (y : FVec Ideal S8320x1024 .bf16) :
    (transpose S512x1024 [1, 0] (Host.dotGeneral dot_S8320x1024_S8320x512_S1024x512_0_0_1_1_n_n none
      (extf .f32 y bitsLt_bf16_f32) (extf .f32 x bitsLt_bf16_f32))
         transposes_S1024x512_S512x1024_1_0 : S512x1024.Idx → EReal)
      = fun i => prod (flip (el (p := 8320) (q := 512) x)) (flip (el (p := 8320) (q := 1024) y)) 8320 (i 0).val (i 1).val := by
  funext i
  obtain ⟨r, d, rfl⟩ := eq_pair i
  pointwise
  rw [prod_fin]
  exact Finset.sum_congr rfl fun k _ => (mul_comm _ _).trans (congrArg₂ (· * ·) (el_fin x k r).symm (el_fin y k d).symm)

end Cert.Reference13Ideal.Mat

namespace Cert.MatClaims

open Idealize.ShloMosaic Idealize.ShloMosaic.TcCoe Idealize.SL.Sem

theorem frame_kernel13 : Cert.quiescent_Kernel13 := fun m g _ => Cert.Kernel13.Gen.frame m g

theorem frame_ideal13 : Cert.quiescent_Kernel13Ideal := fun m g _ => Cert.Kernel13Ideal.Gen.frame m g

theorem frame_reference13 : Cert.quiescent_Reference13Ideal := fun m g _ =>
  (θ_run Cert.Reference13Ideal.defs _ _).mono (fun r h => ⟨fun c => (h c).2, sem_eq_zero_of_no_sems (by decide) r.2⟩)
    (Cert.Reference13Ideal.Value.run (F := Ideal) m g)

theorem preserves13 : Cert.preserves_Kernel13_Kernel13Ideal := trivial

/-- The call's result is the reference's. -/
theorem algebraic13 : Cert.algebraic_Kernel13Ideal_Reference13Ideal := by
  intro m g m' g' _ hargs
  refine ⟨fun c => Cert.Kernel13Ideal.Mat.G m c,
    (θ_run Cert.Kernel13Ideal.defs _ _).mono (fun r h c => ⟨(h c).1.trans (Cert.Kernel13Ideal.Mat.value m c), (h c).2⟩)
      (Cert.Kernel13Ideal.Value.run m g),
    (θ_run Cert.Reference13Ideal.defs _ _).mono (fun r h c => ⟨(h c).1.trans ?_, (h c).2⟩)
      (Cert.Reference13Ideal.Value.run (F := Ideal) m' g')⟩
  obtain ⟨e0, e1⟩ := hargs c
  rw [e0, e1]
  exact Cert.Reference13Ideal.Mat.value _ _

end Cert.MatClaims

end
-- ==== Proof.Mat.P14.lean ====
/-
  Program 14, the gradient of the attention branch's rows:
  its result and that of its reference, at an element.
-/
module

public import proofs.«01_k».proof.Proof.Gen.Kernel14.Frame
public import proofs.«01_k».proof.Proof.Gen.Kernel14Ideal.Value
public import proofs.«01_k».proof.Proof.Gen.Reference14Ideal.Run
public import proofs.«01_k».proof.Proof.Mat.Tiles
public import proofs.«01_k».proof.Defs
public import Idealize.ShloMosaic.Lib.Quiescent

@[expose] public section

set_option maxRecDepth 8000

noncomputable section

namespace Cert.Kernel14Ideal.Mat

open Cert.Kernel14Ideal Cert.Kernel14Ideal.Gen Cert.Mat
open Idealize.ShloMosaic Idealize.ShloMosaic.TcCoe Idealize.SL.Sem

variable (m : (ℓ : Loc nD τ sig) → Buf (Elt Ideal) ℓ) (c : Dev nD)

/-- The first factor by its row and the contracted number, the second by its column and the contracted number. -/
abbrev A : ℕ → ℕ → EReal := el (m ((c : Thread nD τ).loc main_arg0) : S8320x1024.Idx → EReal)
abbrev B : ℕ → ℕ → EReal := el (m ((c : Thread nD τ).loc main_arg1) : S512x1024.Idx → EReal)

/-- The result. -/
def G : S8320x512.Idx → EReal := fun i => prod (A m c) (B m c) 1024 (i 0).val (i 1).val

/-- Which blocks of the arguments a grid point takes. -/
theorem places : ∀ t : Fin cfg0.N, win0_0.index t (0 : Fin 2) = t.val / 1 / 1 ∧ win0_0.index t (1 : Fin 2) = t.val % 1
    ∧ win0_1.index t (0 : Fin 2) = t.val / 1 % 1 ∧ win0_1.index t (1 : Fin 2) = t.val % 1 :=
  (by decide +kernel : ∀ t : Fin grid0.N, _)

theorem blockA (t : Fin cfg0.N) (r : Fin 640) (k : Fin 1024) :
    (iblk m c 0 t : S640x1024.Idx → EReal) (ix2 r k) = A m c (t.val / 1 / 1 * 640 + r.val) (t.val % 1 * 1024 + k.val) := by
  obtain ⟨e0, e1, -⟩ := places t
  unfold iblk
  rw [View.read_apply]
  exact el_of _ _ _ _ (off e0) (off e1)

theorem blockB (t : Fin cfg0.N) (r : Fin 512) (k : Fin 1024) :
    (iblk m c 1 t : S512x1024.Idx → EReal) (ix2 r k) = B m c (t.val / 1 % 1 * 512 + r.val) (t.val % 1 * 1024 + k.val) := by
  obtain ⟨-, -, e0, e1⟩ := places t
  unfold iblk
  rw [View.read_apply]
  exact el_of _ _ _ _ (off e0) (off e1)

/-- A grid point's product at an element of its tile. -/
theorem pay_at (t : Fin cfg0.N) (x : S640x512.Idx) :
    (k0_pay1 (F := Ideal) (iblk m c 0 t) (iblk m c 1 t) : S640x512.Idx → EReal) x
      = tile (A m c) (B m c) 640 512 1024 1 1 t.val (x 0).val (x 1).val := by
  obtain ⟨r, d, rfl⟩ := eq_pair x
  pointwise [k0_pay1]
  exact Finset.sum_congr rfl fun k _ =>
    congrArg₂ (· * ·) (blockA m c t r k) (blockB m c t d k)

/-- A grid point writes its product out. -/
theorem out {F : FTy → Type} [FloatOps F] (x : Vec F S640x1024 .bf16) (y : Vec F S512x1024 .bf16) :
    out0_2 x y = k0_pay1 x y := by
  unfold out0_2
  rw [View.canon_unit_zero hz, View.ld_unit_zero (S := S640x1024) hz, View.ld_unit_zero (S := S512x1024) hz]

/-- Every grid point writes back, to a block of its own. -/
theorem target : ∀ t : Fin cfg0.N, win0_2.index t (0 : Fin 2) = t.val / 1 ∧ win0_2.index t (1 : Fin 2) = t.val % 1
    ∧ win0_2.flush t = true :=
  (by decide +kernel : ∀ t : Fin grid0.N, _)

/-- What a grid point writes back is its block of the result. -/
theorem written (t : Fin cfg0.N) :
    (dats m 0 c).flushed 2 t = ((cfg0.win 2).blk t).view.read (Elt Ideal) (G m c) := by
  obtain ⟨e0, e1, -⟩ := target t
  rw [Value.flushed2, out]
  funext y
  refine (pay_at m c t ((cfg0.win 2).xinj (grid0.coords t) y)).trans ?_
  show tile (A m c) (B m c) 640 512 1024 1 1 t.val (y 0).val (y 1).val
    = prod (A m c) (B m c) 1024 (win0_2.index t (0 : Fin 2) * 640 + 1 * (y 0).val)
      (win0_2.index t (1 : Fin 2) * 512 + 1 * (y 1).val)
  rw [tile_one, off e0, off e1]

/-- Every element of the result is in some point's block. -/
theorem covered (i : S8320x512.Idx) : ∃ t : Fin cfg0.N, (cfg0.win 2).flush t = true ∧ i ∈ ((cfg0.win 2).blk t).view.set := by
  have hi0 : (i 0).val < 8320 := (i 0).isLt
  have hi1 : (i 1).val < 512 := (i 1).isLt
  have hN : cfg0.N = 13 := N_0
  have hp : 1 * ((i 0).val / 640) + (i 1).val / 512 < cfg0.N := by rw [hN]; omega
  obtain ⟨e0, e1, e2⟩ := target ⟨_, hp⟩
  have q0 := e0.trans (show (1 * ((i 0).val / 640) + (i 1).val / 512) / 1 = (i 0).val / 640 by omega)
  have q1 := e1.trans (show (1 * ((i 0).val / 640) + (i 1).val / 512) % 1 = (i 1).val / 512 by omega)
  refine ⟨⟨_, hp⟩, e2, ?_⟩
  show i ∈ ((View.whole main_v0).slice (win0_2.rect ⟨_, hp⟩)).set
  rw [View.set_slice_whole, Rect.mem_set_unit]
  intro a
  match a with
  | ⟨0, _⟩ => exact in_block (t := 640) (by decide) q0
  | ⟨1, _⟩ => exact in_block (t := 512) (by decide) q1

/-- The result after the run. -/
theorem value : (dats m 0 c).arrAt 2 cfg0.N = G m c :=
  (dats m 0 c).arrAt_eq_of_cover 2 _ (fun t _ => written m c t) covered

end Cert.Kernel14Ideal.Mat

namespace Cert.Reference14Ideal.Mat

open Cert.Reference14Ideal Cert.Reference14Ideal.Gen Cert.Reference14Ideal.Value Cert.Mat
open Idealize.ShloMosaic Idealize.SL.Sem

/-- What the reference gives. -/
theorem value (x : FVec Ideal S8320x1024 .bf16) (y : FVec Ideal S512x1024 .bf16) :
    (Host.dotGeneral dot_S8320x1024_S512x1024_S8320x512_1_1_0_0_n_n none
      (extf .f32 x bitsLt_bf16_f32) (extf .f32 y bitsLt_bf16_f32) : S8320x512.Idx → EReal)
      = fun i => prod (el (p := 8320) (q := 1024) x) (el (p := 512) (q := 1024) y) 1024 (i 0).val (i 1).val := by
  funext i
  obtain ⟨r, d, rfl⟩ := eq_pair i
  pointwise
  rw [prod_fin]
  exact Finset.sum_congr rfl fun k _ => congrArg₂ (· * ·) (el_fin x r k).symm (el_fin y d k).symm

end Cert.Reference14Ideal.Mat

namespace Cert.MatClaims

open Idealize.ShloMosaic Idealize.ShloMosaic.TcCoe Idealize.SL.Sem

theorem frame_kernel14 : Cert.quiescent_Kernel14 := fun m g _ => Cert.Kernel14.Gen.frame m g

theorem frame_ideal14 : Cert.quiescent_Kernel14Ideal := fun m g _ => Cert.Kernel14Ideal.Gen.frame m g

theorem frame_reference14 : Cert.quiescent_Reference14Ideal := fun m g _ =>
  (θ_run Cert.Reference14Ideal.defs _ _).mono (fun r h => ⟨fun c => (h c).2, sem_eq_zero_of_no_sems (by decide) r.2⟩)
    (Cert.Reference14Ideal.Value.run (F := Ideal) m g)

theorem preserves14 : Cert.preserves_Kernel14_Kernel14Ideal := trivial

/-- The call's result is the reference's. -/
theorem algebraic14 : Cert.algebraic_Kernel14Ideal_Reference14Ideal := by
  intro m g m' g' _ hargs
  refine ⟨fun c => Cert.Kernel14Ideal.Mat.G m c,
    (θ_run Cert.Kernel14Ideal.defs _ _).mono (fun r h c => ⟨(h c).1.trans (Cert.Kernel14Ideal.Mat.value m c), (h c).2⟩)
      (Cert.Kernel14Ideal.Value.run_blocks m g),
    (θ_run Cert.Reference14Ideal.defs _ _).mono (fun r h c => ⟨(h c).1.trans ?_, (h c).2⟩)
      (Cert.Reference14Ideal.Value.run (F := Ideal) m' g')⟩
  obtain ⟨e0, e1⟩ := hargs c
  rw [e0, e1]
  exact Cert.Reference14Ideal.Mat.value _ _

end Cert.MatClaims

end
-- ==== Proof.Mat.P15.lean ====
/-
  Program 15, the gradient of the DeltaNet branch's weights:
  its result and that of its reference, at an element.
-/
module

public import proofs.«01_k».proof.Proof.Gen.Kernel15.Frame
public import proofs.«01_k».proof.Proof.Gen.Kernel15Ideal.Value
public import proofs.«01_k».proof.Proof.Gen.Reference15Ideal.Run
public import proofs.«01_k».proof.Proof.Mat.Tiles
public import proofs.«01_k».proof.Defs
public import Idealize.ShloMosaic.Lib.Quiescent

@[expose] public section

set_option maxRecDepth 8000

noncomputable section

namespace Cert.Kernel15Ideal.Mat

open Cert.Kernel15Ideal Cert.Kernel15Ideal.Gen Cert.Mat
open Idealize.ShloMosaic Idealize.ShloMosaic.TcCoe Idealize.SL.Sem

variable (m : (ℓ : Loc nD τ sig) → Buf (Elt Ideal) ℓ) (c : Dev nD)

/-- The first factor by its row and the contracted number, the second by its column and the contracted number. -/
abbrev A : ℕ → ℕ → EReal := flip (el (m ((c : Thread nD τ).loc main_arg0) : S8320x1024.Idx → EReal))
abbrev B : ℕ → ℕ → EReal := flip (el (m ((c : Thread nD τ).loc main_arg1) : S8320x1024.Idx → EReal))

/-- The result. -/
def G : S1024x1024.Idx → EReal := fun i => prod (A m c) (B m c) 8320 (i 0).val (i 1).val

/-- Which blocks of the arguments a grid point takes. -/
theorem places : ∀ t : Fin cfg0.N, win0_0.index t (0 : Fin 2) = t.val % 5 ∧ win0_0.index t (1 : Fin 2) = t.val / 5 / 1
    ∧ win0_1.index t (0 : Fin 2) = t.val % 5 ∧ win0_1.index t (1 : Fin 2) = t.val / 5 % 1 :=
  (by decide +kernel : ∀ t : Fin grid0.N, _)

theorem blockA (t : Fin cfg0.N) (r : Fin 1664) (k : Fin 1024) :
    (iblk m c 0 t : S1664x1024.Idx → EReal) (ix2 r k) = A m c (t.val / 5 / 1 * 1024 + k.val) (t.val % 5 * 1664 + r.val) := by
  obtain ⟨e0, e1, -⟩ := places t
  unfold iblk
  rw [View.read_apply]
  exact el_of _ _ _ _ (off e0) (off e1)

theorem blockB (t : Fin cfg0.N) (r : Fin 1664) (k : Fin 1024) :
    (iblk m c 1 t : S1664x1024.Idx → EReal) (ix2 r k) = B m c (t.val / 5 % 1 * 1024 + k.val) (t.val % 5 * 1664 + r.val) := by
  obtain ⟨-, -, e0, e1⟩ := places t
  unfold iblk
  rw [View.read_apply]
  exact el_of _ _ _ _ (off e0) (off e1)

/-- A grid point's product at an element of its tile. -/
theorem pay_at (t : Fin cfg0.N) (x : S1024x1024.Idx) :
    (k0_pay1 (F := Ideal) (iblk m c 0 t) (iblk m c 1 t) : S1024x1024.Idx → EReal) x
      = tile (A m c) (B m c) 1024 1024 1664 1 5 t.val (x 0).val (x 1).val := by
  obtain ⟨r, d, rfl⟩ := eq_pair x
  pointwise [k0_pay1]
  exact Finset.sum_congr rfl fun k _ =>
    congrArg₂ (· * ·) (blockA m c t k r) (blockB m c t k d)

section
variable {F : FTy → Type} [FloatOps F]
variable (c : Dev nD) (i : grid0.Coords) (a3 : Memref sig .tc .vmem S1664x1024 .bf16) (h3 : a3.IsWhole)
  (a4 : Memref sig .tc .vmem S1664x1024 .bf16) (h4 : a4.IsWhole) (a5 : Memref sig .tc .vmem S1024x1024 .f32) (h5 : a5.IsWhole)
  (a6 : Memref sig .tc .vmem S1024x1024 .f32) (h6 : a6.IsWhole) (x : Vec F S1664x1024 .bf16) (y : Vec F S1664x1024 .bf16)
  (s : Vec F S1024x1024 .f32)

/-- The first point of a run keeps its product. -/
theorem first (hc0 hc1 hc2) : sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  unfold k0_pay2
  simp only [View.readAt_eq_ld, h3.read_unread, h4.read_unread, View.ld_unit_zero (S := S1664x1024) hz,
    View.ld_unit_zero (S := S1664x1024) hz, shapeCast_self]

/-- A later point adds its product to what is kept. -/
theorem later (hc0 hc1 hc2) : sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  rw [View.canon_unit_zero hz]
  unfold k0_pay3
  simp only [View.readAt_eq_ld, h3.read_unread, h4.read_unread, h6.read_unread, View.ld_unit_zero (S := S1664x1024) hz,
    View.ld_unit_zero (S := S1664x1024) hz, View.ld_unit_zero (S := S1024x1024) hz, shapeCast_self]

/-- So does the last point of a run. -/
theorem last (hc0 hc1 hc2) : sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero hz]
  unfold k0_pay3
  simp only [View.readAt_eq_ld, h3.read_unread, h4.read_unread, h6.read_unread, View.ld_unit_zero (S := S1664x1024) hz,
    View.ld_unit_zero (S := S1664x1024) hz, View.ld_unit_zero (S := S1024x1024) hz, shapeCast_self]

/-- And it writes out the same sum. -/
theorem out (hc0 hc1 hc2) : out0_C_2 c i a3 h3 a4 h4 a5 h5 a6 h6 hc0 hc1 hc2 x y s = addf s (k0_pay1 x y) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S1664x1024) hz,
    View.ld_unit_zero (S := S1664x1024) hz, View.ld_unit_zero (S := S1024x1024) hz, shapeCast_self]

end

theorem stepA (t : Fin cfg0.N) (e0 : t.val % 5 = 0) :
    (outsAt0 (F := Ideal) m c t.val t.isLt).2 = k0_pay1 (iblk m c 0 t) (iblk m c 1 t) := by
  have ht : t.val < 5 := lt_of_lt_of_eq t.isLt N_0
  rw [outsAt0_A m c t e0 (by omega) (by omega)]
  dsimp only
  exact first ..

theorem step (n : ℕ) (h : n + 1 < cfg0.N) (e0 : ¬ (n + 1) % 5 = 0) :
    (outsAt0 (F := Ideal) m c (n + 1) h).2
      = addf (outsAt0 m c n (Nat.lt_of_succ_lt h)).2 (k0_pay1 (iblk m c 0 ⟨n + 1, h⟩) (iblk m c 1 ⟨n + 1, h⟩)) := by
  by_cases e2 : (n + 1) % 5 = 4
  · refine (congrArg Prod.snd (outsAt0_C m c ⟨n + 1, h⟩ e0 (Nat.le_add_left 1 n) e2)).trans ?_
    dsimp only
    exact last ..
  · refine (congrArg Prod.snd (outsAt0_B m c ⟨n + 1, h⟩ e0 (Nat.le_add_left 1 n) e2)).trans ?_
    dsimp only
    exact later ..

theorem shown (t : Fin cfg0.N) (e2 : t.val % 5 = 4) :
    (outsAt0 (F := Ideal) m c t.val t.isLt).1 = (outsAt0 m c t.val t.isLt).2 := by
  rw [outsAt0_C m c t (by omega) (by omega) e2]
  dsimp only
  rw [out, last]

/-- What the last point of a run writes out: all of the run's products. -/
theorem out_at (n : ℕ) (h : n < cfg0.N) (e2 : n % 5 = 4) (x : S1024x1024.Idx) :
    ((outsAt0 m c n h).1 : S1024x1024.Idx → EReal) x
      = ∑ s ∈ Finset.range 5, tile (A m c) (B m c) 1024 1024 1664 1 5 (n / 5 * 5 + s) (x 0).val (x 1).val :=
  (congrFun (shown m c ⟨n, h⟩ e2) x).trans
    (run_sum 5 cfg0.N (by decide) (fun n h => ((outsAt0 m c n h).2 : S1024x1024.Idx → EReal))
      (fun n x => tile (A m c) (B m c) 1024 1024 1664 1 5 n (x 0).val (x 1).val)
      (fun n h e x => (congrFun (stepA m c ⟨n, h⟩ e) x).trans (pay_at m c ⟨n, h⟩ x))
      (fun n h e x => (congrFun (step m c n h e) x).trans (congrArg (_ + ·) (pay_at m c ⟨n + 1, h⟩ x))) n h e2 x)

/-- The result after the run. -/
theorem value : (Value.G2 m c : S1024x1024.Idx → EReal) = G m c := by
  funext i
  have hi0 : (i 0).val < 1024 := (i 0).isLt
  have hi1 : (i 1).val < 1024 := (i 1).isLt
  have hN : cfg0.N = 5 := N_0
  have hr : Value.run2Of i = 1 * ((i 0).val / 1024) + (i 1).val / 1024 := by
    show 1 * ((i 0).val / 1024 - 0) + 1 * ((i 1).val / 1024 - 0) = _
    omega
  have hq : Value.pt2Of i = 5 * (1 * ((i 0).val / 1024) + (i 1).val / 1024) + 4 := congrArg (5 * · + 4) hr
  have hp : Value.pt2Of i < cfg0.N := by rw [hN, hq]; omega
  have hd : Value.pt2Of i / 5 = 1 * ((i 0).val / 1024) + (i 1).val / 1024 := by rw [hq]; omega
  have e := Value.outsAt0_sweep m c (Value.pt2Of i) hp
  refine (dif_pos hp).trans ((congrArg (fun p => p.1 (Value.loc2Of i)) e.symm).trans
    ((out_at m c _ hp (by rw [hq]; omega) _).trans ?_))
  rw [hd]
  exact tiled (A m c) (B m c) 1024 1024 1664 1 5 (by decide) (i 0).val (i 1).val (by omega)

end Cert.Kernel15Ideal.Mat

namespace Cert.Reference15Ideal.Mat

open Cert.Reference15Ideal Cert.Reference15Ideal.Gen Cert.Reference15Ideal.Value Cert.Mat
open Idealize.ShloMosaic Idealize.SL.Sem

/-- What the reference gives. -/
theorem value (x : FVec Ideal S8320x1024 .bf16) (y : FVec Ideal S8320x1024 .bf16) :
    (transpose S1024x1024 [1, 0] (Host.dotGeneral dot_S8320x1024_S8320x1024_S1024x1024_0_0_1_1_n_n none
      (extf .f32 y bitsLt_bf16_f32) (extf .f32 x bitsLt_bf16_f32))
         transposes_S1024x1024_S1024x1024_1_0 : S1024x1024.Idx → EReal)
      = fun i => prod (flip (el (p := 8320) (q := 1024) x)) (flip (el (p := 8320) (q := 1024) y)) 8320 (i 0).val (i 1).val := by
  funext i
  obtain ⟨r, d, rfl⟩ := eq_pair i
  pointwise
  rw [prod_fin]
  exact Finset.sum_congr rfl fun k _ => (mul_comm _ _).trans (congrArg₂ (· * ·) (el_fin x k r).symm (el_fin y k d).symm)

end Cert.Reference15Ideal.Mat

namespace Cert.MatClaims

open Idealize.ShloMosaic Idealize.ShloMosaic.TcCoe Idealize.SL.Sem

theorem frame_kernel15 : Cert.quiescent_Kernel15 := fun m g _ => Cert.Kernel15.Gen.frame m g

theorem frame_ideal15 : Cert.quiescent_Kernel15Ideal := fun m g _ => Cert.Kernel15Ideal.Gen.frame m g

theorem frame_reference15 : Cert.quiescent_Reference15Ideal := fun m g _ =>
  (θ_run Cert.Reference15Ideal.defs _ _).mono (fun r h => ⟨fun c => (h c).2, sem_eq_zero_of_no_sems (by decide) r.2⟩)
    (Cert.Reference15Ideal.Value.run (F := Ideal) m g)

theorem preserves15 : Cert.preserves_Kernel15_Kernel15Ideal := trivial

/-- The call's result is the reference's. -/
theorem algebraic15 : Cert.algebraic_Kernel15Ideal_Reference15Ideal := by
  intro m g m' g' _ hargs
  refine ⟨fun c => Cert.Kernel15Ideal.Mat.G m c,
    (θ_run Cert.Kernel15Ideal.defs _ _).mono (fun r h c => ⟨(h c).1.trans (Cert.Kernel15Ideal.Mat.value m c), (h c).2⟩)
      (Cert.Kernel15Ideal.Value.run m g),
    (θ_run Cert.Reference15Ideal.defs _ _).mono (fun r h c => ⟨(h c).1.trans ?_, (h c).2⟩)
      (Cert.Reference15Ideal.Value.run (F := Ideal) m' g')⟩
  obtain ⟨e0, e1⟩ := hargs c
  rw [e0, e1]
  exact Cert.Reference15Ideal.Mat.value _ _

end Cert.MatClaims

end
-- ==== Proof.Mat.P16.lean ====
/-
  Program 16, the gradient of the DeltaNet branch's rows:
  its result and that of its reference, at an element.
-/
module

public import proofs.«01_k».proof.Proof.Gen.Kernel16.Frame
public import proofs.«01_k».proof.Proof.Gen.Kernel16Ideal.Value
public import proofs.«01_k».proof.Proof.Gen.Reference16Ideal.Run
public import proofs.«01_k».proof.Proof.Mat.Tiles
public import proofs.«01_k».proof.Defs
public import Idealize.ShloMosaic.Lib.Quiescent

@[expose] public section

set_option maxRecDepth 8000

noncomputable section

namespace Cert.Kernel16Ideal.Mat

open Cert.Kernel16Ideal Cert.Kernel16Ideal.Gen Cert.Mat
open Idealize.ShloMosaic Idealize.ShloMosaic.TcCoe Idealize.SL.Sem

variable (m : (ℓ : Loc nD τ sig) → Buf (Elt Ideal) ℓ) (c : Dev nD)

/-- The first factor by its row and the contracted number, the second by its column and the contracted number. -/
abbrev A : ℕ → ℕ → EReal := el (m ((c : Thread nD τ).loc main_arg0) : S8320x1024.Idx → EReal)
abbrev B : ℕ → ℕ → EReal := el (m ((c : Thread nD τ).loc main_arg1) : S1024x1024.Idx → EReal)

/-- The result. -/
def G : S8320x1024.Idx → EReal := fun i => prod (A m c) (B m c) 1024 (i 0).val (i 1).val

/-- Which blocks of the arguments a grid point takes. -/
theorem places : ∀ t : Fin cfg0.N, win0_0.index t (0 : Fin 2) = t.val / 1 / 1 ∧ win0_0.index t (1 : Fin 2) = t.val % 1
    ∧ win0_1.index t (0 : Fin 2) = t.val / 1 % 1 ∧ win0_1.index t (1 : Fin 2) = t.val % 1 :=
  (by decide +kernel : ∀ t : Fin grid0.N, _)

theorem blockA (t : Fin cfg0.N) (r : Fin 640) (k : Fin 1024) :
    (iblk m c 0 t : S640x1024.Idx → EReal) (ix2 r k) = A m c (t.val / 1 / 1 * 640 + r.val) (t.val % 1 * 1024 + k.val) := by
  obtain ⟨e0, e1, -⟩ := places t
  unfold iblk
  rw [View.read_apply]
  exact el_of _ _ _ _ (off e0) (off e1)

theorem blockB (t : Fin cfg0.N) (r : Fin 1024) (k : Fin 1024) :
    (iblk m c 1 t : S1024x1024.Idx → EReal) (ix2 r k) = B m c (t.val / 1 % 1 * 1024 + r.val) (t.val % 1 * 1024 + k.val) := by
  obtain ⟨-, -, e0, e1⟩ := places t
  unfold iblk
  rw [View.read_apply]
  exact el_of _ _ _ _ (off e0) (off e1)

/-- A grid point's product at an element of its tile. -/
theorem pay_at (t : Fin cfg0.N) (x : S640x1024.Idx) :
    (k0_pay1 (F := Ideal) (iblk m c 0 t) (iblk m c 1 t) : S640x1024.Idx → EReal) x
      = tile (A m c) (B m c) 640 1024 1024 1 1 t.val (x 0).val (x 1).val := by
  obtain ⟨r, d, rfl⟩ := eq_pair x
  pointwise [k0_pay1]
  exact Finset.sum_congr rfl fun k _ =>
    congrArg₂ (· * ·) (blockA m c t r k) (blockB m c t d k)

/-- A grid point writes its product out. -/
theorem out {F : FTy → Type} [FloatOps F] (x : Vec F S640x1024 .bf16) (y : Vec F S1024x1024 .bf16) :
    out0_2 x y = k0_pay1 x y := by
  unfold out0_2
  rw [View.canon_unit_zero hz, View.ld_unit_zero (S := S640x1024) hz, View.ld_unit_zero (S := S1024x1024) hz]

/-- Every grid point writes back, to a block of its own. -/
theorem target : ∀ t : Fin cfg0.N, win0_2.index t (0 : Fin 2) = t.val / 1 ∧ win0_2.index t (1 : Fin 2) = t.val % 1
    ∧ win0_2.flush t = true :=
  (by decide +kernel : ∀ t : Fin grid0.N, _)

/-- What a grid point writes back is its block of the result. -/
theorem written (t : Fin cfg0.N) :
    (dats m 0 c).flushed 2 t = ((cfg0.win 2).blk t).view.read (Elt Ideal) (G m c) := by
  obtain ⟨e0, e1, -⟩ := target t
  rw [Value.flushed2, out]
  funext y
  refine (pay_at m c t ((cfg0.win 2).xinj (grid0.coords t) y)).trans ?_
  show tile (A m c) (B m c) 640 1024 1024 1 1 t.val (y 0).val (y 1).val
    = prod (A m c) (B m c) 1024 (win0_2.index t (0 : Fin 2) * 640 + 1 * (y 0).val)
      (win0_2.index t (1 : Fin 2) * 1024 + 1 * (y 1).val)
  rw [tile_one, off e0, off e1]

/-- Every element of the result is in some point's block. -/
theorem covered (i : S8320x1024.Idx) : ∃ t : Fin cfg0.N, (cfg0.win 2).flush t = true ∧ i ∈ ((cfg0.win 2).blk t).view.set := by
  have hi0 : (i 0).val < 8320 := (i 0).isLt
  have hi1 : (i 1).val < 1024 := (i 1).isLt
  have hN : cfg0.N = 13 := N_0
  have hp : 1 * ((i 0).val / 640) + (i 1).val / 1024 < cfg0.N := by rw [hN]; omega
  obtain ⟨e0, e1, e2⟩ := target ⟨_, hp⟩
  have q0 := e0.trans (show (1 * ((i 0).val / 640) + (i 1).val / 1024) / 1 = (i 0).val / 640 by omega)
  have q1 := e1.trans (show (1 * ((i 0).val / 640) + (i 1).val / 1024) % 1 = (i 1).val / 1024 by omega)
  refine ⟨⟨_, hp⟩, e2, ?_⟩
  show i ∈ ((View.whole main_v0).slice (win0_2.rect ⟨_, hp⟩)).set
  rw [View.set_slice_whole, Rect.mem_set_unit]
  intro a
  match a with
  | ⟨0, _⟩ => exact in_block (t := 640) (by decide) q0
  | ⟨1, _⟩ => exact in_block (t := 1024) (by decide) q1

/-- The result after the run. -/
theorem value : (dats m 0 c).arrAt 2 cfg0.N = G m c :=
  (dats m 0 c).arrAt_eq_of_cover 2 _ (fun t _ => written m c t) covered

end Cert.Kernel16Ideal.Mat

namespace Cert.Reference16Ideal.Mat

open Cert.Reference16Ideal Cert.Reference16Ideal.Gen Cert.Reference16Ideal.Value Cert.Mat
open Idealize.ShloMosaic Idealize.SL.Sem

/-- What the reference gives. -/
theorem value (x : FVec Ideal S8320x1024 .bf16) (y : FVec Ideal S1024x1024 .bf16) :
    (Host.dotGeneral dot_S8320x1024_S1024x1024_S8320x1024_1_1_0_0_n_n none
      (extf .f32 x bitsLt_bf16_f32) (extf .f32 y bitsLt_bf16_f32) : S8320x1024.Idx → EReal)
      = fun i => prod (el (p := 8320) (q := 1024) x) (el (p := 1024) (q := 1024) y) 1024 (i 0).val (i 1).val := by
  funext i
  obtain ⟨r, d, rfl⟩ := eq_pair i
  pointwise
  rw [prod_fin]
  exact Finset.sum_congr rfl fun k _ => congrArg₂ (· * ·) (el_fin x r k).symm (el_fin y d k).symm

end Cert.Reference16Ideal.Mat

namespace Cert.MatClaims

open Idealize.ShloMosaic Idealize.ShloMosaic.TcCoe Idealize.SL.Sem

theorem frame_kernel16 : Cert.quiescent_Kernel16 := fun m g _ => Cert.Kernel16.Gen.frame m g

theorem frame_ideal16 : Cert.quiescent_Kernel16Ideal := fun m g _ => Cert.Kernel16Ideal.Gen.frame m g

theorem frame_reference16 : Cert.quiescent_Reference16Ideal := fun m g _ =>
  (θ_run Cert.Reference16Ideal.defs _ _).mono (fun r h => ⟨fun c => (h c).2, sem_eq_zero_of_no_sems (by decide) r.2⟩)
    (Cert.Reference16Ideal.Value.run (F := Ideal) m g)

theorem preserves16 : Cert.preserves_Kernel16_Kernel16Ideal := trivial

/-- The call's result is the reference's. -/
theorem algebraic16 : Cert.algebraic_Kernel16Ideal_Reference16Ideal := by
  intro m g m' g' _ hargs
  refine ⟨fun c => Cert.Kernel16Ideal.Mat.G m c,
    (θ_run Cert.Kernel16Ideal.defs _ _).mono (fun r h c => ⟨(h c).1.trans (Cert.Kernel16Ideal.Mat.value m c), (h c).2⟩)
      (Cert.Kernel16Ideal.Value.run_blocks m g),
    (θ_run Cert.Reference16Ideal.defs _ _).mono (fun r h c => ⟨(h c).1.trans ?_, (h c).2⟩)
      (Cert.Reference16Ideal.Value.run (F := Ideal) m' g')⟩
  obtain ⟨e0, e1⟩ := hargs c
  rw [e0, e1]
  exact Cert.Reference16Ideal.Mat.value _ _

end Cert.MatClaims

end
-- ==== Proof.Mat.P17.lean ====
/-
  Program 17, the gradient of the gates' weights:
  its result and that of its reference, at an element.
-/
module

public import proofs.«01_k».proof.Proof.Gen.Kernel17.Frame
public import proofs.«01_k».proof.Proof.Gen.Kernel17Ideal.Value
public import proofs.«01_k».proof.Proof.Gen.Reference17Ideal.Run
public import proofs.«01_k».proof.Proof.Mat.Tiles
public import proofs.«01_k».proof.Defs
public import Idealize.ShloMosaic.Lib.Quiescent

@[expose] public section

set_option maxRecDepth 8000

noncomputable section

namespace Cert.Kernel17Ideal.Mat

open Cert.Kernel17Ideal Cert.Kernel17Ideal.Gen Cert.Mat
open Idealize.ShloMosaic Idealize.ShloMosaic.TcCoe Idealize.SL.Sem

variable (m : (ℓ : Loc nD τ sig) → Buf (Elt Ideal) ℓ) (c : Dev nD)

/-- The first factor by its row and the contracted number, the second by its column and the contracted number. -/
abbrev A : ℕ → ℕ → EReal := flip (el (m ((c : Thread nD τ).loc main_arg0) : S8320x1024.Idx → EReal))
abbrev B : ℕ → ℕ → EReal := flip (el (m ((c : Thread nD τ).loc main_arg1) : S8320x128.Idx → EReal))

/-- The result. -/
def G : S1024x128.Idx → EReal := fun i => prod (A m c) (B m c) 8320 (i 0).val (i 1).val

/-- Which blocks of the arguments a grid point takes. -/
theorem places : ∀ t : Fin cfg0.N, win0_0.index t (0 : Fin 2) = t.val % 5 ∧ win0_0.index t (1 : Fin 2) = t.val / 5 / 1
    ∧ win0_1.index t (0 : Fin 2) = t.val % 5 ∧ win0_1.index t (1 : Fin 2) = t.val / 5 % 1 :=
  (by decide +kernel : ∀ t : Fin grid0.N, _)

theorem blockA (t : Fin cfg0.N) (r : Fin 1664) (k : Fin 1024) :
    (iblk m c 0 t : S1664x1024.Idx → EReal) (ix2 r k) = A m c (t.val / 5 / 1 * 1024 + k.val) (t.val % 5 * 1664 + r.val) := by
  obtain ⟨e0, e1, -⟩ := places t
  unfold iblk
  rw [View.read_apply]
  exact el_of _ _ _ _ (off e0) (off e1)

theorem blockB (t : Fin cfg0.N) (r : Fin 1664) (k : Fin 128) :
    (iblk m c 1 t : S1664x128.Idx → EReal) (ix2 r k) = B m c (t.val / 5 % 1 * 128 + k.val) (t.val % 5 * 1664 + r.val) := by
  obtain ⟨-, -, e0, e1⟩ := places t
  unfold iblk
  rw [View.read_apply]
  exact el_of _ _ _ _ (off e0) (off e1)

/-- A grid point's product at an element of its tile. -/
theorem pay_at (t : Fin cfg0.N) (x : S1024x128.Idx) :
    (k0_pay1 (F := Ideal) (iblk m c 0 t) (iblk m c 1 t) : S1024x128.Idx → EReal) x
      = tile (A m c) (B m c) 1024 128 1664 1 5 t.val (x 0).val (x 1).val := by
  obtain ⟨r, d, rfl⟩ := eq_pair x
  pointwise [k0_pay1]
  exact Finset.sum_congr rfl fun k _ =>
    congrArg₂ (· * ·) (blockA m c t k r) (blockB m c t k d)

section
variable {F : FTy → Type} [FloatOps F]
variable (c : Dev nD) (i : grid0.Coords) (a3 : Memref sig .tc .vmem S1664x1024 .bf16) (h3 : a3.IsWhole)
  (a4 : Memref sig .tc .vmem S1664x128 .f32) (h4 : a4.IsWhole) (a5 : Memref sig .tc .vmem S1024x128 .f32) (h5 : a5.IsWhole)
  (a6 : Memref sig .tc .vmem S1024x128 .f32) (h6 : a6.IsWhole) (x : Vec F S1664x1024 .bf16) (y : Vec F S1664x128 .f32)
  (s : Vec F S1024x128 .f32)

/-- The first point of a run keeps its product. -/
theorem first (hc0 hc1 hc2) : sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  unfold k0_pay2
  simp only [View.readAt_eq_ld, h3.read_unread, h4.read_unread, View.ld_unit_zero (S := S1664x1024) hz,
    View.ld_unit_zero (S := S1664x128) hz, shapeCast_self]

/-- A later point adds its product to what is kept. -/
theorem later (hc0 hc1 hc2) : sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  rw [View.canon_unit_zero hz]
  unfold k0_pay3
  simp only [View.readAt_eq_ld, h3.read_unread, h4.read_unread, h6.read_unread, View.ld_unit_zero (S := S1664x1024) hz,
    View.ld_unit_zero (S := S1664x128) hz, View.ld_unit_zero (S := S1024x128) hz, shapeCast_self]

/-- So does the last point of a run. -/
theorem last (hc0 hc1 hc2) : sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero hz]
  unfold k0_pay3
  simp only [View.readAt_eq_ld, h3.read_unread, h4.read_unread, h6.read_unread, View.ld_unit_zero (S := S1664x1024) hz,
    View.ld_unit_zero (S := S1664x128) hz, View.ld_unit_zero (S := S1024x128) hz, shapeCast_self]

/-- And it writes out the same sum. -/
theorem out (hc0 hc1 hc2) : out0_C_2 c i a3 h3 a4 h4 a5 h5 a6 h6 hc0 hc1 hc2 x y s = addf s (k0_pay1 x y) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero hz, View.readCov_unit_zero (S := S1024x128) _ hz]
  unfold k0_pay3
  simp only [View.readAt_eq_ld, h3.read_unread, h4.read_unread, h6.read_unread, View.ld_unit_zero (S := S1664x1024) hz,
    View.ld_unit_zero (S := S1664x128) hz, View.ld_unit_zero (S := S1024x128) hz, shapeCast_self]

end

theorem stepA (t : Fin cfg0.N) (e0 : t.val % 5 = 0) :
    (outsAt0 (F := Ideal) m c t.val t.isLt).2 = k0_pay1 (iblk m c 0 t) (iblk m c 1 t) := by
  have ht : t.val < 5 := lt_of_lt_of_eq t.isLt N_0
  rw [outsAt0_A m c t e0 (by omega) (by omega)]
  dsimp only
  exact first ..

theorem step (n : ℕ) (h : n + 1 < cfg0.N) (e0 : ¬ (n + 1) % 5 = 0) :
    (outsAt0 (F := Ideal) m c (n + 1) h).2
      = addf (outsAt0 m c n (Nat.lt_of_succ_lt h)).2 (k0_pay1 (iblk m c 0 ⟨n + 1, h⟩) (iblk m c 1 ⟨n + 1, h⟩)) := by
  by_cases e2 : (n + 1) % 5 = 4
  · refine (congrArg Prod.snd (outsAt0_C m c ⟨n + 1, h⟩ e0 (Nat.le_add_left 1 n) e2)).trans ?_
    dsimp only
    exact last ..
  · refine (congrArg Prod.snd (outsAt0_B m c ⟨n + 1, h⟩ e0 (Nat.le_add_left 1 n) e2)).trans ?_
    dsimp only
    exact later ..

theorem shown (t : Fin cfg0.N) (e2 : t.val % 5 = 4) :
    (outsAt0 (F := Ideal) m c t.val t.isLt).1 = (outsAt0 m c t.val t.isLt).2 := by
  rw [outsAt0_C m c t (by omega) (by omega) e2]
  dsimp only
  rw [out, last]

/-- What the last point of a run writes out: all of the run's products. -/
theorem out_at (n : ℕ) (h : n < cfg0.N) (e2 : n % 5 = 4) (x : S1024x128.Idx) :
    ((outsAt0 m c n h).1 : S1024x128.Idx → EReal) x
      = ∑ s ∈ Finset.range 5, tile (A m c) (B m c) 1024 128 1664 1 5 (n / 5 * 5 + s) (x 0).val (x 1).val :=
  (congrFun (shown m c ⟨n, h⟩ e2) x).trans
    (run_sum 5 cfg0.N (by decide) (fun n h => ((outsAt0 m c n h).2 : S1024x128.Idx → EReal))
      (fun n x => tile (A m c) (B m c) 1024 128 1664 1 5 n (x 0).val (x 1).val)
      (fun n h e x => (congrFun (stepA m c ⟨n, h⟩ e) x).trans (pay_at m c ⟨n, h⟩ x))
      (fun n h e x => (congrFun (step m c n h e) x).trans (congrArg (_ + ·) (pay_at m c ⟨n + 1, h⟩ x))) n h e2 x)

/-- The result after the run. -/
theorem value : (Value.G2 m c : S1024x128.Idx → EReal) = G m c := by
  funext i
  have hi0 : (i 0).val < 1024 := (i 0).isLt
  have hi1 : (i 1).val < 128 := (i 1).isLt
  have hN : cfg0.N = 5 := N_0
  have hr : Value.run2Of i = 1 * ((i 0).val / 1024) + (i 1).val / 128 := by
    show 1 * ((i 0).val / 1024 - 0) + 1 * ((i 1).val / 128 - 0) = _
    omega
  have hq : Value.pt2Of i = 5 * (1 * ((i 0).val / 1024) + (i 1).val / 128) + 4 := congrArg (5 * · + 4) hr
  have hp : Value.pt2Of i < cfg0.N := by rw [hN, hq]; omega
  have hd : Value.pt2Of i / 5 = 1 * ((i 0).val / 1024) + (i 1).val / 128 := by rw [hq]; omega
  have e := Value.outsAt0_sweep m c (Value.pt2Of i) hp
  refine (dif_pos hp).trans ((congrArg (fun p => p.1 (Value.loc2Of i)) e.symm).trans
    ((out_at m c _ hp (by rw [hq]; omega) _).trans ?_))
  rw [hd]
  exact tiled (A m c) (B m c) 1024 128 1664 1 5 (by decide) (i 0).val (i 1).val (by omega)

end Cert.Kernel17Ideal.Mat

namespace Cert.Reference17Ideal.Mat

open Cert.Reference17Ideal Cert.Reference17Ideal.Gen Cert.Reference17Ideal.Value Cert.Mat
open Idealize.ShloMosaic Idealize.SL.Sem

/-- What the reference gives. -/
theorem value (x : FVec Ideal S8320x1024 .bf16) (y : FVec Ideal S8320x128 .f32) :
    (transpose S1024x128 [1, 0] (Host.dotGeneral dot_S8320x128_S8320x1024_S128x1024_0_0_1_1_n_n none
      y (extf .f32 x bitsLt_bf16_f32))
         transposes_S128x1024_S1024x128_1_0 : S1024x128.Idx → EReal)
      = fun i => prod (flip (el (p := 8320) (q := 1024) x)) (flip (el (p := 8320) (q := 128) y)) 8320 (i 0).val (i 1).val := by
  funext i
  obtain ⟨r, d, rfl⟩ := eq_pair i
  pointwise
  rw [prod_fin]
  exact Finset.sum_congr rfl fun k _ => (mul_comm _ _).trans (congrArg₂ (· * ·) (el_fin x k r).symm (el_fin y k d).symm)

end Cert.Reference17Ideal.Mat

namespace Cert.MatClaims

open Idealize.ShloMosaic Idealize.ShloMosaic.TcCoe Idealize.SL.Sem

theorem frame_kernel17 : Cert.quiescent_Kernel17 := fun m g _ => Cert.Kernel17.Gen.frame m g

theorem frame_ideal17 : Cert.quiescent_Kernel17Ideal := fun m g _ => Cert.Kernel17Ideal.Gen.frame m g

theorem frame_reference17 : Cert.quiescent_Reference17Ideal := fun m g _ =>
  (θ_run Cert.Reference17Ideal.defs _ _).mono (fun r h => ⟨fun c => (h c).2, sem_eq_zero_of_no_sems (by decide) r.2⟩)
    (Cert.Reference17Ideal.Value.run (F := Ideal) m g)

theorem preserves17 : Cert.preserves_Kernel17_Kernel17Ideal := trivial

/-- The call's result is the reference's. -/
theorem algebraic17 : Cert.algebraic_Kernel17Ideal_Reference17Ideal := by
  intro m g m' g' _ hargs
  refine ⟨fun c => Cert.Kernel17Ideal.Mat.G m c,
    (θ_run Cert.Kernel17Ideal.defs _ _).mono (fun r h c => ⟨(h c).1.trans (Cert.Kernel17Ideal.Mat.value m c), (h c).2⟩)
      (Cert.Kernel17Ideal.Value.run m g),
    (θ_run Cert.Reference17Ideal.defs _ _).mono (fun r h c => ⟨(h c).1.trans ?_, (h c).2⟩)
      (Cert.Reference17Ideal.Value.run (F := Ideal) m' g')⟩
  obtain ⟨e0, e1⟩ := hargs c
  rw [e0, e1]
  exact Cert.Reference17Ideal.Mat.value _ _

end Cert.MatClaims

end
-- ==== Proof.Mat.P18.lean ====
/-
  Program 18, the gradient through the gates, added to the gradient through the first projection:
  its result and that of its reference, at an element.
-/
module

public import proofs.«01_k».proof.Proof.Gen.Kernel18.Frame
public import proofs.«01_k».proof.Proof.Gen.Kernel18Ideal.Value
public import proofs.«01_k».proof.Proof.Gen.Reference18Ideal.Run
public import proofs.«01_k».proof.Proof.Mat.Tiles
public import proofs.«01_k».proof.Defs
public import Idealize.ShloMosaic.Lib.Quiescent

@[expose] public section

set_option maxRecDepth 8000

noncomputable section

namespace Cert.Kernel18Ideal.Mat

open Cert.Kernel18Ideal Cert.Kernel18Ideal.Gen Cert.Mat
open Idealize.ShloMosaic Idealize.ShloMosaic.TcCoe Idealize.SL.Sem

variable (m : (ℓ : Loc nD τ sig) → Buf (Elt Ideal) ℓ) (c : Dev nD)

/-- The first factor by its row and the contracted number, the second by its column and the contracted number; the added array. -/
abbrev A : ℕ → ℕ → EReal := el (m ((c : Thread nD τ).loc main_arg0) : S8320x128.Idx → EReal)
abbrev B : ℕ → ℕ → EReal := el (m ((c : Thread nD τ).loc main_arg1) : S1024x128.Idx → EReal)
abbrev D : ℕ → ℕ → EReal := el (m ((c : Thread nD τ).loc main_arg2) : S8320x1024.Idx → EReal)

/-- The result. -/
def G : S8320x1024.Idx → EReal := fun i => prod (A m c) (B m c) 128 (i 0).val (i 1).val + D m c (i 0).val (i 1).val

/-- Which blocks of the arguments a grid point takes. -/
theorem places : ∀ t : Fin cfg0.N, win0_0.index t (0 : Fin 2) = t.val / 1 / 1 ∧ win0_0.index t (1 : Fin 2) = t.val % 1
    ∧ win0_1.index t (0 : Fin 2) = t.val / 1 % 1 ∧ win0_1.index t (1 : Fin 2) = t.val % 1
    ∧ win0_2.index t (0 : Fin 2) = t.val / 1 / 1 ∧ win0_2.index t (1 : Fin 2) = t.val / 1 % 1 :=
  (by decide +kernel : ∀ t : Fin grid0.N, _)

theorem blockA (t : Fin cfg0.N) (r : Fin 640) (k : Fin 128) :
    (iblk m c 0 t : S640x128.Idx → EReal) (ix2 r k) = A m c (t.val / 1 / 1 * 640 + r.val) (t.val % 1 * 128 + k.val) := by
  obtain ⟨e0, e1, -⟩ := places t
  unfold iblk
  rw [View.read_apply]
  exact el_of _ _ _ _ (off e0) (off e1)

theorem blockB (t : Fin cfg0.N) (r : Fin 1024) (k : Fin 128) :
    (iblk m c 1 t : S1024x128.Idx → EReal) (ix2 r k) = B m c (t.val / 1 % 1 * 1024 + r.val) (t.val % 1 * 128 + k.val) := by
  obtain ⟨-, -, e0, e1, -⟩ := places t
  unfold iblk
  rw [View.read_apply]
  exact el_of _ _ _ _ (off e0) (off e1)

theorem blockD (t : Fin cfg0.N) (r : Fin 640) (k : Fin 1024) :
    (iblk m c 2 t : S640x1024.Idx → EReal) (ix2 r k) = D m c (t.val / 1 / 1 * 640 + r.val) (t.val / 1 % 1 * 1024 + k.val) := by
  obtain ⟨-, -, -, -, e0, e1⟩ := places t
  unfold iblk
  rw [View.read_apply]
  exact el_of _ _ _ _ (off e0) (off e1)

/-- A grid point's product at an element of its tile. -/
theorem pay_at (t : Fin cfg0.N) (x : S640x1024.Idx) :
    (k0_pay1 (F := Ideal) (iblk m c 0 t) (iblk m c 1 t) (iblk m c 2 t) : S640x1024.Idx → EReal) x
      = tile (A m c) (B m c) 640 1024 128 1 1 t.val (x 0).val (x 1).val
        + D m c (t.val / 1 / 1 * 640 + (x 0).val) (t.val / 1 % 1 * 1024 + (x 1).val) := by
  obtain ⟨r, d, rfl⟩ := eq_pair x
  pointwise [k0_pay1]
  exact congrArg₂ (· + ·) (Finset.sum_congr rfl fun k _ =>
    congrArg₂ (· * ·) (blockA m c t r k) (blockB m c t d k))
    ((blockD m c t r d).trans (by simp only [Nat.div_one, Nat.mod_one, Nat.zero_mul, Nat.zero_add]))

/-- A grid point writes its product out. -/
theorem out {F : FTy → Type} [FloatOps F] (x : Vec F S640x128 .f32) (y : Vec F S1024x128 .bf16) (z : Vec F S640x1024 .f32) :
    out0_3 x y z = k0_pay1 x y z := by
  unfold out0_3
  rw [View.canon_unit_zero hz, View.ld_unit_zero (S := S640x128) hz, View.ld_unit_zero (S := S1024x128) hz,
    View.ld_unit_zero (S := S640x1024) hz]

/-- Every grid point writes back, to a block of its own. -/
theorem target : ∀ t : Fin cfg0.N, win0_3.index t (0 : Fin 2) = t.val / 1 ∧ win0_3.index t (1 : Fin 2) = t.val % 1
    ∧ win0_3.flush t = true :=
  (by decide +kernel : ∀ t : Fin grid0.N, _)

/-- What a grid point writes back is its block of the result. -/
theorem written (t : Fin cfg0.N) :
    (dats m 0 c).flushed 3 t = ((cfg0.win 3).blk t).view.read (Elt Ideal) (G m c) := by
  obtain ⟨e0, e1, -⟩ := target t
  rw [Value.flushed3, out]
  funext y
  refine (pay_at m c t ((cfg0.win 3).xinj (grid0.coords t) y)).trans ?_
  show tile (A m c) (B m c) 640 1024 128 1 1 t.val (y 0).val (y 1).val
      + D m c (t.val / 1 / 1 * 640 + (y 0).val) (t.val / 1 % 1 * 1024 + (y 1).val)
    = prod (A m c) (B m c) 128 (win0_3.index t (0 : Fin 2) * 640 + 1 * (y 0).val)
      (win0_3.index t (1 : Fin 2) * 1024 + 1 * (y 1).val)
      + D m c (win0_3.index t (0 : Fin 2) * 640 + 1 * (y 0).val) (win0_3.index t (1 : Fin 2) * 1024 + 1 * (y 1).val)
  rw [tile_one, off e0, off e1]
  simp only [Nat.div_one]

/-- Every element of the result is in some point's block. -/
theorem covered (i : S8320x1024.Idx) : ∃ t : Fin cfg0.N, (cfg0.win 3).flush t = true ∧ i ∈ ((cfg0.win 3).blk t).view.set := by
  have hi0 : (i 0).val < 8320 := (i 0).isLt
  have hi1 : (i 1).val < 1024 := (i 1).isLt
  have hN : cfg0.N = 13 := N_0
  have hp : 1 * ((i 0).val / 640) + (i 1).val / 1024 < cfg0.N := by rw [hN]; omega
  obtain ⟨e0, e1, e2⟩ := target ⟨_, hp⟩
  have q0 := e0.trans (show (1 * ((i 0).val / 640) + (i 1).val / 1024) / 1 = (i 0).val / 640 by omega)
  have q1 := e1.trans (show (1 * ((i 0).val / 640) + (i 1).val / 1024) % 1 = (i 1).val / 1024 by omega)
  refine ⟨⟨_, hp⟩, e2, ?_⟩
  show i ∈ ((View.whole main_v0).slice (win0_3.rect ⟨_, hp⟩)).set
  rw [View.set_slice_whole, Rect.mem_set_unit]
  intro a
  match a with
  | ⟨0, _⟩ => exact in_block (t := 640) (by decide) q0
  | ⟨1, _⟩ => exact in_block (t := 1024) (by decide) q1

/-- The result after the run. -/
theorem value : (dats m 0 c).arrAt 3 cfg0.N = G m c :=
  (dats m 0 c).arrAt_eq_of_cover 3 _ (fun t _ => written m c t) covered

end Cert.Kernel18Ideal.Mat

namespace Cert.Reference18Ideal.Mat

open Cert.Reference18Ideal Cert.Reference18Ideal.Gen Cert.Reference18Ideal.Value Cert.Mat
open Idealize.ShloMosaic Idealize.SL.Sem

/-- What the reference gives. -/
theorem value (x : FVec Ideal S8320x128 .f32) (y : FVec Ideal S1024x128 .bf16) (z : FVec Ideal S8320x1024 .f32) :
    (addf z (Host.dotGeneral dot_S8320x128_S1024x128_S8320x1024_1_1_0_0_n_n none
      x (extf .f32 y bitsLt_bf16_f32)) : S8320x1024.Idx → EReal)
      = fun i => prod (el (p := 8320) (q := 128) x) (el (p := 1024) (q := 128) y) 128 (i 0).val (i 1).val
        + el (p := 8320) (q := 1024) z (i 0).val (i 1).val := by
  funext i
  obtain ⟨r, d, rfl⟩ := eq_pair i
  pointwise
  rw [add_comm, prod_fin]
  exact congrArg₂ (· + ·) (Finset.sum_congr rfl fun k _ => congrArg₂ (· * ·) (el_fin x r k).symm (el_fin y d k).symm)
    (el_fin z r d).symm

end Cert.Reference18Ideal.Mat

namespace Cert.MatClaims

open Idealize.ShloMosaic Idealize.ShloMosaic.TcCoe Idealize.SL.Sem

theorem frame_kernel18 : Cert.quiescent_Kernel18 := fun m g _ => Cert.Kernel18.Gen.frame m g

theorem frame_ideal18 : Cert.quiescent_Kernel18Ideal := fun m g _ => Cert.Kernel18Ideal.Gen.frame m g

theorem frame_reference18 : Cert.quiescent_Reference18Ideal := fun m g _ =>
  (θ_run Cert.Reference18Ideal.defs _ _).mono (fun r h => ⟨fun c => (h c).2, sem_eq_zero_of_no_sems (by decide) r.2⟩)
    (Cert.Reference18Ideal.Value.run (F := Ideal) m g)

theorem preserves18 : Cert.preserves_Kernel18_Kernel18Ideal := trivial

/-- The call's result is the reference's. -/
theorem algebraic18 : Cert.algebraic_Kernel18Ideal_Reference18Ideal := by
  intro m g m' g' _ hargs
  refine ⟨fun c => Cert.Kernel18Ideal.Mat.G m c,
    (θ_run Cert.Kernel18Ideal.defs _ _).mono (fun r h c => ⟨(h c).1.trans (Cert.Kernel18Ideal.Mat.value m c), (h c).2⟩)
      (Cert.Kernel18Ideal.Value.run_blocks m g),
    (θ_run Cert.Reference18Ideal.defs _ _).mono (fun r h c => ⟨(h c).1.trans ?_, (h c).2⟩)
      (Cert.Reference18Ideal.Value.run (F := Ideal) m' g')⟩
  obtain ⟨e0, e1, e2⟩ := hargs c
  rw [e0, e1, e2]
  exact Cert.Reference18Ideal.Mat.value _ _ _

end Cert.MatClaims

end
-- ==== Proof.Mat.P19.lean ====
/-
  Program 19, the gates' columns of the first projection:
  its result and that of its reference, at an element.
-/
module

public import proofs.«01_k».proof.Proof.Gen.Kernel19.Frame
public import proofs.«01_k».proof.Proof.Gen.Kernel19Ideal.Value
public import proofs.«01_k».proof.Proof.Gen.Reference19Ideal.Run
public import proofs.«01_k».proof.Proof.Mat.Tiles
public import proofs.«01_k».proof.Defs
public import Idealize.ShloMosaic.Lib.Quiescent

@[expose] public section

set_option maxRecDepth 8000

noncomputable section

namespace Cert.Kernel19Ideal.Mat

open Cert.Kernel19Ideal Cert.Kernel19Ideal.Gen Cert.Mat
open Idealize.ShloMosaic Idealize.ShloMosaic.TcCoe Idealize.SL.Sem

variable (m : (ℓ : Loc nD τ sig) → Buf (Elt Ideal) ℓ) (c : Dev nD)

/-- The first factor by its row and the contracted number, the second by its column and the contracted number. -/
abbrev A : ℕ → ℕ → EReal := el (m ((c : Thread nD τ).loc main_arg0) : S8320x1024.Idx → EReal)
abbrev B : ℕ → ℕ → EReal := flip (el (m ((c : Thread nD τ).loc main_arg1) : S1024x128.Idx → EReal))

/-- The result. -/
def G : S8320x128.Idx → EReal := fun i => prod (A m c) (B m c) 1024 (i 0).val (i 1).val

/-- Which blocks of the arguments a grid point takes. -/
theorem places : ∀ t : Fin cfg0.N, win0_0.index t (0 : Fin 2) = t.val / 1 / 1 ∧ win0_0.index t (1 : Fin 2) = t.val % 1
    ∧ win0_1.index t (0 : Fin 2) = t.val % 1 ∧ win0_1.index t (1 : Fin 2) = t.val / 1 % 1 :=
  (by decide +kernel : ∀ t : Fin grid0.N, _)

theorem blockA (t : Fin cfg0.N) (r : Fin 640) (k : Fin 1024) :
    (iblk m c 0 t : S640x1024.Idx → EReal) (ix2 r k) = A m c (t.val / 1 / 1 * 640 + r.val) (t.val % 1 * 1024 + k.val) := by
  obtain ⟨e0, e1, -⟩ := places t
  unfold iblk
  rw [View.read_apply]
  exact el_of _ _ _ _ (off e0) (off e1)

theorem blockB (t : Fin cfg0.N) (r : Fin 1024) (k : Fin 128) :
    (iblk m c 1 t : S1024x128.Idx → EReal) (ix2 r k) = B m c (t.val / 1 % 1 * 128 + k.val) (t.val % 1 * 1024 + r.val) := by
  obtain ⟨-, -, e0, e1⟩ := places t
  unfold iblk
  rw [View.read_apply]
  exact el_of _ _ _ _ (off e0) (off e1)

/-- A grid point's product at an element of its tile. -/
theorem pay_at (t : Fin cfg0.N) (x : S640x128.Idx) :
    (k0_pay1 (F := Ideal) (iblk m c 0 t) (iblk m c 1 t) : S640x128.Idx → EReal) x
      = tile (A m c) (B m c) 640 128 1024 1 1 t.val (x 0).val (x 1).val := by
  obtain ⟨r, d, rfl⟩ := eq_pair x
  pointwise [k0_pay1]
  exact Finset.sum_congr rfl fun k _ =>
    congrArg₂ (· * ·) (blockA m c t r k) (blockB m c t k d)

/-- A grid point writes its product out. -/
theorem out {F : FTy → Type} [FloatOps F] (x : Vec F S640x1024 .bf16) (y : Vec F S1024x128 .bf16) :
    out0_2 x y = k0_pay1 x y := by
  unfold out0_2
  rw [View.canon_unit_zero hz, View.ld_unit_zero (S := S640x1024) hz, View.ld_unit_zero (S := S1024x128) hz]

/-- Every grid point writes back, to a block of its own. -/
theorem target : ∀ t : Fin cfg0.N, win0_2.index t (0 : Fin 2) = t.val / 1 ∧ win0_2.index t (1 : Fin 2) = t.val % 1
    ∧ win0_2.flush t = true :=
  (by decide +kernel : ∀ t : Fin grid0.N, _)

/-- What a grid point writes back is its block of the result. -/
theorem written (t : Fin cfg0.N) :
    (dats m 0 c).flushed 2 t = ((cfg0.win 2).blk t).view.read (Elt Ideal) (G m c) := by
  obtain ⟨e0, e1, -⟩ := target t
  rw [Value.flushed2, out]
  funext y
  refine (pay_at m c t ((cfg0.win 2).xinj (grid0.coords t) y)).trans ?_
  show tile (A m c) (B m c) 640 128 1024 1 1 t.val (y 0).val (y 1).val
    = prod (A m c) (B m c) 1024 (win0_2.index t (0 : Fin 2) * 640 + 1 * (y 0).val)
      (win0_2.index t (1 : Fin 2) * 128 + 1 * (y 1).val)
  rw [tile_one, off e0, off e1]

/-- Every element of the result is in some point's block. -/
theorem covered (i : S8320x128.Idx) : ∃ t : Fin cfg0.N, (cfg0.win 2).flush t = true ∧ i ∈ ((cfg0.win 2).blk t).view.set := by
  have hi0 : (i 0).val < 8320 := (i 0).isLt
  have hi1 : (i 1).val < 128 := (i 1).isLt
  have hN : cfg0.N = 13 := N_0
  have hp : 1 * ((i 0).val / 640) + (i 1).val / 128 < cfg0.N := by rw [hN]; omega
  obtain ⟨e0, e1, e2⟩ := target ⟨_, hp⟩
  have q0 := e0.trans (show (1 * ((i 0).val / 640) + (i 1).val / 128) / 1 = (i 0).val / 640 by omega)
  have q1 := e1.trans (show (1 * ((i 0).val / 640) + (i 1).val / 128) % 1 = (i 1).val / 128 by omega)
  refine ⟨⟨_, hp⟩, e2, ?_⟩
  show i ∈ ((View.whole main_v0).slice (win0_2.rect ⟨_, hp⟩)).set
  rw [View.set_slice_whole, Rect.mem_set_unit]
  intro a
  match a with
  | ⟨0, _⟩ => exact in_block (t := 640) (by decide) q0
  | ⟨1, _⟩ => exact in_block (t := 128) (by decide) q1

/-- The result after the run. -/
theorem value : (dats m 0 c).arrAt 2 cfg0.N = G m c :=
  (dats m 0 c).arrAt_eq_of_cover 2 _ (fun t _ => written m c t) covered

end Cert.Kernel19Ideal.Mat

namespace Cert.Reference19Ideal.Mat

open Cert.Reference19Ideal Cert.Reference19Ideal.Gen Cert.Reference19Ideal.Value Cert.Mat
open Idealize.ShloMosaic Idealize.SL.Sem

/-- What the reference gives. -/
theorem value (x : FVec Ideal S8320x1024 .bf16) (y : FVec Ideal S1024x128 .bf16) :
    (Host.dotGeneral dot_S8320x1024_S1024x128_S8320x128_1_0_0_1_n_n none
      (extf .f32 x bitsLt_bf16_f32) (extf .f32 y bitsLt_bf16_f32) : S8320x128.Idx → EReal)
      = fun i => prod (el (p := 8320) (q := 1024) x) (flip (el (p := 1024) (q := 128) y)) 1024 (i 0).val (i 1).val := by
  funext i
  obtain ⟨r, d, rfl⟩ := eq_pair i
  pointwise
  rw [prod_fin]
  exact Finset.sum_congr rfl fun k _ => congrArg₂ (· * ·) (el_fin x r k).symm (el_fin y k d).symm

end Cert.Reference19Ideal.Mat

namespace Cert.MatClaims

open Idealize.ShloMosaic Idealize.ShloMosaic.TcCoe Idealize.SL.Sem

theorem frame_kernel19 : Cert.quiescent_Kernel19 := fun m g _ => Cert.Kernel19.Gen.frame m g

theorem frame_ideal19 : Cert.quiescent_Kernel19Ideal := fun m g _ => Cert.Kernel19Ideal.Gen.frame m g

theorem frame_reference19 : Cert.quiescent_Reference19Ideal := fun m g _ =>
  (θ_run Cert.Reference19Ideal.defs _ _).mono (fun r h => ⟨fun c => (h c).2, sem_eq_zero_of_no_sems (by decide) r.2⟩)
    (Cert.Reference19Ideal.Value.run (F := Ideal) m g)

theorem preserves19 : Cert.preserves_Kernel19_Kernel19Ideal := trivial

/-- The call's result is the reference's. -/
theorem algebraic19 : Cert.algebraic_Kernel19Ideal_Reference19Ideal := by
  intro m g m' g' _ hargs
  refine ⟨fun c => Cert.Kernel19Ideal.Mat.G m c,
    (θ_run Cert.Kernel19Ideal.defs _ _).mono (fun r h c => ⟨(h c).1.trans (Cert.Kernel19Ideal.Mat.value m c), (h c).2⟩)
      (Cert.Kernel19Ideal.Value.run_blocks m g),
    (θ_run Cert.Reference19Ideal.defs _ _).mono (fun r h c => ⟨(h c).1.trans ?_, (h c).2⟩)
      (Cert.Reference19Ideal.Value.run (F := Ideal) m' g')⟩
  obtain ⟨e0, e1⟩ := hargs c
  rw [e0, e1]
  exact Cert.Reference19Ideal.Mat.value _ _

end Cert.MatClaims

end
-- ==== Proof.Mat.P20.lean ====
/-
  Program 20, the attention branch's projection:
  its result and that of its reference, at an element.
-/
module

public import proofs.«01_k».proof.Proof.Gen.Kernel20.Frame
public import proofs.«01_k».proof.Proof.Gen.Kernel20Ideal.Value
public import proofs.«01_k».proof.Proof.Gen.Reference20Ideal.Run
public import proofs.«01_k».proof.Proof.Mat.Tiles
public import proofs.«01_k».proof.Defs
public import Idealize.ShloMosaic.Lib.Quiescent

@[expose] public section

set_option maxRecDepth 8000

noncomputable section

namespace Cert.Kernel20Ideal.Mat

open Cert.Kernel20Ideal Cert.Kernel20Ideal.Gen Cert.Mat
open Idealize.ShloMosaic Idealize.ShloMosaic.TcCoe Idealize.SL.Sem

variable (m : (ℓ : Loc nD τ sig) → Buf (Elt Ideal) ℓ) (c : Dev nD)

/-- The first factor by its row and the contracted number, the second by its column and the contracted number. -/
abbrev A : ℕ → ℕ → EReal := el (m ((c : Thread nD τ).loc main_arg0) : S8320x512.Idx → EReal)
abbrev B : ℕ → ℕ → EReal := flip (el (m ((c : Thread nD τ).loc main_arg1) : S512x1024.Idx → EReal))

/-- The result. -/
def G : S8320x1024.Idx → EReal := fun i => prod (A m c) (B m c) 512 (i 0).val (i 1).val

/-- Which blocks of the arguments a grid point takes. -/
theorem places : ∀ t : Fin cfg0.N, win0_0.index t (0 : Fin 2) = t.val / 1 / 1 ∧ win0_0.index t (1 : Fin 2) = t.val % 1
    ∧ win0_1.index t (0 : Fin 2) = t.val % 1 ∧ win0_1.index t (1 : Fin 2) = t.val / 1 % 1 :=
  (by decide +kernel : ∀ t : Fin grid0.N, _)

theorem blockA (t : Fin cfg0.N) (r : Fin 640) (k : Fin 512) :
    (iblk m c 0 t : S640x512.Idx → EReal) (ix2 r k) = A m c (t.val / 1 / 1 * 640 + r.val) (t.val % 1 * 512 + k.val) := by
  obtain ⟨e0, e1, -⟩ := places t
  unfold iblk
  rw [View.read_apply]
  exact el_of _ _ _ _ (off e0) (off e1)

theorem blockB (t : Fin cfg0.N) (r : Fin 512) (k : Fin 1024) :
    (iblk m c 1 t : S512x1024.Idx → EReal) (ix2 r k) = B m c (t.val / 1 % 1 * 1024 + k.val) (t.val % 1 * 512 + r.val) := by
  obtain ⟨-, -, e0, e1⟩ := places t
  unfold iblk
  rw [View.read_apply]
  exact el_of _ _ _ _ (off e0) (off e1)

/-- A grid point's product at an element of its tile. -/
theorem pay_at (t : Fin cfg0.N) (x : S640x1024.Idx) :
    (k0_pay1 (F := Ideal) (iblk m c 0 t) (iblk m c 1 t) : S640x1024.Idx → EReal) x
      = tile (A m c) (B m c) 640 1024 512 1 1 t.val (x 0).val (x 1).val := by
  obtain ⟨r, d, rfl⟩ := eq_pair x
  pointwise [k0_pay1]
  exact Finset.sum_congr rfl fun k _ =>
    congrArg₂ (· * ·) (blockA m c t r k) (blockB m c t k d)

/-- A grid point writes its product out. -/
theorem out {F : FTy → Type} [FloatOps F] (x : Vec F S640x512 .bf16) (y : Vec F S512x1024 .bf16) :
    out0_2 x y = k0_pay1 x y := by
  unfold out0_2
  rw [View.canon_unit_zero hz, View.ld_unit_zero (S := S640x512) hz, View.ld_unit_zero (S := S512x1024) hz]

/-- Every grid point writes back, to a block of its own. -/
theorem target : ∀ t : Fin cfg0.N, win0_2.index t (0 : Fin 2) = t.val / 1 ∧ win0_2.index t (1 : Fin 2) = t.val % 1
    ∧ win0_2.flush t = true :=
  (by decide +kernel : ∀ t : Fin grid0.N, _)

/-- What a grid point writes back is its block of the result. -/
theorem written (t : Fin cfg0.N) :
    (dats m 0 c).flushed 2 t = ((cfg0.win 2).blk t).view.read (Elt Ideal) (G m c) := by
  obtain ⟨e0, e1, -⟩ := target t
  rw [Value.flushed2, out]
  funext y
  refine (pay_at m c t ((cfg0.win 2).xinj (grid0.coords t) y)).trans ?_
  show tile (A m c) (B m c) 640 1024 512 1 1 t.val (y 0).val (y 1).val
    = prod (A m c) (B m c) 512 (win0_2.index t (0 : Fin 2) * 640 + 1 * (y 0).val)
      (win0_2.index t (1 : Fin 2) * 1024 + 1 * (y 1).val)
  rw [tile_one, off e0, off e1]

/-- Every element of the result is in some point's block. -/
theorem covered (i : S8320x1024.Idx) : ∃ t : Fin cfg0.N, (cfg0.win 2).flush t = true ∧ i ∈ ((cfg0.win 2).blk t).view.set := by
  have hi0 : (i 0).val < 8320 := (i 0).isLt
  have hi1 : (i 1).val < 1024 := (i 1).isLt
  have hN : cfg0.N = 13 := N_0
  have hp : 1 * ((i 0).val / 640) + (i 1).val / 1024 < cfg0.N := by rw [hN]; omega
  obtain ⟨e0, e1, e2⟩ := target ⟨_, hp⟩
  have q0 := e0.trans (show (1 * ((i 0).val / 640) + (i 1).val / 1024) / 1 = (i 0).val / 640 by omega)
  have q1 := e1.trans (show (1 * ((i 0).val / 640) + (i 1).val / 1024) % 1 = (i 1).val / 1024 by omega)
  refine ⟨⟨_, hp⟩, e2, ?_⟩
  show i ∈ ((View.whole main_v0).slice (win0_2.rect ⟨_, hp⟩)).set
  rw [View.set_slice_whole, Rect.mem_set_unit]
  intro a
  match a with
  | ⟨0, _⟩ => exact in_block (t := 640) (by decide) q0
  | ⟨1, _⟩ => exact in_block (t := 1024) (by decide) q1

/-- The result after the run. -/
theorem value : (dats m 0 c).arrAt 2 cfg0.N = G m c :=
  (dats m 0 c).arrAt_eq_of_cover 2 _ (fun t _ => written m c t) covered

end Cert.Kernel20Ideal.Mat

namespace Cert.Reference20Ideal.Mat

open Cert.Reference20Ideal Cert.Reference20Ideal.Gen Cert.Reference20Ideal.Value Cert.Mat
open Idealize.ShloMosaic Idealize.SL.Sem

/-- What the reference gives. -/
theorem value (x : FVec Ideal S8320x512 .bf16) (y : FVec Ideal S512x1024 .bf16) :
    (Host.dotGeneral dot_S8320x512_S512x1024_S8320x1024_1_0_0_1_n_n none
      (extf .f32 x bitsLt_bf16_f32) (extf .f32 y bitsLt_bf16_f32) : S8320x1024.Idx → EReal)
      = fun i => prod (el (p := 8320) (q := 512) x) (flip (el (p := 512) (q := 1024) y)) 512 (i 0).val (i 1).val := by
  funext i
  obtain ⟨r, d, rfl⟩ := eq_pair i
  pointwise
  rw [prod_fin]
  exact Finset.sum_congr rfl fun k _ => congrArg₂ (· * ·) (el_fin x r k).symm (el_fin y k d).symm

end Cert.Reference20Ideal.Mat

namespace Cert.MatClaims

open Idealize.ShloMosaic Idealize.ShloMosaic.TcCoe Idealize.SL.Sem

theorem frame_kernel20 : Cert.quiescent_Kernel20 := fun m g _ => Cert.Kernel20.Gen.frame m g

theorem frame_ideal20 : Cert.quiescent_Kernel20Ideal := fun m g _ => Cert.Kernel20Ideal.Gen.frame m g

theorem frame_reference20 : Cert.quiescent_Reference20Ideal := fun m g _ =>
  (θ_run Cert.Reference20Ideal.defs _ _).mono (fun r h => ⟨fun c => (h c).2, sem_eq_zero_of_no_sems (by decide) r.2⟩)
    (Cert.Reference20Ideal.Value.run (F := Ideal) m g)

theorem preserves20 : Cert.preserves_Kernel20_Kernel20Ideal := trivial

/-- The call's result is the reference's. -/
theorem algebraic20 : Cert.algebraic_Kernel20Ideal_Reference20Ideal := by
  intro m g m' g' _ hargs
  refine ⟨fun c => Cert.Kernel20Ideal.Mat.G m c,
    (θ_run Cert.Kernel20Ideal.defs _ _).mono (fun r h c => ⟨(h c).1.trans (Cert.Kernel20Ideal.Mat.value m c), (h c).2⟩)
      (Cert.Kernel20Ideal.Value.run_blocks m g),
    (θ_run Cert.Reference20Ideal.defs _ _).mono (fun r h c => ⟨(h c).1.trans ?_, (h c).2⟩)
      (Cert.Reference20Ideal.Value.run (F := Ideal) m' g')⟩
  obtain ⟨e0, e1⟩ := hargs c
  rw [e0, e1]
  exact Cert.Reference20Ideal.Mat.value _ _

end Cert.MatClaims

end
-- ==== Proof.Mat.P21.lean ====
/-
  Program 21, the DeltaNet branch's projection:
  its result and that of its reference, at an element.
-/
module

public import proofs.«01_k».proof.Proof.Gen.Kernel21.Frame
public import proofs.«01_k».proof.Proof.Gen.Kernel21Ideal.Value
public import proofs.«01_k».proof.Proof.Gen.Reference21Ideal.Run
public import proofs.«01_k».proof.Proof.Mat.Tiles
public import proofs.«01_k».proof.Defs
public import Idealize.ShloMosaic.Lib.Quiescent

@[expose] public section

set_option maxRecDepth 8000

noncomputable section

namespace Cert.Kernel21Ideal.Mat

open Cert.Kernel21Ideal Cert.Kernel21Ideal.Gen Cert.Mat
open Idealize.ShloMosaic Idealize.ShloMosaic.TcCoe Idealize.SL.Sem

variable (m : (ℓ : Loc nD τ sig) → Buf (Elt Ideal) ℓ) (c : Dev nD)

/-- The first factor by its row and the contracted number, the second by its column and the contracted number. -/
abbrev A : ℕ → ℕ → EReal := el (m ((c : Thread nD τ).loc main_arg0) : S8320x1024.Idx → EReal)
abbrev B : ℕ → ℕ → EReal := flip (el (m ((c : Thread nD τ).loc main_arg1) : S1024x1024.Idx → EReal))

/-- The result. -/
def G : S8320x1024.Idx → EReal := fun i => prod (A m c) (B m c) 1024 (i 0).val (i 1).val

/-- Which blocks of the arguments a grid point takes. -/
theorem places : ∀ t : Fin cfg0.N, win0_0.index t (0 : Fin 2) = t.val / 1 / 1 ∧ win0_0.index t (1 : Fin 2) = t.val % 1
    ∧ win0_1.index t (0 : Fin 2) = t.val % 1 ∧ win0_1.index t (1 : Fin 2) = t.val / 1 % 1 :=
  (by decide +kernel : ∀ t : Fin grid0.N, _)

theorem blockA (t : Fin cfg0.N) (r : Fin 640) (k : Fin 1024) :
    (iblk m c 0 t : S640x1024.Idx → EReal) (ix2 r k) = A m c (t.val / 1 / 1 * 640 + r.val) (t.val % 1 * 1024 + k.val) := by
  obtain ⟨e0, e1, -⟩ := places t
  unfold iblk
  rw [View.read_apply]
  exact el_of _ _ _ _ (off e0) (off e1)

theorem blockB (t : Fin cfg0.N) (r : Fin 1024) (k : Fin 1024) :
    (iblk m c 1 t : S1024x1024.Idx → EReal) (ix2 r k) = B m c (t.val / 1 % 1 * 1024 + k.val) (t.val % 1 * 1024 + r.val) := by
  obtain ⟨-, -, e0, e1⟩ := places t
  unfold iblk
  rw [View.read_apply]
  exact el_of _ _ _ _ (off e0) (off e1)

/-- A grid point's product at an element of its tile. -/
theorem pay_at (t : Fin cfg0.N) (x : S640x1024.Idx) :
    (k0_pay1 (F := Ideal) (iblk m c 0 t) (iblk m c 1 t) : S640x1024.Idx → EReal) x
      = tile (A m c) (B m c) 640 1024 1024 1 1 t.val (x 0).val (x 1).val := by
  obtain ⟨r, d, rfl⟩ := eq_pair x
  pointwise [k0_pay1]
  exact Finset.sum_congr rfl fun k _ =>
    congrArg₂ (· * ·) (blockA m c t r k) (blockB m c t k d)

/-- A grid point writes its product out. -/
theorem out {F : FTy → Type} [FloatOps F] (x : Vec F S640x1024 .bf16) (y : Vec F S1024x1024 .bf16) :
    out0_2 x y = k0_pay1 x y := by
  unfold out0_2
  rw [View.canon_unit_zero hz, View.ld_unit_zero (S := S640x1024) hz, View.ld_unit_zero (S := S1024x1024) hz]

/-- Every grid point writes back, to a block of its own. -/
theorem target : ∀ t : Fin cfg0.N, win0_2.index t (0 : Fin 2) = t.val / 1 ∧ win0_2.index t (1 : Fin 2) = t.val % 1
    ∧ win0_2.flush t = true :=
  (by decide +kernel : ∀ t : Fin grid0.N, _)

/-- What a grid point writes back is its block of the result. -/
theorem written (t : Fin cfg0.N) :
    (dats m 0 c).flushed 2 t = ((cfg0.win 2).blk t).view.read (Elt Ideal) (G m c) := by
  obtain ⟨e0, e1, -⟩ := target t
  rw [Value.flushed2, out]
  funext y
  refine (pay_at m c t ((cfg0.win 2).xinj (grid0.coords t) y)).trans ?_
  show tile (A m c) (B m c) 640 1024 1024 1 1 t.val (y 0).val (y 1).val
    = prod (A m c) (B m c) 1024 (win0_2.index t (0 : Fin 2) * 640 + 1 * (y 0).val)
      (win0_2.index t (1 : Fin 2) * 1024 + 1 * (y 1).val)
  rw [tile_one, off e0, off e1]

/-- Every element of the result is in some point's block. -/
theorem covered (i : S8320x1024.Idx) : ∃ t : Fin cfg0.N, (cfg0.win 2).flush t = true ∧ i ∈ ((cfg0.win 2).blk t).view.set := by
  have hi0 : (i 0).val < 8320 := (i 0).isLt
  have hi1 : (i 1).val < 1024 := (i 1).isLt
  have hN : cfg0.N = 13 := N_0
  have hp : 1 * ((i 0).val / 640) + (i 1).val / 1024 < cfg0.N := by rw [hN]; omega
  obtain ⟨e0, e1, e2⟩ := target ⟨_, hp⟩
  have q0 := e0.trans (show (1 * ((i 0).val / 640) + (i 1).val / 1024) / 1 = (i 0).val / 640 by omega)
  have q1 := e1.trans (show (1 * ((i 0).val / 640) + (i 1).val / 1024) % 1 = (i 1).val / 1024 by omega)
  refine ⟨⟨_, hp⟩, e2, ?_⟩
  show i ∈ ((View.whole main_v0).slice (win0_2.rect ⟨_, hp⟩)).set
  rw [View.set_slice_whole, Rect.mem_set_unit]
  intro a
  match a with
  | ⟨0, _⟩ => exact in_block (t := 640) (by decide) q0
  | ⟨1, _⟩ => exact in_block (t := 1024) (by decide) q1

/-- The result after the run. -/
theorem value : (dats m 0 c).arrAt 2 cfg0.N = G m c :=
  (dats m 0 c).arrAt_eq_of_cover 2 _ (fun t _ => written m c t) covered

end Cert.Kernel21Ideal.Mat

namespace Cert.Reference21Ideal.Mat

open Cert.Reference21Ideal Cert.Reference21Ideal.Gen Cert.Reference21Ideal.Value Cert.Mat
open Idealize.ShloMosaic Idealize.SL.Sem

/-- What the reference gives. -/
theorem value (x : FVec Ideal S8320x1024 .bf16) (y : FVec Ideal S1024x1024 .bf16) :
    (Host.dotGeneral dot_S8320x1024_S1024x1024_S8320x1024_1_0_0_1_n_n none
      (extf .f32 x bitsLt_bf16_f32) (extf .f32 y bitsLt_bf16_f32) : S8320x1024.Idx → EReal)
      = fun i => prod (el (p := 8320) (q := 1024) x) (flip (el (p := 1024) (q := 1024) y)) 1024 (i 0).val (i 1).val := by
  funext i
  obtain ⟨r, d, rfl⟩ := eq_pair i
  pointwise
  rw [prod_fin]
  exact Finset.sum_congr rfl fun k _ => congrArg₂ (· * ·) (el_fin x r k).symm (el_fin y k d).symm

end Cert.Reference21Ideal.Mat

namespace Cert.MatClaims

open Idealize.ShloMosaic Idealize.ShloMosaic.TcCoe Idealize.SL.Sem

theorem frame_kernel21 : Cert.quiescent_Kernel21 := fun m g _ => Cert.Kernel21.Gen.frame m g

theorem frame_ideal21 : Cert.quiescent_Kernel21Ideal := fun m g _ => Cert.Kernel21Ideal.Gen.frame m g

theorem frame_reference21 : Cert.quiescent_Reference21Ideal := fun m g _ =>
  (θ_run Cert.Reference21Ideal.defs _ _).mono (fun r h => ⟨fun c => (h c).2, sem_eq_zero_of_no_sems (by decide) r.2⟩)
    (Cert.Reference21Ideal.Value.run (F := Ideal) m g)

theorem preserves21 : Cert.preserves_Kernel21_Kernel21Ideal := trivial

/-- The call's result is the reference's. -/
theorem algebraic21 : Cert.algebraic_Kernel21Ideal_Reference21Ideal := by
  intro m g m' g' _ hargs
  refine ⟨fun c => Cert.Kernel21Ideal.Mat.G m c,
    (θ_run Cert.Kernel21Ideal.defs _ _).mono (fun r h c => ⟨(h c).1.trans (Cert.Kernel21Ideal.Mat.value m c), (h c).2⟩)
      (Cert.Kernel21Ideal.Value.run_blocks m g),
    (θ_run Cert.Reference21Ideal.defs _ _).mono (fun r h c => ⟨(h c).1.trans ?_, (h c).2⟩)
      (Cert.Reference21Ideal.Value.run (F := Ideal) m' g')⟩
  obtain ⟨e0, e1⟩ := hargs c
  rw [e0, e1]
  exact Cert.Reference21Ideal.Mat.value _ _

end Cert.MatClaims

end
-- ==== Proof.Mat.P22.lean ====
/-
  Program 22, the output projection, added to the residual:
  its result and that of its reference, at an element.
-/
module

public import proofs.«01_k».proof.Proof.Gen.Kernel22.Frame
public import proofs.«01_k».proof.Proof.Gen.Kernel22Ideal.Value
public import proofs.«01_k».proof.Proof.Gen.Reference22Ideal.Run
public import proofs.«01_k».proof.Proof.Mat.Tiles
public import proofs.«01_k».proof.Defs
public import Idealize.ShloMosaic.Lib.Quiescent

@[expose] public section

set_option maxRecDepth 8000

noncomputable section

namespace Cert.Kernel22Ideal.Mat

open Cert.Kernel22Ideal Cert.Kernel22Ideal.Gen Cert.Mat
open Idealize.ShloMosaic Idealize.ShloMosaic.TcCoe Idealize.SL.Sem

variable (m : (ℓ : Loc nD τ sig) → Buf (Elt Ideal) ℓ) (c : Dev nD)

/-- The first factor by its row and the contracted number, the second by its column and the contracted number; the added array. -/
abbrev A : ℕ → ℕ → EReal := el (m ((c : Thread nD τ).loc main_arg0) : S8320x1024.Idx → EReal)
abbrev B : ℕ → ℕ → EReal := flip (el (m ((c : Thread nD τ).loc main_arg1) : S1024x1024.Idx → EReal))
abbrev D : ℕ → ℕ → EReal := el (m ((c : Thread nD τ).loc main_arg2) : S8320x1024.Idx → EReal)

/-- The result. -/
def G : S8320x1024.Idx → EReal := fun i => prod (A m c) (B m c) 1024 (i 0).val (i 1).val + D m c (i 0).val (i 1).val

/-- Which blocks of the arguments a grid point takes. -/
theorem places : ∀ t : Fin cfg0.N, win0_0.index t (0 : Fin 2) = t.val / 1 / 1 ∧ win0_0.index t (1 : Fin 2) = t.val % 1
    ∧ win0_1.index t (0 : Fin 2) = t.val % 1 ∧ win0_1.index t (1 : Fin 2) = t.val / 1 % 1
    ∧ win0_2.index t (0 : Fin 2) = t.val / 1 / 1 ∧ win0_2.index t (1 : Fin 2) = t.val / 1 % 1 :=
  (by decide +kernel : ∀ t : Fin grid0.N, _)

theorem blockA (t : Fin cfg0.N) (r : Fin 640) (k : Fin 1024) :
    (iblk m c 0 t : S640x1024.Idx → EReal) (ix2 r k) = A m c (t.val / 1 / 1 * 640 + r.val) (t.val % 1 * 1024 + k.val) := by
  obtain ⟨e0, e1, -⟩ := places t
  unfold iblk
  rw [View.read_apply]
  exact el_of _ _ _ _ (off e0) (off e1)

theorem blockB (t : Fin cfg0.N) (r : Fin 1024) (k : Fin 1024) :
    (iblk m c 1 t : S1024x1024.Idx → EReal) (ix2 r k) = B m c (t.val / 1 % 1 * 1024 + k.val) (t.val % 1 * 1024 + r.val) := by
  obtain ⟨-, -, e0, e1, -⟩ := places t
  unfold iblk
  rw [View.read_apply]
  exact el_of _ _ _ _ (off e0) (off e1)

theorem blockD (t : Fin cfg0.N) (r : Fin 640) (k : Fin 1024) :
    (iblk m c 2 t : S640x1024.Idx → EReal) (ix2 r k) = D m c (t.val / 1 / 1 * 640 + r.val) (t.val / 1 % 1 * 1024 + k.val) := by
  obtain ⟨-, -, -, -, e0, e1⟩ := places t
  unfold iblk
  rw [View.read_apply]
  exact el_of _ _ _ _ (off e0) (off e1)

/-- A grid point's product at an element of its tile. -/
theorem pay_at (t : Fin cfg0.N) (x : S640x1024.Idx) :
    (k0_pay1 (F := Ideal) (iblk m c 0 t) (iblk m c 1 t) (iblk m c 2 t) : S640x1024.Idx → EReal) x
      = tile (A m c) (B m c) 640 1024 1024 1 1 t.val (x 0).val (x 1).val
        + D m c (t.val / 1 / 1 * 640 + (x 0).val) (t.val / 1 % 1 * 1024 + (x 1).val) := by
  obtain ⟨r, d, rfl⟩ := eq_pair x
  pointwise [k0_pay1]
  exact congrArg₂ (· + ·) (Finset.sum_congr rfl fun k _ =>
    congrArg₂ (· * ·) (blockA m c t r k) (blockB m c t k d))
    ((blockD m c t r d).trans (by simp only [Nat.div_one, Nat.mod_one, Nat.zero_mul, Nat.zero_add]))

/-- A grid point writes its product out. -/
theorem out {F : FTy → Type} [FloatOps F] (x : Vec F S640x1024 .bf16) (y : Vec F S1024x1024 .bf16) (z : Vec F S640x1024 .f32) :
    out0_3 x y z = k0_pay1 x y z := by
  unfold out0_3
  rw [View.canon_unit_zero hz, View.ld_unit_zero (S := S640x1024) hz, View.ld_unit_zero (S := S1024x1024) hz,
    View.ld_unit_zero (S := S640x1024) hz]

/-- Every grid point writes back, to a block of its own. -/
theorem target : ∀ t : Fin cfg0.N, win0_3.index t (0 : Fin 2) = t.val / 1 ∧ win0_3.index t (1 : Fin 2) = t.val % 1
    ∧ win0_3.flush t = true :=
  (by decide +kernel : ∀ t : Fin grid0.N, _)

/-- What a grid point writes back is its block of the result. -/
theorem written (t : Fin cfg0.N) :
    (dats m 0 c).flushed 3 t = ((cfg0.win 3).blk t).view.read (Elt Ideal) (G m c) := by
  obtain ⟨e0, e1, -⟩ := target t
  rw [Value.flushed3, out]
  funext y
  refine (pay_at m c t ((cfg0.win 3).xinj (grid0.coords t) y)).trans ?_
  show tile (A m c) (B m c) 640 1024 1024 1 1 t.val (y 0).val (y 1).val
      + D m c (t.val / 1 / 1 * 640 + (y 0).val) (t.val / 1 % 1 * 1024 + (y 1).val)
    = prod (A m c) (B m c) 1024 (win0_3.index t (0 : Fin 2) * 640 + 1 * (y 0).val)
      (win0_3.index t (1 : Fin 2) * 1024 + 1 * (y 1).val)
      + D m c (win0_3.index t (0 : Fin 2) * 640 + 1 * (y 0).val) (win0_3.index t (1 : Fin 2) * 1024 + 1 * (y 1).val)
  rw [tile_one, off e0, off e1]
  simp only [Nat.div_one]

/-- Every element of the result is in some point's block. -/
theorem covered (i : S8320x1024.Idx) : ∃ t : Fin cfg0.N, (cfg0.win 3).flush t = true ∧ i ∈ ((cfg0.win 3).blk t).view.set := by
  have hi0 : (i 0).val < 8320 := (i 0).isLt
  have hi1 : (i 1).val < 1024 := (i 1).isLt
  have hN : cfg0.N = 13 := N_0
  have hp : 1 * ((i 0).val / 640) + (i 1).val / 1024 < cfg0.N := by rw [hN]; omega
  obtain ⟨e0, e1, e2⟩ := target ⟨_, hp⟩
  have q0 := e0.trans (show (1 * ((i 0).val / 640) + (i 1).val / 1024) / 1 = (i 0).val / 640 by omega)
  have q1 := e1.trans (show (1 * ((i 0).val / 640) + (i 1).val / 1024) % 1 = (i 1).val / 1024 by omega)
  refine ⟨⟨_, hp⟩, e2, ?_⟩
  show i ∈ ((View.whole main_v0).slice (win0_3.rect ⟨_, hp⟩)).set
  rw [View.set_slice_whole, Rect.mem_set_unit]
  intro a
  match a with
  | ⟨0, _⟩ => exact in_block (t := 640) (by decide) q0
  | ⟨1, _⟩ => exact in_block (t := 1024) (by decide) q1

/-- The result after the run. -/
theorem value : (dats m 0 c).arrAt 3 cfg0.N = G m c :=
  (dats m 0 c).arrAt_eq_of_cover 3 _ (fun t _ => written m c t) covered

end Cert.Kernel22Ideal.Mat

namespace Cert.Reference22Ideal.Mat

open Cert.Reference22Ideal Cert.Reference22Ideal.Gen Cert.Reference22Ideal.Value Cert.Mat
open Idealize.ShloMosaic Idealize.SL.Sem

/-- What the reference gives. -/
theorem value (x : FVec Ideal S8320x1024 .bf16) (y : FVec Ideal S1024x1024 .bf16) (z : FVec Ideal S8320x1024 .f32) :
    (addf z (Host.dotGeneral dot_S8320x1024_S1024x1024_S8320x1024_1_0_0_1_n_n none
      (extf .f32 x bitsLt_bf16_f32) (extf .f32 y bitsLt_bf16_f32)) : S8320x1024.Idx → EReal)
      = fun i => prod (el (p := 8320) (q := 1024) x) (flip (el (p := 1024) (q := 1024) y)) 1024 (i 0).val (i 1).val
        + el (p := 8320) (q := 1024) z (i 0).val (i 1).val := by
  funext i
  obtain ⟨r, d, rfl⟩ := eq_pair i
  pointwise
  rw [add_comm, prod_fin]
  exact congrArg₂ (· + ·) (Finset.sum_congr rfl fun k _ => congrArg₂ (· * ·) (el_fin x r k).symm (el_fin y k d).symm)
    (el_fin z r d).symm

end Cert.Reference22Ideal.Mat

namespace Cert.MatClaims

open Idealize.ShloMosaic Idealize.ShloMosaic.TcCoe Idealize.SL.Sem

theorem frame_kernel22 : Cert.quiescent_Kernel22 := fun m g _ => Cert.Kernel22.Gen.frame m g

theorem frame_ideal22 : Cert.quiescent_Kernel22Ideal := fun m g _ => Cert.Kernel22Ideal.Gen.frame m g

theorem frame_reference22 : Cert.quiescent_Reference22Ideal := fun m g _ =>
  (θ_run Cert.Reference22Ideal.defs _ _).mono (fun r h => ⟨fun c => (h c).2, sem_eq_zero_of_no_sems (by decide) r.2⟩)
    (Cert.Reference22Ideal.Value.run (F := Ideal) m g)

theorem preserves22 : Cert.preserves_Kernel22_Kernel22Ideal := trivial

/-- The call's result is the reference's. -/
theorem algebraic22 : Cert.algebraic_Kernel22Ideal_Reference22Ideal := by
  intro m g m' g' _ hargs
  refine ⟨fun c => Cert.Kernel22Ideal.Mat.G m c,
    (θ_run Cert.Kernel22Ideal.defs _ _).mono (fun r h c => ⟨(h c).1.trans (Cert.Kernel22Ideal.Mat.value m c), (h c).2⟩)
      (Cert.Kernel22Ideal.Value.run_blocks m g),
    (θ_run Cert.Reference22Ideal.defs _ _).mono (fun r h c => ⟨(h c).1.trans ?_, (h c).2⟩)
      (Cert.Reference22Ideal.Value.run (F := Ideal) m' g')⟩
  obtain ⟨e0, e1, e2⟩ := hargs c
  rw [e0, e1, e2]
  exact Cert.Reference22Ideal.Mat.value _ _ _

end Cert.MatClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Algebraic
public import proofs.«01_k».proof.Proof.Mat.P2
public import proofs.«01_k».proof.Proof.Mat.P3
public import proofs.«01_k».proof.Proof.Mat.P4
public import proofs.«01_k».proof.Proof.Mat.P5
public import proofs.«01_k».proof.Proof.Mat.P6
public import proofs.«01_k».proof.Proof.Mat.P7
public import proofs.«01_k».proof.Proof.Mat.P8
public import proofs.«01_k».proof.Proof.Mat.P9
public import proofs.«01_k».proof.Proof.Mat.P10
public import proofs.«01_k».proof.Proof.Mat.P11
public import proofs.«01_k».proof.Proof.Mat.P12
public import proofs.«01_k».proof.Proof.Mat.P13
public import proofs.«01_k».proof.Proof.Mat.P14
public import proofs.«01_k».proof.Proof.Mat.P15
public import proofs.«01_k».proof.Proof.Mat.P16
public import proofs.«01_k».proof.Proof.Mat.P17
public import proofs.«01_k».proof.Proof.Mat.P18
public import proofs.«01_k».proof.Proof.Mat.P19
public import proofs.«01_k».proof.Proof.Mat.P20
public import proofs.«01_k».proof.Proof.Mat.P21
public import proofs.«01_k».proof.Proof.Mat.P22
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Pre_finite.Gen.facts,
  Cert.FoxClaims.frame_kernel, Cert.FoxClaims.frame_ideal, Cert.FoxClaims.frame_ideal_finite, Cert.FoxClaims.frame_reference,
  Cert.FoxClaims.frame_reference_finite,
  Cert.MatClaims.frame_kernel2, Cert.MatClaims.frame_ideal2, Cert.MatClaims.frame_reference2,
  Cert.MatClaims.frame_kernel3, Cert.MatClaims.frame_ideal3, Cert.MatClaims.frame_reference3,
  Cert.MatClaims.frame_kernel4, Cert.MatClaims.frame_ideal4, Cert.MatClaims.frame_reference4,
  Cert.MatClaims.frame_kernel5, Cert.MatClaims.frame_ideal5, Cert.MatClaims.frame_reference5,
  Cert.MatClaims.frame_kernel6, Cert.MatClaims.frame_ideal6, Cert.MatClaims.frame_reference6,
  Cert.MatClaims.frame_kernel7, Cert.MatClaims.frame_ideal7, Cert.MatClaims.frame_reference7,
  Cert.MatClaims.frame_kernel8, Cert.MatClaims.frame_ideal8, Cert.MatClaims.frame_reference8,
  Cert.MatClaims.frame_kernel9, Cert.MatClaims.frame_ideal9, Cert.MatClaims.frame_reference9,
  Cert.MatClaims.frame_kernel10, Cert.MatClaims.frame_ideal10, Cert.MatClaims.frame_reference10,
  Cert.MatClaims.frame_kernel11, Cert.MatClaims.frame_ideal11, Cert.MatClaims.frame_reference11,
  Cert.MatClaims.frame_kernel12, Cert.MatClaims.frame_ideal12, Cert.MatClaims.frame_reference12,
  Cert.MatClaims.frame_kernel13, Cert.MatClaims.frame_ideal13, Cert.MatClaims.frame_reference13,
  Cert.MatClaims.frame_kernel14, Cert.MatClaims.frame_ideal14, Cert.MatClaims.frame_reference14,
  Cert.MatClaims.frame_kernel15, Cert.MatClaims.frame_ideal15, Cert.MatClaims.frame_reference15,
  Cert.MatClaims.frame_kernel16, Cert.MatClaims.frame_ideal16, Cert.MatClaims.frame_reference16,
  Cert.MatClaims.frame_kernel17, Cert.MatClaims.frame_ideal17, Cert.MatClaims.frame_reference17,
  Cert.MatClaims.frame_kernel18, Cert.MatClaims.frame_ideal18, Cert.MatClaims.frame_reference18,
  Cert.MatClaims.frame_kernel19, Cert.MatClaims.frame_ideal19, Cert.MatClaims.frame_reference19,
  Cert.MatClaims.frame_kernel20, Cert.MatClaims.frame_ideal20, Cert.MatClaims.frame_reference20,
  Cert.MatClaims.frame_kernel21, Cert.MatClaims.frame_ideal21, Cert.MatClaims.frame_reference21,
  Cert.MatClaims.frame_kernel22, Cert.MatClaims.frame_ideal22, Cert.MatClaims.frame_reference22,
  Cert.FoxClaims.preserves, Cert.FoxClaims.algebraic,
  Cert.MatClaims.preserves2, Cert.MatClaims.algebraic2,
  Cert.MatClaims.preserves3, Cert.MatClaims.algebraic3,
  Cert.MatClaims.preserves4, Cert.MatClaims.algebraic4,
  Cert.MatClaims.preserves5, Cert.MatClaims.algebraic5,
  Cert.MatClaims.preserves6, Cert.MatClaims.algebraic6,
  Cert.MatClaims.preserves7, Cert.MatClaims.algebraic7,
  Cert.MatClaims.preserves8, Cert.MatClaims.algebraic8,
  Cert.MatClaims.preserves9, Cert.MatClaims.algebraic9,
  Cert.MatClaims.preserves10, Cert.MatClaims.algebraic10,
  Cert.MatClaims.preserves11, Cert.MatClaims.algebraic11,
  Cert.MatClaims.preserves12, Cert.MatClaims.algebraic12,
  Cert.MatClaims.preserves13, Cert.MatClaims.algebraic13,
  Cert.MatClaims.preserves14, Cert.MatClaims.algebraic14,
  Cert.MatClaims.preserves15, Cert.MatClaims.algebraic15,
  Cert.MatClaims.preserves16, Cert.MatClaims.algebraic16,
  Cert.MatClaims.preserves17, Cert.MatClaims.algebraic17,
  Cert.MatClaims.preserves18, Cert.MatClaims.algebraic18,
  Cert.MatClaims.preserves19, Cert.MatClaims.algebraic19,
  Cert.MatClaims.preserves20, Cert.MatClaims.algebraic20,
  Cert.MatClaims.preserves21, Cert.MatClaims.algebraic21,
  Cert.MatClaims.preserves22, Cert.MatClaims.algebraic22⟩

end Cert.Proof

end
